-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d_model" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096 : Shape := ⟨2, ![2, 4096]⟩
abbrev S16000x768 : Shape := ⟨2, ![16000, 768]⟩
abbrev S16000x6 : Shape := ⟨2, ![16000, 6]⟩
abbrev S768 : Shape := ⟨1, ![768]⟩
abbrev S2x32x128 : Shape := ⟨3, ![2, 32, 128]⟩
abbrev S32x2x128 : Shape := ⟨3, ![32, 2, 128]⟩
abbrev S64x128 : Shape := ⟨2, ![64, 128]⟩
abbrev S6x16000 : Shape := ⟨2, ![6, 16000]⟩
abbrev S2x4096x768 : Shape := ⟨3, ![2, 4096, 768]⟩
abbrev S1x128x768 : Shape := ⟨3, ![1, 128, 768]⟩
abbrev S32000x128 : Shape := ⟨2, ![32000, 128]⟩
abbrev S4000x128 : Shape := ⟨2, ![4000, 128]⟩
abbrev S8192x128 : Shape := ⟨2, ![8192, 128]⟩
abbrev S904x128 : Shape := ⟨2, ![904, 128]⟩
abbrev S128x128 : Shape := ⟨2, ![128, 128]⟩
abbrev S128x768 : Shape := ⟨2, ![128, 768]⟩
abbrev S8x768 : Shape := ⟨2, ![8, 768]⟩
abbrev S6 : Shape := ⟨1, ![6]⟩
abbrev S_ : Shape := ⟨0, ![]⟩
abbrev S1 : Shape := ⟨1, ![1]⟩
abbrev S16000x128 : Shape := ⟨2, ![16000, 128]⟩
abbrev S1x128 : Shape := ⟨2, ![1, 128]⟩
abbrev S1x768 : Shape := ⟨2, ![1, 768]⟩
abbrev S32x128 : Shape := ⟨2, ![32, 128]⟩
abbrev S6x128 : Shape := ⟨2, ![6, 128]⟩
abbrev S2x128 : Shape := ⟨2, ![2, 128]⟩
abbrev S8x128 : Shape := ⟨2, ![8, 128]⟩
abbrev S1x1 : Shape := ⟨2, ![1, 1]⟩
abbrev S1x8x128 : Shape := ⟨3, ![1, 8, 128]⟩
abbrev S8 : Shape := ⟨1, ![8]⟩
abbrev S8x1 : Shape := ⟨2, ![8, 1]⟩

abbrev nBuf : Space → Nat
  | .hbm => 10
  | .vmem => 17
  | .smem => 1
  | _ => 0

abbrev bufTy : (tb : Table) → Fin (tcTables nBuf tb) → BufTy
  | .hbm, ⟨0, _⟩ => ⟨S2x4096, .i32⟩
  | .hbm, ⟨1, _⟩ => ⟨S16000x768, .i8⟩
  | .hbm, ⟨2, _⟩ => ⟨S16000x6, .f32⟩
  | .hbm, ⟨3, _⟩ => ⟨S768, .bf16⟩
  | .hbm, ⟨4, _⟩ => ⟨S2x32x128, .i32⟩
  | .hbm, ⟨5, _⟩ => ⟨S32x2x128, .i32⟩
  | .hbm, ⟨6, _⟩ => ⟨S64x128, .i32⟩
  | .hbm, ⟨7, _⟩ => ⟨S6x16000, .f32⟩
  | .hbm, ⟨8, _⟩ => ⟨S2x4096x768, .bf16⟩
  | .hbm, ⟨9, _⟩ => ⟨S2x4096x768, .bf16⟩
  | .local _ .vmem, ⟨0, _⟩ => ⟨S64x128, .i32⟩
  | .local _ .vmem, ⟨1, _⟩ => ⟨S6x16000, .f32⟩
  | .local _ .vmem, ⟨2, _⟩ => ⟨S768, .bf16⟩
  | .local _ .vmem, ⟨3, _⟩ => ⟨S1x128x768, .bf16⟩
  | .local _ .vmem, ⟨4, _⟩ => ⟨S1x128x768, .bf16⟩
  | .local _ .vmem, ⟨5, _⟩ => ⟨S1x128x768, .bf16⟩
  | .local _ .vmem, ⟨6, _⟩ => ⟨S1x128x768, .bf16⟩
  | .local _ .vmem, ⟨7, _⟩ => ⟨S32000x128, .i32⟩
  | .local _ .vmem, ⟨8, _⟩ => ⟨S16000x768, .i8⟩
  | .local _ .vmem, ⟨9, _⟩ => ⟨S4000x128, .f32⟩
  | .local _ .vmem, ⟨10, _⟩ => ⟨S8192x128, .i32⟩
  | .local _ .vmem, ⟨11, _⟩ => ⟨S64x128, .i32⟩
  | .local _ .vmem, ⟨12, _⟩ => ⟨S904x128, .i32⟩
  | .local _ .vmem, ⟨13, _⟩ => ⟨S128x128, .f32⟩
  | .local _ .vmem, ⟨14, _⟩ => ⟨S128x768, .f32⟩
  | .local _ .vmem, ⟨15, _⟩ => ⟨S128x768, .bf16⟩
  | .local _ .vmem, ⟨16, _⟩ => ⟨S8x768, .f32⟩
  | .local _ .smem, ⟨0, _⟩ => ⟨S64x128, .i32⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch5 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2216 : BitVec 32 := 0#32
  let c64_i32_2217 : BitVec 32 := 64#32
  let v4287 : BitVec 32 := Scalar.addi c0_i32_2216 c64_i32_2217
  let c1_i32_2218 : BitVec 32 := 1#32
  ⟨c0_i32_2216, v4287, c1_i32_2218⟩
def k0_off1 (k0_t1 : Fin k0_t1_loop.trips) : Fin 2 → Nat :=
  let c0_i32_2291 : BitVec 32 := 0#32
  let c0_i32_2216 : BitVec 32 := 0#32
  let c1_i32_2218 : BitVec 32 := 1#32
  let arg20 : BitVec 32 := Scf.iv c0_i32_2216 c1_i32_2218 k0_t1
  let c1_i32_2290 : BitVec 32 := 1#32
  let v4433 : BitVec 32 := Scalar.muli arg20 c1_i32_2290
  let v4434 : BitVec 32 := Scalar.addi c0_i32_2291 v4433
  let v4435 : Index := Scalar.indexCast v4434
  let c0_2292 : Index := 0#32
  ![v4435.toNat, 0]
def k0_mult1 (k0_t1 : Fin k0_t1_loop.trips) : BitVec 32 :=
  let c0_i32_2291 : BitVec 32 := 0#32
  let c0_i32_2216 : BitVec 32 := 0#32
  let c1_i32_2218 : BitVec 32 := 1#32
  let arg20 : BitVec 32 := Scf.iv c0_i32_2216 c1_i32_2218 k0_t1
  let c1_i32_2290 : BitVec 32 := 1#32
  let v4433 : BitVec 32 := Scalar.muli arg20 c1_i32_2290
  let v4434 : BitVec 32 := Scalar.addi c0_i32_2291 v4433
  let c128_i32_2296 : BitVec 32 := 128#32
  let v4447 : BitVec 32 := Scalar.muli v4434 c128_i32_2296
  v4447
def k0_off2 (k0_t1 : Fin k0_t1_loop.trips) : Fin 2 → Nat :=
  let c0_i32_2291 : BitVec 32 := 0#32
  let c0_i32_2216 : BitVec 32 := 0#32
  let c1_i32_2218 : BitVec 32 := 1#32
  let arg20 : BitVec 32 := Scf.iv c0_i32_2216 c1_i32_2218 k0_t1
  let c1_i32_2290 : BitVec 32 := 1#32
  let v4433 : BitVec 32 := Scalar.muli arg20 c1_i32_2290
  let v4434 : BitVec 32 := Scalar.addi c0_i32_2291 v4433
  let c128_i32_2296 : BitVec 32 := 128#32
  let v4447 : BitVec 32 := Scalar.muli v4434 c128_i32_2296
  let v4448 : BitVec 32 := v4447
  let v4449 : Index := Scalar.indexCast v4448
  let c0_2297 : Index := 0#32
  ![v4449.toNat, 0]
@[reducible] def k0_t2_loop : Scf.Loop 32 :=
  let c0_i32_2253 : BitVec 32 := 0#32
  let c125_i32 : BitVec 32 := 125#32
  let v4407 : BitVec 32 := Scalar.addi c0_i32_2253 c125_i32
  let c1_i32_2254 : BitVec 32 := 1#32
  ⟨c0_i32_2253, v4407, c1_i32_2254⟩
def k0_mult2 (k0_t2 : Fin k0_t2_loop.trips) : BitVec 32 :=
  let c0_i32_2291 : BitVec 32 := 0#32
  let c0_i32_2253 : BitVec 32 := 0#32
  let c1_i32_2254 : BitVec 32 := 1#32
  let arg20 : BitVec 32 := Scf.iv c0_i32_2253 c1_i32_2254 k0_t2
  let c1_i32_2290 : BitVec 32 := 1#32
  let v4433 : BitVec 32 := Scalar.muli arg20 c1_i32_2290
  let v4434 : BitVec 32 := Scalar.addi c0_i32_2291 v4433
  let c128_i32_2292 : BitVec 32 := 128#32
  let v4435 : BitVec 32 := Scalar.muli v4434 c128_i32_2292
  v4435
def k0_off3 (k0_t2 : Fin k0_t2_loop.trips) : Fin 2 → Nat :=
  let c0_2293 : Index := 0#32
  let c0_i32_2291 : BitVec 32 := 0#32
  let c0_i32_2253 : BitVec 32 := 0#32
  let c1_i32_2254 : BitVec 32 := 1#32
  let arg20 : BitVec 32 := Scf.iv c0_i32_2253 c1_i32_2254 k0_t2
  let c1_i32_2290 : BitVec 32 := 1#32
  let v4433 : BitVec 32 := Scalar.muli arg20 c1_i32_2290
  let v4434 : BitVec 32 := Scalar.addi c0_i32_2291 v4433
  let c128_i32_2292 : BitVec 32 := 128#32
  let v4435 : BitVec 32 := Scalar.muli v4434 c128_i32_2292
  let v4436 : BitVec 32 := v4435
  let v4437 : Index := Scalar.indexCast v4436
  ![0, v4437.toNat]
def k0_mult3 (k0_t2 : Fin k0_t2_loop.trips) : BitVec 32 :=
  let c0_i32_2291 : BitVec 32 := 0#32
  let c0_i32_2253 : BitVec 32 := 0#32
  let c1_i32_2254 : BitVec 32 := 1#32
  let arg20 : BitVec 32 := Scf.iv c0_i32_2253 c1_i32_2254 k0_t2
  let c1_i32_2290 : BitVec 32 := 1#32
  let v4433 : BitVec 32 := Scalar.muli arg20 c1_i32_2290
  let v4434 : BitVec 32 := Scalar.addi c0_i32_2291 v4433
  let c32_i32_2297 : BitVec 32 := 32#32
  let v4449 : BitVec 32 := Scalar.muli v4434 c32_i32_2297
  v4449
def k0_off4 (k0_t2 : Fin k0_t2_loop.trips) : Fin 2 → Nat :=
  let c0_i32_2291 : BitVec 32 := 0#32
  let c0_i32_2253 : BitVec 32 := 0#32
  let c1_i32_2254 : BitVec 32 := 1#32
  let arg20 : BitVec 32 := Scf.iv c0_i32_2253 c1_i32_2254 k0_t2
  let c1_i32_2290 : BitVec 32 := 1#32
  let v4433 : BitVec 32 := Scalar.muli arg20 c1_i32_2290
  let v4434 : BitVec 32 := Scalar.addi c0_i32_2291 v4433
  let c32_i32_2297 : BitVec 32 := 32#32
  let v4449 : BitVec 32 := Scalar.muli v4434 c32_i32_2297
  let v4450 : BitVec 32 := v4449
  let v4451 : Index := Scalar.indexCast v4450
  let c0_2298 : Index := 0#32
  ![v4451.toNat, 0]
@[reducible] def k0_t3_loop : Scf.Loop 32 :=
  let c0_i32_2286 : BitVec 32 := 0#32
  let c125_i32_2287 : BitVec 32 := 125#32
  let v4432 : BitVec 32 := Scalar.addi c0_i32_2286 c125_i32_2287
  let c1_i32_2288 : BitVec 32 := 1#32
  ⟨c0_i32_2286, v4432, c1_i32_2288⟩
def k0_mult4 (k0_t3 : Fin k0_t3_loop.trips) : BitVec 32 :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2292 : BitVec 32 := 128#32
  let v4435 : BitVec 32 := Scalar.muli v4434 c128_i32_2292
  v4435
def k0_off5 (k0_t3 : Fin k0_t3_loop.trips) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2292 : BitVec 32 := 128#32
  let v4435 : BitVec 32 := Scalar.muli v4434 c128_i32_2292
  let v4436 : BitVec 32 := v4435
  let v4437 : Index := Scalar.indexCast v4436
  let c0_2293 : Index := 0#32
  ![v4437.toNat, 0]
def k0_off6 (k0_t3 : Fin k0_t3_loop.trips) (c0_i32_2295 : BitVec 32) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c256_i32_2294 : BitVec 32 := 256#32
  let v4440 : BitVec 32 := Scalar.muli v4434 c256_i32_2294
  let v4441 : BitVec 32 := Scalar.addi v4440 c0_i32_2295
  let v4442 : Index := Scalar.indexCast v4441
  let c0_2296 : Index := 0#32
  ![v4442.toNat, 0]
def k0_mult5 (k0_t3 : Fin k0_t3_loop.trips) : BitVec 32 :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2297 : BitVec 32 := 128#32
  let v4446 : BitVec 32 := Scalar.muli v4434 c128_i32_2297
  v4446
def k0_off7 (k0_t3 : Fin k0_t3_loop.trips) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2297 : BitVec 32 := 128#32
  let v4446 : BitVec 32 := Scalar.muli v4434 c128_i32_2297
  let v4447 : BitVec 32 := v4446
  let v4448 : Index := Scalar.indexCast v4447
  let c128_2298 : Index := 128#32
  ![v4448.toNat, 128]
def k0_mult6 (k0_t3 : Fin k0_t3_loop.trips) : BitVec 32 :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2302 : BitVec 32 := 128#32
  let v4457 : BitVec 32 := Scalar.muli v4434 c128_i32_2302
  v4457
def k0_off8 (k0_t3 : Fin k0_t3_loop.trips) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2302 : BitVec 32 := 128#32
  let v4457 : BitVec 32 := Scalar.muli v4434 c128_i32_2302
  let v4458 : BitVec 32 := v4457
  let v4459 : Index := Scalar.indexCast v4458
  let c256_2303 : Index := 256#32
  ![v4459.toNat, 256]
def k0_mult7 (k0_t3 : Fin k0_t3_loop.trips) : BitVec 32 :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2307 : BitVec 32 := 128#32
  let v4468 : BitVec 32 := Scalar.muli v4434 c128_i32_2307
  v4468
def k0_off9 (k0_t3 : Fin k0_t3_loop.trips) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2307 : BitVec 32 := 128#32
  let v4468 : BitVec 32 := Scalar.muli v4434 c128_i32_2307
  let v4469 : BitVec 32 := v4468
  let v4470 : Index := Scalar.indexCast v4469
  let c384_2308 : Index := 384#32
  ![v4470.toNat, 384]
def k0_mult8 (k0_t3 : Fin k0_t3_loop.trips) : BitVec 32 :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2312 : BitVec 32 := 128#32
  let v4479 : BitVec 32 := Scalar.muli v4434 c128_i32_2312
  v4479
def k0_off10 (k0_t3 : Fin k0_t3_loop.trips) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2312 : BitVec 32 := 128#32
  let v4479 : BitVec 32 := Scalar.muli v4434 c128_i32_2312
  let v4480 : BitVec 32 := v4479
  let v4481 : Index := Scalar.indexCast v4480
  let c512_2313 : Index := 512#32
  ![v4481.toNat, 512]
def k0_mult9 (k0_t3 : Fin k0_t3_loop.trips) : BitVec 32 :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2317 : BitVec 32 := 128#32
  let v4490 : BitVec 32 := Scalar.muli v4434 c128_i32_2317
  v4490
def k0_off11 (k0_t3 : Fin k0_t3_loop.trips) : Fin 2 → Nat :=
  let c0_i32_2291 : BitVec 32 := 0#32
  let c0_i32_2286 : BitVec 32 := 0#32
  let c1_i32_2288 : BitVec 32 := 1#32
  let arg20 : BitVec 32 := Scf.iv c0_i32_2286 c1_i32_2288 k0_t3
  let c1_i32_2290 : BitVec 32 := 1#32
  let v4433 : BitVec 32 := Scalar.muli arg20 c1_i32_2290
  let v4434 : BitVec 32 := Scalar.addi c0_i32_2291 v4433
  let c128_i32_2317 : BitVec 32 := 128#32
  let v4490 : BitVec 32 := Scalar.muli v4434 c128_i32_2317
  let v4491 : BitVec 32 := v4490
  let v4492 : Index := Scalar.indexCast v4491
  let c640_2318 : Index := 640#32
  ![v4492.toNat, 640]
def k0_off12 (i : grid0.Coords) : Fin 2 → Nat :=
  let arg0 : BitVec 32 := BitVec.ofNat 32 (i 0).val
  let v3 : Index := Scalar.indexCast arg0
  let c0 : Index := 0#32
  ![v3.toNat, 0]
def k0_mult10 (v4 : BitVec 32) : BitVec 32 :=
  v4

def k0_off13 (v4 : BitVec 32) : Fin 2 → Nat :=
  let v5 : BitVec 32 := v4
  let v6 : Index := Scalar.indexCast v5
  let c0_1 : Index := 0#32
  ![v6.toNat, 0]
def k0_off14 (v4 : BitVec 32) : Fin 2 → Nat :=
  let v5 : BitVec 32 := v4
  let c3_i32 : BitVec 32 := 3#32
  let v12 : BitVec 32 := Scalar.shrui v5 c3_i32
  let v13 : Index := Scalar.indexCast v12
  let c0_4 : Index := 0#32
  ![v13.toNat, 0]

def k0_chk1 (v4 : BitVec 32) : Prop :=
  (8 ∣ (k0_mult10 v4).toNat) ∧
  (∀ a, (k0_off13 v4) a + S8x128.size a ≤ S32000x128.size a) ∧
  (∀ a, (k0_off14 v4) a + S1x128.size a ≤ S4000x128.size a)
theorem k0_mult10_dvd : ∀ (v4 : BitVec 32) (k0_hw1 : k0_chk1 v4), 8 ∣ (k0_mult10 v4).toNat := fun v4 k0_hw1 => k0_hw1.1
theorem k0_off13_inb : ∀ (v4 : BitVec 32) (k0_hw1 : k0_chk1 v4), ∀ a, (k0_off13 v4) a + S8x128.size a ≤ S32000x128.size a := fun v4 k0_hw1 => k0_hw1.2.1
theorem k0_off14_inb : ∀ (v4 : BitVec 32) (k0_hw1 : k0_chk1 v4), ∀ a, (k0_off14 v4) a + S1x128.size a ≤ S4000x128.size a := fun v4 k0_hw1 => k0_hw1.2.2

def k0_off15 (i : grid0.Coords) : Fin 2 → Nat :=
  let arg0 : BitVec 32 := BitVec.ofNat 32 (i 0).val
  let v18 : Index := Scalar.indexCast arg0
  let c1 : Index := 1#32
  ![v18.toNat, 1]
def k0_mult11 (v19 : BitVec 32) : BitVec 32 :=
  v19

def k0_off16 (v19 : BitVec 32) : Fin 2 → Nat :=
  let v20 : BitVec 32 := v19
  let v21 : Index := Scalar.indexCast v20
  let c0_7 : Index := 0#32
  ![v21.toNat, 0]
def k0_off17 (v19 : BitVec 32) : Fin 2 → Nat :=
  let v20 : BitVec 32 := v19
  let c3_i32_10 : BitVec 32 := 3#32
  let v27 : BitVec 32 := Scalar.shrui v20 c3_i32_10
  let v28 : Index := Scalar.indexCast v27
  let c0_11 : Index := 0#32
  ![v28.toNat, 0]

def k0_chk2 (v19 : BitVec 32) : Prop :=
  (8 ∣ (k0_mult11 v19).toNat) ∧
  (∀ a, (k0_off16 v19) a + S8x128.size a ≤ S32000x128.size a) ∧
  (∀ a, (k0_off17 v19) a + S1x128.size a ≤ S4000x128.size a)
theorem k0_mult11_dvd : ∀ (v19 : BitVec 32) (k0_hw2 : k0_chk2 v19), 8 ∣ (k0_mult11 v19).toNat := fun v19 k0_hw2 => k0_hw2.1
theorem k0_off16_inb : ∀ (v19 : BitVec 32) (k0_hw2 : k0_chk2 v19), ∀ a, (k0_off16 v19) a + S8x128.size a ≤ S32000x128.size a := fun v19 k0_hw2 => k0_hw2.2.1
theorem k0_off17_inb : ∀ (v19 : BitVec 32) (k0_hw2 : k0_chk2 v19), ∀ a, (k0_off17 v19) a + S1x128.size a ≤ S4000x128.size a := fun v19 k0_hw2 => k0_hw2.2.2

def k0_off18 (i : grid0.Coords) : Fin 2 → Nat :=
  let arg0 : BitVec 32 := BitVec.ofNat 32 (i 0).val
  let v33 : Index := Scalar.indexCast arg0
  let c2 : Index := 2#32
  ![v33.toNat, 2]
def k0_mult12 (v34 : BitVec 32) : BitVec 32 :=
  v34

def k0_off19 (v34 : BitVec 32) : Fin 2 → Nat :=
  let v35 : BitVec 32 := v34
  let v36 : Index := Scalar.indexCast v35
  let c0_14 : Index := 0#32
  ![v36.toNat, 0]
def k0_off20 (v34 : BitVec 32) : Fin 2 → Nat :=
  let v35 : BitVec 32 := v34
  let c3_i32_17 : BitVec 32 := 3#32
  let v42 : BitVec 32 := Scalar.shrui v35 c3_i32_17
  let v43 : Index := Scalar.indexCast v42
  let c0_18 : Index := 0#32
  ![v43.toNat, 0]

def k0_chk3 (v34 : BitVec 32) : Prop :=
  (8 ∣ (k0_mult12 v34).toNat) ∧
  (∀ a, (k0_off19 v34) a + S8x128.size a ≤ S32000x128.size a) ∧
  (∀ a, (k0_off20 v34) a + S1x128.size a ≤ S4000x128.size a)
theorem k0_mult12_dvd : ∀ (v34 : BitVec 32) (k0_hw3 : k0_chk3 v34), 8 ∣ (k0_mult12 v34).toNat := fun v34 k0_hw3 => k0_hw3.1
theorem k0_off19_inb : ∀ (v34 : BitVec 32) (k0_hw3 : k0_chk3 v34), ∀ a, (k0_off19 v34) a + S8x128.size a ≤ S32000x128.size a := fun v34 k0_hw3 => k0_hw3.2.1
theorem k0_off20_inb : ∀ (v34 : BitVec 32) (k0_hw3 : k0_chk3 v34), ∀ a, (k0_off20 v34) a + S1x128.size a ≤ S4000x128.size a := fun v34 k0_hw3 => k0_hw3.2.2

def k0_off21 (i : grid0.Coords) : Fin 2 → Nat :=
  let arg0 : BitVec 32 := BitVec.ofNat 32 (i 0).val
  let v48 : Index := Scalar.indexCast arg0
  let c3 : Index := 3#32
  ![v48.toNat, 3]
def k0_mult13 (v49 : BitVec 32) : BitVec 32 :=
  v49

def k0_off22 (v49 : BitVec 32) : Fin 2 → Nat :=
  let v50 : BitVec 32 := v49
  let v51 : Index := Scalar.indexCast v50
  let c0_21 : Index := 0#32
  ![v51.toNat, 0]
def k0_off23 (v49 : BitVec 32) : Fin 2 → Nat :=
  let v50 : BitVec 32 := v49
  let c3_i32_24 : BitVec 32 := 3#32
  let v57 : BitVec 32 := Scalar.shrui v50 c3_i32_24
  let v58 : Index := Scalar.indexCast v57
  let c0_25 : Index := 0#32
  ![v58.toNat, 0]

def k0_chk4 (v49 : BitVec 32) : Prop :=
  (8 ∣ (k0_mult13 v49).toNat) ∧
  (∀ a, (k0_off22 v49) a + S8x128.size a ≤ S32000x128.size a) ∧
  (∀ a, (k0_off23 v49) a + S1x128.size a ≤ S4000x128.size a)
theorem k0_mult13_dvd : ∀ (v49 : BitVec 32) (k0_hw4 : k0_chk4 v49), 8 ∣ (k0_mult13 v49).toNat := fun v49 k0_hw4 => k0_hw4.1
theorem k0_off22_inb : ∀ (v49 : BitVec 32) (k0_hw4 : k0_chk4 v49), ∀ a, (k0_off22 v49) a + S8x128.size a ≤ S32000x128.size a := fun v49 k0_hw4 => k0_hw4.2.1
theorem k0_off23_inb : ∀ (v49 : BitVec 32) (k0_hw4 : k0_chk4 v49), ∀ a, (k0_off23 v49) a + S1x128.size a ≤ S4000x128.size a := fun v49 k0_hw4 => k0_hw4.2.2

def k0_off24 (i : grid0.Coords) : Fin 2 → Nat :=
  let arg0 : BitVec 32 := BitVec.ofNat 32 (i 0).val
  let v63 : Index := Scalar.indexCast arg0
  let c4 : Index := 4#32
  ![v63.toNat, 4]
def k0_mult14 (v64 : BitVec 32) : BitVec 32 :=
  v64

def k0_off25 (v64 : BitVec 32) : Fin 2 → Nat :=
  let v65 : BitVec 32 := v64
  let v66 : Index := Scalar.indexCast v65
  let c0_28 : Index := 0#32
  ![v66.toNat, 0]
def k0_off26 (v64 : BitVec 32) : Fin 2 → Nat :=
  let v65 : BitVec 32 := v64
  let c3_i32_31 : BitVec 32 := 3#32
  let v72 : BitVec 32 := Scalar.shrui v65 c3_i32_31
  let v73 : Index := Scalar.indexCast v72
  let c0_32 : Index := 0#32
  ![v73.toNat, 0]

def k0_chk5 (v64 : BitVec 32) : Prop :=
  (8 ∣ (k0_mult14 v64).toNat) ∧
  (∀ a, (k0_off25 v64) a + S8x128.size a ≤ S32000x128.size a) ∧
  (∀ a, (k0_off26 v64) a + S1x128.size a ≤ S4000x128.size a)
theorem k0_mult14_dvd : ∀ (v64 : BitVec 32) (k0_hw5 : k0_chk5 v64), 8 ∣ (k0_mult14 v64).toNat := fun v64 k0_hw5 => k0_hw5.1
theorem k0_off25_inb : ∀ (v64 : BitVec 32) (k0_hw5 : k0_chk5 v64), ∀ a, (k0_off25 v64) a + S8x128.size a ≤ S32000x128.size a := fun v64 k0_hw5 => k0_hw5.2.1
theorem k0_off26_inb : ∀ (v64 : BitVec 32) (k0_hw5 : k0_chk5 v64), ∀ a, (k0_off26 v64) a + S1x128.size a ≤ S4000x128.size a := fun v64 k0_hw5 => k0_hw5.2.2

def k0_off27 (i : grid0.Coords) : Fin 2 → Nat :=
  let arg0 : BitVec 32 := BitVec.ofNat 32 (i 0).val
  let v78 : Index := Scalar.indexCast arg0
  let c5 : Index := 5#32
  ![v78.toNat, 5]
def k0_mult15 (v79 : BitVec 32) : BitVec 32 :=
  v79

def k0_off28 (v79 : BitVec 32) : Fin 2 → Nat :=
  let v80 : BitVec 32 := v79
  let v81 : Index := Scalar.indexCast v80
  let c0_35 : Index := 0#32
  ![v81.toNat, 0]
def k0_off29 (v79 : BitVec 32) : Fin 2 → Nat :=
  let v80 : BitVec 32 := v79
  let c3_i32_38 : BitVec 32 := 3#32
  let v87 : BitVec 32 := Scalar.shrui v80 c3_i32_38
  let v88 : Index := Scalar.indexCast v87
  let c0_39 : Index := 0#32
  ![v88.toNat, 0]

def k0_chk6 (v79 : BitVec 32) : Prop :=
  (8 ∣ (k0_mult15 v79).toNat) ∧
  (∀ a, (k0_off28 v79) a + S8x128.size a ≤ S32000x128.size a) ∧
  (∀ a, (k0_off29 v79) a + S1x128.size a ≤ S4000x128.size a)
theorem k0_mult15_dvd : ∀ (v79 : BitVec 32) (k0_hw6 : k0_chk6 v79), 8 ∣ (k0_mult15 v79).toNat := fun v79 k0_hw6 => k0_hw6.1
theorem k0_off28_inb : ∀ (v79 : BitVec 32) (k0_hw6 : k0_chk6 v79), ∀ a, (k0_off28 v79) a + S8x128.size a ≤ S32000x128.size a := fun v79 k0_hw6 => k0_hw6.2.1
theorem k0_off29_inb : ∀ (v79 : BitVec 32) (k0_hw6 : k0_chk6 v79), ∀ a, (k0_off29 v79) a + S1x128.size a ≤ S4000x128.size a := fun v79 k0_hw6 => k0_hw6.2.2

def k0_off30 (i : grid0.Coords) : Fin 2 → Nat :=
  let arg0 : BitVec 32 := BitVec.ofNat 32 (i 0).val
  let v93 : Index := Scalar.indexCast arg0
  let c6 : Index := 6#32
  ![v93.toNat, 6]
def k0_mult16 (v94 : BitVec 32) : BitVec 32 :=
  v94

def k0_off31 (v94 : BitVec 32) : Fin 2 → Nat :=
  let v95 : BitVec 32 := v94
  let v96 : Index := Scalar.indexCast v95
  let c0_42 : Index := 0#32
  ![v96.toNat, 0]
def k0_off32 (v94 : BitVec 32) : Fin 2 → Nat :=
  let v95 : BitVec 32 := v94
  let c3_i32_45 : BitVec 32 := 3#32
  let v102 : BitVec 32 := Scalar.shrui v95 c3_i32_45
  let v103 : Index := Scalar.indexCast v102
  let c0_46 : Index := 0#32
  ![v103.toNat, 0]

def k0_chk7 (v94 : BitVec 32) : Prop :=
  (8 ∣ (k0_mult16 v94).toNat) ∧
  (∀ a, (k0_off31 v94) a + S8x128.size a ≤ S32000x128.size a) ∧
  (∀ a, (k0_off32 v94) a + S1x128.size a ≤ S4000x128.size a)
theorem k0_mult16_dvd : ∀ (v94 : BitVec 32) (k0_hw7 : k0_chk7 v94), 8 ∣ (k0_mult16 v94).toNat := fun v94 k0_hw7 => k0_hw7.1
theorem k0_off31_inb : ∀ (v94 : BitVec 32) (k0_hw7 : k0_chk7 v94), ∀ a, (k0_off31 v94) a + S8x128.size a ≤ S32000x128.size a := fun v94 k0_hw7 => k0_hw7.2.1
theorem k0_off32_inb : ∀ (v94 : BitVec 32) (k0_hw7 : k0_chk7 v94), ∀ a, (k0_off32 v94) a + S1x128.size a ≤ S4000x128.size a := fun v94 k0_hw7 => k0_hw7.2.2

def k0_off33 (i : grid0.Coords) : Fin 2 → Nat :=
  let arg0 : BitVec 32 := BitVec.ofNat 32 (i 0).val
  let v108 : Index := Scalar.indexCast arg0
  let c7 : Index := 7#32
  ![v108.toNat, 7]
def k0_mult17 (v109 : BitVec 32) : BitVec 32 :=
  v109

def k0_off34 (v109 : BitVec 32) : Fin 2 → Nat :=
  let v110 : BitVec 32 := v109
  let v111 : Index := Scalar.indexCast v110
  let c0_49 : Index := 0#32
  ![v111.toNat, 0]
def k0_off35 (v109 : BitVec 32) : Fin 2 → Nat :=
  let v110 : BitVec 32 := v109
  let c3_i32_52 : BitVec 32 := 3#32
  let v117 : BitVec 32 := Scalar.shrui v110 c3_i32_52
  let v118 : Index := Scalar.indexCast v117
  let c0_53 : Index := 0#32
  ![v118.toNat, 0]

def k0_chk8 (v109 : BitVec 32) : Prop :=
  (8 ∣ (k0_mult17 v109).toNat) ∧
  (∀ a, (k0_off34 v109) a + S8x128.size a ≤ S32000x128.size a) ∧
  (∀ a, (k0_off35 v109) a + S1x128.size a ≤ S4000x128.size a)
theorem k0_mult17_dvd : ∀ (v109 : BitVec 32) (k0_hw8 : k0_chk8 v109), 8 ∣ (k0_mult17 v109).toNat := fun v109 k0_hw8 => k0_hw8.1
theorem k0_off34_inb : ∀ (v109 : BitVec 32) (k0_hw8 : k0_chk8 v109), ∀ a, (k0_off34 v109) a + S8x128.size a ≤ S32000x128.size a := fun v109 k0_hw8 => k0_hw8.2.1
theorem k0_off35_inb : ∀ (v109 : BitVec 32) (k0_hw8 : k0_chk8 v109), ∀ a, (k0_off35 v109) a + S1x128.size a ≤ S4000x128.size a := fun v109 k0_hw8 => k0_hw8.2.2

def k0_off36 (i : grid0.Coords) : Fin 2 → Nat :=
  let arg0 : BitVec 32 := BitVec.ofNat 32 (i 0).val
  let v123 : Index := Scalar.indexCast arg0
  let c8 : Index := 8#32
  ![v123.toNat, 8]
def k0_mult18 (v124 : BitVec 32) : BitVec 32 :=
  v124

def k0_off37 (v124 : BitVec 32) : Fin 2 → Nat :=
  let v125 : BitVec 32 := v124
  let v126 : Index := Scalar.indexCast v125
  let c0_56 : Index := 0#32
  ![v126.toNat, 0]
def k0_off38 (v124 : BitVec 32) : Fin 2 → Nat :=
  let v125 : BitVec 32 := v124
  let c3_i32_59 : BitVec 32 := 3#32
  let v132 : BitVec 32 := Scalar.shrui v125 c3_i32_59
  let v133 : Index := Scalar.indexCast v132
  let c0_60 : Index := 0#32
  ![v133.toNat, 0]

def k0_chk9 (v124 : BitVec 32) : Prop :=
  (8 ∣ (k0_mult18 v124).toNat) ∧
  (∀ a, (k0_off37 v124) a + S8x128.size a ≤ S32000x128.size a) ∧
  (∀ a, (k0_off38 v124) a + S1x128.size a ≤ S4000x128.size a)
theorem k0_mult18_dvd : ∀ (v124 : BitVec 32) (k0_hw9 : k0_chk9 v124), 8 ∣ (k0_mult18 v124).toNat := fun v124 k0_hw9 => k0_hw9.1
theorem k0_off37_inb : ∀ (v124 : BitVec 32) (k0_hw9 : k0_chk9 v124), ∀ a, (k0_off37 v124) a + S8x128.size a ≤ S32000x128.size a := fun v124 k0_hw9 => k0_hw9.2.1
theorem k0_off38_inb : ∀ (v124 : BitVec 32) (k0_hw9 : k0_chk9 v124), ∀ a, (k0_off38 v124) a + S1x128.size a ≤ S4000x128.size a := fun v124 k0_hw9 => k0_hw9.2.2

def k0_off39 (i : grid0.Coords) : Fin 2 → Nat :=
  let arg0 : BitVec 32 := BitVec.ofNat 32 (i 0).val
  let v138 : Index := Scalar.indexCast arg0
  let c9 : Index := 9#32
  ![v138.toNat, 9]
def k0_mult19 (v139 : BitVec 32) : BitVec 32 :=
  v139

def k0_off40 (v139 : BitVec 32) : Fin 2 → Nat :=
  let v140 : BitVec 32 := v139
  let v141 : Index := Scalar.indexCast v140
  let c0_63 : Index := 0#32
  ![v141.toNat, 0]
def k0_off41 (v139 : BitVec 32) : Fin 2 → Nat :=
  let v140 : BitVec 32 := v139
  let c3_i32_66 : BitVec 32 := 3#32
  let v147 : BitVec 32 := Scalar.shrui v140 c3_i32_66
  let v148 : Index := Scalar.indexCast v147
  let c0_67 : Index := 0#32
  ![v148.toNat, 0]

def k0_chk10 (v139 : BitVec 32) : Prop :=
  (8 ∣ (k0_mult19 v139).toNat) ∧
  (∀ a, (k0_off40 v139) a + S8x128.size a ≤ S32000x128.size a) ∧
  (∀ a, (k0_off41 v139) a + S1x128.size a ≤ S4000x128.size a)
theorem k0_mult19_dvd : ∀ (v139 : BitVec 32) (k0_hw10 : k0_chk10 v139), 8 ∣ (k0_mult19 v139).toNat := fun v139 k0_hw10 => k0_hw10.1
theorem k0_off40_inb : ∀ (v139 : BitVec 32) (k0_hw10 : k0_chk10 v139), ∀ a, (k0_off40 v139) a + S8x128.size a ≤ S32000x128.size a := fun v139 k0_hw10 => k0_hw10.2.1
theorem k0_off41_inb : ∀ (v139 : BitVec 32) (k0_hw10 : k0_chk10 v139), ∀ a, (k0_off41 v139) a + S1x128.size a ≤ S4000x128.size a := fun v139 k0_hw10 => k0_hw10.2.2

def k0_off42 (i : grid0.Coords) : Fin 2 → Nat :=
  let arg0 : BitVec 32 := BitVec.ofNat 32 (i 0).val
  let v153 : Index := Scalar.indexCast arg0
  let c10 : Index := 10#32
  ![v153.toNat, 10]
def k0_mult20 (v154 : BitVec 32) : BitVec 32 :=
  v154

def k0_off43 (v154 : BitVec 32) : Fin 2 → Nat :=
  let v155 : BitVec 32 := v154
  let v156 : Index := Scalar.indexCast v155
  let c0_70 : Index := 0#32
  ![v156.toNat, 0]
def k0_off44 (v154 : BitVec 32) : Fin 2 → Nat :=
  let v155 : BitVec 32 := v154
  let c3_i32_73 : BitVec 32 := 3#32
  let v162 : BitVec 32 := Scalar.shrui v155 c3_i32_73
  let v163 : Index := Scalar.indexCast v162
  let c0_74 : Index := 0#32
  ![v163.toNat, 0]

def k0_chk11 (v154 : BitVec 32) : Prop :=
  (8 ∣ (k0_mult20 v154).toNat) ∧
  (∀ a, (k0_off43 v154) a + S8x128.size a ≤ S32000x128.size a) ∧
  (∀ a, (k0_off44 v154) a + S1x128.size a ≤ S4000x128.size a)
theorem k0_mult20_dvd : ∀ (v154 : BitVec 32) (k0_hw11 : k0_chk11 v154), 8 ∣ (k0_mult20 v154).toNat := fun v154 k0_hw11 => k0_hw11.1
theorem k0_off43_inb : ∀ (v154 : BitVec 32) (k0_hw11 : k0_chk11 v154), ∀ a, (k0_off43 v154) a + S8x128.size a ≤ S32000x128.size a := fun v154 k0_hw11 => k0_hw11.2.1
theorem k0_off44_inb : ∀ (v154 : BitVec 32) (k0_hw11 : k0_chk11 v154), ∀ a, (k0_off44 v154) a + S1x128.size a ≤ S4000x128.size a := fun v154 k0_hw11 => k0_hw11.2.2

def k0_off45 (i : grid0.Coords) : Fin 2 → Nat :=
  let arg0 : BitVec 32 := BitVec.ofNat 32 (i 0).val
  let v168 : Index := Scalar.indexCast arg0
  let c11 : Index := 11#32
  ![v168.toNat, 11]
def k0_mult21 (v169 : BitVec 32) : BitVec 32 :=
  v169

def k0_off46 (v169 : BitVec 32) : Fin 2 → Nat :=
  let v170 : BitVec 32 := v169
  let v171 : Index := Scalar.indexCast v170
  let c0_77 : Index := 0#32
  ![v171.toNat, 0]
def k0_off47 (v169 : BitVec 32) : Fin 2 → Nat :=
  let v170 : BitVec 32 := v169
  let c3_i32_80 : BitVec 32 := 3#32
  let v177 : BitVec 32 := Scalar.shrui v170 c3_i32_80
  let v178 : Index := Scalar.indexCast v177
  let c0_81 : Index := 0#32
  ![v178.toNat, 0]

def k0_chk12 (v169 : BitVec 32) : Prop :=
  (8 ∣ (k0_mult21 v169).toNat) ∧
  (∀ a, (k0_off46 v169) a + S8x128.size a ≤ S32000x128.size a) ∧
  (∀ a, (k0_off47 v169) a + S1x128.size a ≤ S4000x128.size a)
theorem k0_mult21_dvd : ∀ (v169 : BitVec 32) (k0_hw12 : k0_chk12 v169), 8 ∣ (k0_mult21 v169).toNat := fun v169 k0_hw12 => k0_hw12.1
theorem k0_off46_inb : ∀ (v169 : BitVec 32) (k0_hw12 : k0_chk12 v169), ∀ a, (k0_off46 v169) a + S8x128.size a ≤ S32000x128.size a := fun v169 k0_hw12 => k0_hw12.2.1
theorem k0_off47_inb : ∀ (v169 : BitVec 32) (k0_hw12 : k0_chk12 v169), ∀ a, (k0_off47 v169) a + S1x128.size a ≤ S4000x128.size a := fun v169 k0_hw12 => k0_hw12.2.2

def k0_off48 (i : grid0.Coords) : Fin 2 → Nat :=
  let arg0 : BitVec 32 := BitVec.ofNat 32 (i 0).val
  let v183 : Index := Scalar.indexCast arg0
  let c12 : Index := 12#32
  ![v183.toNat, 12]
def k0_mult22 (v184 : BitVec 32) : BitVec 32 :=
  v184

def k0_off49 (v184 : BitVec 32) : Fin 2 → Nat :=
  let v185 : BitVec 32 := v184
  let v186 : Index := Scalar.indexCast v185
  let c0_84 : Index := 0#32
  ![v186.toNat, 0]
def k0_off50 (v184 : BitVec 32) : Fin 2 → Nat :=
  let v185 : BitVec 32 := v184
  let c3_i32_87 : BitVec 32 := 3#32
  let v192 : BitVec 32 := Scalar.shrui v185 c3_i32_87
  let v193 : Index := Scalar.indexCast v192
  let c0_88 : Index := 0#32
  ![v193.toNat, 0]

def k0_chk13 (v184 : BitVec 32) : Prop :=
  (8 ∣ (k0_mult22 v184).toNat) ∧
  (∀ a, (k0_off49 v184) a + S8x128.size a ≤ S32000x128.size a) ∧
  (∀ a, (k0_off50 v184) a + S1x128.size a ≤ S4000x128.size a)
theorem k0_mult22_dvd : ∀ (v184 : BitVec 32) (k0_hw13 : k0_chk13 v184), 8 ∣ (k0_mult22 v184).toNat := fun v184 k0_hw13 => k0_hw13.1
theorem k0_off49_inb : ∀ (v184 : BitVec 32) (k0_hw13 : k0_chk13 v184), ∀ a, (k0_off49 v184) a + S8x128.size a ≤ S32000x128.size a := fun v184 k0_hw13 => k0_hw13.2.1
theorem k0_off50_inb : ∀ (v184 : BitVec 32) (k0_hw13 : k0_chk13 v184), ∀ a, (k0_off50 v184) a + S1x128.size a ≤ S4000x128.size a := fun v184 k0_hw13 => k0_hw13.2.2

def k0_off51 (i : grid0.Coords) : Fin 2 → Nat :=
  let arg0 : BitVec 32 := BitVec.ofNat 32 (i 0).val
  let v198 : Index := Scalar.indexCast arg0
  let c13 : Index := 13#32
  ![v198.toNat, 13]
def k0_mult23 (v199 : BitVec 32) : BitVec 32 :=
  v199

def k0_off52 (v199 : BitVec 32) : Fin 2 → Nat :=
  let v200 : BitVec 32 := v199
  let v201 : Index := Scalar.indexCast v200
  let c0_91 : Index := 0#32
  ![v201.toNat, 0]
def k0_off53 (v199 : BitVec 32) : Fin 2 → Nat :=
  let v200 : BitVec 32 := v199
  let c3_i32_94 : BitVec 32 := 3#32
  let v207 : BitVec 32 := Scalar.shrui v200 c3_i32_94
  let v208 : Index := Scalar.indexCast v207
  let c0_95 : Index := 0#32
  ![v208.toNat, 0]

def k0_chk14 (v199 : BitVec 32) : Prop :=
  (8 ∣ (k0_mult23 v199).toNat) ∧
  (∀ a, (k0_off52 v199) a + S8x128.size a ≤ S32000x128.size a) ∧
  (∀ a, (k0_off53 v199) a + S1x128.size a ≤ S4000x128.size a)
theorem k0_mult23_dvd : ∀ (v199 : BitVec 32) (k0_hw14 : k0_chk14 v199), 8 ∣ (k0_mult23 v199).toNat := fun v199 k0_hw14 => k0_hw14.1
theorem k0_off52_inb : ∀ (v199 : BitVec 32) (k0_hw14 : k0_chk14 v199), ∀ a, (k0_off52 v199) a + S8x128.size a ≤ S32000x128.size a := fun v199 k0_hw14 => k0_hw14.2.1
theorem k0_off53_inb : ∀ (v199 : BitVec 32) (k0_hw14 : k0_chk14 v199), ∀ a, (k0_off53 v199) a + S1x128.size a ≤ S4000x128.size a := fun v199 k0_hw14 => k0_hw14.2.2

def k0_off54 (i : grid0.Coords) : Fin 2 → Nat :=
  let arg0 : BitVec 32 := BitVec.ofNat 32 (i 0).val
  let v213 : Index := Scalar.indexCast arg0
  let c14 : Index := 14#32
  ![v213.toNat, 14]
def k0_mult24 (v214 : BitVec 32) : BitVec 32 :=
  v214

def k0_off55 (v214 : BitVec 32) : Fin 2 → Nat :=
  let v215 : BitVec 32 := v214
  let v216 : Index := Scalar.indexCast v215
  let c0_98 : Index := 0#32
  ![v216.toNat, 0]
def k0_off56 (v214 : BitVec 32) : Fin 2 → Nat :=
  let v215 : BitVec 32 := v214
  let c3_i32_101 : BitVec 32 := 3#32
  let v222 : BitVec 32 := Scalar.shrui v215 c3_i32_101
  let v223 : Index := Scalar.indexCast v222
  let c0_102 : Index := 0#32
  ![v223.toNat, 0]

def k0_chk15 (v214 : BitVec 32) : Prop :=
  (8 ∣ (k0_mult24 v214).toNat) ∧
  (∀ a, (k0_off55 v214) a + S8x128.size a ≤ S32000x128.size a) ∧
  (∀ a, (k0_off56 v214) a + S1x128.size a ≤ S4000x128.size a)
theorem k0_mult24_dvd : ∀ (v214 : BitVec 32) (k0_hw15 : k0_chk15 v214), 8 ∣ (k0_mult24 v214).toNat := fun v214 k0_hw15 => k0_hw15.1
theorem k0_off55_inb : ∀ (v214 : BitVec 32) (k0_hw15 : k0_chk15 v214), ∀ a, (k0_off55 v214) a + S8x128.size a ≤ S32000x128.size a := fun v214 k0_hw15 => k0_hw15.2.1
theorem k0_off56_inb : ∀ (v214 : BitVec 32) (k0_hw15 : k0_chk15 v214), ∀ a, (k0_off56 v214) a + S1x128.size a ≤ S4000x128.size a := fun v214 k0_hw15 => k0_hw15.2.2

def k0_off57 (i : grid0.Coords) : Fin 2 → Nat :=
  let arg0 : BitVec 32 := BitVec.ofNat 32 (i 0).val
  let v228 : Index := Scalar.indexCast arg0
  let c15 : Index := 15#32
  ![v228.toNat, 15]
def k0_mult25 (v229 : BitVec 32) : BitVec 32 :=
  v229

def k0_off58 (v229 : BitVec 32) : Fin 2 → Nat :=
  let v230 : BitVec 32 := v229
  let v231 : Index := Scalar.indexCast v230
  let c0_105 : Index := 0#32
  ![v231.toNat, 0]
def k0_off59 (v229 : BitVec 32) : Fin 2 → Nat :=
  let v230 : BitVec 32 := v229
  let c3_i32_108 : BitVec 32 := 3#32
  let v237 : BitVec 32 := Scalar.shrui v230 c3_i32_108
  let v238 : Index := Scalar.indexCast v237
  let c0_109 : Index := 0#32
  ![v238.toNat, 0]

def k0_chk16 (v229 : BitVec 32) : Prop :=
  (8 ∣ (k0_mult25 v229).toNat) ∧
  (∀ a, (k0_off58 v229) a + S8x128.size a ≤ S32000x128.size a) ∧
  (∀ a, (k0_off59 v229) a + S1x128.size a ≤ S4000x128.size a)
theorem k0_mult25_dvd : ∀ (v229 : BitVec 32) (k0_hw16 : k0_chk16 v229), 8 ∣ (k0_mult25 v229).toNat := fun v229 k0_hw16 => k0_hw16.1
theorem k0_off58_inb : ∀ (v229 : BitVec 32) (k0_hw16 : k0_chk16 v229), ∀ a, (k0_off58 v229) a + S8x128.size a ≤ S32000x128.size a := fun v229 k0_hw16 => k0_hw16.2.1
theorem k0_off59_inb : ∀ (v229 : BitVec 32) (k0_hw16 : k0_chk16 v229), ∀ a, (k0_off59 v229) a + S1x128.size a ≤ S4000x128.size a := fun v229 k0_hw16 => k0_hw16.2.2

def k0_off60 (i : grid0.Coords) : Fin 2 → Nat :=
  let arg0 : BitVec 32 := BitVec.ofNat 32 (i 0).val
  let v243 : Index := Scalar.indexCast arg0
  let c16 : Index := 16#32
  ![v243.toNat, 16]
def k0_mult26 (v244 : BitVec 32) : BitVec 32 :=
  v244

def k0_off61 (v244 : BitVec 32) : Fin 2 → Nat :=
  let v245 : BitVec 32 := v244
  let v246 : Index := Scalar.indexCast v245
  let c0_112 : Index := 0#32
  ![v246.toNat, 0]
def k0_off62 (v244 : BitVec 32) : Fin 2 → Nat :=
  let v245 : BitVec 32 := v244
  let c3_i32_115 : BitVec 32 := 3#32
  let v252 : BitVec 32 := Scalar.shrui v245 c3_i32_115
  let v253 : Index := Scalar.indexCast v252
  let c0_116 : Index := 0#32
  ![v253.toNat, 0]

def k0_chk17 (v244 : BitVec 32) : Prop :=
  (8 ∣ (k0_mult26 v244).toNat) ∧
  (∀ a, (k0_off61 v244) a + S8x128.size a ≤ S32000x128.size a) ∧
  (∀ a, (k0_off62 v244) a + S1x128.size a ≤ S4000x128.size a)
theorem k0_mult26_dvd : ∀ (v244 : BitVec 32) (k0_hw17 : k0_chk17 v244), 8 ∣ (k0_mult26 v244).toNat := fun v244 k0_hw17 => k0_hw17.1
theorem k0_off61_inb : ∀ (v244 : BitVec 32) (k0_hw17 : k0_chk17 v244), ∀ a, (k0_off61 v244) a + S8x128.size a ≤ S32000x128.size a := fun v244 k0_hw17 => k0_hw17.2.1
theorem k0_off62_inb : ∀ (v244 : BitVec 32) (k0_hw17 : k0_chk17 v244), ∀ a, (k0_off62 v244) a + S1x128.size a ≤ S4000x128.size a := fun v244 k0_hw17 => k0_hw17.2.2

def k0_off63 (i : grid0.Coords) : Fin 2 → Nat :=
  let arg0 : BitVec 32 := BitVec.ofNat 32 (i 0).val
  let v258 : Index := Scalar.indexCast arg0
  let c17 : Index := 17#32
  ![v258.toNat, 17]
def k0_mult27 (v259 : BitVec 32) : BitVec 32 :=
  v259

def k0_off64 (v259 : BitVec 32) : Fin 2 → Nat :=
  let v260 : BitVec 32 := v259
  let v261 : Index := Scalar.indexCast v260
  let c0_119 : Index := 0#32
  ![v261.toNat, 0]
def k0_off65 (v259 : BitVec 32) : Fin 2 → Nat :=
  let v260 : BitVec 32 := v259
  let c3_i32_122 : BitVec 32 := 3#32
  let v267 : BitVec 32 := Scalar.shrui v260 c3_i32_122
  let v268 : Index := Scalar.indexCast v267
  let c0_123 : Index := 0#32
  ![v268.toNat, 0]

def k0_chk18 (v259 : BitVec 32) : Prop :=
  (8 ∣ (k0_mult27 v259).toNat) ∧
  (∀ a, (k0_off64 v259) a + S8x128.size a ≤ S32000x128.size a) ∧
  (∀ a, (k0_off65 v259) a + S1x128.size a ≤ S4000x128.size a)
theorem k0_mult27_dvd : ∀ (v259 : BitVec 32) (k0_hw18 : k0_chk18 v259), 8 ∣ (k0_mult27 v259).toNat := fun v259 k0_hw18 => k0_hw18.1
theorem k0_off64_inb : ∀ (v259 : BitVec 32) (k0_hw18 : k0_chk18 v259), ∀ a, (k0_off64 v259) a + S8x128.size a ≤ S32000x128.size a := fun v259 k0_hw18 => k0_hw18.2.1
theorem k0_off65_inb : ∀ (v259 : BitVec 32) (k0_hw18 : k0_chk18 v259), ∀ a, (k0_off65 v259) a + S1x128.size a ≤ S4000x128.size a := fun v259 k0_hw18 => k0_hw18.2.2

def k0_off66 (i : grid0.Coords) : Fin 2 → Nat :=
  let arg0 : BitVec 32 := BitVec.ofNat 32 (i 0).val
  let v273 : Index := Scalar.indexCast arg0
  let c18 : Index := 18#32
  ![v273.toNat, 18]
def k0_mult28 (v274 : BitVec 32) : BitVec 32 :=
  v274

def k0_off67 (v274 : BitVec 32) : Fin 2 → Nat :=
  let v275 : BitVec 32 := v274
  let v276 : Index := Scalar.indexCast v275
  let c0_126 : Index := 0#32
  ![v276.toNat, 0]
def k0_off68 (v274 : BitVec 32) : Fin 2 → Nat :=
  let v275 : BitVec 32 := v274
  let c3_i32_129 : BitVec 32 := 3#32
  let v282 : BitVec 32 := Scalar.shrui v275 c3_i32_129
  let v283 : Index := Scalar.indexCast v282
  let c0_130 : Index := 0#32
  ![v283.toNat, 0]

def k0_chk19 (v274 : BitVec 32) : Prop :=
  (8 ∣ (k0_mult28 v274).toNat) ∧
  (∀ a, (k0_off67 v274) a + S8x128.size a ≤ S32000x128.size a) ∧
  (∀ a, (k0_off68 v274) a + S1x128.size a ≤ S4000x128.size a)
theorem k0_mult28_dvd : ∀ (v274 : BitVec 32) (k0_hw19 : k0_chk19 v274), 8 ∣ (k0_mult28 v274).toNat := fun v274 k0_hw19 => k0_hw19.1
theorem k0_off67_inb : ∀ (v274 : BitVec 32) (k0_hw19 : k0_chk19 v274), ∀ a, (k0_off67 v274) a + S8x128.size a ≤ S32000x128.size a := fun v274 k0_hw19 => k0_hw19.2.1
theorem k0_off68_inb : ∀ (v274 : BitVec 32) (k0_hw19 : k0_chk19 v274), ∀ a, (k0_off68 v274) a + S1x128.size a ≤ S4000x128.size a := fun v274 k0_hw19 => k0_hw19.2.2

def k0_off69 (i : grid0.Coords) : Fin 2 → Nat :=
  let arg0 : BitVec 32 := BitVec.ofNat 32 (i 0).val
  let v288 : Index := Scalar.indexCast arg0
  let c19 : Index := 19#32
  ![v288.toNat, 19]
def k0_mult29 (v289 : BitVec 32) : BitVec 32 :=
  v289

def k0_off70 (v289 : BitVec 32) : Fin 2 → Nat :=
  let v290 : BitVec 32 := v289
  let v291 : Index := Scalar.indexCast v290
  let c0_133 : Index := 0#32
  ![v291.toNat, 0]
def k0_off71 (v289 : BitVec 32) : Fin 2 → Nat :=
  let v290 : BitVec 32 := v289
  let c3_i32_136 : BitVec 32 := 3#32
  let v297 : BitVec 32 := Scalar.shrui v290 c3_i32_136
  let v298 : Index := Scalar.indexCast v297
  let c0_137 : Index := 0#32
  ![v298.toNat, 0]

def k0_chk20 (v289 : BitVec 32) : Prop :=
  (8 ∣ (k0_mult29 v289).toNat) ∧
  (∀ a, (k0_off70 v289) a + S8x128.size a ≤ S32000x128.size a) ∧
  (∀ a, (k0_off71 v289) a + S1x128.size a ≤ S4000x128.size a)
theorem k0_mult29_dvd : ∀ (v289 : BitVec 32) (k0_hw20 : k0_chk20 v289), 8 ∣ (k0_mult29 v289).toNat := fun v289 k0_hw20 => k0_hw20.1
theorem k0_off70_inb : ∀ (v289 : BitVec 32) (k0_hw20 : k0_chk20 v289), ∀ a, (k0_off70 v289) a + S8x128.size a ≤ S32000x128.size a := fun v289 k0_hw20 => k0_hw20.2.1
theorem k0_off71_inb : ∀ (v289 : BitVec 32) (k0_hw20 : k0_chk20 v289), ∀ a, (k0_off71 v289) a + S1x128.size a ≤ S4000x128.size a := fun v289 k0_hw20 => k0_hw20.2.2

def k0_off72 (i : grid0.Coords) : Fin 2 → Nat :=
  let arg0 : BitVec 32 := BitVec.ofNat 32 (i 0).val
  let v303 : Index := Scalar.indexCast arg0
  let c20 : Index := 20#32
  ![v303.toNat, 20]
def k0_mult30 (v304 : BitVec 32) : BitVec 32 :=
  v304

def k0_off73 (v304 : BitVec 32) : Fin 2 → Nat :=
  let v305 : BitVec 32 := v304
  let v306 : Index := Scalar.indexCast v305
  let c0_140 : Index := 0#32
  ![v306.toNat, 0]
def k0_off74 (v304 : BitVec 32) : Fin 2 → Nat :=
  let v305 : BitVec 32 := v304
  let c3_i32_143 : BitVec 32 := 3#32
  let v312 : BitVec 32 := Scalar.shrui v305 c3_i32_143
  let v313 : Index := Scalar.indexCast v312
  let c0_144 : Index := 0#32
  ![v313.toNat, 0]

def k0_chk21 (v304 : BitVec 32) : Prop :=
  (8 ∣ (k0_mult30 v304).toNat) ∧
  (∀ a, (k0_off73 v304) a + S8x128.size a ≤ S32000x128.size a) ∧
  (∀ a, (k0_off74 v304) a + S1x128.size a ≤ S4000x128.size a)
theorem k0_mult30_dvd : ∀ (v304 : BitVec 32) (k0_hw21 : k0_chk21 v304), 8 ∣ (k0_mult30 v304).toNat := fun v304 k0_hw21 => k0_hw21.1
theorem k0_off73_inb : ∀ (v304 : BitVec 32) (k0_hw21 : k0_chk21 v304), ∀ a, (k0_off73 v304) a + S8x128.size a ≤ S32000x128.size a := fun v304 k0_hw21 => k0_hw21.2.1
theorem k0_off74_inb : ∀ (v304 : BitVec 32) (k0_hw21 : k0_chk21 v304), ∀ a, (k0_off74 v304) a + S1x128.size a ≤ S4000x128.size a := fun v304 k0_hw21 => k0_hw21.2.2

def k0_off75 (i : grid0.Coords) : Fin 2 → Nat :=
  let arg0 : BitVec 32 := BitVec.ofNat 32 (i 0).val
  let v318 : Index := Scalar.indexCast arg0
  let c21 : Index := 21#32
  ![v318.toNat, 21]
def k0_mult31 (v319 : BitVec 32) : BitVec 32 :=
  v319

def k0_off76 (v319 : BitVec 32) : Fin 2 → Nat :=
  let v320 : BitVec 32 := v319
  let v321 : Index := Scalar.indexCast v320
  let c0_147 : Index := 0#32
  ![v321.toNat, 0]
def k0_off77 (v319 : BitVec 32) : Fin 2 → Nat :=
  let v320 : BitVec 32 := v319
  let c3_i32_150 : BitVec 32 := 3#32
  let v327 : BitVec 32 := Scalar.shrui v320 c3_i32_150
  let v328 : Index := Scalar.indexCast v327
  let c0_151 : Index := 0#32
  ![v328.toNat, 0]

def k0_chk22 (v319 : BitVec 32) : Prop :=
  (8 ∣ (k0_mult31 v319).toNat) ∧
  (∀ a, (k0_off76 v319) a + S8x128.size a ≤ S32000x128.size a) ∧
  (∀ a, (k0_off77 v319) a + S1x128.size a ≤ S4000x128.size a)
theorem k0_mult31_dvd : ∀ (v319 : BitVec 32) (k0_hw22 : k0_chk22 v319), 8 ∣ (k0_mult31 v319).toNat := fun v319 k0_hw22 => k0_hw22.1
theorem k0_off76_inb : ∀ (v319 : BitVec 32) (k0_hw22 : k0_chk22 v319), ∀ a, (k0_off76 v319) a + S8x128.size a ≤ S32000x128.size a := fun v319 k0_hw22 => k0_hw22.2.1
theorem k0_off77_inb : ∀ (v319 : BitVec 32) (k0_hw22 : k0_chk22 v319), ∀ a, (k0_off77 v319) a + S1x128.size a ≤ S4000x128.size a := fun v319 k0_hw22 => k0_hw22.2.2

def k0_off78 (i : grid0.Coords) : Fin 2 → Nat :=
  let arg0 : BitVec 32 := BitVec.ofNat 32 (i 0).val
  let v333 : Index := Scalar.indexCast arg0
  let c22 : Index := 22#32
  ![v333.toNat, 22]
def k0_mult32 (v334 : BitVec 32) : BitVec 32 :=
  v334

def k0_off79 (v334 : BitVec 32) : Fin 2 → Nat :=
  let v335 : BitVec 32 := v334
  let v336 : Index := Scalar.indexCast v335
  let c0_154 : Index := 0#32
  ![v336.toNat, 0]
def k0_off80 (v334 : BitVec 32) : Fin 2 → Nat :=
  let v335 : BitVec 32 := v334
  let c3_i32_157 : BitVec 32 := 3#32
  let v342 : BitVec 32 := Scalar.shrui v335 c3_i32_157
  let v343 : Index := Scalar.indexCast v342
  let c0_158 : Index := 0#32
  ![v343.toNat, 0]

def k0_chk23 (v334 : BitVec 32) : Prop :=
  (8 ∣ (k0_mult32 v334).toNat) ∧
  (∀ a, (k0_off79 v334) a + S8x128.size a ≤ S32000x128.size a) ∧
  (∀ a, (k0_off80 v334) a + S1x128.size a ≤ S4000x128.size a)
theorem k0_mult32_dvd : ∀ (v334 : BitVec 32) (k0_hw23 : k0_chk23 v334), 8 ∣ (k0_mult32 v334).toNat := fun v334 k0_hw23 => k0_hw23.1
theorem k0_off79_inb : ∀ (v334 : BitVec 32) (k0_hw23 : k0_chk23 v334), ∀ a, (k0_off79 v334) a + S8x128.size a ≤ S32000x128.size a := fun v334 k0_hw23 => k0_hw23.2.1
theorem k0_off80_inb : ∀ (v334 : BitVec 32) (k0_hw23 : k0_chk23 v334), ∀ a, (k0_off80 v334) a + S1x128.size a ≤ S4000x128.size a := fun v334 k0_hw23 => k0_hw23.2.2

def k0_off81 (i : grid0.Coords) : Fin 2 → Nat :=
  let arg0 : BitVec 32 := BitVec.ofNat 32 (i 0).val
  let v348 : Index := Scalar.indexCast arg0
  let c23 : Index := 23#32
  ![v348.toNat, 23]
def k0_mult33 (v349 : BitVec 32) : BitVec 32 :=
  v349

def k0_off82 (v349 : BitVec 32) : Fin 2 → Nat :=
  let v350 : BitVec 32 := v349
  let v351 : Index := Scalar.indexCast v350
  let c0_161 : Index := 0#32
  ![v351.toNat, 0]
def k0_off83 (v349 : BitVec 32) : Fin 2 → Nat :=
  let v350 : BitVec 32 := v349
  let c3_i32_164 : BitVec 32 := 3#32
  let v357 : BitVec 32 := Scalar.shrui v350 c3_i32_164
  let v358 : Index := Scalar.indexCast v357
  let c0_165 : Index := 0#32
  ![v358.toNat, 0]

def k0_chk24 (v349 : BitVec 32) : Prop :=
  (8 ∣ (k0_mult33 v349).toNat) ∧
  (∀ a, (k0_off82 v349) a + S8x128.size a ≤ S32000x128.size a) ∧
  (∀ a, (k0_off83 v349) a + S1x128.size a ≤ S4000x128.size a)
theorem k0_mult33_dvd : ∀ (v349 : BitVec 32) (k0_hw24 : k0_chk24 v349), 8 ∣ (k0_mult33 v349).toNat := fun v349 k0_hw24 => k0_hw24.1
theorem k0_off82_inb : ∀ (v349 : BitVec 32) (k0_hw24 : k0_chk24 v349), ∀ a, (k0_off82 v349) a + S8x128.size a ≤ S32000x128.size a := fun v349 k0_hw24 => k0_hw24.2.1
theorem k0_off83_inb : ∀ (v349 : BitVec 32) (k0_hw24 : k0_chk24 v349), ∀ a, (k0_off83 v349) a + S1x128.size a ≤ S4000x128.size a := fun v349 k0_hw24 => k0_hw24.2.2

def k0_off84 (i : grid0.Coords) : Fin 2 → Nat :=
  let arg0 : BitVec 32 := BitVec.ofNat 32 (i 0).val
  let v363 : Index := Scalar.indexCast arg0
  let c24 : Index := 24#32
  ![v363.toNat, 24]
def k0_mult34 (v364 : BitVec 32) : BitVec 32 :=
  v364

def k0_off85 (v364 : BitVec 32) : Fin 2 → Nat :=
  let v365 : BitVec 32 := v364
  let v366 : Index := Scalar.indexCast v365
  let c0_168 : Index := 0#32
  ![v366.toNat, 0]
def k0_off86 (v364 : BitVec 32) : Fin 2 → Nat :=
  let v365 : BitVec 32 := v364
  let c3_i32_171 : BitVec 32 := 3#32
  let v372 : BitVec 32 := Scalar.shrui v365 c3_i32_171
  let v373 : Index := Scalar.indexCast v372
  let c0_172 : Index := 0#32
  ![v373.toNat, 0]

def k0_chk25 (v364 : BitVec 32) : Prop :=
  (8 ∣ (k0_mult34 v364).toNat) ∧
  (∀ a, (k0_off85 v364) a + S8x128.size a ≤ S32000x128.size a) ∧
  (∀ a, (k0_off86 v364) a + S1x128.size a ≤ S4000x128.size a)
theorem k0_mult34_dvd : ∀ (v364 : BitVec 32) (k0_hw25 : k0_chk25 v364), 8 ∣ (k0_mult34 v364).toNat := fun v364 k0_hw25 => k0_hw25.1
theorem k0_off85_inb : ∀ (v364 : BitVec 32) (k0_hw25 : k0_chk25 v364), ∀ a, (k0_off85 v364) a + S8x128.size a ≤ S32000x128.size a := fun v364 k0_hw25 => k0_hw25.2.1
theorem k0_off86_inb : ∀ (v364 : BitVec 32) (k0_hw25 : k0_chk25 v364), ∀ a, (k0_off86 v364) a + S1x128.size a ≤ S4000x128.size a := fun v364 k0_hw25 => k0_hw25.2.2

def k0_off87 (i : grid0.Coords) : Fin 2 → Nat :=
  let arg0 : BitVec 32 := BitVec.ofNat 32 (i 0).val
  let v378 : Index := Scalar.indexCast arg0
  let c25 : Index := 25#32
  ![v378.toNat, 25]
def k0_mult35 (v379 : BitVec 32) : BitVec 32 :=
  v379

def k0_off88 (v379 : BitVec 32) : Fin 2 → Nat :=
  let v380 : BitVec 32 := v379
  let v381 : Index := Scalar.indexCast v380
  let c0_175 : Index := 0#32
  ![v381.toNat, 0]
def k0_off89 (v379 : BitVec 32) : Fin 2 → Nat :=
  let v380 : BitVec 32 := v379
  let c3_i32_178 : BitVec 32 := 3#32
  let v387 : BitVec 32 := Scalar.shrui v380 c3_i32_178
  let v388 : Index := Scalar.indexCast v387
  let c0_179 : Index := 0#32
  ![v388.toNat, 0]

def k0_chk26 (v379 : BitVec 32) : Prop :=
  (8 ∣ (k0_mult35 v379).toNat) ∧
  (∀ a, (k0_off88 v379) a + S8x128.size a ≤ S32000x128.size a) ∧
  (∀ a, (k0_off89 v379) a + S1x128.size a ≤ S4000x128.size a)
theorem k0_mult35_dvd : ∀ (v379 : BitVec 32) (k0_hw26 : k0_chk26 v379), 8 ∣ (k0_mult35 v379).toNat := fun v379 k0_hw26 => k0_hw26.1
theorem k0_off88_inb : ∀ (v379 : BitVec 32) (k0_hw26 : k0_chk26 v379), ∀ a, (k0_off88 v379) a + S8x128.size a ≤ S32000x128.size a := fun v379 k0_hw26 => k0_hw26.2.1
theorem k0_off89_inb : ∀ (v379 : BitVec 32) (k0_hw26 : k0_chk26 v379), ∀ a, (k0_off89 v379) a + S1x128.size a ≤ S4000x128.size a := fun v379 k0_hw26 => k0_hw26.2.2

def k0_off90 (i : grid0.Coords) : Fin 2 → Nat :=
  let arg0 : BitVec 32 := BitVec.ofNat 32 (i 0).val
  let v393 : Index := Scalar.indexCast arg0
  let c26 : Index := 26#32
  ![v393.toNat, 26]
def k0_mult36 (v394 : BitVec 32) : BitVec 32 :=
  v394

def k0_off91 (v394 : BitVec 32) : Fin 2 → Nat :=
  let v395 : BitVec 32 := v394
  let v396 : Index := Scalar.indexCast v395
  let c0_182 : Index := 0#32
  ![v396.toNat, 0]
def k0_off92 (v394 : BitVec 32) : Fin 2 → Nat :=
  let v395 : BitVec 32 := v394
  let c3_i32_185 : BitVec 32 := 3#32
  let v402 : BitVec 32 := Scalar.shrui v395 c3_i32_185
  let v403 : Index := Scalar.indexCast v402
  let c0_186 : Index := 0#32
  ![v403.toNat, 0]

def k0_chk27 (v394 : BitVec 32) : Prop :=
  (8 ∣ (k0_mult36 v394).toNat) ∧
  (∀ a, (k0_off91 v394) a + S8x128.size a ≤ S32000x128.size a) ∧
  (∀ a, (k0_off92 v394) a + S1x128.size a ≤ S4000x128.size a)
theorem k0_mult36_dvd : ∀ (v394 : BitVec 32) (k0_hw27 : k0_chk27 v394), 8 ∣ (k0_mult36 v394).toNat := fun v394 k0_hw27 => k0_hw27.1
theorem k0_off91_inb : ∀ (v394 : BitVec 32) (k0_hw27 : k0_chk27 v394), ∀ a, (k0_off91 v394) a + S8x128.size a ≤ S32000x128.size a := fun v394 k0_hw27 => k0_hw27.2.1
theorem k0_off92_inb : ∀ (v394 : BitVec 32) (k0_hw27 : k0_chk27 v394), ∀ a, (k0_off92 v394) a + S1x128.size a ≤ S4000x128.size a := fun v394 k0_hw27 => k0_hw27.2.2

def k0_off93 (i : grid0.Coords) : Fin 2 → Nat :=
  let arg0 : BitVec 32 := BitVec.ofNat 32 (i 0).val
  let v408 : Index := Scalar.indexCast arg0
  let c27 : Index := 27#32
  ![v408.toNat, 27]
def k0_mult37 (v409 : BitVec 32) : BitVec 32 :=
  v409

def k0_off94 (v409 : BitVec 32) : Fin 2 → Nat :=
  let v410 : BitVec 32 := v409
  let v411 : Index := Scalar.indexCast v410
  let c0_189 : Index := 0#32
  ![v411.toNat, 0]
def k0_off95 (v409 : BitVec 32) : Fin 2 → Nat :=
  let v410 : BitVec 32 := v409
  let c3_i32_192 : BitVec 32 := 3#32
  let v417 : BitVec 32 := Scalar.shrui v410 c3_i32_192
  let v418 : Index := Scalar.indexCast v417
  let c0_193 : Index := 0#32
  ![v418.toNat, 0]

def k0_chk28 (v409 : BitVec 32) : Prop :=
  (8 ∣ (k0_mult37 v409).toNat) ∧
  (∀ a, (k0_off94 v409) a + S8x128.size a ≤ S32000x128.size a) ∧
  (∀ a, (k0_off95 v409) a + S1x128.size a ≤ S4000x128.size a)
theorem k0_mult37_dvd : ∀ (v409 : BitVec 32) (k0_hw28 : k0_chk28 v409), 8 ∣ (k0_mult37 v409).toNat := fun v409 k0_hw28 => k0_hw28.1
theorem k0_off94_inb : ∀ (v409 : BitVec 32) (k0_hw28 : k0_chk28 v409), ∀ a, (k0_off94 v409) a + S8x128.size a ≤ S32000x128.size a := fun v409 k0_hw28 => k0_hw28.2.1
theorem k0_off95_inb : ∀ (v409 : BitVec 32) (k0_hw28 : k0_chk28 v409), ∀ a, (k0_off95 v409) a + S1x128.size a ≤ S4000x128.size a := fun v409 k0_hw28 => k0_hw28.2.2

def k0_off96 (i : grid0.Coords) : Fin 2 → Nat :=
  let arg0 : BitVec 32 := BitVec.ofNat 32 (i 0).val
  let v423 : Index := Scalar.indexCast arg0
  let c28 : Index := 28#32
  ![v423.toNat, 28]
def k0_mult38 (v424 : BitVec 32) : BitVec 32 :=
  v424

def k0_off97 (v424 : BitVec 32) : Fin 2 → Nat :=
  let v425 : BitVec 32 := v424
  let v426 : Index := Scalar.indexCast v425
  let c0_196 : Index := 0#32
  ![v426.toNat, 0]
def k0_off98 (v424 : BitVec 32) : Fin 2 → Nat :=
  let v425 : BitVec 32 := v424
  let c3_i32_199 : BitVec 32 := 3#32
  let v432 : BitVec 32 := Scalar.shrui v425 c3_i32_199
  let v433 : Index := Scalar.indexCast v432
  let c0_200 : Index := 0#32
  ![v433.toNat, 0]

def k0_chk29 (v424 : BitVec 32) : Prop :=
  (8 ∣ (k0_mult38 v424).toNat) ∧
  (∀ a, (k0_off97 v424) a + S8x128.size a ≤ S32000x128.size a) ∧
  (∀ a, (k0_off98 v424) a + S1x128.size a ≤ S4000x128.size a)
theorem k0_mult38_dvd : ∀ (v424 : BitVec 32) (k0_hw29 : k0_chk29 v424), 8 ∣ (k0_mult38 v424).toNat := fun v424 k0_hw29 => k0_hw29.1
theorem k0_off97_inb : ∀ (v424 : BitVec 32) (k0_hw29 : k0_chk29 v424), ∀ a, (k0_off97 v424) a + S8x128.size a ≤ S32000x128.size a := fun v424 k0_hw29 => k0_hw29.2.1
theorem k0_off98_inb : ∀ (v424 : BitVec 32) (k0_hw29 : k0_chk29 v424), ∀ a, (k0_off98 v424) a + S1x128.size a ≤ S4000x128.size a := fun v424 k0_hw29 => k0_hw29.2.2

def k0_off99 (i : grid0.Coords) : Fin 2 → Nat :=
  let arg0 : BitVec 32 := BitVec.ofNat 32 (i 0).val
  let v438 : Index := Scalar.indexCast arg0
  let c29 : Index := 29#32
  ![v438.toNat, 29]
def k0_mult39 (v439 : BitVec 32) : BitVec 32 :=
  v439

def k0_off100 (v439 : BitVec 32) : Fin 2 → Nat :=
  let v440 : BitVec 32 := v439
  let v441 : Index := Scalar.indexCast v440
  let c0_203 : Index := 0#32
  ![v441.toNat, 0]
def k0_off101 (v439 : BitVec 32) : Fin 2 → Nat :=
  let v440 : BitVec 32 := v439
  let c3_i32_206 : BitVec 32 := 3#32
  let v447 : BitVec 32 := Scalar.shrui v440 c3_i32_206
  let v448 : Index := Scalar.indexCast v447
  let c0_207 : Index := 0#32
  ![v448.toNat, 0]

def k0_chk30 (v439 : BitVec 32) : Prop :=
  (8 ∣ (k0_mult39 v439).toNat) ∧
  (∀ a, (k0_off100 v439) a + S8x128.size a ≤ S32000x128.size a) ∧
  (∀ a, (k0_off101 v439) a + S1x128.size a ≤ S4000x128.size a)
theorem k0_mult39_dvd : ∀ (v439 : BitVec 32) (k0_hw30 : k0_chk30 v439), 8 ∣ (k0_mult39 v439).toNat := fun v439 k0_hw30 => k0_hw30.1
theorem k0_off100_inb : ∀ (v439 : BitVec 32) (k0_hw30 : k0_chk30 v439), ∀ a, (k0_off100 v439) a + S8x128.size a ≤ S32000x128.size a := fun v439 k0_hw30 => k0_hw30.2.1
theorem k0_off101_inb : ∀ (v439 : BitVec 32) (k0_hw30 : k0_chk30 v439), ∀ a, (k0_off101 v439) a + S1x128.size a ≤ S4000x128.size a := fun v439 k0_hw30 => k0_hw30.2.2

def k0_off102 (i : grid0.Coords) : Fin 2 → Nat :=
  let arg0 : BitVec 32 := BitVec.ofNat 32 (i 0).val
  let v453 : Index := Scalar.indexCast arg0
  let c30 : Index := 30#32
  ![v453.toNat, 30]
def k0_mult40 (v454 : BitVec 32) : BitVec 32 :=
  v454

def k0_off103 (v454 : BitVec 32) : Fin 2 → Nat :=
  let v455 : BitVec 32 := v454
  let v456 : Index := Scalar.indexCast v455
  let c0_210 : Index := 0#32
  ![v456.toNat, 0]
def k0_off104 (v454 : BitVec 32) : Fin 2 → Nat :=
  let v455 : BitVec 32 := v454
  let c3_i32_213 : BitVec 32 := 3#32
  let v462 : BitVec 32 := Scalar.shrui v455 c3_i32_213
  let v463 : Index := Scalar.indexCast v462
  let c0_214 : Index := 0#32
  ![v463.toNat, 0]

def k0_chk31 (v454 : BitVec 32) : Prop :=
  (8 ∣ (k0_mult40 v454).toNat) ∧
  (∀ a, (k0_off103 v454) a + S8x128.size a ≤ S32000x128.size a) ∧
  (∀ a, (k0_off104 v454) a + S1x128.size a ≤ S4000x128.size a)
theorem k0_mult40_dvd : ∀ (v454 : BitVec 32) (k0_hw31 : k0_chk31 v454), 8 ∣ (k0_mult40 v454).toNat := fun v454 k0_hw31 => k0_hw31.1
theorem k0_off103_inb : ∀ (v454 : BitVec 32) (k0_hw31 : k0_chk31 v454), ∀ a, (k0_off103 v454) a + S8x128.size a ≤ S32000x128.size a := fun v454 k0_hw31 => k0_hw31.2.1
theorem k0_off104_inb : ∀ (v454 : BitVec 32) (k0_hw31 : k0_chk31 v454), ∀ a, (k0_off104 v454) a + S1x128.size a ≤ S4000x128.size a := fun v454 k0_hw31 => k0_hw31.2.2

def k0_off105 (i : grid0.Coords) : Fin 2 → Nat :=
  let arg0 : BitVec 32 := BitVec.ofNat 32 (i 0).val
  let v468 : Index := Scalar.indexCast arg0
  let c31 : Index := 31#32
  ![v468.toNat, 31]
def k0_mult41 (v469 : BitVec 32) : BitVec 32 :=
  v469

def k0_off106 (v469 : BitVec 32) : Fin 2 → Nat :=
  let v470 : BitVec 32 := v469
  let v471 : Index := Scalar.indexCast v470
  let c0_217 : Index := 0#32
  ![v471.toNat, 0]
def k0_off107 (v469 : BitVec 32) : Fin 2 → Nat :=
  let v470 : BitVec 32 := v469
  let c3_i32_220 : BitVec 32 := 3#32
  let v477 : BitVec 32 := Scalar.shrui v470 c3_i32_220
  let v478 : Index := Scalar.indexCast v477
  let c0_221 : Index := 0#32
  ![v478.toNat, 0]

def k0_chk32 (v469 : BitVec 32) : Prop :=
  (8 ∣ (k0_mult41 v469).toNat) ∧
  (∀ a, (k0_off106 v469) a + S8x128.size a ≤ S32000x128.size a) ∧
  (∀ a, (k0_off107 v469) a + S1x128.size a ≤ S4000x128.size a)
theorem k0_mult41_dvd : ∀ (v469 : BitVec 32) (k0_hw32 : k0_chk32 v469), 8 ∣ (k0_mult41 v469).toNat := fun v469 k0_hw32 => k0_hw32.1
theorem k0_off106_inb : ∀ (v469 : BitVec 32) (k0_hw32 : k0_chk32 v469), ∀ a, (k0_off106 v469) a + S8x128.size a ≤ S32000x128.size a := fun v469 k0_hw32 => k0_hw32.2.1
theorem k0_off107_inb : ∀ (v469 : BitVec 32) (k0_hw32 : k0_chk32 v469), ∀ a, (k0_off107 v469) a + S1x128.size a ≤ S4000x128.size a := fun v469 k0_hw32 => k0_hw32.2.2

def k0_off108 (i : grid0.Coords) : Fin 2 → Nat :=
  let arg0 : BitVec 32 := BitVec.ofNat 32 (i 0).val
  let v483 : Index := Scalar.indexCast arg0
  let c32 : Index := 32#32
  ![v483.toNat, 32]
def k0_mult42 (v484 : BitVec 32) : BitVec 32 :=
  v484

def k0_off109 (v484 : BitVec 32) : Fin 2 → Nat :=
  let v485 : BitVec 32 := v484
  let v486 : Index := Scalar.indexCast v485
  let c0_224 : Index := 0#32
  ![v486.toNat, 0]
def k0_off110 (v484 : BitVec 32) : Fin 2 → Nat :=
  let v485 : BitVec 32 := v484
  let c3_i32_227 : BitVec 32 := 3#32
  let v492 : BitVec 32 := Scalar.shrui v485 c3_i32_227
  let v493 : Index := Scalar.indexCast v492
  let c0_228 : Index := 0#32
  ![v493.toNat, 0]

def k0_chk33 (v484 : BitVec 32) : Prop :=
  (8 ∣ (k0_mult42 v484).toNat) ∧
  (∀ a, (k0_off109 v484) a + S8x128.size a ≤ S32000x128.size a) ∧
  (∀ a, (k0_off110 v484) a + S1x128.size a ≤ S4000x128.size a)
theorem k0_mult42_dvd : ∀ (v484 : BitVec 32) (k0_hw33 : k0_chk33 v484), 8 ∣ (k0_mult42 v484).toNat := fun v484 k0_hw33 => k0_hw33.1
theorem k0_off109_inb : ∀ (v484 : BitVec 32) (k0_hw33 : k0_chk33 v484), ∀ a, (k0_off109 v484) a + S8x128.size a ≤ S32000x128.size a := fun v484 k0_hw33 => k0_hw33.2.1
theorem k0_off110_inb : ∀ (v484 : BitVec 32) (k0_hw33 : k0_chk33 v484), ∀ a, (k0_off110 v484) a + S1x128.size a ≤ S4000x128.size a := fun v484 k0_hw33 => k0_hw33.2.2

def k0_off111 (i : grid0.Coords) : Fin 2 → Nat :=
  let arg0 : BitVec 32 := BitVec.ofNat 32 (i 0).val
  let v498 : Index := Scalar.indexCast arg0
  let c33 : Index := 33#32
  ![v498.toNat, 33]
def k0_mult43 (v499 : BitVec 32) : BitVec 32 :=
  v499

def k0_off112 (v499 : BitVec 32) : Fin 2 → Nat :=
  let v500 : BitVec 32 := v499
  let v501 : Index := Scalar.indexCast v500
  let c0_231 : Index := 0#32
  ![v501.toNat, 0]
def k0_off113 (v499 : BitVec 32) : Fin 2 → Nat :=
  let v500 : BitVec 32 := v499
  let c3_i32_234 : BitVec 32 := 3#32
  let v507 : BitVec 32 := Scalar.shrui v500 c3_i32_234
  let v508 : Index := Scalar.indexCast v507
  let c0_235 : Index := 0#32
  ![v508.toNat, 0]

def k0_chk34 (v499 : BitVec 32) : Prop :=
  (8 ∣ (k0_mult43 v499).toNat) ∧
  (∀ a, (k0_off112 v499) a + S8x128.size a ≤ S32000x128.size a) ∧
  (∀ a, (k0_off113 v499) a + S1x128.size a ≤ S4000x128.size a)
theorem k0_mult43_dvd : ∀ (v499 : BitVec 32) (k0_hw34 : k0_chk34 v499), 8 ∣ (k0_mult43 v499).toNat := fun v499 k0_hw34 => k0_hw34.1
theorem k0_off112_inb : ∀ (v499 : BitVec 32) (k0_hw34 : k0_chk34 v499), ∀ a, (k0_off112 v499) a + S8x128.size a ≤ S32000x128.size a := fun v499 k0_hw34 => k0_hw34.2.1
theorem k0_off113_inb : ∀ (v499 : BitVec 32) (k0_hw34 : k0_chk34 v499), ∀ a, (k0_off113 v499) a + S1x128.size a ≤ S4000x128.size a := fun v499 k0_hw34 => k0_hw34.2.2

def k0_off114 (i : grid0.Coords) : Fin 2 → Nat :=
  let arg0 : BitVec 32 := BitVec.ofNat 32 (i 0).val
  let v513 : Index := Scalar.indexCast arg0
  let c34 : Index := 34#32
  ![v513.toNat, 34]
def k0_mult44 (v514 : BitVec 32) : BitVec 32 :=
  v514

def k0_off115 (v514 : BitVec 32) : Fin 2 → Nat :=
  let v515 : BitVec 32 := v514
  let v516 : Index := Scalar.indexCast v515
  let c0_238 : Index := 0#32
  ![v516.toNat, 0]
def k0_off116 (v514 : BitVec 32) : Fin 2 → Nat :=
  let v515 : BitVec 32 := v514
  let c3_i32_241 : BitVec 32 := 3#32
  let v522 : BitVec 32 := Scalar.shrui v515 c3_i32_241
  let v523 : Index := Scalar.indexCast v522
  let c0_242 : Index := 0#32
  ![v523.toNat, 0]

def k0_chk35 (v514 : BitVec 32) : Prop :=
  (8 ∣ (k0_mult44 v514).toNat) ∧
  (∀ a, (k0_off115 v514) a + S8x128.size a ≤ S32000x128.size a) ∧
  (∀ a, (k0_off116 v514) a + S1x128.size a ≤ S4000x128.size a)
theorem k0_mult44_dvd : ∀ (v514 : BitVec 32) (k0_hw35 : k0_chk35 v514), 8 ∣ (k0_mult44 v514).toNat := fun v514 k0_hw35 => k0_hw35.1
theorem k0_off115_inb : ∀ (v514 : BitVec 32) (k0_hw35 : k0_chk35 v514), ∀ a, (k0_off115 v514) a + S8x128.size a ≤ S32000x128.size a := fun v514 k0_hw35 => k0_hw35.2.1
theorem k0_off116_inb : ∀ (v514 : BitVec 32) (k0_hw35 : k0_chk35 v514), ∀ a, (k0_off116 v514) a + S1x128.size a ≤ S4000x128.size a := fun v514 k0_hw35 => k0_hw35.2.2

def k0_off117 (i : grid0.Coords) : Fin 2 → Nat :=
  let arg0 : BitVec 32 := BitVec.ofNat 32 (i 0).val
  let v528 : Index := Scalar.indexCast arg0
  let c35 : Index := 35#32
  ![v528.toNat, 35]
def k0_mult45 (v529 : BitVec 32) : BitVec 32 :=
  v529

def k0_off118 (v529 : BitVec 32) : Fin 2 → Nat :=
  let v530 : BitVec 32 := v529
  let v531 : Index := Scalar.indexCast v530
  let c0_245 : Index := 0#32
  ![v531.toNat, 0]
def k0_off119 (v529 : BitVec 32) : Fin 2 → Nat :=
  let v530 : BitVec 32 := v529
  let c3_i32_248 : BitVec 32 := 3#32
  let v537 : BitVec 32 := Scalar.shrui v530 c3_i32_248
  let v538 : Index := Scalar.indexCast v537
  let c0_249 : Index := 0#32
  ![v538.toNat, 0]

def k0_chk36 (v529 : BitVec 32) : Prop :=
  (8 ∣ (k0_mult45 v529).toNat) ∧
  (∀ a, (k0_off118 v529) a + S8x128.size a ≤ S32000x128.size a) ∧
  (∀ a, (k0_off119 v529) a + S1x128.size a ≤ S4000x128.size a)
theorem k0_mult45_dvd : ∀ (v529 : BitVec 32) (k0_hw36 : k0_chk36 v529), 8 ∣ (k0_mult45 v529).toNat := fun v529 k0_hw36 => k0_hw36.1
theorem k0_off118_inb : ∀ (v529 : BitVec 32) (k0_hw36 : k0_chk36 v529), ∀ a, (k0_off118 v529) a + S8x128.size a ≤ S32000x128.size a := fun v529 k0_hw36 => k0_hw36.2.1
theorem k0_off119_inb : ∀ (v529 : BitVec 32) (k0_hw36 : k0_chk36 v529), ∀ a, (k0_off119 v529) a + S1x128.size a ≤ S4000x128.size a := fun v529 k0_hw36 => k0_hw36.2.2

def k0_off120 (i : grid0.Coords) : Fin 2 → Nat :=
  let arg0 : BitVec 32 := BitVec.ofNat 32 (i 0).val
  let v543 : Index := Scalar.indexCast arg0
  let c36 : Index := 36#32
  ![v543.toNat, 36]
def k0_mult46 (v544 : BitVec 32) : BitVec 32 :=
  v544

def k0_off121 (v544 : BitVec 32) : Fin 2 → Nat :=
  let v545 : BitVec 32 := v544
  let v546 : Index := Scalar.indexCast v545
  let c0_252 : Index := 0#32
  ![v546.toNat, 0]
def k0_off122 (v544 : BitVec 32) : Fin 2 → Nat :=
  let v545 : BitVec 32 := v544
  let c3_i32_255 : BitVec 32 := 3#32
  let v552 : BitVec 32 := Scalar.shrui v545 c3_i32_255
  let v553 : Index := Scalar.indexCast v552
  let c0_256 : Index := 0#32
  ![v553.toNat, 0]

def k0_chk37 (v544 : BitVec 32) : Prop :=
  (8 ∣ (k0_mult46 v544).toNat) ∧
  (∀ a, (k0_off121 v544) a + S8x128.size a ≤ S32000x128.size a) ∧
  (∀ a, (k0_off122 v544) a + S1x128.size a ≤ S4000x128.size a)
theorem k0_mult46_dvd : ∀ (v544 : BitVec 32) (k0_hw37 : k0_chk37 v544), 8 ∣ (k0_mult46 v544).toNat := fun v544 k0_hw37 => k0_hw37.1
theorem k0_off121_inb : ∀ (v544 : BitVec 32) (k0_hw37 : k0_chk37 v544), ∀ a, (k0_off121 v544) a + S8x128.size a ≤ S32000x128.size a := fun v544 k0_hw37 => k0_hw37.2.1
theorem k0_off122_inb : ∀ (v544 : BitVec 32) (k0_hw37 : k0_chk37 v544), ∀ a, (k0_off122 v544) a + S1x128.size a ≤ S4000x128.size a := fun v544 k0_hw37 => k0_hw37.2.2

def k0_off123 (i : grid0.Coords) : Fin 2 → Nat :=
  let arg0 : BitVec 32 := BitVec.ofNat 32 (i 0).val
  let v558 : Index := Scalar.indexCast arg0
  let c37 : Index := 37#32
  ![v558.toNat, 37]
def k0_mult47 (v559 : BitVec 32) : BitVec 32 :=
  v559

def k0_off124 (v559 : BitVec 32) : Fin 2 → Nat :=
  let v560 : BitVec 32 := v559
  let v561 : Index := Scalar.indexCast v560
  let c0_259 : Index := 0#32
  ![v561.toNat, 0]
def k0_off125 (v559 : BitVec 32) : Fin 2 → Nat :=
  let v560 : BitVec 32 := v559
  let c3_i32_262 : BitVec 32 := 3#32
  let v567 : BitVec 32 := Scalar.shrui v560 c3_i32_262
  let v568 : Index := Scalar.indexCast v567
  let c0_263 : Index := 0#32
  ![v568.toNat, 0]

def k0_chk38 (v559 : BitVec 32) : Prop :=
  (8 ∣ (k0_mult47 v559).toNat) ∧
  (∀ a, (k0_off124 v559) a + S8x128.size a ≤ S32000x128.size a) ∧
  (∀ a, (k0_off125 v559) a + S1x128.size a ≤ S4000x128.size a)
theorem k0_mult47_dvd : ∀ (v559 : BitVec 32) (k0_hw38 : k0_chk38 v559), 8 ∣ (k0_mult47 v559).toNat := fun v559 k0_hw38 => k0_hw38.1
theorem k0_off124_inb : ∀ (v559 : BitVec 32) (k0_hw38 : k0_chk38 v559), ∀ a, (k0_off124 v559) a + S8x128.size a ≤ S32000x128.size a := fun v559 k0_hw38 => k0_hw38.2.1
theorem k0_off125_inb : ∀ (v559 : BitVec 32) (k0_hw38 : k0_chk38 v559), ∀ a, (k0_off125 v559) a + S1x128.size a ≤ S4000x128.size a := fun v559 k0_hw38 => k0_hw38.2.2

def k0_off126 (i : grid0.Coords) : Fin 2 → Nat :=
  let arg0 : BitVec 32 := BitVec.ofNat 32 (i 0).val
  let v573 : Index := Scalar.indexCast arg0
  let c38 : Index := 38#32
  ![v573.toNat, 38]
def k0_mult48 (v574 : BitVec 32) : BitVec 32 :=
  v574

def k0_off127 (v574 : BitVec 32) : Fin 2 → Nat :=
  let v575 : BitVec 32 := v574
  let v576 : Index := Scalar.indexCast v575
  let c0_266 : Index := 0#32
  ![v576.toNat, 0]
def k0_off128 (v574 : BitVec 32) : Fin 2 → Nat :=
  let v575 : BitVec 32 := v574
  let c3_i32_269 : BitVec 32 := 3#32
  let v582 : BitVec 32 := Scalar.shrui v575 c3_i32_269
  let v583 : Index := Scalar.indexCast v582
  let c0_270 : Index := 0#32
  ![v583.toNat, 0]

def k0_chk39 (v574 : BitVec 32) : Prop :=
  (8 ∣ (k0_mult48 v574).toNat) ∧
  (∀ a, (k0_off127 v574) a + S8x128.size a ≤ S32000x128.size a) ∧
  (∀ a, (k0_off128 v574) a + S1x128.size a ≤ S4000x128.size a)
theorem k0_mult48_dvd : ∀ (v574 : BitVec 32) (k0_hw39 : k0_chk39 v574), 8 ∣ (k0_mult48 v574).toNat := fun v574 k0_hw39 => k0_hw39.1
theorem k0_off127_inb : ∀ (v574 : BitVec 32) (k0_hw39 : k0_chk39 v574), ∀ a, (k0_off127 v574) a + S8x128.size a ≤ S32000x128.size a := fun v574 k0_hw39 => k0_hw39.2.1
theorem k0_off128_inb : ∀ (v574 : BitVec 32) (k0_hw39 : k0_chk39 v574), ∀ a, (k0_off128 v574) a + S1x128.size a ≤ S4000x128.size a := fun v574 k0_hw39 => k0_hw39.2.2

def k0_off129 (i : grid0.Coords) : Fin 2 → Nat :=
  let arg0 : BitVec 32 := BitVec.ofNat 32 (i 0).val
  let v588 : Index := Scalar.indexCast arg0
  let c39 : Index := 39#32
  ![v588.toNat, 39]
def k0_mult49 (v589 : BitVec 32) : BitVec 32 :=
  v589

def k0_off130 (v589 : BitVec 32) : Fin 2 → Nat :=
  let v590 : BitVec 32 := v589
  let v591 : Index := Scalar.indexCast v590
  let c0_273 : Index := 0#32
  ![v591.toNat, 0]
def k0_off131 (v589 : BitVec 32) : Fin 2 → Nat :=
  let v590 : BitVec 32 := v589
  let c3_i32_276 : BitVec 32 := 3#32
  let v597 : BitVec 32 := Scalar.shrui v590 c3_i32_276
  let v598 : Index := Scalar.indexCast v597
  let c0_277 : Index := 0#32
  ![v598.toNat, 0]

def k0_chk40 (v589 : BitVec 32) : Prop :=
  (8 ∣ (k0_mult49 v589).toNat) ∧
  (∀ a, (k0_off130 v589) a + S8x128.size a ≤ S32000x128.size a) ∧
  (∀ a, (k0_off131 v589) a + S1x128.size a ≤ S4000x128.size a)
theorem k0_mult49_dvd : ∀ (v589 : BitVec 32) (k0_hw40 : k0_chk40 v589), 8 ∣ (k0_mult49 v589).toNat := fun v589 k0_hw40 => k0_hw40.1
theorem k0_off130_inb : ∀ (v589 : BitVec 32) (k0_hw40 : k0_chk40 v589), ∀ a, (k0_off130 v589) a + S8x128.size a ≤ S32000x128.size a := fun v589 k0_hw40 => k0_hw40.2.1
theorem k0_off131_inb : ∀ (v589 : BitVec 32) (k0_hw40 : k0_chk40 v589), ∀ a, (k0_off131 v589) a + S1x128.size a ≤ S4000x128.size a := fun v589 k0_hw40 => k0_hw40.2.2

def k0_off132 (i : grid0.Coords) : Fin 2 → Nat :=
  let arg0 : BitVec 32 := BitVec.ofNat 32 (i 0).val
  let v603 : Index := Scalar.indexCast arg0
  let c40 : Index := 40#32
  ![v603.toNat, 40]
def k0_mult50 (v604 : BitVec 32) : BitVec 32 :=
  v604

def k0_off133 (v604 : BitVec 32) : Fin 2 → Nat :=
  let v605 : BitVec 32 := v604
  let v606 : Index := Scalar.indexCast v605
  let c0_280 : Index := 0#32
  ![v606.toNat, 0]
def k0_off134 (v604 : BitVec 32) : Fin 2 → Nat :=
  let v605 : BitVec 32 := v604
  let c3_i32_283 : BitVec 32 := 3#32
  let v612 : BitVec 32 := Scalar.shrui v605 c3_i32_283
  let v613 : Index := Scalar.indexCast v612
  let c0_284 : Index := 0#32
  ![v613.toNat, 0]

def k0_chk41 (v604 : BitVec 32) : Prop :=
  (8 ∣ (k0_mult50 v604).toNat) ∧
  (∀ a, (k0_off133 v604) a + S8x128.size a ≤ S32000x128.size a) ∧
  (∀ a, (k0_off134 v604) a + S1x128.size a ≤ S4000x128.size a)
theorem k0_mult50_dvd : ∀ (v604 : BitVec 32) (k0_hw41 : k0_chk41 v604), 8 ∣ (k0_mult50 v604).toNat := fun v604 k0_hw41 => k0_hw41.1
theorem k0_off133_inb : ∀ (v604 : BitVec 32) (k0_hw41 : k0_chk41 v604), ∀ a, (k0_off133 v604) a + S8x128.size a ≤ S32000x128.size a := fun v604 k0_hw41 => k0_hw41.2.1
theorem k0_off134_inb : ∀ (v604 : BitVec 32) (k0_hw41 : k0_chk41 v604), ∀ a, (k0_off134 v604) a + S1x128.size a ≤ S4000x128.size a := fun v604 k0_hw41 => k0_hw41.2.2

def k0_off135 (i : grid0.Coords) : Fin 2 → Nat :=
  let arg0 : BitVec 32 := BitVec.ofNat 32 (i 0).val
  let v618 : Index := Scalar.indexCast arg0
  let c41 : Index := 41#32
  ![v618.toNat, 41]
def k0_mult51 (v619 : BitVec 32) : BitVec 32 :=
  v619

def k0_off136 (v619 : BitVec 32) : Fin 2 → Nat :=
  let v620 : BitVec 32 := v619
  let v621 : Index := Scalar.indexCast v620
  let c0_287 : Index := 0#32
  ![v621.toNat, 0]
def k0_off137 (v619 : BitVec 32) : Fin 2 → Nat :=
  let v620 : BitVec 32 := v619
  let c3_i32_290 : BitVec 32 := 3#32
  let v627 : BitVec 32 := Scalar.shrui v620 c3_i32_290
  let v628 : Index := Scalar.indexCast v627
  let c0_291 : Index := 0#32
  ![v628.toNat, 0]

def k0_chk42 (v619 : BitVec 32) : Prop :=
  (8 ∣ (k0_mult51 v619).toNat) ∧
  (∀ a, (k0_off136 v619) a + S8x128.size a ≤ S32000x128.size a) ∧
  (∀ a, (k0_off137 v619) a + S1x128.size a ≤ S4000x128.size a)
theorem k0_mult51_dvd : ∀ (v619 : BitVec 32) (k0_hw42 : k0_chk42 v619), 8 ∣ (k0_mult51 v619).toNat := fun v619 k0_hw42 => k0_hw42.1
theorem k0_off136_inb : ∀ (v619 : BitVec 32) (k0_hw42 : k0_chk42 v619), ∀ a, (k0_off136 v619) a + S8x128.size a ≤ S32000x128.size a := fun v619 k0_hw42 => k0_hw42.2.1
theorem k0_off137_inb : ∀ (v619 : BitVec 32) (k0_hw42 : k0_chk42 v619), ∀ a, (k0_off137 v619) a + S1x128.size a ≤ S4000x128.size a := fun v619 k0_hw42 => k0_hw42.2.2

def k0_off138 (i : grid0.Coords) : Fin 2 → Nat :=
  let arg0 : BitVec 32 := BitVec.ofNat 32 (i 0).val
  let v633 : Index := Scalar.indexCast arg0
  let c42 : Index := 42#32
  ![v633.toNat, 42]
def k0_mult52 (v634 : BitVec 32) : BitVec 32 :=
  v634

def k0_off139 (v634 : BitVec 32) : Fin 2 → Nat :=
  let v635 : BitVec 32 := v634
  let v636 : Index := Scalar.indexCast v635
  let c0_294 : Index := 0#32
  ![v636.toNat, 0]
def k0_off140 (v634 : BitVec 32) : Fin 2 → Nat :=
  let v635 : BitVec 32 := v634
  let c3_i32_297 : BitVec 32 := 3#32
  let v642 : BitVec 32 := Scalar.shrui v635 c3_i32_297
  let v643 : Index := Scalar.indexCast v642
  let c0_298 : Index := 0#32
  ![v643.toNat, 0]

def k0_chk43 (v634 : BitVec 32) : Prop :=
  (8 ∣ (k0_mult52 v634).toNat) ∧
  (∀ a, (k0_off139 v634) a + S8x128.size a ≤ S32000x128.size a) ∧
  (∀ a, (k0_off140 v634) a + S1x128.size a ≤ S4000x128.size a)
theorem k0_mult52_dvd : ∀ (v634 : BitVec 32) (k0_hw43 : k0_chk43 v634), 8 ∣ (k0_mult52 v634).toNat := fun v634 k0_hw43 => k0_hw43.1
theorem k0_off139_inb : ∀ (v634 : BitVec 32) (k0_hw43 : k0_chk43 v634), ∀ a, (k0_off139 v634) a + S8x128.size a ≤ S32000x128.size a := fun v634 k0_hw43 => k0_hw43.2.1
theorem k0_off140_inb : ∀ (v634 : BitVec 32) (k0_hw43 : k0_chk43 v634), ∀ a, (k0_off140 v634) a + S1x128.size a ≤ S4000x128.size a := fun v634 k0_hw43 => k0_hw43.2.2

def k0_off141 (i : grid0.Coords) : Fin 2 → Nat :=
  let arg0 : BitVec 32 := BitVec.ofNat 32 (i 0).val
  let v648 : Index := Scalar.indexCast arg0
  let c43 : Index := 43#32
  ![v648.toNat, 43]
def k0_mult53 (v649 : BitVec 32) : BitVec 32 :=
  v649

def k0_off142 (v649 : BitVec 32) : Fin 2 → Nat :=
  let v650 : BitVec 32 := v649
  let v651 : Index := Scalar.indexCast v650
  let c0_301 : Index := 0#32
  ![v651.toNat, 0]
def k0_off143 (v649 : BitVec 32) : Fin 2 → Nat :=
  let v650 : BitVec 32 := v649
  let c3_i32_304 : BitVec 32 := 3#32
  let v657 : BitVec 32 := Scalar.shrui v650 c3_i32_304
  let v658 : Index := Scalar.indexCast v657
  let c0_305 : Index := 0#32
  ![v658.toNat, 0]

def k0_chk44 (v649 : BitVec 32) : Prop :=
  (8 ∣ (k0_mult53 v649).toNat) ∧
  (∀ a, (k0_off142 v649) a + S8x128.size a ≤ S32000x128.size a) ∧
  (∀ a, (k0_off143 v649) a + S1x128.size a ≤ S4000x128.size a)
theorem k0_mult53_dvd : ∀ (v649 : BitVec 32) (k0_hw44 : k0_chk44 v649), 8 ∣ (k0_mult53 v649).toNat := fun v649 k0_hw44 => k0_hw44.1
theorem k0_off142_inb : ∀ (v649 : BitVec 32) (k0_hw44 : k0_chk44 v649), ∀ a, (k0_off142 v649) a + S8x128.size a ≤ S32000x128.size a := fun v649 k0_hw44 => k0_hw44.2.1
theorem k0_off143_inb : ∀ (v649 : BitVec 32) (k0_hw44 : k0_chk44 v649), ∀ a, (k0_off143 v649) a + S1x128.size a ≤ S4000x128.size a := fun v649 k0_hw44 => k0_hw44.2.2

def k0_off144 (i : grid0.Coords) : Fin 2 → Nat :=
  let arg0 : BitVec 32 := BitVec.ofNat 32 (i 0).val
  let v663 : Index := Scalar.indexCast arg0
  let c44 : Index := 44#32
  ![v663.toNat, 44]
def k0_mult54 (v664 : BitVec 32) : BitVec 32 :=
  v664

def k0_off145 (v664 : BitVec 32) : Fin 2 → Nat :=
  let v665 : BitVec 32 := v664
  let v666 : Index := Scalar.indexCast v665
  let c0_308 : Index := 0#32
  ![v666.toNat, 0]
def k0_off146 (v664 : BitVec 32) : Fin 2 → Nat :=
  let v665 : BitVec 32 := v664
  let c3_i32_311 : BitVec 32 := 3#32
  let v672 : BitVec 32 := Scalar.shrui v665 c3_i32_311
  let v673 : Index := Scalar.indexCast v672
  let c0_312 : Index := 0#32
  ![v673.toNat, 0]

def k0_chk45 (v664 : BitVec 32) : Prop :=
  (8 ∣ (k0_mult54 v664).toNat) ∧
  (∀ a, (k0_off145 v664) a + S8x128.size a ≤ S32000x128.size a) ∧
  (∀ a, (k0_off146 v664) a + S1x128.size a ≤ S4000x128.size a)
theorem k0_mult54_dvd : ∀ (v664 : BitVec 32) (k0_hw45 : k0_chk45 v664), 8 ∣ (k0_mult54 v664).toNat := fun v664 k0_hw45 => k0_hw45.1
theorem k0_off145_inb : ∀ (v664 : BitVec 32) (k0_hw45 : k0_chk45 v664), ∀ a, (k0_off145 v664) a + S8x128.size a ≤ S32000x128.size a := fun v664 k0_hw45 => k0_hw45.2.1
theorem k0_off146_inb : ∀ (v664 : BitVec 32) (k0_hw45 : k0_chk45 v664), ∀ a, (k0_off146 v664) a + S1x128.size a ≤ S4000x128.size a := fun v664 k0_hw45 => k0_hw45.2.2

def k0_off147 (i : grid0.Coords) : Fin 2 → Nat :=
  let arg0 : BitVec 32 := BitVec.ofNat 32 (i 0).val
  let v678 : Index := Scalar.indexCast arg0
  let c45 : Index := 45#32
  ![v678.toNat, 45]
def k0_mult55 (v679 : BitVec 32) : BitVec 32 :=
  v679

def k0_off148 (v679 : BitVec 32) : Fin 2 → Nat :=
  let v680 : BitVec 32 := v679
  let v681 : Index := Scalar.indexCast v680
  let c0_315 : Index := 0#32
  ![v681.toNat, 0]
def k0_off149 (v679 : BitVec 32) : Fin 2 → Nat :=
  let v680 : BitVec 32 := v679
  let c3_i32_318 : BitVec 32 := 3#32
  let v687 : BitVec 32 := Scalar.shrui v680 c3_i32_318
  let v688 : Index := Scalar.indexCast v687
  let c0_319 : Index := 0#32
  ![v688.toNat, 0]

def k0_chk46 (v679 : BitVec 32) : Prop :=
  (8 ∣ (k0_mult55 v679).toNat) ∧
  (∀ a, (k0_off148 v679) a + S8x128.size a ≤ S32000x128.size a) ∧
  (∀ a, (k0_off149 v679) a + S1x128.size a ≤ S4000x128.size a)
theorem k0_mult55_dvd : ∀ (v679 : BitVec 32) (k0_hw46 : k0_chk46 v679), 8 ∣ (k0_mult55 v679).toNat := fun v679 k0_hw46 => k0_hw46.1
theorem k0_off148_inb : ∀ (v679 : BitVec 32) (k0_hw46 : k0_chk46 v679), ∀ a, (k0_off148 v679) a + S8x128.size a ≤ S32000x128.size a := fun v679 k0_hw46 => k0_hw46.2.1
theorem k0_off149_inb : ∀ (v679 : BitVec 32) (k0_hw46 : k0_chk46 v679), ∀ a, (k0_off149 v679) a + S1x128.size a ≤ S4000x128.size a := fun v679 k0_hw46 => k0_hw46.2.2

def k0_off150 (i : grid0.Coords) : Fin 2 → Nat :=
  let arg0 : BitVec 32 := BitVec.ofNat 32 (i 0).val
  let v693 : Index := Scalar.indexCast arg0
  let c46 : Index := 46#32
  ![v693.toNat, 46]
def k0_mult56 (v694 : BitVec 32) : BitVec 32 :=
  v694

def k0_off151 (v694 : BitVec 32) : Fin 2 → Nat :=
  let v695 : BitVec 32 := v694
  let v696 : Index := Scalar.indexCast v695
  let c0_322 : Index := 0#32
  ![v696.toNat, 0]
def k0_off152 (v694 : BitVec 32) : Fin 2 → Nat :=
  let v695 : BitVec 32 := v694
  let c3_i32_325 : BitVec 32 := 3#32
  let v702 : BitVec 32 := Scalar.shrui v695 c3_i32_325
  let v703 : Index := Scalar.indexCast v702
  let c0_326 : Index := 0#32
  ![v703.toNat, 0]

def k0_chk47 (v694 : BitVec 32) : Prop :=
  (8 ∣ (k0_mult56 v694).toNat) ∧
  (∀ a, (k0_off151 v694) a + S8x128.size a ≤ S32000x128.size a) ∧
  (∀ a, (k0_off152 v694) a + S1x128.size a ≤ S4000x128.size a)
theorem k0_mult56_dvd : ∀ (v694 : BitVec 32) (k0_hw47 : k0_chk47 v694), 8 ∣ (k0_mult56 v694).toNat := fun v694 k0_hw47 => k0_hw47.1
theorem k0_off151_inb : ∀ (v694 : BitVec 32) (k0_hw47 : k0_chk47 v694), ∀ a, (k0_off151 v694) a + S8x128.size a ≤ S32000x128.size a := fun v694 k0_hw47 => k0_hw47.2.1
theorem k0_off152_inb : ∀ (v694 : BitVec 32) (k0_hw47 : k0_chk47 v694), ∀ a, (k0_off152 v694) a + S1x128.size a ≤ S4000x128.size a := fun v694 k0_hw47 => k0_hw47.2.2

def k0_off153 (i : grid0.Coords) : Fin 2 → Nat :=
  let arg0 : BitVec 32 := BitVec.ofNat 32 (i 0).val
  let v708 : Index := Scalar.indexCast arg0
  let c47 : Index := 47#32
  ![v708.toNat, 47]
def k0_mult57 (v709 : BitVec 32) : BitVec 32 :=
  v709

def k0_off154 (v709 : BitVec 32) : Fin 2 → Nat :=
  let v710 : BitVec 32 := v709
  let v711 : Index := Scalar.indexCast v710
  let c0_329 : Index := 0#32
  ![v711.toNat, 0]
def k0_off155 (v709 : BitVec 32) : Fin 2 → Nat :=
  let v710 : BitVec 32 := v709
  let c3_i32_332 : BitVec 32 := 3#32
  let v717 : BitVec 32 := Scalar.shrui v710 c3_i32_332
  let v718 : Index := Scalar.indexCast v717
  let c0_333 : Index := 0#32
  ![v718.toNat, 0]

def k0_chk48 (v709 : BitVec 32) : Prop :=
  (8 ∣ (k0_mult57 v709).toNat) ∧
  (∀ a, (k0_off154 v709) a + S8x128.size a ≤ S32000x128.size a) ∧
  (∀ a, (k0_off155 v709) a + S1x128.size a ≤ S4000x128.size a)
theorem k0_mult57_dvd : ∀ (v709 : BitVec 32) (k0_hw48 : k0_chk48 v709), 8 ∣ (k0_mult57 v709).toNat := fun v709 k0_hw48 => k0_hw48.1
theorem k0_off154_inb : ∀ (v709 : BitVec 32) (k0_hw48 : k0_chk48 v709), ∀ a, (k0_off154 v709) a + S8x128.size a ≤ S32000x128.size a := fun v709 k0_hw48 => k0_hw48.2.1
theorem k0_off155_inb : ∀ (v709 : BitVec 32) (k0_hw48 : k0_chk48 v709), ∀ a, (k0_off155 v709) a + S1x128.size a ≤ S4000x128.size a := fun v709 k0_hw48 => k0_hw48.2.2

def k0_off156 (i : grid0.Coords) : Fin 2 → Nat :=
  let arg0 : BitVec 32 := BitVec.ofNat 32 (i 0).val
  let v723 : Index := Scalar.indexCast arg0
  let c48 : Index := 48#32
  ![v723.toNat, 48]
def k0_mult58 (v724 : BitVec 32) : BitVec 32 :=
  v724

def k0_off157 (v724 : BitVec 32) : Fin 2 → Nat :=
  let v725 : BitVec 32 := v724
  let v726 : Index := Scalar.indexCast v725
  let c0_336 : Index := 0#32
  ![v726.toNat, 0]
def k0_off158 (v724 : BitVec 32) : Fin 2 → Nat :=
  let v725 : BitVec 32 := v724
  let c3_i32_339 : BitVec 32 := 3#32
  let v732 : BitVec 32 := Scalar.shrui v725 c3_i32_339
  let v733 : Index := Scalar.indexCast v732
  let c0_340 : Index := 0#32
  ![v733.toNat, 0]

def k0_chk49 (v724 : BitVec 32) : Prop :=
  (8 ∣ (k0_mult58 v724).toNat) ∧
  (∀ a, (k0_off157 v724) a + S8x128.size a ≤ S32000x128.size a) ∧
  (∀ a, (k0_off158 v724) a + S1x128.size a ≤ S4000x128.size a)
theorem k0_mult58_dvd : ∀ (v724 : BitVec 32) (k0_hw49 : k0_chk49 v724), 8 ∣ (k0_mult58 v724).toNat := fun v724 k0_hw49 => k0_hw49.1
theorem k0_off157_inb : ∀ (v724 : BitVec 32) (k0_hw49 : k0_chk49 v724), ∀ a, (k0_off157 v724) a + S8x128.size a ≤ S32000x128.size a := fun v724 k0_hw49 => k0_hw49.2.1
theorem k0_off158_inb : ∀ (v724 : BitVec 32) (k0_hw49 : k0_chk49 v724), ∀ a, (k0_off158 v724) a + S1x128.size a ≤ S4000x128.size a := fun v724 k0_hw49 => k0_hw49.2.2

def k0_off159 (i : grid0.Coords) : Fin 2 → Nat :=
  let arg0 : BitVec 32 := BitVec.ofNat 32 (i 0).val
  let v738 : Index := Scalar.indexCast arg0
  let c49 : Index := 49#32
  ![v738.toNat, 49]
def k0_mult59 (v739 : BitVec 32) : BitVec 32 :=
  v739

def k0_off160 (v739 : BitVec 32) : Fin 2 → Nat :=
  let v740 : BitVec 32 := v739
  let v741 : Index := Scalar.indexCast v740
  let c0_343 : Index := 0#32
  ![v741.toNat, 0]
def k0_off161 (v739 : BitVec 32) : Fin 2 → Nat :=
  let v740 : BitVec 32 := v739
  let c3_i32_346 : BitVec 32 := 3#32
  let v747 : BitVec 32 := Scalar.shrui v740 c3_i32_346
  let v748 : Index := Scalar.indexCast v747
  let c0_347 : Index := 0#32
  ![v748.toNat, 0]

def k0_chk50 (v739 : BitVec 32) : Prop :=
  (8 ∣ (k0_mult59 v739).toNat) ∧
  (∀ a, (k0_off160 v739) a + S8x128.size a ≤ S32000x128.size a) ∧
  (∀ a, (k0_off161 v739) a + S1x128.size a ≤ S4000x128.size a)
theorem k0_mult59_dvd : ∀ (v739 : BitVec 32) (k0_hw50 : k0_chk50 v739), 8 ∣ (k0_mult59 v739).toNat := fun v739 k0_hw50 => k0_hw50.1
theorem k0_off160_inb : ∀ (v739 : BitVec 32) (k0_hw50 : k0_chk50 v739), ∀ a, (k0_off160 v739) a + S8x128.size a ≤ S32000x128.size a := fun v739 k0_hw50 => k0_hw50.2.1
theorem k0_off161_inb : ∀ (v739 : BitVec 32) (k0_hw50 : k0_chk50 v739), ∀ a, (k0_off161 v739) a + S1x128.size a ≤ S4000x128.size a := fun v739 k0_hw50 => k0_hw50.2.2

def k0_off162 (i : grid0.Coords) : Fin 2 → Nat :=
  let arg0 : BitVec 32 := BitVec.ofNat 32 (i 0).val
  let v753 : Index := Scalar.indexCast arg0
  let c50 : Index := 50#32
  ![v753.toNat, 50]
def k0_mult60 (v754 : BitVec 32) : BitVec 32 :=
  v754

def k0_off163 (v754 : BitVec 32) : Fin 2 → Nat :=
  let v755 : BitVec 32 := v754
  let v756 : Index := Scalar.indexCast v755
  let c0_350 : Index := 0#32
  ![v756.toNat, 0]
def k0_off164 (v754 : BitVec 32) : Fin 2 → Nat :=
  let v755 : BitVec 32 := v754
  let c3_i32_353 : BitVec 32 := 3#32
  let v762 : BitVec 32 := Scalar.shrui v755 c3_i32_353
  let v763 : Index := Scalar.indexCast v762
  let c0_354 : Index := 0#32
  ![v763.toNat, 0]

def k0_chk51 (v754 : BitVec 32) : Prop :=
  (8 ∣ (k0_mult60 v754).toNat) ∧
  (∀ a, (k0_off163 v754) a + S8x128.size a ≤ S32000x128.size a) ∧
  (∀ a, (k0_off164 v754) a + S1x128.size a ≤ S4000x128.size a)
theorem k0_mult60_dvd : ∀ (v754 : BitVec 32) (k0_hw51 : k0_chk51 v754), 8 ∣ (k0_mult60 v754).toNat := fun v754 k0_hw51 => k0_hw51.1
theorem k0_off163_inb : ∀ (v754 : BitVec 32) (k0_hw51 : k0_chk51 v754), ∀ a, (k0_off163 v754) a + S8x128.size a ≤ S32000x128.size a := fun v754 k0_hw51 => k0_hw51.2.1
theorem k0_off164_inb : ∀ (v754 : BitVec 32) (k0_hw51 : k0_chk51 v754), ∀ a, (k0_off164 v754) a + S1x128.size a ≤ S4000x128.size a := fun v754 k0_hw51 => k0_hw51.2.2

def k0_off165 (i : grid0.Coords) : Fin 2 → Nat :=
  let arg0 : BitVec 32 := BitVec.ofNat 32 (i 0).val
  let v768 : Index := Scalar.indexCast arg0
  let c51 : Index := 51#32
  ![v768.toNat, 51]
def k0_mult61 (v769 : BitVec 32) : BitVec 32 :=
  v769

def k0_off166 (v769 : BitVec 32) : Fin 2 → Nat :=
  let v770 : BitVec 32 := v769
  let v771 : Index := Scalar.indexCast v770
  let c0_357 : Index := 0#32
  ![v771.toNat, 0]
def k0_off167 (v769 : BitVec 32) : Fin 2 → Nat :=
  let v770 : BitVec 32 := v769
  let c3_i32_360 : BitVec 32 := 3#32
  let v777 : BitVec 32 := Scalar.shrui v770 c3_i32_360
  let v778 : Index := Scalar.indexCast v777
  let c0_361 : Index := 0#32
  ![v778.toNat, 0]

def k0_chk52 (v769 : BitVec 32) : Prop :=
  (8 ∣ (k0_mult61 v769).toNat) ∧
  (∀ a, (k0_off166 v769) a + S8x128.size a ≤ S32000x128.size a) ∧
  (∀ a, (k0_off167 v769) a + S1x128.size a ≤ S4000x128.size a)
theorem k0_mult61_dvd : ∀ (v769 : BitVec 32) (k0_hw52 : k0_chk52 v769), 8 ∣ (k0_mult61 v769).toNat := fun v769 k0_hw52 => k0_hw52.1
theorem k0_off166_inb : ∀ (v769 : BitVec 32) (k0_hw52 : k0_chk52 v769), ∀ a, (k0_off166 v769) a + S8x128.size a ≤ S32000x128.size a := fun v769 k0_hw52 => k0_hw52.2.1
theorem k0_off167_inb : ∀ (v769 : BitVec 32) (k0_hw52 : k0_chk52 v769), ∀ a, (k0_off167 v769) a + S1x128.size a ≤ S4000x128.size a := fun v769 k0_hw52 => k0_hw52.2.2

def k0_off168 (i : grid0.Coords) : Fin 2 → Nat :=
  let arg0 : BitVec 32 := BitVec.ofNat 32 (i 0).val
  let v783 : Index := Scalar.indexCast arg0
  let c52 : Index := 52#32
  ![v783.toNat, 52]
def k0_mult62 (v784 : BitVec 32) : BitVec 32 :=
  v784

def k0_off169 (v784 : BitVec 32) : Fin 2 → Nat :=
  let v785 : BitVec 32 := v784
  let v786 : Index := Scalar.indexCast v785
  let c0_364 : Index := 0#32
  ![v786.toNat, 0]
def k0_off170 (v784 : BitVec 32) : Fin 2 → Nat :=
  let v785 : BitVec 32 := v784
  let c3_i32_367 : BitVec 32 := 3#32
  let v792 : BitVec 32 := Scalar.shrui v785 c3_i32_367
  let v793 : Index := Scalar.indexCast v792
  let c0_368 : Index := 0#32
  ![v793.toNat, 0]

def k0_chk53 (v784 : BitVec 32) : Prop :=
  (8 ∣ (k0_mult62 v784).toNat) ∧
  (∀ a, (k0_off169 v784) a + S8x128.size a ≤ S32000x128.size a) ∧
  (∀ a, (k0_off170 v784) a + S1x128.size a ≤ S4000x128.size a)
theorem k0_mult62_dvd : ∀ (v784 : BitVec 32) (k0_hw53 : k0_chk53 v784), 8 ∣ (k0_mult62 v784).toNat := fun v784 k0_hw53 => k0_hw53.1
theorem k0_off169_inb : ∀ (v784 : BitVec 32) (k0_hw53 : k0_chk53 v784), ∀ a, (k0_off169 v784) a + S8x128.size a ≤ S32000x128.size a := fun v784 k0_hw53 => k0_hw53.2.1
theorem k0_off170_inb : ∀ (v784 : BitVec 32) (k0_hw53 : k0_chk53 v784), ∀ a, (k0_off170 v784) a + S1x128.size a ≤ S4000x128.size a := fun v784 k0_hw53 => k0_hw53.2.2

def k0_off171 (i : grid0.Coords) : Fin 2 → Nat :=
  let arg0 : BitVec 32 := BitVec.ofNat 32 (i 0).val
  let v798 : Index := Scalar.indexCast arg0
  let c53 : Index := 53#32
  ![v798.toNat, 53]
def k0_mult63 (v799 : BitVec 32) : BitVec 32 :=
  v799

def k0_off172 (v799 : BitVec 32) : Fin 2 → Nat :=
  let v800 : BitVec 32 := v799
  let v801 : Index := Scalar.indexCast v800
  let c0_371 : Index := 0#32
  ![v801.toNat, 0]
def k0_off173 (v799 : BitVec 32) : Fin 2 → Nat :=
  let v800 : BitVec 32 := v799
  let c3_i32_374 : BitVec 32 := 3#32
  let v807 : BitVec 32 := Scalar.shrui v800 c3_i32_374
  let v808 : Index := Scalar.indexCast v807
  let c0_375 : Index := 0#32
  ![v808.toNat, 0]

def k0_chk54 (v799 : BitVec 32) : Prop :=
  (8 ∣ (k0_mult63 v799).toNat) ∧
  (∀ a, (k0_off172 v799) a + S8x128.size a ≤ S32000x128.size a) ∧
  (∀ a, (k0_off173 v799) a + S1x128.size a ≤ S4000x128.size a)
theorem k0_mult63_dvd : ∀ (v799 : BitVec 32) (k0_hw54 : k0_chk54 v799), 8 ∣ (k0_mult63 v799).toNat := fun v799 k0_hw54 => k0_hw54.1
theorem k0_off172_inb : ∀ (v799 : BitVec 32) (k0_hw54 : k0_chk54 v799), ∀ a, (k0_off172 v799) a + S8x128.size a ≤ S32000x128.size a := fun v799 k0_hw54 => k0_hw54.2.1
theorem k0_off173_inb : ∀ (v799 : BitVec 32) (k0_hw54 : k0_chk54 v799), ∀ a, (k0_off173 v799) a + S1x128.size a ≤ S4000x128.size a := fun v799 k0_hw54 => k0_hw54.2.2

def k0_off174 (i : grid0.Coords) : Fin 2 → Nat :=
  let arg0 : BitVec 32 := BitVec.ofNat 32 (i 0).val
  let v813 : Index := Scalar.indexCast arg0
  let c54 : Index := 54#32
  ![v813.toNat, 54]
def k0_mult64 (v814 : BitVec 32) : BitVec 32 :=
  v814

def k0_off175 (v814 : BitVec 32) : Fin 2 → Nat :=
  let v815 : BitVec 32 := v814
  let v816 : Index := Scalar.indexCast v815
  let c0_378 : Index := 0#32
  ![v816.toNat, 0]
def k0_off176 (v814 : BitVec 32) : Fin 2 → Nat :=
  let v815 : BitVec 32 := v814
  let c3_i32_381 : BitVec 32 := 3#32
  let v822 : BitVec 32 := Scalar.shrui v815 c3_i32_381
  let v823 : Index := Scalar.indexCast v822
  let c0_382 : Index := 0#32
  ![v823.toNat, 0]

def k0_chk55 (v814 : BitVec 32) : Prop :=
  (8 ∣ (k0_mult64 v814).toNat) ∧
  (∀ a, (k0_off175 v814) a + S8x128.size a ≤ S32000x128.size a) ∧
  (∀ a, (k0_off176 v814) a + S1x128.size a ≤ S4000x128.size a)
theorem k0_mult64_dvd : ∀ (v814 : BitVec 32) (k0_hw55 : k0_chk55 v814), 8 ∣ (k0_mult64 v814).toNat := fun v814 k0_hw55 => k0_hw55.1
theorem k0_off175_inb : ∀ (v814 : BitVec 32) (k0_hw55 : k0_chk55 v814), ∀ a, (k0_off175 v814) a + S8x128.size a ≤ S32000x128.size a := fun v814 k0_hw55 => k0_hw55.2.1
theorem k0_off176_inb : ∀ (v814 : BitVec 32) (k0_hw55 : k0_chk55 v814), ∀ a, (k0_off176 v814) a + S1x128.size a ≤ S4000x128.size a := fun v814 k0_hw55 => k0_hw55.2.2

def k0_off177 (i : grid0.Coords) : Fin 2 → Nat :=
  let arg0 : BitVec 32 := BitVec.ofNat 32 (i 0).val
  let v828 : Index := Scalar.indexCast arg0
  let c55 : Index := 55#32
  ![v828.toNat, 55]
def k0_mult65 (v829 : BitVec 32) : BitVec 32 :=
  v829

def k0_off178 (v829 : BitVec 32) : Fin 2 → Nat :=
  let v830 : BitVec 32 := v829
  let v831 : Index := Scalar.indexCast v830
  let c0_385 : Index := 0#32
  ![v831.toNat, 0]
def k0_off179 (v829 : BitVec 32) : Fin 2 → Nat :=
  let v830 : BitVec 32 := v829
  let c3_i32_388 : BitVec 32 := 3#32
  let v837 : BitVec 32 := Scalar.shrui v830 c3_i32_388
  let v838 : Index := Scalar.indexCast v837
  let c0_389 : Index := 0#32
  ![v838.toNat, 0]

def k0_chk56 (v829 : BitVec 32) : Prop :=
  (8 ∣ (k0_mult65 v829).toNat) ∧
  (∀ a, (k0_off178 v829) a + S8x128.size a ≤ S32000x128.size a) ∧
  (∀ a, (k0_off179 v829) a + S1x128.size a ≤ S4000x128.size a)
theorem k0_mult65_dvd : ∀ (v829 : BitVec 32) (k0_hw56 : k0_chk56 v829), 8 ∣ (k0_mult65 v829).toNat := fun v829 k0_hw56 => k0_hw56.1
theorem k0_off178_inb : ∀ (v829 : BitVec 32) (k0_hw56 : k0_chk56 v829), ∀ a, (k0_off178 v829) a + S8x128.size a ≤ S32000x128.size a := fun v829 k0_hw56 => k0_hw56.2.1
theorem k0_off179_inb : ∀ (v829 : BitVec 32) (k0_hw56 : k0_chk56 v829), ∀ a, (k0_off179 v829) a + S1x128.size a ≤ S4000x128.size a := fun v829 k0_hw56 => k0_hw56.2.2

def k0_off180 (i : grid0.Coords) : Fin 2 → Nat :=
  let arg0 : BitVec 32 := BitVec.ofNat 32 (i 0).val
  let v843 : Index := Scalar.indexCast arg0
  let c56 : Index := 56#32
  ![v843.toNat, 56]
def k0_mult66 (v844 : BitVec 32) : BitVec 32 :=
  v844

def k0_off181 (v844 : BitVec 32) : Fin 2 → Nat :=
  let v845 : BitVec 32 := v844
  let v846 : Index := Scalar.indexCast v845
  let c0_392 : Index := 0#32
  ![v846.toNat, 0]
def k0_off182 (v844 : BitVec 32) : Fin 2 → Nat :=
  let v845 : BitVec 32 := v844
  let c3_i32_395 : BitVec 32 := 3#32
  let v852 : BitVec 32 := Scalar.shrui v845 c3_i32_395
  let v853 : Index := Scalar.indexCast v852
  let c0_396 : Index := 0#32
  ![v853.toNat, 0]

def k0_chk57 (v844 : BitVec 32) : Prop :=
  (8 ∣ (k0_mult66 v844).toNat) ∧
  (∀ a, (k0_off181 v844) a + S8x128.size a ≤ S32000x128.size a) ∧
  (∀ a, (k0_off182 v844) a + S1x128.size a ≤ S4000x128.size a)
theorem k0_mult66_dvd : ∀ (v844 : BitVec 32) (k0_hw57 : k0_chk57 v844), 8 ∣ (k0_mult66 v844).toNat := fun v844 k0_hw57 => k0_hw57.1
theorem k0_off181_inb : ∀ (v844 : BitVec 32) (k0_hw57 : k0_chk57 v844), ∀ a, (k0_off181 v844) a + S8x128.size a ≤ S32000x128.size a := fun v844 k0_hw57 => k0_hw57.2.1
theorem k0_off182_inb : ∀ (v844 : BitVec 32) (k0_hw57 : k0_chk57 v844), ∀ a, (k0_off182 v844) a + S1x128.size a ≤ S4000x128.size a := fun v844 k0_hw57 => k0_hw57.2.2

def k0_off183 (i : grid0.Coords) : Fin 2 → Nat :=
  let arg0 : BitVec 32 := BitVec.ofNat 32 (i 0).val
  let v858 : Index := Scalar.indexCast arg0
  let c57 : Index := 57#32
  ![v858.toNat, 57]
def k0_mult67 (v859 : BitVec 32) : BitVec 32 :=
  v859

def k0_off184 (v859 : BitVec 32) : Fin 2 → Nat :=
  let v860 : BitVec 32 := v859
  let v861 : Index := Scalar.indexCast v860
  let c0_399 : Index := 0#32
  ![v861.toNat, 0]
def k0_off185 (v859 : BitVec 32) : Fin 2 → Nat :=
  let v860 : BitVec 32 := v859
  let c3_i32_402 : BitVec 32 := 3#32
  let v867 : BitVec 32 := Scalar.shrui v860 c3_i32_402
  let v868 : Index := Scalar.indexCast v867
  let c0_403 : Index := 0#32
  ![v868.toNat, 0]

def k0_chk58 (v859 : BitVec 32) : Prop :=
  (8 ∣ (k0_mult67 v859).toNat) ∧
  (∀ a, (k0_off184 v859) a + S8x128.size a ≤ S32000x128.size a) ∧
  (∀ a, (k0_off185 v859) a + S1x128.size a ≤ S4000x128.size a)
theorem k0_mult67_dvd : ∀ (v859 : BitVec 32) (k0_hw58 : k0_chk58 v859), 8 ∣ (k0_mult67 v859).toNat := fun v859 k0_hw58 => k0_hw58.1
theorem k0_off184_inb : ∀ (v859 : BitVec 32) (k0_hw58 : k0_chk58 v859), ∀ a, (k0_off184 v859) a + S8x128.size a ≤ S32000x128.size a := fun v859 k0_hw58 => k0_hw58.2.1
theorem k0_off185_inb : ∀ (v859 : BitVec 32) (k0_hw58 : k0_chk58 v859), ∀ a, (k0_off185 v859) a + S1x128.size a ≤ S4000x128.size a := fun v859 k0_hw58 => k0_hw58.2.2

def k0_off186 (i : grid0.Coords) : Fin 2 → Nat :=
  let arg0 : BitVec 32 := BitVec.ofNat 32 (i 0).val
  let v873 : Index := Scalar.indexCast arg0
  let c58 : Index := 58#32
  ![v873.toNat, 58]
def k0_mult68 (v874 : BitVec 32) : BitVec 32 :=
  v874

def k0_off187 (v874 : BitVec 32) : Fin 2 → Nat :=
  let v875 : BitVec 32 := v874
  let v876 : Index := Scalar.indexCast v875
  let c0_406 : Index := 0#32
  ![v876.toNat, 0]
def k0_off188 (v874 : BitVec 32) : Fin 2 → Nat :=
  let v875 : BitVec 32 := v874
  let c3_i32_409 : BitVec 32 := 3#32
  let v882 : BitVec 32 := Scalar.shrui v875 c3_i32_409
  let v883 : Index := Scalar.indexCast v882
  let c0_410 : Index := 0#32
  ![v883.toNat, 0]

def k0_chk59 (v874 : BitVec 32) : Prop :=
  (8 ∣ (k0_mult68 v874).toNat) ∧
  (∀ a, (k0_off187 v874) a + S8x128.size a ≤ S32000x128.size a) ∧
  (∀ a, (k0_off188 v874) a + S1x128.size a ≤ S4000x128.size a)
theorem k0_mult68_dvd : ∀ (v874 : BitVec 32) (k0_hw59 : k0_chk59 v874), 8 ∣ (k0_mult68 v874).toNat := fun v874 k0_hw59 => k0_hw59.1
theorem k0_off187_inb : ∀ (v874 : BitVec 32) (k0_hw59 : k0_chk59 v874), ∀ a, (k0_off187 v874) a + S8x128.size a ≤ S32000x128.size a := fun v874 k0_hw59 => k0_hw59.2.1
theorem k0_off188_inb : ∀ (v874 : BitVec 32) (k0_hw59 : k0_chk59 v874), ∀ a, (k0_off188 v874) a + S1x128.size a ≤ S4000x128.size a := fun v874 k0_hw59 => k0_hw59.2.2

def k0_off189 (i : grid0.Coords) : Fin 2 → Nat :=
  let arg0 : BitVec 32 := BitVec.ofNat 32 (i 0).val
  let v888 : Index := Scalar.indexCast arg0
  let c59 : Index := 59#32
  ![v888.toNat, 59]
def k0_mult69 (v889 : BitVec 32) : BitVec 32 :=
  v889

def k0_off190 (v889 : BitVec 32) : Fin 2 → Nat :=
  let v890 : BitVec 32 := v889
  let v891 : Index := Scalar.indexCast v890
  let c0_413 : Index := 0#32
  ![v891.toNat, 0]
def k0_off191 (v889 : BitVec 32) : Fin 2 → Nat :=
  let v890 : BitVec 32 := v889
  let c3_i32_416 : BitVec 32 := 3#32
  let v897 : BitVec 32 := Scalar.shrui v890 c3_i32_416
  let v898 : Index := Scalar.indexCast v897
  let c0_417 : Index := 0#32
  ![v898.toNat, 0]

def k0_chk60 (v889 : BitVec 32) : Prop :=
  (8 ∣ (k0_mult69 v889).toNat) ∧
  (∀ a, (k0_off190 v889) a + S8x128.size a ≤ S32000x128.size a) ∧
  (∀ a, (k0_off191 v889) a + S1x128.size a ≤ S4000x128.size a)
theorem k0_mult69_dvd : ∀ (v889 : BitVec 32) (k0_hw60 : k0_chk60 v889), 8 ∣ (k0_mult69 v889).toNat := fun v889 k0_hw60 => k0_hw60.1
theorem k0_off190_inb : ∀ (v889 : BitVec 32) (k0_hw60 : k0_chk60 v889), ∀ a, (k0_off190 v889) a + S8x128.size a ≤ S32000x128.size a := fun v889 k0_hw60 => k0_hw60.2.1
theorem k0_off191_inb : ∀ (v889 : BitVec 32) (k0_hw60 : k0_chk60 v889), ∀ a, (k0_off191 v889) a + S1x128.size a ≤ S4000x128.size a := fun v889 k0_hw60 => k0_hw60.2.2

def k0_off192 (i : grid0.Coords) : Fin 2 → Nat :=
  let arg0 : BitVec 32 := BitVec.ofNat 32 (i 0).val
  let v903 : Index := Scalar.indexCast arg0
  let c60 : Index := 60#32
  ![v903.toNat, 60]
def k0_mult70 (v904 : BitVec 32) : BitVec 32 :=
  v904

def k0_off193 (v904 : BitVec 32) : Fin 2 → Nat :=
  let v905 : BitVec 32 := v904
  let v906 : Index := Scalar.indexCast v905
  let c0_420 : Index := 0#32
  ![v906.toNat, 0]
def k0_off194 (v904 : BitVec 32) : Fin 2 → Nat :=
  let v905 : BitVec 32 := v904
  let c3_i32_423 : BitVec 32 := 3#32
  let v912 : BitVec 32 := Scalar.shrui v905 c3_i32_423
  let v913 : Index := Scalar.indexCast v912
  let c0_424 : Index := 0#32
  ![v913.toNat, 0]

def k0_chk61 (v904 : BitVec 32) : Prop :=
  (8 ∣ (k0_mult70 v904).toNat) ∧
  (∀ a, (k0_off193 v904) a + S8x128.size a ≤ S32000x128.size a) ∧
  (∀ a, (k0_off194 v904) a + S1x128.size a ≤ S4000x128.size a)
theorem k0_mult70_dvd : ∀ (v904 : BitVec 32) (k0_hw61 : k0_chk61 v904), 8 ∣ (k0_mult70 v904).toNat := fun v904 k0_hw61 => k0_hw61.1
theorem k0_off193_inb : ∀ (v904 : BitVec 32) (k0_hw61 : k0_chk61 v904), ∀ a, (k0_off193 v904) a + S8x128.size a ≤ S32000x128.size a := fun v904 k0_hw61 => k0_hw61.2.1
theorem k0_off194_inb : ∀ (v904 : BitVec 32) (k0_hw61 : k0_chk61 v904), ∀ a, (k0_off194 v904) a + S1x128.size a ≤ S4000x128.size a := fun v904 k0_hw61 => k0_hw61.2.2

def k0_off195 (i : grid0.Coords) : Fin 2 → Nat :=
  let arg0 : BitVec 32 := BitVec.ofNat 32 (i 0).val
  let v918 : Index := Scalar.indexCast arg0
  let c61 : Index := 61#32
  ![v918.toNat, 61]
def k0_mult71 (v919 : BitVec 32) : BitVec 32 :=
  v919

def k0_off196 (v919 : BitVec 32) : Fin 2 → Nat :=
  let v920 : BitVec 32 := v919
  let v921 : Index := Scalar.indexCast v920
  let c0_427 : Index := 0#32
  ![v921.toNat, 0]
def k0_off197 (v919 : BitVec 32) : Fin 2 → Nat :=
  let v920 : BitVec 32 := v919
  let c3_i32_430 : BitVec 32 := 3#32
  let v927 : BitVec 32 := Scalar.shrui v920 c3_i32_430
  let v928 : Index := Scalar.indexCast v927
  let c0_431 : Index := 0#32
  ![v928.toNat, 0]

def k0_chk62 (v919 : BitVec 32) : Prop :=
  (8 ∣ (k0_mult71 v919).toNat) ∧
  (∀ a, (k0_off196 v919) a + S8x128.size a ≤ S32000x128.size a) ∧
  (∀ a, (k0_off197 v919) a + S1x128.size a ≤ S4000x128.size a)
theorem k0_mult71_dvd : ∀ (v919 : BitVec 32) (k0_hw62 : k0_chk62 v919), 8 ∣ (k0_mult71 v919).toNat := fun v919 k0_hw62 => k0_hw62.1
theorem k0_off196_inb : ∀ (v919 : BitVec 32) (k0_hw62 : k0_chk62 v919), ∀ a, (k0_off196 v919) a + S8x128.size a ≤ S32000x128.size a := fun v919 k0_hw62 => k0_hw62.2.1
theorem k0_off197_inb : ∀ (v919 : BitVec 32) (k0_hw62 : k0_chk62 v919), ∀ a, (k0_off197 v919) a + S1x128.size a ≤ S4000x128.size a := fun v919 k0_hw62 => k0_hw62.2.2

def k0_off198 (i : grid0.Coords) : Fin 2 → Nat :=
  let arg0 : BitVec 32 := BitVec.ofNat 32 (i 0).val
  let v933 : Index := Scalar.indexCast arg0
  let c62 : Index := 62#32
  ![v933.toNat, 62]
def k0_mult72 (v934 : BitVec 32) : BitVec 32 :=
  v934

def k0_off199 (v934 : BitVec 32) : Fin 2 → Nat :=
  let v935 : BitVec 32 := v934
  let v936 : Index := Scalar.indexCast v935
  let c0_434 : Index := 0#32
  ![v936.toNat, 0]
def k0_off200 (v934 : BitVec 32) : Fin 2 → Nat :=
  let v935 : BitVec 32 := v934
  let c3_i32_437 : BitVec 32 := 3#32
  let v942 : BitVec 32 := Scalar.shrui v935 c3_i32_437
  let v943 : Index := Scalar.indexCast v942
  let c0_438 : Index := 0#32
  ![v943.toNat, 0]

def k0_chk63 (v934 : BitVec 32) : Prop :=
  (8 ∣ (k0_mult72 v934).toNat) ∧
  (∀ a, (k0_off199 v934) a + S8x128.size a ≤ S32000x128.size a) ∧
  (∀ a, (k0_off200 v934) a + S1x128.size a ≤ S4000x128.size a)
theorem k0_mult72_dvd : ∀ (v934 : BitVec 32) (k0_hw63 : k0_chk63 v934), 8 ∣ (k0_mult72 v934).toNat := fun v934 k0_hw63 => k0_hw63.1
theorem k0_off199_inb : ∀ (v934 : BitVec 32) (k0_hw63 : k0_chk63 v934), ∀ a, (k0_off199 v934) a + S8x128.size a ≤ S32000x128.size a := fun v934 k0_hw63 => k0_hw63.2.1
theorem k0_off200_inb : ∀ (v934 : BitVec 32) (k0_hw63 : k0_chk63 v934), ∀ a, (k0_off200 v934) a + S1x128.size a ≤ S4000x128.size a := fun v934 k0_hw63 => k0_hw63.2.2

def k0_off201 (i : grid0.Coords) : Fin 2 → Nat :=
  let arg0 : BitVec 32 := BitVec.ofNat 32 (i 0).val
  let v948 : Index := Scalar.indexCast arg0
  let c63 : Index := 63#32
  ![v948.toNat, 63]
def k0_mult73 (v949 : BitVec 32) : BitVec 32 :=
  v949

def k0_off202 (v949 : BitVec 32) : Fin 2 → Nat :=
  let v950 : BitVec 32 := v949
  let v951 : Index := Scalar.indexCast v950
  let c0_441 : Index := 0#32
  ![v951.toNat, 0]
def k0_off203 (v949 : BitVec 32) : Fin 2 → Nat :=
  let v950 : BitVec 32 := v949
  let c3_i32_444 : BitVec 32 := 3#32
  let v957 : BitVec 32 := Scalar.shrui v950 c3_i32_444
  let v958 : Index := Scalar.indexCast v957
  let c0_445 : Index := 0#32
  ![v958.toNat, 0]

def k0_chk64 (v949 : BitVec 32) : Prop :=
  (8 ∣ (k0_mult73 v949).toNat) ∧
  (∀ a, (k0_off202 v949) a + S8x128.size a ≤ S32000x128.size a) ∧
  (∀ a, (k0_off203 v949) a + S1x128.size a ≤ S4000x128.size a)
theorem k0_mult73_dvd : ∀ (v949 : BitVec 32) (k0_hw64 : k0_chk64 v949), 8 ∣ (k0_mult73 v949).toNat := fun v949 k0_hw64 => k0_hw64.1
theorem k0_off202_inb : ∀ (v949 : BitVec 32) (k0_hw64 : k0_chk64 v949), ∀ a, (k0_off202 v949) a + S8x128.size a ≤ S32000x128.size a := fun v949 k0_hw64 => k0_hw64.2.1
theorem k0_off203_inb : ∀ (v949 : BitVec 32) (k0_hw64 : k0_chk64 v949), ∀ a, (k0_off203 v949) a + S1x128.size a ≤ S4000x128.size a := fun v949 k0_hw64 => k0_hw64.2.2

def k0_off204 (i : grid0.Coords) : Fin 2 → Nat :=
  let arg0 : BitVec 32 := BitVec.ofNat 32 (i 0).val
  let v963 : Index := Scalar.indexCast arg0
  let c64 : Index := 64#32
  ![v963.toNat, 64]
def k0_mult74 (v964 : BitVec 32) : BitVec 32 :=
  v964

def k0_off205 (v964 : BitVec 32) : Fin 2 → Nat :=
  let v965 : BitVec 32 := v964
  let v966 : Index := Scalar.indexCast v965
  let c0_448 : Index := 0#32
  ![v966.toNat, 0]
def k0_off206 (v964 : BitVec 32) : Fin 2 → Nat :=
  let v965 : BitVec 32 := v964
  let c3_i32_451 : BitVec 32 := 3#32
  let v972 : BitVec 32 := Scalar.shrui v965 c3_i32_451
  let v973 : Index := Scalar.indexCast v972
  let c0_452 : Index := 0#32
  ![v973.toNat, 0]

def k0_chk65 (v964 : BitVec 32) : Prop :=
  (8 ∣ (k0_mult74 v964).toNat) ∧
  (∀ a, (k0_off205 v964) a + S8x128.size a ≤ S32000x128.size a) ∧
  (∀ a, (k0_off206 v964) a + S1x128.size a ≤ S4000x128.size a)
theorem k0_mult74_dvd : ∀ (v964 : BitVec 32) (k0_hw65 : k0_chk65 v964), 8 ∣ (k0_mult74 v964).toNat := fun v964 k0_hw65 => k0_hw65.1
theorem k0_off205_inb : ∀ (v964 : BitVec 32) (k0_hw65 : k0_chk65 v964), ∀ a, (k0_off205 v964) a + S8x128.size a ≤ S32000x128.size a := fun v964 k0_hw65 => k0_hw65.2.1
theorem k0_off206_inb : ∀ (v964 : BitVec 32) (k0_hw65 : k0_chk65 v964), ∀ a, (k0_off206 v964) a + S1x128.size a ≤ S4000x128.size a := fun v964 k0_hw65 => k0_hw65.2.2

def k0_off207 (i : grid0.Coords) : Fin 2 → Nat :=
  let arg0 : BitVec 32 := BitVec.ofNat 32 (i 0).val
  let v978 : Index := Scalar.indexCast arg0
  let c65 : Index := 65#32
  ![v978.toNat, 65]
def k0_mult75 (v979 : BitVec 32) : BitVec 32 :=
  v979

def k0_off208 (v979 : BitVec 32) : Fin 2 → Nat :=
  let v980 : BitVec 32 := v979
  let v981 : Index := Scalar.indexCast v980
  let c0_455 : Index := 0#32
  ![v981.toNat, 0]
def k0_off209 (v979 : BitVec 32) : Fin 2 → Nat :=
  let v980 : BitVec 32 := v979
  let c3_i32_458 : BitVec 32 := 3#32
  let v987 : BitVec 32 := Scalar.shrui v980 c3_i32_458
  let v988 : Index := Scalar.indexCast v987
  let c0_459 : Index := 0#32
  ![v988.toNat, 0]

def k0_chk66 (v979 : BitVec 32) : Prop :=
  (8 ∣ (k0_mult75 v979).toNat) ∧
  (∀ a, (k0_off208 v979) a + S8x128.size a ≤ S32000x128.size a) ∧
  (∀ a, (k0_off209 v979) a + S1x128.size a ≤ S4000x128.size a)
theorem k0_mult75_dvd : ∀ (v979 : BitVec 32) (k0_hw66 : k0_chk66 v979), 8 ∣ (k0_mult75 v979).toNat := fun v979 k0_hw66 => k0_hw66.1
theorem k0_off208_inb : ∀ (v979 : BitVec 32) (k0_hw66 : k0_chk66 v979), ∀ a, (k0_off208 v979) a + S8x128.size a ≤ S32000x128.size a := fun v979 k0_hw66 => k0_hw66.2.1
theorem k0_off209_inb : ∀ (v979 : BitVec 32) (k0_hw66 : k0_chk66 v979), ∀ a, (k0_off209 v979) a + S1x128.size a ≤ S4000x128.size a := fun v979 k0_hw66 => k0_hw66.2.2

def k0_off210 (i : grid0.Coords) : Fin 2 → Nat :=
  let arg0 : BitVec 32 := BitVec.ofNat 32 (i 0).val
  let v993 : Index := Scalar.indexCast arg0
  let c66 : Index := 66#32
  ![v993.toNat, 66]
def k0_mult76 (v994 : BitVec 32) : BitVec 32 :=
  v994

def k0_off211 (v994 : BitVec 32) : Fin 2 → Nat :=
  let v995 : BitVec 32 := v994
  let v996 : Index := Scalar.indexCast v995
  let c0_462 : Index := 0#32
  ![v996.toNat, 0]
def k0_off212 (v994 : BitVec 32) : Fin 2 → Nat :=
  let v995 : BitVec 32 := v994
  let c3_i32_465 : BitVec 32 := 3#32
  let v1002 : BitVec 32 := Scalar.shrui v995 c3_i32_465
  let v1003 : Index := Scalar.indexCast v1002
  let c0_466 : Index := 0#32
  ![v1003.toNat, 0]

def k0_chk67 (v994 : BitVec 32) : Prop :=
  (8 ∣ (k0_mult76 v994).toNat) ∧
  (∀ a, (k0_off211 v994) a + S8x128.size a ≤ S32000x128.size a) ∧
  (∀ a, (k0_off212 v994) a + S1x128.size a ≤ S4000x128.size a)
theorem k0_mult76_dvd : ∀ (v994 : BitVec 32) (k0_hw67 : k0_chk67 v994), 8 ∣ (k0_mult76 v994).toNat := fun v994 k0_hw67 => k0_hw67.1
theorem k0_off211_inb : ∀ (v994 : BitVec 32) (k0_hw67 : k0_chk67 v994), ∀ a, (k0_off211 v994) a + S8x128.size a ≤ S32000x128.size a := fun v994 k0_hw67 => k0_hw67.2.1
theorem k0_off212_inb : ∀ (v994 : BitVec 32) (k0_hw67 : k0_chk67 v994), ∀ a, (k0_off212 v994) a + S1x128.size a ≤ S4000x128.size a := fun v994 k0_hw67 => k0_hw67.2.2

def k0_off213 (i : grid0.Coords) : Fin 2 → Nat :=
  let arg0 : BitVec 32 := BitVec.ofNat 32 (i 0).val
  let v1008 : Index := Scalar.indexCast arg0
  let c67 : Index := 67#32
  ![v1008.toNat, 67]
def k0_mult77 (v1009 : BitVec 32) : BitVec 32 :=
  v1009

def k0_off214 (v1009 : BitVec 32) : Fin 2 → Nat :=
  let v1010 : BitVec 32 := v1009
  let v1011 : Index := Scalar.indexCast v1010
  let c0_469 : Index := 0#32
  ![v1011.toNat, 0]
def k0_off215 (v1009 : BitVec 32) : Fin 2 → Nat :=
  let v1010 : BitVec 32 := v1009
  let c3_i32_472 : BitVec 32 := 3#32
  let v1017 : BitVec 32 := Scalar.shrui v1010 c3_i32_472
  let v1018 : Index := Scalar.indexCast v1017
  let c0_473 : Index := 0#32
  ![v1018.toNat, 0]

def k0_chk68 (v1009 : BitVec 32) : Prop :=
  (8 ∣ (k0_mult77 v1009).toNat) ∧
  (∀ a, (k0_off214 v1009) a + S8x128.size a ≤ S32000x128.size a) ∧
  (∀ a, (k0_off215 v1009) a + S1x128.size a ≤ S4000x128.size a)
theorem k0_mult77_dvd : ∀ (v1009 : BitVec 32) (k0_hw68 : k0_chk68 v1009), 8 ∣ (k0_mult77 v1009).toNat := fun v1009 k0_hw68 => k0_hw68.1
theorem k0_off214_inb : ∀ (v1009 : BitVec 32) (k0_hw68 : k0_chk68 v1009), ∀ a, (k0_off214 v1009) a + S8x128.size a ≤ S32000x128.size a := fun v1009 k0_hw68 => k0_hw68.2.1
theorem k0_off215_inb : ∀ (v1009 : BitVec 32) (k0_hw68 : k0_chk68 v1009), ∀ a, (k0_off215 v1009) a + S1x128.size a ≤ S4000x128.size a := fun v1009 k0_hw68 => k0_hw68.2.2

def k0_off216 (i : grid0.Coords) : Fin 2 → Nat :=
  let arg0 : BitVec 32 := BitVec.ofNat 32 (i 0).val
  let v1023 : Index := Scalar.indexCast arg0
  let c68 : Index := 68#32
  ![v1023.toNat, 68]
def k0_mult78 (v1024 : BitVec 32) : BitVec 32 :=
  v1024

def k0_off217 (v1024 : BitVec 32) : Fin 2 → Nat :=
  let v1025 : BitVec 32 := v1024
  let v1026 : Index := Scalar.indexCast v1025
  let c0_476 : Index := 0#32
  ![v1026.toNat, 0]
def k0_off218 (v1024 : BitVec 32) : Fin 2 → Nat :=
  let v1025 : BitVec 32 := v1024
  let c3_i32_479 : BitVec 32 := 3#32
  let v1032 : BitVec 32 := Scalar.shrui v1025 c3_i32_479
  let v1033 : Index := Scalar.indexCast v1032
  let c0_480 : Index := 0#32
  ![v1033.toNat, 0]

def k0_chk69 (v1024 : BitVec 32) : Prop :=
  (8 ∣ (k0_mult78 v1024).toNat) ∧
  (∀ a, (k0_off217 v1024) a + S8x128.size a ≤ S32000x128.size a) ∧
  (∀ a, (k0_off218 v1024) a + S1x128.size a ≤ S4000x128.size a)
theorem k0_mult78_dvd : ∀ (v1024 : BitVec 32) (k0_hw69 : k0_chk69 v1024), 8 ∣ (k0_mult78 v1024).toNat := fun v1024 k0_hw69 => k0_hw69.1
theorem k0_off217_inb : ∀ (v1024 : BitVec 32) (k0_hw69 : k0_chk69 v1024), ∀ a, (k0_off217 v1024) a + S8x128.size a ≤ S32000x128.size a := fun v1024 k0_hw69 => k0_hw69.2.1
theorem k0_off218_inb : ∀ (v1024 : BitVec 32) (k0_hw69 : k0_chk69 v1024), ∀ a, (k0_off218 v1024) a + S1x128.size a ≤ S4000x128.size a := fun v1024 k0_hw69 => k0_hw69.2.2

def k0_off219 (i : grid0.Coords) : Fin 2 → Nat :=
  let arg0 : BitVec 32 := BitVec.ofNat 32 (i 0).val
  let v1038 : Index := Scalar.indexCast arg0
  let c69 : Index := 69#32
  ![v1038.toNat, 69]
def k0_mult79 (v1039 : BitVec 32) : BitVec 32 :=
  v1039

def k0_off220 (v1039 : BitVec 32) : Fin 2 → Nat :=
  let v1040 : BitVec 32 := v1039
  let v1041 : Index := Scalar.indexCast v1040
  let c0_483 : Index := 0#32
  ![v1041.toNat, 0]
def k0_off221 (v1039 : BitVec 32) : Fin 2 → Nat :=
  let v1040 : BitVec 32 := v1039
  let c3_i32_486 : BitVec 32 := 3#32
  let v1047 : BitVec 32 := Scalar.shrui v1040 c3_i32_486
  let v1048 : Index := Scalar.indexCast v1047
  let c0_487 : Index := 0#32
  ![v1048.toNat, 0]

def k0_chk70 (v1039 : BitVec 32) : Prop :=
  (8 ∣ (k0_mult79 v1039).toNat) ∧
  (∀ a, (k0_off220 v1039) a + S8x128.size a ≤ S32000x128.size a) ∧
  (∀ a, (k0_off221 v1039) a + S1x128.size a ≤ S4000x128.size a)
theorem k0_mult79_dvd : ∀ (v1039 : BitVec 32) (k0_hw70 : k0_chk70 v1039), 8 ∣ (k0_mult79 v1039).toNat := fun v1039 k0_hw70 => k0_hw70.1
theorem k0_off220_inb : ∀ (v1039 : BitVec 32) (k0_hw70 : k0_chk70 v1039), ∀ a, (k0_off220 v1039) a + S8x128.size a ≤ S32000x128.size a := fun v1039 k0_hw70 => k0_hw70.2.1
theorem k0_off221_inb : ∀ (v1039 : BitVec 32) (k0_hw70 : k0_chk70 v1039), ∀ a, (k0_off221 v1039) a + S1x128.size a ≤ S4000x128.size a := fun v1039 k0_hw70 => k0_hw70.2.2

def k0_off222 (i : grid0.Coords) : Fin 2 → Nat :=
  let arg0 : BitVec 32 := BitVec.ofNat 32 (i 0).val
  let v1053 : Index := Scalar.indexCast arg0
  let c70 : Index := 70#32
  ![v1053.toNat, 70]
def k0_mult80 (v1054 : BitVec 32) : BitVec 32 :=
  v1054

def k0_off223 (v1054 : BitVec 32) : Fin 2 → Nat :=
  let v1055 : BitVec 32 := v1054
  let v1056 : Index := Scalar.indexCast v1055
  let c0_490 : Index := 0#32
  ![v1056.toNat, 0]
def k0_off224 (v1054 : BitVec 32) : Fin 2 → Nat :=
  let v1055 : BitVec 32 := v1054
  let c3_i32_493 : BitVec 32 := 3#32
  let v1062 : BitVec 32 := Scalar.shrui v1055 c3_i32_493
  let v1063 : Index := Scalar.indexCast v1062
  let c0_494 : Index := 0#32
  ![v1063.toNat, 0]

def k0_chk71 (v1054 : BitVec 32) : Prop :=
  (8 ∣ (k0_mult80 v1054).toNat) ∧
  (∀ a, (k0_off223 v1054) a + S8x128.size a ≤ S32000x128.size a) ∧
  (∀ a, (k0_off224 v1054) a + S1x128.size a ≤ S4000x128.size a)
theorem k0_mult80_dvd : ∀ (v1054 : BitVec 32) (k0_hw71 : k0_chk71 v1054), 8 ∣ (k0_mult80 v1054).toNat := fun v1054 k0_hw71 => k0_hw71.1
theorem k0_off223_inb : ∀ (v1054 : BitVec 32) (k0_hw71 : k0_chk71 v1054), ∀ a, (k0_off223 v1054) a + S8x128.size a ≤ S32000x128.size a := fun v1054 k0_hw71 => k0_hw71.2.1
theorem k0_off224_inb : ∀ (v1054 : BitVec 32) (k0_hw71 : k0_chk71 v1054), ∀ a, (k0_off224 v1054) a + S1x128.size a ≤ S4000x128.size a := fun v1054 k0_hw71 => k0_hw71.2.2

def k0_off225 (i : grid0.Coords) : Fin 2 → Nat :=
  let arg0 : BitVec 32 := BitVec.ofNat 32 (i 0).val
  let v1068 : Index := Scalar.indexCast arg0
  let c71 : Index := 71#32
  ![v1068.toNat, 71]
def k0_mult81 (v1069 : BitVec 32) : BitVec 32 :=
  v1069

def k0_off226 (v1069 : BitVec 32) : Fin 2 → Nat :=
  let v1070 : BitVec 32 := v1069
  let v1071 : Index := Scalar.indexCast v1070
  let c0_497 : Index := 0#32
  ![v1071.toNat, 0]
def k0_off227 (v1069 : BitVec 32) : Fin 2 → Nat :=
  let v1070 : BitVec 32 := v1069
  let c3_i32_500 : BitVec 32 := 3#32
  let v1077 : BitVec 32 := Scalar.shrui v1070 c3_i32_500
  let v1078 : Index := Scalar.indexCast v1077
  let c0_501 : Index := 0#32
  ![v1078.toNat, 0]

def k0_chk72 (v1069 : BitVec 32) : Prop :=
  (8 ∣ (k0_mult81 v1069).toNat) ∧
  (∀ a, (k0_off226 v1069) a + S8x128.size a ≤ S32000x128.size a) ∧
  (∀ a, (k0_off227 v1069) a + S1x128.size a ≤ S4000x128.size a)
theorem k0_mult81_dvd : ∀ (v1069 : BitVec 32) (k0_hw72 : k0_chk72 v1069), 8 ∣ (k0_mult81 v1069).toNat := fun v1069 k0_hw72 => k0_hw72.1
theorem k0_off226_inb : ∀ (v1069 : BitVec 32) (k0_hw72 : k0_chk72 v1069), ∀ a, (k0_off226 v1069) a + S8x128.size a ≤ S32000x128.size a := fun v1069 k0_hw72 => k0_hw72.2.1
theorem k0_off227_inb : ∀ (v1069 : BitVec 32) (k0_hw72 : k0_chk72 v1069), ∀ a, (k0_off227 v1069) a + S1x128.size a ≤ S4000x128.size a := fun v1069 k0_hw72 => k0_hw72.2.2

def k0_off228 (i : grid0.Coords) : Fin 2 → Nat :=
  let arg0 : BitVec 32 := BitVec.ofNat 32 (i 0).val
  let v1083 : Index := Scalar.indexCast arg0
  let c72 : Index := 72#32
  ![v1083.toNat, 72]
def k0_mult82 (v1084 : BitVec 32) : BitVec 32 :=
  v1084

def k0_off229 (v1084 : BitVec 32) : Fin 2 → Nat :=
  let v1085 : BitVec 32 := v1084
  let v1086 : Index := Scalar.indexCast v1085
  let c0_504 : Index := 0#32
  ![v1086.toNat, 0]
def k0_off230 (v1084 : BitVec 32) : Fin 2 → Nat :=
  let v1085 : BitVec 32 := v1084
  let c3_i32_507 : BitVec 32 := 3#32
  let v1092 : BitVec 32 := Scalar.shrui v1085 c3_i32_507
  let v1093 : Index := Scalar.indexCast v1092
  let c0_508 : Index := 0#32
  ![v1093.toNat, 0]

def k0_chk73 (v1084 : BitVec 32) : Prop :=
  (8 ∣ (k0_mult82 v1084).toNat) ∧
  (∀ a, (k0_off229 v1084) a + S8x128.size a ≤ S32000x128.size a) ∧
  (∀ a, (k0_off230 v1084) a + S1x128.size a ≤ S4000x128.size a)
theorem k0_mult82_dvd : ∀ (v1084 : BitVec 32) (k0_hw73 : k0_chk73 v1084), 8 ∣ (k0_mult82 v1084).toNat := fun v1084 k0_hw73 => k0_hw73.1
theorem k0_off229_inb : ∀ (v1084 : BitVec 32) (k0_hw73 : k0_chk73 v1084), ∀ a, (k0_off229 v1084) a + S8x128.size a ≤ S32000x128.size a := fun v1084 k0_hw73 => k0_hw73.2.1
theorem k0_off230_inb : ∀ (v1084 : BitVec 32) (k0_hw73 : k0_chk73 v1084), ∀ a, (k0_off230 v1084) a + S1x128.size a ≤ S4000x128.size a := fun v1084 k0_hw73 => k0_hw73.2.2

def k0_off231 (i : grid0.Coords) : Fin 2 → Nat :=
  let arg0 : BitVec 32 := BitVec.ofNat 32 (i 0).val
  let v1098 : Index := Scalar.indexCast arg0
  let c73 : Index := 73#32
  ![v1098.toNat, 73]
def k0_mult83 (v1099 : BitVec 32) : BitVec 32 :=
  v1099

def k0_off232 (v1099 : BitVec 32) : Fin 2 → Nat :=
  let v1100 : BitVec 32 := v1099
  let v1101 : Index := Scalar.indexCast v1100
  let c0_511 : Index := 0#32
  ![v1101.toNat, 0]
def k0_off233 (v1099 : BitVec 32) : Fin 2 → Nat :=
  let v1100 : BitVec 32 := v1099
  let c3_i32_514 : BitVec 32 := 3#32
  let v1107 : BitVec 32 := Scalar.shrui v1100 c3_i32_514
  let v1108 : Index := Scalar.indexCast v1107
  let c0_515 : Index := 0#32
  ![v1108.toNat, 0]

def k0_chk74 (v1099 : BitVec 32) : Prop :=
  (8 ∣ (k0_mult83 v1099).toNat) ∧
  (∀ a, (k0_off232 v1099) a + S8x128.size a ≤ S32000x128.size a) ∧
  (∀ a, (k0_off233 v1099) a + S1x128.size a ≤ S4000x128.size a)
theorem k0_mult83_dvd : ∀ (v1099 : BitVec 32) (k0_hw74 : k0_chk74 v1099), 8 ∣ (k0_mult83 v1099).toNat := fun v1099 k0_hw74 => k0_hw74.1
theorem k0_off232_inb : ∀ (v1099 : BitVec 32) (k0_hw74 : k0_chk74 v1099), ∀ a, (k0_off232 v1099) a + S8x128.size a ≤ S32000x128.size a := fun v1099 k0_hw74 => k0_hw74.2.1
theorem k0_off233_inb : ∀ (v1099 : BitVec 32) (k0_hw74 : k0_chk74 v1099), ∀ a, (k0_off233 v1099) a + S1x128.size a ≤ S4000x128.size a := fun v1099 k0_hw74 => k0_hw74.2.2

def k0_off234 (i : grid0.Coords) : Fin 2 → Nat :=
  let arg0 : BitVec 32 := BitVec.ofNat 32 (i 0).val
  let v1113 : Index := Scalar.indexCast arg0
  let c74 : Index := 74#32
  ![v1113.toNat, 74]
def k0_mult84 (v1114 : BitVec 32) : BitVec 32 :=
  v1114

def k0_off235 (v1114 : BitVec 32) : Fin 2 → Nat :=
  let v1115 : BitVec 32 := v1114
  let v1116 : Index := Scalar.indexCast v1115
  let c0_518 : Index := 0#32
  ![v1116.toNat, 0]
def k0_off236 (v1114 : BitVec 32) : Fin 2 → Nat :=
  let v1115 : BitVec 32 := v1114
  let c3_i32_521 : BitVec 32 := 3#32
  let v1122 : BitVec 32 := Scalar.shrui v1115 c3_i32_521
  let v1123 : Index := Scalar.indexCast v1122
  let c0_522 : Index := 0#32
  ![v1123.toNat, 0]

def k0_chk75 (v1114 : BitVec 32) : Prop :=
  (8 ∣ (k0_mult84 v1114).toNat) ∧
  (∀ a, (k0_off235 v1114) a + S8x128.size a ≤ S32000x128.size a) ∧
  (∀ a, (k0_off236 v1114) a + S1x128.size a ≤ S4000x128.size a)
theorem k0_mult84_dvd : ∀ (v1114 : BitVec 32) (k0_hw75 : k0_chk75 v1114), 8 ∣ (k0_mult84 v1114).toNat := fun v1114 k0_hw75 => k0_hw75.1
theorem k0_off235_inb : ∀ (v1114 : BitVec 32) (k0_hw75 : k0_chk75 v1114), ∀ a, (k0_off235 v1114) a + S8x128.size a ≤ S32000x128.size a := fun v1114 k0_hw75 => k0_hw75.2.1
theorem k0_off236_inb : ∀ (v1114 : BitVec 32) (k0_hw75 : k0_chk75 v1114), ∀ a, (k0_off236 v1114) a + S1x128.size a ≤ S4000x128.size a := fun v1114 k0_hw75 => k0_hw75.2.2

def k0_off237 (i : grid0.Coords) : Fin 2 → Nat :=
  let arg0 : BitVec 32 := BitVec.ofNat 32 (i 0).val
  let v1128 : Index := Scalar.indexCast arg0
  let c75 : Index := 75#32
  ![v1128.toNat, 75]
def k0_mult85 (v1129 : BitVec 32) : BitVec 32 :=
  v1129

def k0_off238 (v1129 : BitVec 32) : Fin 2 → Nat :=
  let v1130 : BitVec 32 := v1129
  let v1131 : Index := Scalar.indexCast v1130
  let c0_525 : Index := 0#32
  ![v1131.toNat, 0]
def k0_off239 (v1129 : BitVec 32) : Fin 2 → Nat :=
  let v1130 : BitVec 32 := v1129
  let c3_i32_528 : BitVec 32 := 3#32
  let v1137 : BitVec 32 := Scalar.shrui v1130 c3_i32_528
  let v1138 : Index := Scalar.indexCast v1137
  let c0_529 : Index := 0#32
  ![v1138.toNat, 0]

def k0_chk76 (v1129 : BitVec 32) : Prop :=
  (8 ∣ (k0_mult85 v1129).toNat) ∧
  (∀ a, (k0_off238 v1129) a + S8x128.size a ≤ S32000x128.size a) ∧
  (∀ a, (k0_off239 v1129) a + S1x128.size a ≤ S4000x128.size a)
theorem k0_mult85_dvd : ∀ (v1129 : BitVec 32) (k0_hw76 : k0_chk76 v1129), 8 ∣ (k0_mult85 v1129).toNat := fun v1129 k0_hw76 => k0_hw76.1
theorem k0_off238_inb : ∀ (v1129 : BitVec 32) (k0_hw76 : k0_chk76 v1129), ∀ a, (k0_off238 v1129) a + S8x128.size a ≤ S32000x128.size a := fun v1129 k0_hw76 => k0_hw76.2.1
theorem k0_off239_inb : ∀ (v1129 : BitVec 32) (k0_hw76 : k0_chk76 v1129), ∀ a, (k0_off239 v1129) a + S1x128.size a ≤ S4000x128.size a := fun v1129 k0_hw76 => k0_hw76.2.2

def k0_off240 (i : grid0.Coords) : Fin 2 → Nat :=
  let arg0 : BitVec 32 := BitVec.ofNat 32 (i 0).val
  let v1143 : Index := Scalar.indexCast arg0
  let c76 : Index := 76#32
  ![v1143.toNat, 76]
def k0_mult86 (v1144 : BitVec 32) : BitVec 32 :=
  v1144

def k0_off241 (v1144 : BitVec 32) : Fin 2 → Nat :=
  let v1145 : BitVec 32 := v1144
  let v1146 : Index := Scalar.indexCast v1145
  let c0_532 : Index := 0#32
  ![v1146.toNat, 0]
def k0_off242 (v1144 : BitVec 32) : Fin 2 → Nat :=
  let v1145 : BitVec 32 := v1144
  let c3_i32_535 : BitVec 32 := 3#32
  let v1152 : BitVec 32 := Scalar.shrui v1145 c3_i32_535
  let v1153 : Index := Scalar.indexCast v1152
  let c0_536 : Index := 0#32
  ![v1153.toNat, 0]

def k0_chk77 (v1144 : BitVec 32) : Prop :=
  (8 ∣ (k0_mult86 v1144).toNat) ∧
  (∀ a, (k0_off241 v1144) a + S8x128.size a ≤ S32000x128.size a) ∧
  (∀ a, (k0_off242 v1144) a + S1x128.size a ≤ S4000x128.size a)
theorem k0_mult86_dvd : ∀ (v1144 : BitVec 32) (k0_hw77 : k0_chk77 v1144), 8 ∣ (k0_mult86 v1144).toNat := fun v1144 k0_hw77 => k0_hw77.1
theorem k0_off241_inb : ∀ (v1144 : BitVec 32) (k0_hw77 : k0_chk77 v1144), ∀ a, (k0_off241 v1144) a + S8x128.size a ≤ S32000x128.size a := fun v1144 k0_hw77 => k0_hw77.2.1
theorem k0_off242_inb : ∀ (v1144 : BitVec 32) (k0_hw77 : k0_chk77 v1144), ∀ a, (k0_off242 v1144) a + S1x128.size a ≤ S4000x128.size a := fun v1144 k0_hw77 => k0_hw77.2.2

def k0_off243 (i : grid0.Coords) : Fin 2 → Nat :=
  let arg0 : BitVec 32 := BitVec.ofNat 32 (i 0).val
  let v1158 : Index := Scalar.indexCast arg0
  let c77 : Index := 77#32
  ![v1158.toNat, 77]
def k0_mult87 (v1159 : BitVec 32) : BitVec 32 :=
  v1159

def k0_off244 (v1159 : BitVec 32) : Fin 2 → Nat :=
  let v1160 : BitVec 32 := v1159
  let v1161 : Index := Scalar.indexCast v1160
  let c0_539 : Index := 0#32
  ![v1161.toNat, 0]
def k0_off245 (v1159 : BitVec 32) : Fin 2 → Nat :=
  let v1160 : BitVec 32 := v1159
  let c3_i32_542 : BitVec 32 := 3#32
  let v1167 : BitVec 32 := Scalar.shrui v1160 c3_i32_542
  let v1168 : Index := Scalar.indexCast v1167
  let c0_543 : Index := 0#32
  ![v1168.toNat, 0]

def k0_chk78 (v1159 : BitVec 32) : Prop :=
  (8 ∣ (k0_mult87 v1159).toNat) ∧
  (∀ a, (k0_off244 v1159) a + S8x128.size a ≤ S32000x128.size a) ∧
  (∀ a, (k0_off245 v1159) a + S1x128.size a ≤ S4000x128.size a)
theorem k0_mult87_dvd : ∀ (v1159 : BitVec 32) (k0_hw78 : k0_chk78 v1159), 8 ∣ (k0_mult87 v1159).toNat := fun v1159 k0_hw78 => k0_hw78.1
theorem k0_off244_inb : ∀ (v1159 : BitVec 32) (k0_hw78 : k0_chk78 v1159), ∀ a, (k0_off244 v1159) a + S8x128.size a ≤ S32000x128.size a := fun v1159 k0_hw78 => k0_hw78.2.1
theorem k0_off245_inb : ∀ (v1159 : BitVec 32) (k0_hw78 : k0_chk78 v1159), ∀ a, (k0_off245 v1159) a + S1x128.size a ≤ S4000x128.size a := fun v1159 k0_hw78 => k0_hw78.2.2

def k0_off246 (i : grid0.Coords) : Fin 2 → Nat :=
  let arg0 : BitVec 32 := BitVec.ofNat 32 (i 0).val
  let v1173 : Index := Scalar.indexCast arg0
  let c78 : Index := 78#32
  ![v1173.toNat, 78]
def k0_mult88 (v1174 : BitVec 32) : BitVec 32 :=
  v1174

def k0_off247 (v1174 : BitVec 32) : Fin 2 → Nat :=
  let v1175 : BitVec 32 := v1174
  let v1176 : Index := Scalar.indexCast v1175
  let c0_546 : Index := 0#32
  ![v1176.toNat, 0]
def k0_off248 (v1174 : BitVec 32) : Fin 2 → Nat :=
  let v1175 : BitVec 32 := v1174
  let c3_i32_549 : BitVec 32 := 3#32
  let v1182 : BitVec 32 := Scalar.shrui v1175 c3_i32_549
  let v1183 : Index := Scalar.indexCast v1182
  let c0_550 : Index := 0#32
  ![v1183.toNat, 0]

def k0_chk79 (v1174 : BitVec 32) : Prop :=
  (8 ∣ (k0_mult88 v1174).toNat) ∧
  (∀ a, (k0_off247 v1174) a + S8x128.size a ≤ S32000x128.size a) ∧
  (∀ a, (k0_off248 v1174) a + S1x128.size a ≤ S4000x128.size a)
theorem k0_mult88_dvd : ∀ (v1174 : BitVec 32) (k0_hw79 : k0_chk79 v1174), 8 ∣ (k0_mult88 v1174).toNat := fun v1174 k0_hw79 => k0_hw79.1
theorem k0_off247_inb : ∀ (v1174 : BitVec 32) (k0_hw79 : k0_chk79 v1174), ∀ a, (k0_off247 v1174) a + S8x128.size a ≤ S32000x128.size a := fun v1174 k0_hw79 => k0_hw79.2.1
theorem k0_off248_inb : ∀ (v1174 : BitVec 32) (k0_hw79 : k0_chk79 v1174), ∀ a, (k0_off248 v1174) a + S1x128.size a ≤ S4000x128.size a := fun v1174 k0_hw79 => k0_hw79.2.2

def k0_off249 (i : grid0.Coords) : Fin 2 → Nat :=
  let arg0 : BitVec 32 := BitVec.ofNat 32 (i 0).val
  let v1188 : Index := Scalar.indexCast arg0
  let c79 : Index := 79#32
  ![v1188.toNat, 79]
def k0_mult89 (v1189 : BitVec 32) : BitVec 32 :=
  v1189

def k0_off250 (v1189 : BitVec 32) : Fin 2 → Nat :=
  let v1190 : BitVec 32 := v1189
  let v1191 : Index := Scalar.indexCast v1190
  let c0_553 : Index := 0#32
  ![v1191.toNat, 0]
def k0_off251 (v1189 : BitVec 32) : Fin 2 → Nat :=
  let v1190 : BitVec 32 := v1189
  let c3_i32_556 : BitVec 32 := 3#32
  let v1197 : BitVec 32 := Scalar.shrui v1190 c3_i32_556
  let v1198 : Index := Scalar.indexCast v1197
  let c0_557 : Index := 0#32
  ![v1198.toNat, 0]

def k0_chk80 (v1189 : BitVec 32) : Prop :=
  (8 ∣ (k0_mult89 v1189).toNat) ∧
  (∀ a, (k0_off250 v1189) a + S8x128.size a ≤ S32000x128.size a) ∧
  (∀ a, (k0_off251 v1189) a + S1x128.size a ≤ S4000x128.size a)
theorem k0_mult89_dvd : ∀ (v1189 : BitVec 32) (k0_hw80 : k0_chk80 v1189), 8 ∣ (k0_mult89 v1189).toNat := fun v1189 k0_hw80 => k0_hw80.1
theorem k0_off250_inb : ∀ (v1189 : BitVec 32) (k0_hw80 : k0_chk80 v1189), ∀ a, (k0_off250 v1189) a + S8x128.size a ≤ S32000x128.size a := fun v1189 k0_hw80 => k0_hw80.2.1
theorem k0_off251_inb : ∀ (v1189 : BitVec 32) (k0_hw80 : k0_chk80 v1189), ∀ a, (k0_off251 v1189) a + S1x128.size a ≤ S4000x128.size a := fun v1189 k0_hw80 => k0_hw80.2.2

def k0_off252 (i : grid0.Coords) : Fin 2 → Nat :=
  let arg0 : BitVec 32 := BitVec.ofNat 32 (i 0).val
  let v1203 : Index := Scalar.indexCast arg0
  let c80 : Index := 80#32
  ![v1203.toNat, 80]
def k0_mult90 (v1204 : BitVec 32) : BitVec 32 :=
  v1204

def k0_off253 (v1204 : BitVec 32) : Fin 2 → Nat :=
  let v1205 : BitVec 32 := v1204
  let v1206 : Index := Scalar.indexCast v1205
  let c0_560 : Index := 0#32
  ![v1206.toNat, 0]
def k0_off254 (v1204 : BitVec 32) : Fin 2 → Nat :=
  let v1205 : BitVec 32 := v1204
  let c3_i32_563 : BitVec 32 := 3#32
  let v1212 : BitVec 32 := Scalar.shrui v1205 c3_i32_563
  let v1213 : Index := Scalar.indexCast v1212
  let c0_564 : Index := 0#32
  ![v1213.toNat, 0]

def k0_chk81 (v1204 : BitVec 32) : Prop :=
  (8 ∣ (k0_mult90 v1204).toNat) ∧
  (∀ a, (k0_off253 v1204) a + S8x128.size a ≤ S32000x128.size a) ∧
  (∀ a, (k0_off254 v1204) a + S1x128.size a ≤ S4000x128.size a)
theorem k0_mult90_dvd : ∀ (v1204 : BitVec 32) (k0_hw81 : k0_chk81 v1204), 8 ∣ (k0_mult90 v1204).toNat := fun v1204 k0_hw81 => k0_hw81.1
theorem k0_off253_inb : ∀ (v1204 : BitVec 32) (k0_hw81 : k0_chk81 v1204), ∀ a, (k0_off253 v1204) a + S8x128.size a ≤ S32000x128.size a := fun v1204 k0_hw81 => k0_hw81.2.1
theorem k0_off254_inb : ∀ (v1204 : BitVec 32) (k0_hw81 : k0_chk81 v1204), ∀ a, (k0_off254 v1204) a + S1x128.size a ≤ S4000x128.size a := fun v1204 k0_hw81 => k0_hw81.2.2

def k0_off255 (i : grid0.Coords) : Fin 2 → Nat :=
  let arg0 : BitVec 32 := BitVec.ofNat 32 (i 0).val
  let v1218 : Index := Scalar.indexCast arg0
  let c81 : Index := 81#32
  ![v1218.toNat, 81]
def k0_mult91 (v1219 : BitVec 32) : BitVec 32 :=
  v1219

def k0_off256 (v1219 : BitVec 32) : Fin 2 → Nat :=
  let v1220 : BitVec 32 := v1219
  let v1221 : Index := Scalar.indexCast v1220
  let c0_567 : Index := 0#32
  ![v1221.toNat, 0]
def k0_off257 (v1219 : BitVec 32) : Fin 2 → Nat :=
  let v1220 : BitVec 32 := v1219
  let c3_i32_570 : BitVec 32 := 3#32
  let v1227 : BitVec 32 := Scalar.shrui v1220 c3_i32_570
  let v1228 : Index := Scalar.indexCast v1227
  let c0_571 : Index := 0#32
  ![v1228.toNat, 0]

def k0_chk82 (v1219 : BitVec 32) : Prop :=
  (8 ∣ (k0_mult91 v1219).toNat) ∧
  (∀ a, (k0_off256 v1219) a + S8x128.size a ≤ S32000x128.size a) ∧
  (∀ a, (k0_off257 v1219) a + S1x128.size a ≤ S4000x128.size a)
theorem k0_mult91_dvd : ∀ (v1219 : BitVec 32) (k0_hw82 : k0_chk82 v1219), 8 ∣ (k0_mult91 v1219).toNat := fun v1219 k0_hw82 => k0_hw82.1
theorem k0_off256_inb : ∀ (v1219 : BitVec 32) (k0_hw82 : k0_chk82 v1219), ∀ a, (k0_off256 v1219) a + S8x128.size a ≤ S32000x128.size a := fun v1219 k0_hw82 => k0_hw82.2.1
theorem k0_off257_inb : ∀ (v1219 : BitVec 32) (k0_hw82 : k0_chk82 v1219), ∀ a, (k0_off257 v1219) a + S1x128.size a ≤ S4000x128.size a := fun v1219 k0_hw82 => k0_hw82.2.2

def k0_off258 (i : grid0.Coords) : Fin 2 → Nat :=
  let arg0 : BitVec 32 := BitVec.ofNat 32 (i 0).val
  let v1233 : Index := Scalar.indexCast arg0
  let c82 : Index := 82#32
  ![v1233.toNat, 82]
def k0_mult92 (v1234 : BitVec 32) : BitVec 32 :=
  v1234

def k0_off259 (v1234 : BitVec 32) : Fin 2 → Nat :=
  let v1235 : BitVec 32 := v1234
  let v1236 : Index := Scalar.indexCast v1235
  let c0_574 : Index := 0#32
  ![v1236.toNat, 0]
def k0_off260 (v1234 : BitVec 32) : Fin 2 → Nat :=
  let v1235 : BitVec 32 := v1234
  let c3_i32_577 : BitVec 32 := 3#32
  let v1242 : BitVec 32 := Scalar.shrui v1235 c3_i32_577
  let v1243 : Index := Scalar.indexCast v1242
  let c0_578 : Index := 0#32
  ![v1243.toNat, 0]

def k0_chk83 (v1234 : BitVec 32) : Prop :=
  (8 ∣ (k0_mult92 v1234).toNat) ∧
  (∀ a, (k0_off259 v1234) a + S8x128.size a ≤ S32000x128.size a) ∧
  (∀ a, (k0_off260 v1234) a + S1x128.size a ≤ S4000x128.size a)
theorem k0_mult92_dvd : ∀ (v1234 : BitVec 32) (k0_hw83 : k0_chk83 v1234), 8 ∣ (k0_mult92 v1234).toNat := fun v1234 k0_hw83 => k0_hw83.1
theorem k0_off259_inb : ∀ (v1234 : BitVec 32) (k0_hw83 : k0_chk83 v1234), ∀ a, (k0_off259 v1234) a + S8x128.size a ≤ S32000x128.size a := fun v1234 k0_hw83 => k0_hw83.2.1
theorem k0_off260_inb : ∀ (v1234 : BitVec 32) (k0_hw83 : k0_chk83 v1234), ∀ a, (k0_off260 v1234) a + S1x128.size a ≤ S4000x128.size a := fun v1234 k0_hw83 => k0_hw83.2.2

def k0_off261 (i : grid0.Coords) : Fin 2 → Nat :=
  let arg0 : BitVec 32 := BitVec.ofNat 32 (i 0).val
  let v1248 : Index := Scalar.indexCast arg0
  let c83 : Index := 83#32
  ![v1248.toNat, 83]
def k0_mult93 (v1249 : BitVec 32) : BitVec 32 :=
  v1249

def k0_off262 (v1249 : BitVec 32) : Fin 2 → Nat :=
  let v1250 : BitVec 32 := v1249
  let v1251 : Index := Scalar.indexCast v1250
  let c0_581 : Index := 0#32
  ![v1251.toNat, 0]
def k0_off263 (v1249 : BitVec 32) : Fin 2 → Nat :=
  let v1250 : BitVec 32 := v1249
  let c3_i32_584 : BitVec 32 := 3#32
  let v1257 : BitVec 32 := Scalar.shrui v1250 c3_i32_584
  let v1258 : Index := Scalar.indexCast v1257
  let c0_585 : Index := 0#32
  ![v1258.toNat, 0]

def k0_chk84 (v1249 : BitVec 32) : Prop :=
  (8 ∣ (k0_mult93 v1249).toNat) ∧
  (∀ a, (k0_off262 v1249) a + S8x128.size a ≤ S32000x128.size a) ∧
  (∀ a, (k0_off263 v1249) a + S1x128.size a ≤ S4000x128.size a)
theorem k0_mult93_dvd : ∀ (v1249 : BitVec 32) (k0_hw84 : k0_chk84 v1249), 8 ∣ (k0_mult93 v1249).toNat := fun v1249 k0_hw84 => k0_hw84.1
theorem k0_off262_inb : ∀ (v1249 : BitVec 32) (k0_hw84 : k0_chk84 v1249), ∀ a, (k0_off262 v1249) a + S8x128.size a ≤ S32000x128.size a := fun v1249 k0_hw84 => k0_hw84.2.1
theorem k0_off263_inb : ∀ (v1249 : BitVec 32) (k0_hw84 : k0_chk84 v1249), ∀ a, (k0_off263 v1249) a + S1x128.size a ≤ S4000x128.size a := fun v1249 k0_hw84 => k0_hw84.2.2

def k0_off264 (i : grid0.Coords) : Fin 2 → Nat :=
  let arg0 : BitVec 32 := BitVec.ofNat 32 (i 0).val
  let v1263 : Index := Scalar.indexCast arg0
  let c84 : Index := 84#32
  ![v1263.toNat, 84]
def k0_mult94 (v1264 : BitVec 32) : BitVec 32 :=
  v1264

def k0_off265 (v1264 : BitVec 32) : Fin 2 → Nat :=
  let v1265 : BitVec 32 := v1264
  let v1266 : Index := Scalar.indexCast v1265
  let c0_588 : Index := 0#32
  ![v1266.toNat, 0]
def k0_off266 (v1264 : BitVec 32) : Fin 2 → Nat :=
  let v1265 : BitVec 32 := v1264
  let c3_i32_591 : BitVec 32 := 3#32
  let v1272 : BitVec 32 := Scalar.shrui v1265 c3_i32_591
  let v1273 : Index := Scalar.indexCast v1272
  let c0_592 : Index := 0#32
  ![v1273.toNat, 0]

def k0_chk85 (v1264 : BitVec 32) : Prop :=
  (8 ∣ (k0_mult94 v1264).toNat) ∧
  (∀ a, (k0_off265 v1264) a + S8x128.size a ≤ S32000x128.size a) ∧
  (∀ a, (k0_off266 v1264) a + S1x128.size a ≤ S4000x128.size a)
theorem k0_mult94_dvd : ∀ (v1264 : BitVec 32) (k0_hw85 : k0_chk85 v1264), 8 ∣ (k0_mult94 v1264).toNat := fun v1264 k0_hw85 => k0_hw85.1
theorem k0_off265_inb : ∀ (v1264 : BitVec 32) (k0_hw85 : k0_chk85 v1264), ∀ a, (k0_off265 v1264) a + S8x128.size a ≤ S32000x128.size a := fun v1264 k0_hw85 => k0_hw85.2.1
theorem k0_off266_inb : ∀ (v1264 : BitVec 32) (k0_hw85 : k0_chk85 v1264), ∀ a, (k0_off266 v1264) a + S1x128.size a ≤ S4000x128.size a := fun v1264 k0_hw85 => k0_hw85.2.2

def k0_off267 (i : grid0.Coords) : Fin 2 → Nat :=
  let arg0 : BitVec 32 := BitVec.ofNat 32 (i 0).val
  let v1278 : Index := Scalar.indexCast arg0
  let c85 : Index := 85#32
  ![v1278.toNat, 85]
def k0_mult95 (v1279 : BitVec 32) : BitVec 32 :=
  v1279

def k0_off268 (v1279 : BitVec 32) : Fin 2 → Nat :=
  let v1280 : BitVec 32 := v1279
  let v1281 : Index := Scalar.indexCast v1280
  let c0_595 : Index := 0#32
  ![v1281.toNat, 0]
def k0_off269 (v1279 : BitVec 32) : Fin 2 → Nat :=
  let v1280 : BitVec 32 := v1279
  let c3_i32_598 : BitVec 32 := 3#32
  let v1287 : BitVec 32 := Scalar.shrui v1280 c3_i32_598
  let v1288 : Index := Scalar.indexCast v1287
  let c0_599 : Index := 0#32
  ![v1288.toNat, 0]

def k0_chk86 (v1279 : BitVec 32) : Prop :=
  (8 ∣ (k0_mult95 v1279).toNat) ∧
  (∀ a, (k0_off268 v1279) a + S8x128.size a ≤ S32000x128.size a) ∧
  (∀ a, (k0_off269 v1279) a + S1x128.size a ≤ S4000x128.size a)
theorem k0_mult95_dvd : ∀ (v1279 : BitVec 32) (k0_hw86 : k0_chk86 v1279), 8 ∣ (k0_mult95 v1279).toNat := fun v1279 k0_hw86 => k0_hw86.1
theorem k0_off268_inb : ∀ (v1279 : BitVec 32) (k0_hw86 : k0_chk86 v1279), ∀ a, (k0_off268 v1279) a + S8x128.size a ≤ S32000x128.size a := fun v1279 k0_hw86 => k0_hw86.2.1
theorem k0_off269_inb : ∀ (v1279 : BitVec 32) (k0_hw86 : k0_chk86 v1279), ∀ a, (k0_off269 v1279) a + S1x128.size a ≤ S4000x128.size a := fun v1279 k0_hw86 => k0_hw86.2.2

def k0_off270 (i : grid0.Coords) : Fin 2 → Nat :=
  let arg0 : BitVec 32 := BitVec.ofNat 32 (i 0).val
  let v1293 : Index := Scalar.indexCast arg0
  let c86 : Index := 86#32
  ![v1293.toNat, 86]
def k0_mult96 (v1294 : BitVec 32) : BitVec 32 :=
  v1294

def k0_off271 (v1294 : BitVec 32) : Fin 2 → Nat :=
  let v1295 : BitVec 32 := v1294
  let v1296 : Index := Scalar.indexCast v1295
  let c0_602 : Index := 0#32
  ![v1296.toNat, 0]
def k0_off272 (v1294 : BitVec 32) : Fin 2 → Nat :=
  let v1295 : BitVec 32 := v1294
  let c3_i32_605 : BitVec 32 := 3#32
  let v1302 : BitVec 32 := Scalar.shrui v1295 c3_i32_605
  let v1303 : Index := Scalar.indexCast v1302
  let c0_606 : Index := 0#32
  ![v1303.toNat, 0]

def k0_chk87 (v1294 : BitVec 32) : Prop :=
  (8 ∣ (k0_mult96 v1294).toNat) ∧
  (∀ a, (k0_off271 v1294) a + S8x128.size a ≤ S32000x128.size a) ∧
  (∀ a, (k0_off272 v1294) a + S1x128.size a ≤ S4000x128.size a)
theorem k0_mult96_dvd : ∀ (v1294 : BitVec 32) (k0_hw87 : k0_chk87 v1294), 8 ∣ (k0_mult96 v1294).toNat := fun v1294 k0_hw87 => k0_hw87.1
theorem k0_off271_inb : ∀ (v1294 : BitVec 32) (k0_hw87 : k0_chk87 v1294), ∀ a, (k0_off271 v1294) a + S8x128.size a ≤ S32000x128.size a := fun v1294 k0_hw87 => k0_hw87.2.1
theorem k0_off272_inb : ∀ (v1294 : BitVec 32) (k0_hw87 : k0_chk87 v1294), ∀ a, (k0_off272 v1294) a + S1x128.size a ≤ S4000x128.size a := fun v1294 k0_hw87 => k0_hw87.2.2

def k0_off273 (i : grid0.Coords) : Fin 2 → Nat :=
  let arg0 : BitVec 32 := BitVec.ofNat 32 (i 0).val
  let v1308 : Index := Scalar.indexCast arg0
  let c87 : Index := 87#32
  ![v1308.toNat, 87]
def k0_mult97 (v1309 : BitVec 32) : BitVec 32 :=
  v1309

def k0_off274 (v1309 : BitVec 32) : Fin 2 → Nat :=
  let v1310 : BitVec 32 := v1309
  let v1311 : Index := Scalar.indexCast v1310
  let c0_609 : Index := 0#32
  ![v1311.toNat, 0]
def k0_off275 (v1309 : BitVec 32) : Fin 2 → Nat :=
  let v1310 : BitVec 32 := v1309
  let c3_i32_612 : BitVec 32 := 3#32
  let v1317 : BitVec 32 := Scalar.shrui v1310 c3_i32_612
  let v1318 : Index := Scalar.indexCast v1317
  let c0_613 : Index := 0#32
  ![v1318.toNat, 0]

def k0_chk88 (v1309 : BitVec 32) : Prop :=
  (8 ∣ (k0_mult97 v1309).toNat) ∧
  (∀ a, (k0_off274 v1309) a + S8x128.size a ≤ S32000x128.size a) ∧
  (∀ a, (k0_off275 v1309) a + S1x128.size a ≤ S4000x128.size a)
theorem k0_mult97_dvd : ∀ (v1309 : BitVec 32) (k0_hw88 : k0_chk88 v1309), 8 ∣ (k0_mult97 v1309).toNat := fun v1309 k0_hw88 => k0_hw88.1
theorem k0_off274_inb : ∀ (v1309 : BitVec 32) (k0_hw88 : k0_chk88 v1309), ∀ a, (k0_off274 v1309) a + S8x128.size a ≤ S32000x128.size a := fun v1309 k0_hw88 => k0_hw88.2.1
theorem k0_off275_inb : ∀ (v1309 : BitVec 32) (k0_hw88 : k0_chk88 v1309), ∀ a, (k0_off275 v1309) a + S1x128.size a ≤ S4000x128.size a := fun v1309 k0_hw88 => k0_hw88.2.2

def k0_off276 (i : grid0.Coords) : Fin 2 → Nat :=
  let arg0 : BitVec 32 := BitVec.ofNat 32 (i 0).val
  let v1323 : Index := Scalar.indexCast arg0
  let c88 : Index := 88#32
  ![v1323.toNat, 88]
def k0_mult98 (v1324 : BitVec 32) : BitVec 32 :=
  v1324

def k0_off277 (v1324 : BitVec 32) : Fin 2 → Nat :=
  let v1325 : BitVec 32 := v1324
  let v1326 : Index := Scalar.indexCast v1325
  let c0_616 : Index := 0#32
  ![v1326.toNat, 0]
def k0_off278 (v1324 : BitVec 32) : Fin 2 → Nat :=
  let v1325 : BitVec 32 := v1324
  let c3_i32_619 : BitVec 32 := 3#32
  let v1332 : BitVec 32 := Scalar.shrui v1325 c3_i32_619
  let v1333 : Index := Scalar.indexCast v1332
  let c0_620 : Index := 0#32
  ![v1333.toNat, 0]

def k0_chk89 (v1324 : BitVec 32) : Prop :=
  (8 ∣ (k0_mult98 v1324).toNat) ∧
  (∀ a, (k0_off277 v1324) a + S8x128.size a ≤ S32000x128.size a) ∧
  (∀ a, (k0_off278 v1324) a + S1x128.size a ≤ S4000x128.size a)
theorem k0_mult98_dvd : ∀ (v1324 : BitVec 32) (k0_hw89 : k0_chk89 v1324), 8 ∣ (k0_mult98 v1324).toNat := fun v1324 k0_hw89 => k0_hw89.1
theorem k0_off277_inb : ∀ (v1324 : BitVec 32) (k0_hw89 : k0_chk89 v1324), ∀ a, (k0_off277 v1324) a + S8x128.size a ≤ S32000x128.size a := fun v1324 k0_hw89 => k0_hw89.2.1
theorem k0_off278_inb : ∀ (v1324 : BitVec 32) (k0_hw89 : k0_chk89 v1324), ∀ a, (k0_off278 v1324) a + S1x128.size a ≤ S4000x128.size a := fun v1324 k0_hw89 => k0_hw89.2.2

def k0_off279 (i : grid0.Coords) : Fin 2 → Nat :=
  let arg0 : BitVec 32 := BitVec.ofNat 32 (i 0).val
  let v1338 : Index := Scalar.indexCast arg0
  let c89 : Index := 89#32
  ![v1338.toNat, 89]
def k0_mult99 (v1339 : BitVec 32) : BitVec 32 :=
  v1339

def k0_off280 (v1339 : BitVec 32) : Fin 2 → Nat :=
  let v1340 : BitVec 32 := v1339
  let v1341 : Index := Scalar.indexCast v1340
  let c0_623 : Index := 0#32
  ![v1341.toNat, 0]
def k0_off281 (v1339 : BitVec 32) : Fin 2 → Nat :=
  let v1340 : BitVec 32 := v1339
  let c3_i32_626 : BitVec 32 := 3#32
  let v1347 : BitVec 32 := Scalar.shrui v1340 c3_i32_626
  let v1348 : Index := Scalar.indexCast v1347
  let c0_627 : Index := 0#32
  ![v1348.toNat, 0]

def k0_chk90 (v1339 : BitVec 32) : Prop :=
  (8 ∣ (k0_mult99 v1339).toNat) ∧
  (∀ a, (k0_off280 v1339) a + S8x128.size a ≤ S32000x128.size a) ∧
  (∀ a, (k0_off281 v1339) a + S1x128.size a ≤ S4000x128.size a)
theorem k0_mult99_dvd : ∀ (v1339 : BitVec 32) (k0_hw90 : k0_chk90 v1339), 8 ∣ (k0_mult99 v1339).toNat := fun v1339 k0_hw90 => k0_hw90.1
theorem k0_off280_inb : ∀ (v1339 : BitVec 32) (k0_hw90 : k0_chk90 v1339), ∀ a, (k0_off280 v1339) a + S8x128.size a ≤ S32000x128.size a := fun v1339 k0_hw90 => k0_hw90.2.1
theorem k0_off281_inb : ∀ (v1339 : BitVec 32) (k0_hw90 : k0_chk90 v1339), ∀ a, (k0_off281 v1339) a + S1x128.size a ≤ S4000x128.size a := fun v1339 k0_hw90 => k0_hw90.2.2

def k0_off282 (i : grid0.Coords) : Fin 2 → Nat :=
  let arg0 : BitVec 32 := BitVec.ofNat 32 (i 0).val
  let v1353 : Index := Scalar.indexCast arg0
  let c90 : Index := 90#32
  ![v1353.toNat, 90]
def k0_mult100 (v1354 : BitVec 32) : BitVec 32 :=
  v1354

def k0_off283 (v1354 : BitVec 32) : Fin 2 → Nat :=
  let v1355 : BitVec 32 := v1354
  let v1356 : Index := Scalar.indexCast v1355
  let c0_630 : Index := 0#32
  ![v1356.toNat, 0]
def k0_off284 (v1354 : BitVec 32) : Fin 2 → Nat :=
  let v1355 : BitVec 32 := v1354
  let c3_i32_633 : BitVec 32 := 3#32
  let v1362 : BitVec 32 := Scalar.shrui v1355 c3_i32_633
  let v1363 : Index := Scalar.indexCast v1362
  let c0_634 : Index := 0#32
  ![v1363.toNat, 0]

def k0_chk91 (v1354 : BitVec 32) : Prop :=
  (8 ∣ (k0_mult100 v1354).toNat) ∧
  (∀ a, (k0_off283 v1354) a + S8x128.size a ≤ S32000x128.size a) ∧
  (∀ a, (k0_off284 v1354) a + S1x128.size a ≤ S4000x128.size a)
theorem k0_mult100_dvd : ∀ (v1354 : BitVec 32) (k0_hw91 : k0_chk91 v1354), 8 ∣ (k0_mult100 v1354).toNat := fun v1354 k0_hw91 => k0_hw91.1
theorem k0_off283_inb : ∀ (v1354 : BitVec 32) (k0_hw91 : k0_chk91 v1354), ∀ a, (k0_off283 v1354) a + S8x128.size a ≤ S32000x128.size a := fun v1354 k0_hw91 => k0_hw91.2.1
theorem k0_off284_inb : ∀ (v1354 : BitVec 32) (k0_hw91 : k0_chk91 v1354), ∀ a, (k0_off284 v1354) a + S1x128.size a ≤ S4000x128.size a := fun v1354 k0_hw91 => k0_hw91.2.2

def k0_off285 (i : grid0.Coords) : Fin 2 → Nat :=
  let arg0 : BitVec 32 := BitVec.ofNat 32 (i 0).val
  let v1368 : Index := Scalar.indexCast arg0
  let c91 : Index := 91#32
  ![v1368.toNat, 91]
def k0_mult101 (v1369 : BitVec 32) : BitVec 32 :=
  v1369

def k0_off286 (v1369 : BitVec 32) : Fin 2 → Nat :=
  let v1370 : BitVec 32 := v1369
  let v1371 : Index := Scalar.indexCast v1370
  let c0_637 : Index := 0#32
  ![v1371.toNat, 0]
def k0_off287 (v1369 : BitVec 32) : Fin 2 → Nat :=
  let v1370 : BitVec 32 := v1369
  let c3_i32_640 : BitVec 32 := 3#32
  let v1377 : BitVec 32 := Scalar.shrui v1370 c3_i32_640
  let v1378 : Index := Scalar.indexCast v1377
  let c0_641 : Index := 0#32
  ![v1378.toNat, 0]

def k0_chk92 (v1369 : BitVec 32) : Prop :=
  (8 ∣ (k0_mult101 v1369).toNat) ∧
  (∀ a, (k0_off286 v1369) a + S8x128.size a ≤ S32000x128.size a) ∧
  (∀ a, (k0_off287 v1369) a + S1x128.size a ≤ S4000x128.size a)
theorem k0_mult101_dvd : ∀ (v1369 : BitVec 32) (k0_hw92 : k0_chk92 v1369), 8 ∣ (k0_mult101 v1369).toNat := fun v1369 k0_hw92 => k0_hw92.1
theorem k0_off286_inb : ∀ (v1369 : BitVec 32) (k0_hw92 : k0_chk92 v1369), ∀ a, (k0_off286 v1369) a + S8x128.size a ≤ S32000x128.size a := fun v1369 k0_hw92 => k0_hw92.2.1
theorem k0_off287_inb : ∀ (v1369 : BitVec 32) (k0_hw92 : k0_chk92 v1369), ∀ a, (k0_off287 v1369) a + S1x128.size a ≤ S4000x128.size a := fun v1369 k0_hw92 => k0_hw92.2.2

def k0_off288 (i : grid0.Coords) : Fin 2 → Nat :=
  let arg0 : BitVec 32 := BitVec.ofNat 32 (i 0).val
  let v1383 : Index := Scalar.indexCast arg0
  let c92 : Index := 92#32
  ![v1383.toNat, 92]
def k0_mult102 (v1384 : BitVec 32) : BitVec 32 :=
  v1384

def k0_off289 (v1384 : BitVec 32) : Fin 2 → Nat :=
  let v1385 : BitVec 32 := v1384
  let v1386 : Index := Scalar.indexCast v1385
  let c0_644 : Index := 0#32
  ![v1386.toNat, 0]
def k0_off290 (v1384 : BitVec 32) : Fin 2 → Nat :=
  let v1385 : BitVec 32 := v1384
  let c3_i32_647 : BitVec 32 := 3#32
  let v1392 : BitVec 32 := Scalar.shrui v1385 c3_i32_647
  let v1393 : Index := Scalar.indexCast v1392
  let c0_648 : Index := 0#32
  ![v1393.toNat, 0]

def k0_chk93 (v1384 : BitVec 32) : Prop :=
  (8 ∣ (k0_mult102 v1384).toNat) ∧
  (∀ a, (k0_off289 v1384) a + S8x128.size a ≤ S32000x128.size a) ∧
  (∀ a, (k0_off290 v1384) a + S1x128.size a ≤ S4000x128.size a)
theorem k0_mult102_dvd : ∀ (v1384 : BitVec 32) (k0_hw93 : k0_chk93 v1384), 8 ∣ (k0_mult102 v1384).toNat := fun v1384 k0_hw93 => k0_hw93.1
theorem k0_off289_inb : ∀ (v1384 : BitVec 32) (k0_hw93 : k0_chk93 v1384), ∀ a, (k0_off289 v1384) a + S8x128.size a ≤ S32000x128.size a := fun v1384 k0_hw93 => k0_hw93.2.1
theorem k0_off290_inb : ∀ (v1384 : BitVec 32) (k0_hw93 : k0_chk93 v1384), ∀ a, (k0_off290 v1384) a + S1x128.size a ≤ S4000x128.size a := fun v1384 k0_hw93 => k0_hw93.2.2

def k0_off291 (i : grid0.Coords) : Fin 2 → Nat :=
  let arg0 : BitVec 32 := BitVec.ofNat 32 (i 0).val
  let v1398 : Index := Scalar.indexCast arg0
  let c93 : Index := 93#32
  ![v1398.toNat, 93]
def k0_mult103 (v1399 : BitVec 32) : BitVec 32 :=
  v1399

def k0_off292 (v1399 : BitVec 32) : Fin 2 → Nat :=
  let v1400 : BitVec 32 := v1399
  let v1401 : Index := Scalar.indexCast v1400
  let c0_651 : Index := 0#32
  ![v1401.toNat, 0]
def k0_off293 (v1399 : BitVec 32) : Fin 2 → Nat :=
  let v1400 : BitVec 32 := v1399
  let c3_i32_654 : BitVec 32 := 3#32
  let v1407 : BitVec 32 := Scalar.shrui v1400 c3_i32_654
  let v1408 : Index := Scalar.indexCast v1407
  let c0_655 : Index := 0#32
  ![v1408.toNat, 0]

def k0_chk94 (v1399 : BitVec 32) : Prop :=
  (8 ∣ (k0_mult103 v1399).toNat) ∧
  (∀ a, (k0_off292 v1399) a + S8x128.size a ≤ S32000x128.size a) ∧
  (∀ a, (k0_off293 v1399) a + S1x128.size a ≤ S4000x128.size a)
theorem k0_mult103_dvd : ∀ (v1399 : BitVec 32) (k0_hw94 : k0_chk94 v1399), 8 ∣ (k0_mult103 v1399).toNat := fun v1399 k0_hw94 => k0_hw94.1
theorem k0_off292_inb : ∀ (v1399 : BitVec 32) (k0_hw94 : k0_chk94 v1399), ∀ a, (k0_off292 v1399) a + S8x128.size a ≤ S32000x128.size a := fun v1399 k0_hw94 => k0_hw94.2.1
theorem k0_off293_inb : ∀ (v1399 : BitVec 32) (k0_hw94 : k0_chk94 v1399), ∀ a, (k0_off293 v1399) a + S1x128.size a ≤ S4000x128.size a := fun v1399 k0_hw94 => k0_hw94.2.2

def k0_off294 (i : grid0.Coords) : Fin 2 → Nat :=
  let arg0 : BitVec 32 := BitVec.ofNat 32 (i 0).val
  let v1413 : Index := Scalar.indexCast arg0
  let c94 : Index := 94#32
  ![v1413.toNat, 94]
def k0_mult104 (v1414 : BitVec 32) : BitVec 32 :=
  v1414

def k0_off295 (v1414 : BitVec 32) : Fin 2 → Nat :=
  let v1415 : BitVec 32 := v1414
  let v1416 : Index := Scalar.indexCast v1415
  let c0_658 : Index := 0#32
  ![v1416.toNat, 0]
def k0_off296 (v1414 : BitVec 32) : Fin 2 → Nat :=
  let v1415 : BitVec 32 := v1414
  let c3_i32_661 : BitVec 32 := 3#32
  let v1422 : BitVec 32 := Scalar.shrui v1415 c3_i32_661
  let v1423 : Index := Scalar.indexCast v1422
  let c0_662 : Index := 0#32
  ![v1423.toNat, 0]

def k0_chk95 (v1414 : BitVec 32) : Prop :=
  (8 ∣ (k0_mult104 v1414).toNat) ∧
  (∀ a, (k0_off295 v1414) a + S8x128.size a ≤ S32000x128.size a) ∧
  (∀ a, (k0_off296 v1414) a + S1x128.size a ≤ S4000x128.size a)
theorem k0_mult104_dvd : ∀ (v1414 : BitVec 32) (k0_hw95 : k0_chk95 v1414), 8 ∣ (k0_mult104 v1414).toNat := fun v1414 k0_hw95 => k0_hw95.1
theorem k0_off295_inb : ∀ (v1414 : BitVec 32) (k0_hw95 : k0_chk95 v1414), ∀ a, (k0_off295 v1414) a + S8x128.size a ≤ S32000x128.size a := fun v1414 k0_hw95 => k0_hw95.2.1
theorem k0_off296_inb : ∀ (v1414 : BitVec 32) (k0_hw95 : k0_chk95 v1414), ∀ a, (k0_off296 v1414) a + S1x128.size a ≤ S4000x128.size a := fun v1414 k0_hw95 => k0_hw95.2.2

def k0_off297 (i : grid0.Coords) : Fin 2 → Nat :=
  let arg0 : BitVec 32 := BitVec.ofNat 32 (i 0).val
  let v1428 : Index := Scalar.indexCast arg0
  let c95 : Index := 95#32
  ![v1428.toNat, 95]
def k0_mult105 (v1429 : BitVec 32) : BitVec 32 :=
  v1429

def k0_off298 (v1429 : BitVec 32) : Fin 2 → Nat :=
  let v1430 : BitVec 32 := v1429
  let v1431 : Index := Scalar.indexCast v1430
  let c0_665 : Index := 0#32
  ![v1431.toNat, 0]
def k0_off299 (v1429 : BitVec 32) : Fin 2 → Nat :=
  let v1430 : BitVec 32 := v1429
  let c3_i32_668 : BitVec 32 := 3#32
  let v1437 : BitVec 32 := Scalar.shrui v1430 c3_i32_668
  let v1438 : Index := Scalar.indexCast v1437
  let c0_669 : Index := 0#32
  ![v1438.toNat, 0]

def k0_chk96 (v1429 : BitVec 32) : Prop :=
  (8 ∣ (k0_mult105 v1429).toNat) ∧
  (∀ a, (k0_off298 v1429) a + S8x128.size a ≤ S32000x128.size a) ∧
  (∀ a, (k0_off299 v1429) a + S1x128.size a ≤ S4000x128.size a)
theorem k0_mult105_dvd : ∀ (v1429 : BitVec 32) (k0_hw96 : k0_chk96 v1429), 8 ∣ (k0_mult105 v1429).toNat := fun v1429 k0_hw96 => k0_hw96.1
theorem k0_off298_inb : ∀ (v1429 : BitVec 32) (k0_hw96 : k0_chk96 v1429), ∀ a, (k0_off298 v1429) a + S8x128.size a ≤ S32000x128.size a := fun v1429 k0_hw96 => k0_hw96.2.1
theorem k0_off299_inb : ∀ (v1429 : BitVec 32) (k0_hw96 : k0_chk96 v1429), ∀ a, (k0_off299 v1429) a + S1x128.size a ≤ S4000x128.size a := fun v1429 k0_hw96 => k0_hw96.2.2

def k0_off300 (i : grid0.Coords) : Fin 2 → Nat :=
  let arg0 : BitVec 32 := BitVec.ofNat 32 (i 0).val
  let v1443 : Index := Scalar.indexCast arg0
  let c96 : Index := 96#32
  ![v1443.toNat, 96]
def k0_mult106 (v1444 : BitVec 32) : BitVec 32 :=
  v1444

def k0_off301 (v1444 : BitVec 32) : Fin 2 → Nat :=
  let v1445 : BitVec 32 := v1444
  let v1446 : Index := Scalar.indexCast v1445
  let c0_672 : Index := 0#32
  ![v1446.toNat, 0]
def k0_off302 (v1444 : BitVec 32) : Fin 2 → Nat :=
  let v1445 : BitVec 32 := v1444
  let c3_i32_675 : BitVec 32 := 3#32
  let v1452 : BitVec 32 := Scalar.shrui v1445 c3_i32_675
  let v1453 : Index := Scalar.indexCast v1452
  let c0_676 : Index := 0#32
  ![v1453.toNat, 0]

def k0_chk97 (v1444 : BitVec 32) : Prop :=
  (8 ∣ (k0_mult106 v1444).toNat) ∧
  (∀ a, (k0_off301 v1444) a + S8x128.size a ≤ S32000x128.size a) ∧
  (∀ a, (k0_off302 v1444) a + S1x128.size a ≤ S4000x128.size a)
theorem k0_mult106_dvd : ∀ (v1444 : BitVec 32) (k0_hw97 : k0_chk97 v1444), 8 ∣ (k0_mult106 v1444).toNat := fun v1444 k0_hw97 => k0_hw97.1
theorem k0_off301_inb : ∀ (v1444 : BitVec 32) (k0_hw97 : k0_chk97 v1444), ∀ a, (k0_off301 v1444) a + S8x128.size a ≤ S32000x128.size a := fun v1444 k0_hw97 => k0_hw97.2.1
theorem k0_off302_inb : ∀ (v1444 : BitVec 32) (k0_hw97 : k0_chk97 v1444), ∀ a, (k0_off302 v1444) a + S1x128.size a ≤ S4000x128.size a := fun v1444 k0_hw97 => k0_hw97.2.2

def k0_off303 (i : grid0.Coords) : Fin 2 → Nat :=
  let arg0 : BitVec 32 := BitVec.ofNat 32 (i 0).val
  let v1458 : Index := Scalar.indexCast arg0
  let c97 : Index := 97#32
  ![v1458.toNat, 97]
def k0_mult107 (v1459 : BitVec 32) : BitVec 32 :=
  v1459

def k0_off304 (v1459 : BitVec 32) : Fin 2 → Nat :=
  let v1460 : BitVec 32 := v1459
  let v1461 : Index := Scalar.indexCast v1460
  let c0_679 : Index := 0#32
  ![v1461.toNat, 0]
def k0_off305 (v1459 : BitVec 32) : Fin 2 → Nat :=
  let v1460 : BitVec 32 := v1459
  let c3_i32_682 : BitVec 32 := 3#32
  let v1467 : BitVec 32 := Scalar.shrui v1460 c3_i32_682
  let v1468 : Index := Scalar.indexCast v1467
  let c0_683 : Index := 0#32
  ![v1468.toNat, 0]

def k0_chk98 (v1459 : BitVec 32) : Prop :=
  (8 ∣ (k0_mult107 v1459).toNat) ∧
  (∀ a, (k0_off304 v1459) a + S8x128.size a ≤ S32000x128.size a) ∧
  (∀ a, (k0_off305 v1459) a + S1x128.size a ≤ S4000x128.size a)
theorem k0_mult107_dvd : ∀ (v1459 : BitVec 32) (k0_hw98 : k0_chk98 v1459), 8 ∣ (k0_mult107 v1459).toNat := fun v1459 k0_hw98 => k0_hw98.1
theorem k0_off304_inb : ∀ (v1459 : BitVec 32) (k0_hw98 : k0_chk98 v1459), ∀ a, (k0_off304 v1459) a + S8x128.size a ≤ S32000x128.size a := fun v1459 k0_hw98 => k0_hw98.2.1
theorem k0_off305_inb : ∀ (v1459 : BitVec 32) (k0_hw98 : k0_chk98 v1459), ∀ a, (k0_off305 v1459) a + S1x128.size a ≤ S4000x128.size a := fun v1459 k0_hw98 => k0_hw98.2.2

def k0_off306 (i : grid0.Coords) : Fin 2 → Nat :=
  let arg0 : BitVec 32 := BitVec.ofNat 32 (i 0).val
  let v1473 : Index := Scalar.indexCast arg0
  let c98 : Index := 98#32
  ![v1473.toNat, 98]
def k0_mult108 (v1474 : BitVec 32) : BitVec 32 :=
  v1474

def k0_off307 (v1474 : BitVec 32) : Fin 2 → Nat :=
  let v1475 : BitVec 32 := v1474
  let v1476 : Index := Scalar.indexCast v1475
  let c0_686 : Index := 0#32
  ![v1476.toNat, 0]
def k0_off308 (v1474 : BitVec 32) : Fin 2 → Nat :=
  let v1475 : BitVec 32 := v1474
  let c3_i32_689 : BitVec 32 := 3#32
  let v1482 : BitVec 32 := Scalar.shrui v1475 c3_i32_689
  let v1483 : Index := Scalar.indexCast v1482
  let c0_690 : Index := 0#32
  ![v1483.toNat, 0]

def k0_chk99 (v1474 : BitVec 32) : Prop :=
  (8 ∣ (k0_mult108 v1474).toNat) ∧
  (∀ a, (k0_off307 v1474) a + S8x128.size a ≤ S32000x128.size a) ∧
  (∀ a, (k0_off308 v1474) a + S1x128.size a ≤ S4000x128.size a)
theorem k0_mult108_dvd : ∀ (v1474 : BitVec 32) (k0_hw99 : k0_chk99 v1474), 8 ∣ (k0_mult108 v1474).toNat := fun v1474 k0_hw99 => k0_hw99.1
theorem k0_off307_inb : ∀ (v1474 : BitVec 32) (k0_hw99 : k0_chk99 v1474), ∀ a, (k0_off307 v1474) a + S8x128.size a ≤ S32000x128.size a := fun v1474 k0_hw99 => k0_hw99.2.1
theorem k0_off308_inb : ∀ (v1474 : BitVec 32) (k0_hw99 : k0_chk99 v1474), ∀ a, (k0_off308 v1474) a + S1x128.size a ≤ S4000x128.size a := fun v1474 k0_hw99 => k0_hw99.2.2

def k0_off309 (i : grid0.Coords) : Fin 2 → Nat :=
  let arg0 : BitVec 32 := BitVec.ofNat 32 (i 0).val
  let v1488 : Index := Scalar.indexCast arg0
  let c99 : Index := 99#32
  ![v1488.toNat, 99]
def k0_mult109 (v1489 : BitVec 32) : BitVec 32 :=
  v1489

def k0_off310 (v1489 : BitVec 32) : Fin 2 → Nat :=
  let v1490 : BitVec 32 := v1489
  let v1491 : Index := Scalar.indexCast v1490
  let c0_693 : Index := 0#32
  ![v1491.toNat, 0]
def k0_off311 (v1489 : BitVec 32) : Fin 2 → Nat :=
  let v1490 : BitVec 32 := v1489
  let c3_i32_696 : BitVec 32 := 3#32
  let v1497 : BitVec 32 := Scalar.shrui v1490 c3_i32_696
  let v1498 : Index := Scalar.indexCast v1497
  let c0_697 : Index := 0#32
  ![v1498.toNat, 0]

def k0_chk100 (v1489 : BitVec 32) : Prop :=
  (8 ∣ (k0_mult109 v1489).toNat) ∧
  (∀ a, (k0_off310 v1489) a + S8x128.size a ≤ S32000x128.size a) ∧
  (∀ a, (k0_off311 v1489) a + S1x128.size a ≤ S4000x128.size a)
theorem k0_mult109_dvd : ∀ (v1489 : BitVec 32) (k0_hw100 : k0_chk100 v1489), 8 ∣ (k0_mult109 v1489).toNat := fun v1489 k0_hw100 => k0_hw100.1
theorem k0_off310_inb : ∀ (v1489 : BitVec 32) (k0_hw100 : k0_chk100 v1489), ∀ a, (k0_off310 v1489) a + S8x128.size a ≤ S32000x128.size a := fun v1489 k0_hw100 => k0_hw100.2.1
theorem k0_off311_inb : ∀ (v1489 : BitVec 32) (k0_hw100 : k0_chk100 v1489), ∀ a, (k0_off311 v1489) a + S1x128.size a ≤ S4000x128.size a := fun v1489 k0_hw100 => k0_hw100.2.2

def k0_off312 (i : grid0.Coords) : Fin 2 → Nat :=
  let arg0 : BitVec 32 := BitVec.ofNat 32 (i 0).val
  let v1503 : Index := Scalar.indexCast arg0
  let c100 : Index := 100#32
  ![v1503.toNat, 100]
def k0_mult110 (v1504 : BitVec 32) : BitVec 32 :=
  v1504

def k0_off313 (v1504 : BitVec 32) : Fin 2 → Nat :=
  let v1505 : BitVec 32 := v1504
  let v1506 : Index := Scalar.indexCast v1505
  let c0_700 : Index := 0#32
  ![v1506.toNat, 0]
def k0_off314 (v1504 : BitVec 32) : Fin 2 → Nat :=
  let v1505 : BitVec 32 := v1504
  let c3_i32_703 : BitVec 32 := 3#32
  let v1512 : BitVec 32 := Scalar.shrui v1505 c3_i32_703
  let v1513 : Index := Scalar.indexCast v1512
  let c0_704 : Index := 0#32
  ![v1513.toNat, 0]

def k0_chk101 (v1504 : BitVec 32) : Prop :=
  (8 ∣ (k0_mult110 v1504).toNat) ∧
  (∀ a, (k0_off313 v1504) a + S8x128.size a ≤ S32000x128.size a) ∧
  (∀ a, (k0_off314 v1504) a + S1x128.size a ≤ S4000x128.size a)
theorem k0_mult110_dvd : ∀ (v1504 : BitVec 32) (k0_hw101 : k0_chk101 v1504), 8 ∣ (k0_mult110 v1504).toNat := fun v1504 k0_hw101 => k0_hw101.1
theorem k0_off313_inb : ∀ (v1504 : BitVec 32) (k0_hw101 : k0_chk101 v1504), ∀ a, (k0_off313 v1504) a + S8x128.size a ≤ S32000x128.size a := fun v1504 k0_hw101 => k0_hw101.2.1
theorem k0_off314_inb : ∀ (v1504 : BitVec 32) (k0_hw101 : k0_chk101 v1504), ∀ a, (k0_off314 v1504) a + S1x128.size a ≤ S4000x128.size a := fun v1504 k0_hw101 => k0_hw101.2.2

def k0_off315 (i : grid0.Coords) : Fin 2 → Nat :=
  let arg0 : BitVec 32 := BitVec.ofNat 32 (i 0).val
  let v1518 : Index := Scalar.indexCast arg0
  let c101 : Index := 101#32
  ![v1518.toNat, 101]
def k0_mult111 (v1519 : BitVec 32) : BitVec 32 :=
  v1519

def k0_off316 (v1519 : BitVec 32) : Fin 2 → Nat :=
  let v1520 : BitVec 32 := v1519
  let v1521 : Index := Scalar.indexCast v1520
  let c0_707 : Index := 0#32
  ![v1521.toNat, 0]
def k0_off317 (v1519 : BitVec 32) : Fin 2 → Nat :=
  let v1520 : BitVec 32 := v1519
  let c3_i32_710 : BitVec 32 := 3#32
  let v1527 : BitVec 32 := Scalar.shrui v1520 c3_i32_710
  let v1528 : Index := Scalar.indexCast v1527
  let c0_711 : Index := 0#32
  ![v1528.toNat, 0]

def k0_chk102 (v1519 : BitVec 32) : Prop :=
  (8 ∣ (k0_mult111 v1519).toNat) ∧
  (∀ a, (k0_off316 v1519) a + S8x128.size a ≤ S32000x128.size a) ∧
  (∀ a, (k0_off317 v1519) a + S1x128.size a ≤ S4000x128.size a)
theorem k0_mult111_dvd : ∀ (v1519 : BitVec 32) (k0_hw102 : k0_chk102 v1519), 8 ∣ (k0_mult111 v1519).toNat := fun v1519 k0_hw102 => k0_hw102.1
theorem k0_off316_inb : ∀ (v1519 : BitVec 32) (k0_hw102 : k0_chk102 v1519), ∀ a, (k0_off316 v1519) a + S8x128.size a ≤ S32000x128.size a := fun v1519 k0_hw102 => k0_hw102.2.1
theorem k0_off317_inb : ∀ (v1519 : BitVec 32) (k0_hw102 : k0_chk102 v1519), ∀ a, (k0_off317 v1519) a + S1x128.size a ≤ S4000x128.size a := fun v1519 k0_hw102 => k0_hw102.2.2

def k0_off318 (i : grid0.Coords) : Fin 2 → Nat :=
  let arg0 : BitVec 32 := BitVec.ofNat 32 (i 0).val
  let v1533 : Index := Scalar.indexCast arg0
  let c102 : Index := 102#32
  ![v1533.toNat, 102]
def k0_mult112 (v1534 : BitVec 32) : BitVec 32 :=
  v1534

def k0_off319 (v1534 : BitVec 32) : Fin 2 → Nat :=
  let v1535 : BitVec 32 := v1534
  let v1536 : Index := Scalar.indexCast v1535
  let c0_714 : Index := 0#32
  ![v1536.toNat, 0]
def k0_off320 (v1534 : BitVec 32) : Fin 2 → Nat :=
  let v1535 : BitVec 32 := v1534
  let c3_i32_717 : BitVec 32 := 3#32
  let v1542 : BitVec 32 := Scalar.shrui v1535 c3_i32_717
  let v1543 : Index := Scalar.indexCast v1542
  let c0_718 : Index := 0#32
  ![v1543.toNat, 0]

def k0_chk103 (v1534 : BitVec 32) : Prop :=
  (8 ∣ (k0_mult112 v1534).toNat) ∧
  (∀ a, (k0_off319 v1534) a + S8x128.size a ≤ S32000x128.size a) ∧
  (∀ a, (k0_off320 v1534) a + S1x128.size a ≤ S4000x128.size a)
theorem k0_mult112_dvd : ∀ (v1534 : BitVec 32) (k0_hw103 : k0_chk103 v1534), 8 ∣ (k0_mult112 v1534).toNat := fun v1534 k0_hw103 => k0_hw103.1
theorem k0_off319_inb : ∀ (v1534 : BitVec 32) (k0_hw103 : k0_chk103 v1534), ∀ a, (k0_off319 v1534) a + S8x128.size a ≤ S32000x128.size a := fun v1534 k0_hw103 => k0_hw103.2.1
theorem k0_off320_inb : ∀ (v1534 : BitVec 32) (k0_hw103 : k0_chk103 v1534), ∀ a, (k0_off320 v1534) a + S1x128.size a ≤ S4000x128.size a := fun v1534 k0_hw103 => k0_hw103.2.2

def k0_off321 (i : grid0.Coords) : Fin 2 → Nat :=
  let arg0 : BitVec 32 := BitVec.ofNat 32 (i 0).val
  let v1548 : Index := Scalar.indexCast arg0
  let c103 : Index := 103#32
  ![v1548.toNat, 103]
def k0_mult113 (v1549 : BitVec 32) : BitVec 32 :=
  v1549

def k0_off322 (v1549 : BitVec 32) : Fin 2 → Nat :=
  let v1550 : BitVec 32 := v1549
  let v1551 : Index := Scalar.indexCast v1550
  let c0_721 : Index := 0#32
  ![v1551.toNat, 0]
def k0_off323 (v1549 : BitVec 32) : Fin 2 → Nat :=
  let v1550 : BitVec 32 := v1549
  let c3_i32_724 : BitVec 32 := 3#32
  let v1557 : BitVec 32 := Scalar.shrui v1550 c3_i32_724
  let v1558 : Index := Scalar.indexCast v1557
  let c0_725 : Index := 0#32
  ![v1558.toNat, 0]

def k0_chk104 (v1549 : BitVec 32) : Prop :=
  (8 ∣ (k0_mult113 v1549).toNat) ∧
  (∀ a, (k0_off322 v1549) a + S8x128.size a ≤ S32000x128.size a) ∧
  (∀ a, (k0_off323 v1549) a + S1x128.size a ≤ S4000x128.size a)
theorem k0_mult113_dvd : ∀ (v1549 : BitVec 32) (k0_hw104 : k0_chk104 v1549), 8 ∣ (k0_mult113 v1549).toNat := fun v1549 k0_hw104 => k0_hw104.1
theorem k0_off322_inb : ∀ (v1549 : BitVec 32) (k0_hw104 : k0_chk104 v1549), ∀ a, (k0_off322 v1549) a + S8x128.size a ≤ S32000x128.size a := fun v1549 k0_hw104 => k0_hw104.2.1
theorem k0_off323_inb : ∀ (v1549 : BitVec 32) (k0_hw104 : k0_chk104 v1549), ∀ a, (k0_off323 v1549) a + S1x128.size a ≤ S4000x128.size a := fun v1549 k0_hw104 => k0_hw104.2.2

def k0_off324 (i : grid0.Coords) : Fin 2 → Nat :=
  let arg0 : BitVec 32 := BitVec.ofNat 32 (i 0).val
  let v1563 : Index := Scalar.indexCast arg0
  let c104 : Index := 104#32
  ![v1563.toNat, 104]
def k0_mult114 (v1564 : BitVec 32) : BitVec 32 :=
  v1564

def k0_off325 (v1564 : BitVec 32) : Fin 2 → Nat :=
  let v1565 : BitVec 32 := v1564
  let v1566 : Index := Scalar.indexCast v1565
  let c0_728 : Index := 0#32
  ![v1566.toNat, 0]
def k0_off326 (v1564 : BitVec 32) : Fin 2 → Nat :=
  let v1565 : BitVec 32 := v1564
  let c3_i32_731 : BitVec 32 := 3#32
  let v1572 : BitVec 32 := Scalar.shrui v1565 c3_i32_731
  let v1573 : Index := Scalar.indexCast v1572
  let c0_732 : Index := 0#32
  ![v1573.toNat, 0]

def k0_chk105 (v1564 : BitVec 32) : Prop :=
  (8 ∣ (k0_mult114 v1564).toNat) ∧
  (∀ a, (k0_off325 v1564) a + S8x128.size a ≤ S32000x128.size a) ∧
  (∀ a, (k0_off326 v1564) a + S1x128.size a ≤ S4000x128.size a)
theorem k0_mult114_dvd : ∀ (v1564 : BitVec 32) (k0_hw105 : k0_chk105 v1564), 8 ∣ (k0_mult114 v1564).toNat := fun v1564 k0_hw105 => k0_hw105.1
theorem k0_off325_inb : ∀ (v1564 : BitVec 32) (k0_hw105 : k0_chk105 v1564), ∀ a, (k0_off325 v1564) a + S8x128.size a ≤ S32000x128.size a := fun v1564 k0_hw105 => k0_hw105.2.1
theorem k0_off326_inb : ∀ (v1564 : BitVec 32) (k0_hw105 : k0_chk105 v1564), ∀ a, (k0_off326 v1564) a + S1x128.size a ≤ S4000x128.size a := fun v1564 k0_hw105 => k0_hw105.2.2

def k0_off327 (i : grid0.Coords) : Fin 2 → Nat :=
  let arg0 : BitVec 32 := BitVec.ofNat 32 (i 0).val
  let v1578 : Index := Scalar.indexCast arg0
  let c105 : Index := 105#32
  ![v1578.toNat, 105]
def k0_mult115 (v1579 : BitVec 32) : BitVec 32 :=
  v1579

def k0_off328 (v1579 : BitVec 32) : Fin 2 → Nat :=
  let v1580 : BitVec 32 := v1579
  let v1581 : Index := Scalar.indexCast v1580
  let c0_735 : Index := 0#32
  ![v1581.toNat, 0]
def k0_off329 (v1579 : BitVec 32) : Fin 2 → Nat :=
  let v1580 : BitVec 32 := v1579
  let c3_i32_738 : BitVec 32 := 3#32
  let v1587 : BitVec 32 := Scalar.shrui v1580 c3_i32_738
  let v1588 : Index := Scalar.indexCast v1587
  let c0_739 : Index := 0#32
  ![v1588.toNat, 0]

def k0_chk106 (v1579 : BitVec 32) : Prop :=
  (8 ∣ (k0_mult115 v1579).toNat) ∧
  (∀ a, (k0_off328 v1579) a + S8x128.size a ≤ S32000x128.size a) ∧
  (∀ a, (k0_off329 v1579) a + S1x128.size a ≤ S4000x128.size a)
theorem k0_mult115_dvd : ∀ (v1579 : BitVec 32) (k0_hw106 : k0_chk106 v1579), 8 ∣ (k0_mult115 v1579).toNat := fun v1579 k0_hw106 => k0_hw106.1
theorem k0_off328_inb : ∀ (v1579 : BitVec 32) (k0_hw106 : k0_chk106 v1579), ∀ a, (k0_off328 v1579) a + S8x128.size a ≤ S32000x128.size a := fun v1579 k0_hw106 => k0_hw106.2.1
theorem k0_off329_inb : ∀ (v1579 : BitVec 32) (k0_hw106 : k0_chk106 v1579), ∀ a, (k0_off329 v1579) a + S1x128.size a ≤ S4000x128.size a := fun v1579 k0_hw106 => k0_hw106.2.2

def k0_off330 (i : grid0.Coords) : Fin 2 → Nat :=
  let arg0 : BitVec 32 := BitVec.ofNat 32 (i 0).val
  let v1593 : Index := Scalar.indexCast arg0
  let c106 : Index := 106#32
  ![v1593.toNat, 106]
def k0_mult116 (v1594 : BitVec 32) : BitVec 32 :=
  v1594

def k0_off331 (v1594 : BitVec 32) : Fin 2 → Nat :=
  let v1595 : BitVec 32 := v1594
  let v1596 : Index := Scalar.indexCast v1595
  let c0_742 : Index := 0#32
  ![v1596.toNat, 0]
def k0_off332 (v1594 : BitVec 32) : Fin 2 → Nat :=
  let v1595 : BitVec 32 := v1594
  let c3_i32_745 : BitVec 32 := 3#32
  let v1602 : BitVec 32 := Scalar.shrui v1595 c3_i32_745
  let v1603 : Index := Scalar.indexCast v1602
  let c0_746 : Index := 0#32
  ![v1603.toNat, 0]

def k0_chk107 (v1594 : BitVec 32) : Prop :=
  (8 ∣ (k0_mult116 v1594).toNat) ∧
  (∀ a, (k0_off331 v1594) a + S8x128.size a ≤ S32000x128.size a) ∧
  (∀ a, (k0_off332 v1594) a + S1x128.size a ≤ S4000x128.size a)
theorem k0_mult116_dvd : ∀ (v1594 : BitVec 32) (k0_hw107 : k0_chk107 v1594), 8 ∣ (k0_mult116 v1594).toNat := fun v1594 k0_hw107 => k0_hw107.1
theorem k0_off331_inb : ∀ (v1594 : BitVec 32) (k0_hw107 : k0_chk107 v1594), ∀ a, (k0_off331 v1594) a + S8x128.size a ≤ S32000x128.size a := fun v1594 k0_hw107 => k0_hw107.2.1
theorem k0_off332_inb : ∀ (v1594 : BitVec 32) (k0_hw107 : k0_chk107 v1594), ∀ a, (k0_off332 v1594) a + S1x128.size a ≤ S4000x128.size a := fun v1594 k0_hw107 => k0_hw107.2.2

def k0_off333 (i : grid0.Coords) : Fin 2 → Nat :=
  let arg0 : BitVec 32 := BitVec.ofNat 32 (i 0).val
  let v1608 : Index := Scalar.indexCast arg0
  let c107 : Index := 107#32
  ![v1608.toNat, 107]
def k0_mult117 (v1609 : BitVec 32) : BitVec 32 :=
  v1609

def k0_off334 (v1609 : BitVec 32) : Fin 2 → Nat :=
  let v1610 : BitVec 32 := v1609
  let v1611 : Index := Scalar.indexCast v1610
  let c0_749 : Index := 0#32
  ![v1611.toNat, 0]
def k0_off335 (v1609 : BitVec 32) : Fin 2 → Nat :=
  let v1610 : BitVec 32 := v1609
  let c3_i32_752 : BitVec 32 := 3#32
  let v1617 : BitVec 32 := Scalar.shrui v1610 c3_i32_752
  let v1618 : Index := Scalar.indexCast v1617
  let c0_753 : Index := 0#32
  ![v1618.toNat, 0]

def k0_chk108 (v1609 : BitVec 32) : Prop :=
  (8 ∣ (k0_mult117 v1609).toNat) ∧
  (∀ a, (k0_off334 v1609) a + S8x128.size a ≤ S32000x128.size a) ∧
  (∀ a, (k0_off335 v1609) a + S1x128.size a ≤ S4000x128.size a)
theorem k0_mult117_dvd : ∀ (v1609 : BitVec 32) (k0_hw108 : k0_chk108 v1609), 8 ∣ (k0_mult117 v1609).toNat := fun v1609 k0_hw108 => k0_hw108.1
theorem k0_off334_inb : ∀ (v1609 : BitVec 32) (k0_hw108 : k0_chk108 v1609), ∀ a, (k0_off334 v1609) a + S8x128.size a ≤ S32000x128.size a := fun v1609 k0_hw108 => k0_hw108.2.1
theorem k0_off335_inb : ∀ (v1609 : BitVec 32) (k0_hw108 : k0_chk108 v1609), ∀ a, (k0_off335 v1609) a + S1x128.size a ≤ S4000x128.size a := fun v1609 k0_hw108 => k0_hw108.2.2

def k0_off336 (i : grid0.Coords) : Fin 2 → Nat :=
  let arg0 : BitVec 32 := BitVec.ofNat 32 (i 0).val
  let v1623 : Index := Scalar.indexCast arg0
  let c108 : Index := 108#32
  ![v1623.toNat, 108]
def k0_mult118 (v1624 : BitVec 32) : BitVec 32 :=
  v1624

def k0_off337 (v1624 : BitVec 32) : Fin 2 → Nat :=
  let v1625 : BitVec 32 := v1624
  let v1626 : Index := Scalar.indexCast v1625
  let c0_756 : Index := 0#32
  ![v1626.toNat, 0]
def k0_off338 (v1624 : BitVec 32) : Fin 2 → Nat :=
  let v1625 : BitVec 32 := v1624
  let c3_i32_759 : BitVec 32 := 3#32
  let v1632 : BitVec 32 := Scalar.shrui v1625 c3_i32_759
  let v1633 : Index := Scalar.indexCast v1632
  let c0_760 : Index := 0#32
  ![v1633.toNat, 0]

def k0_chk109 (v1624 : BitVec 32) : Prop :=
  (8 ∣ (k0_mult118 v1624).toNat) ∧
  (∀ a, (k0_off337 v1624) a + S8x128.size a ≤ S32000x128.size a) ∧
  (∀ a, (k0_off338 v1624) a + S1x128.size a ≤ S4000x128.size a)
theorem k0_mult118_dvd : ∀ (v1624 : BitVec 32) (k0_hw109 : k0_chk109 v1624), 8 ∣ (k0_mult118 v1624).toNat := fun v1624 k0_hw109 => k0_hw109.1
theorem k0_off337_inb : ∀ (v1624 : BitVec 32) (k0_hw109 : k0_chk109 v1624), ∀ a, (k0_off337 v1624) a + S8x128.size a ≤ S32000x128.size a := fun v1624 k0_hw109 => k0_hw109.2.1
theorem k0_off338_inb : ∀ (v1624 : BitVec 32) (k0_hw109 : k0_chk109 v1624), ∀ a, (k0_off338 v1624) a + S1x128.size a ≤ S4000x128.size a := fun v1624 k0_hw109 => k0_hw109.2.2

def k0_off339 (i : grid0.Coords) : Fin 2 → Nat :=
  let arg0 : BitVec 32 := BitVec.ofNat 32 (i 0).val
  let v1638 : Index := Scalar.indexCast arg0
  let c109 : Index := 109#32
  ![v1638.toNat, 109]
def k0_mult119 (v1639 : BitVec 32) : BitVec 32 :=
  v1639

def k0_off340 (v1639 : BitVec 32) : Fin 2 → Nat :=
  let v1640 : BitVec 32 := v1639
  let v1641 : Index := Scalar.indexCast v1640
  let c0_763 : Index := 0#32
  ![v1641.toNat, 0]
def k0_off341 (v1639 : BitVec 32) : Fin 2 → Nat :=
  let v1640 : BitVec 32 := v1639
  let c3_i32_766 : BitVec 32 := 3#32
  let v1647 : BitVec 32 := Scalar.shrui v1640 c3_i32_766
  let v1648 : Index := Scalar.indexCast v1647
  let c0_767 : Index := 0#32
  ![v1648.toNat, 0]

def k0_chk110 (v1639 : BitVec 32) : Prop :=
  (8 ∣ (k0_mult119 v1639).toNat) ∧
  (∀ a, (k0_off340 v1639) a + S8x128.size a ≤ S32000x128.size a) ∧
  (∀ a, (k0_off341 v1639) a + S1x128.size a ≤ S4000x128.size a)
theorem k0_mult119_dvd : ∀ (v1639 : BitVec 32) (k0_hw110 : k0_chk110 v1639), 8 ∣ (k0_mult119 v1639).toNat := fun v1639 k0_hw110 => k0_hw110.1
theorem k0_off340_inb : ∀ (v1639 : BitVec 32) (k0_hw110 : k0_chk110 v1639), ∀ a, (k0_off340 v1639) a + S8x128.size a ≤ S32000x128.size a := fun v1639 k0_hw110 => k0_hw110.2.1
theorem k0_off341_inb : ∀ (v1639 : BitVec 32) (k0_hw110 : k0_chk110 v1639), ∀ a, (k0_off341 v1639) a + S1x128.size a ≤ S4000x128.size a := fun v1639 k0_hw110 => k0_hw110.2.2

def k0_off342 (i : grid0.Coords) : Fin 2 → Nat :=
  let arg0 : BitVec 32 := BitVec.ofNat 32 (i 0).val
  let v1653 : Index := Scalar.indexCast arg0
  let c110 : Index := 110#32
  ![v1653.toNat, 110]
def k0_mult120 (v1654 : BitVec 32) : BitVec 32 :=
  v1654

def k0_off343 (v1654 : BitVec 32) : Fin 2 → Nat :=
  let v1655 : BitVec 32 := v1654
  let v1656 : Index := Scalar.indexCast v1655
  let c0_770 : Index := 0#32
  ![v1656.toNat, 0]
def k0_off344 (v1654 : BitVec 32) : Fin 2 → Nat :=
  let v1655 : BitVec 32 := v1654
  let c3_i32_773 : BitVec 32 := 3#32
  let v1662 : BitVec 32 := Scalar.shrui v1655 c3_i32_773
  let v1663 : Index := Scalar.indexCast v1662
  let c0_774 : Index := 0#32
  ![v1663.toNat, 0]

def k0_chk111 (v1654 : BitVec 32) : Prop :=
  (8 ∣ (k0_mult120 v1654).toNat) ∧
  (∀ a, (k0_off343 v1654) a + S8x128.size a ≤ S32000x128.size a) ∧
  (∀ a, (k0_off344 v1654) a + S1x128.size a ≤ S4000x128.size a)
theorem k0_mult120_dvd : ∀ (v1654 : BitVec 32) (k0_hw111 : k0_chk111 v1654), 8 ∣ (k0_mult120 v1654).toNat := fun v1654 k0_hw111 => k0_hw111.1
theorem k0_off343_inb : ∀ (v1654 : BitVec 32) (k0_hw111 : k0_chk111 v1654), ∀ a, (k0_off343 v1654) a + S8x128.size a ≤ S32000x128.size a := fun v1654 k0_hw111 => k0_hw111.2.1
theorem k0_off344_inb : ∀ (v1654 : BitVec 32) (k0_hw111 : k0_chk111 v1654), ∀ a, (k0_off344 v1654) a + S1x128.size a ≤ S4000x128.size a := fun v1654 k0_hw111 => k0_hw111.2.2

def k0_off345 (i : grid0.Coords) : Fin 2 → Nat :=
  let arg0 : BitVec 32 := BitVec.ofNat 32 (i 0).val
  let v1668 : Index := Scalar.indexCast arg0
  let c111 : Index := 111#32
  ![v1668.toNat, 111]
def k0_mult121 (v1669 : BitVec 32) : BitVec 32 :=
  v1669

def k0_off346 (v1669 : BitVec 32) : Fin 2 → Nat :=
  let v1670 : BitVec 32 := v1669
  let v1671 : Index := Scalar.indexCast v1670
  let c0_777 : Index := 0#32
  ![v1671.toNat, 0]
def k0_off347 (v1669 : BitVec 32) : Fin 2 → Nat :=
  let v1670 : BitVec 32 := v1669
  let c3_i32_780 : BitVec 32 := 3#32
  let v1677 : BitVec 32 := Scalar.shrui v1670 c3_i32_780
  let v1678 : Index := Scalar.indexCast v1677
  let c0_781 : Index := 0#32
  ![v1678.toNat, 0]

def k0_chk112 (v1669 : BitVec 32) : Prop :=
  (8 ∣ (k0_mult121 v1669).toNat) ∧
  (∀ a, (k0_off346 v1669) a + S8x128.size a ≤ S32000x128.size a) ∧
  (∀ a, (k0_off347 v1669) a + S1x128.size a ≤ S4000x128.size a)
theorem k0_mult121_dvd : ∀ (v1669 : BitVec 32) (k0_hw112 : k0_chk112 v1669), 8 ∣ (k0_mult121 v1669).toNat := fun v1669 k0_hw112 => k0_hw112.1
theorem k0_off346_inb : ∀ (v1669 : BitVec 32) (k0_hw112 : k0_chk112 v1669), ∀ a, (k0_off346 v1669) a + S8x128.size a ≤ S32000x128.size a := fun v1669 k0_hw112 => k0_hw112.2.1
theorem k0_off347_inb : ∀ (v1669 : BitVec 32) (k0_hw112 : k0_chk112 v1669), ∀ a, (k0_off347 v1669) a + S1x128.size a ≤ S4000x128.size a := fun v1669 k0_hw112 => k0_hw112.2.2

def k0_off348 (i : grid0.Coords) : Fin 2 → Nat :=
  let arg0 : BitVec 32 := BitVec.ofNat 32 (i 0).val
  let v1683 : Index := Scalar.indexCast arg0
  let c112 : Index := 112#32
  ![v1683.toNat, 112]
def k0_mult122 (v1684 : BitVec 32) : BitVec 32 :=
  v1684

def k0_off349 (v1684 : BitVec 32) : Fin 2 → Nat :=
  let v1685 : BitVec 32 := v1684
  let v1686 : Index := Scalar.indexCast v1685
  let c0_784 : Index := 0#32
  ![v1686.toNat, 0]
def k0_off350 (v1684 : BitVec 32) : Fin 2 → Nat :=
  let v1685 : BitVec 32 := v1684
  let c3_i32_787 : BitVec 32 := 3#32
  let v1692 : BitVec 32 := Scalar.shrui v1685 c3_i32_787
  let v1693 : Index := Scalar.indexCast v1692
  let c0_788 : Index := 0#32
  ![v1693.toNat, 0]

def k0_chk113 (v1684 : BitVec 32) : Prop :=
  (8 ∣ (k0_mult122 v1684).toNat) ∧
  (∀ a, (k0_off349 v1684) a + S8x128.size a ≤ S32000x128.size a) ∧
  (∀ a, (k0_off350 v1684) a + S1x128.size a ≤ S4000x128.size a)
theorem k0_mult122_dvd : ∀ (v1684 : BitVec 32) (k0_hw113 : k0_chk113 v1684), 8 ∣ (k0_mult122 v1684).toNat := fun v1684 k0_hw113 => k0_hw113.1
theorem k0_off349_inb : ∀ (v1684 : BitVec 32) (k0_hw113 : k0_chk113 v1684), ∀ a, (k0_off349 v1684) a + S8x128.size a ≤ S32000x128.size a := fun v1684 k0_hw113 => k0_hw113.2.1
theorem k0_off350_inb : ∀ (v1684 : BitVec 32) (k0_hw113 : k0_chk113 v1684), ∀ a, (k0_off350 v1684) a + S1x128.size a ≤ S4000x128.size a := fun v1684 k0_hw113 => k0_hw113.2.2

def k0_off351 (i : grid0.Coords) : Fin 2 → Nat :=
  let arg0 : BitVec 32 := BitVec.ofNat 32 (i 0).val
  let v1698 : Index := Scalar.indexCast arg0
  let c113 : Index := 113#32
  ![v1698.toNat, 113]
def k0_mult123 (v1699 : BitVec 32) : BitVec 32 :=
  v1699

def k0_off352 (v1699 : BitVec 32) : Fin 2 → Nat :=
  let v1700 : BitVec 32 := v1699
  let v1701 : Index := Scalar.indexCast v1700
  let c0_791 : Index := 0#32
  ![v1701.toNat, 0]
def k0_off353 (v1699 : BitVec 32) : Fin 2 → Nat :=
  let v1700 : BitVec 32 := v1699
  let c3_i32_794 : BitVec 32 := 3#32
  let v1707 : BitVec 32 := Scalar.shrui v1700 c3_i32_794
  let v1708 : Index := Scalar.indexCast v1707
  let c0_795 : Index := 0#32
  ![v1708.toNat, 0]

def k0_chk114 (v1699 : BitVec 32) : Prop :=
  (8 ∣ (k0_mult123 v1699).toNat) ∧
  (∀ a, (k0_off352 v1699) a + S8x128.size a ≤ S32000x128.size a) ∧
  (∀ a, (k0_off353 v1699) a + S1x128.size a ≤ S4000x128.size a)
theorem k0_mult123_dvd : ∀ (v1699 : BitVec 32) (k0_hw114 : k0_chk114 v1699), 8 ∣ (k0_mult123 v1699).toNat := fun v1699 k0_hw114 => k0_hw114.1
theorem k0_off352_inb : ∀ (v1699 : BitVec 32) (k0_hw114 : k0_chk114 v1699), ∀ a, (k0_off352 v1699) a + S8x128.size a ≤ S32000x128.size a := fun v1699 k0_hw114 => k0_hw114.2.1
theorem k0_off353_inb : ∀ (v1699 : BitVec 32) (k0_hw114 : k0_chk114 v1699), ∀ a, (k0_off353 v1699) a + S1x128.size a ≤ S4000x128.size a := fun v1699 k0_hw114 => k0_hw114.2.2

def k0_off354 (i : grid0.Coords) : Fin 2 → Nat :=
  let arg0 : BitVec 32 := BitVec.ofNat 32 (i 0).val
  let v1713 : Index := Scalar.indexCast arg0
  let c114 : Index := 114#32
  ![v1713.toNat, 114]
def k0_mult124 (v1714 : BitVec 32) : BitVec 32 :=
  v1714

def k0_off355 (v1714 : BitVec 32) : Fin 2 → Nat :=
  let v1715 : BitVec 32 := v1714
  let v1716 : Index := Scalar.indexCast v1715
  let c0_798 : Index := 0#32
  ![v1716.toNat, 0]
def k0_off356 (v1714 : BitVec 32) : Fin 2 → Nat :=
  let v1715 : BitVec 32 := v1714
  let c3_i32_801 : BitVec 32 := 3#32
  let v1722 : BitVec 32 := Scalar.shrui v1715 c3_i32_801
  let v1723 : Index := Scalar.indexCast v1722
  let c0_802 : Index := 0#32
  ![v1723.toNat, 0]

def k0_chk115 (v1714 : BitVec 32) : Prop :=
  (8 ∣ (k0_mult124 v1714).toNat) ∧
  (∀ a, (k0_off355 v1714) a + S8x128.size a ≤ S32000x128.size a) ∧
  (∀ a, (k0_off356 v1714) a + S1x128.size a ≤ S4000x128.size a)
theorem k0_mult124_dvd : ∀ (v1714 : BitVec 32) (k0_hw115 : k0_chk115 v1714), 8 ∣ (k0_mult124 v1714).toNat := fun v1714 k0_hw115 => k0_hw115.1
theorem k0_off355_inb : ∀ (v1714 : BitVec 32) (k0_hw115 : k0_chk115 v1714), ∀ a, (k0_off355 v1714) a + S8x128.size a ≤ S32000x128.size a := fun v1714 k0_hw115 => k0_hw115.2.1
theorem k0_off356_inb : ∀ (v1714 : BitVec 32) (k0_hw115 : k0_chk115 v1714), ∀ a, (k0_off356 v1714) a + S1x128.size a ≤ S4000x128.size a := fun v1714 k0_hw115 => k0_hw115.2.2

def k0_off357 (i : grid0.Coords) : Fin 2 → Nat :=
  let arg0 : BitVec 32 := BitVec.ofNat 32 (i 0).val
  let v1728 : Index := Scalar.indexCast arg0
  let c115 : Index := 115#32
  ![v1728.toNat, 115]
def k0_mult125 (v1729 : BitVec 32) : BitVec 32 :=
  v1729

def k0_off358 (v1729 : BitVec 32) : Fin 2 → Nat :=
  let v1730 : BitVec 32 := v1729
  let v1731 : Index := Scalar.indexCast v1730
  let c0_805 : Index := 0#32
  ![v1731.toNat, 0]
def k0_off359 (v1729 : BitVec 32) : Fin 2 → Nat :=
  let v1730 : BitVec 32 := v1729
  let c3_i32_808 : BitVec 32 := 3#32
  let v1737 : BitVec 32 := Scalar.shrui v1730 c3_i32_808
  let v1738 : Index := Scalar.indexCast v1737
  let c0_809 : Index := 0#32
  ![v1738.toNat, 0]

def k0_chk116 (v1729 : BitVec 32) : Prop :=
  (8 ∣ (k0_mult125 v1729).toNat) ∧
  (∀ a, (k0_off358 v1729) a + S8x128.size a ≤ S32000x128.size a) ∧
  (∀ a, (k0_off359 v1729) a + S1x128.size a ≤ S4000x128.size a)
theorem k0_mult125_dvd : ∀ (v1729 : BitVec 32) (k0_hw116 : k0_chk116 v1729), 8 ∣ (k0_mult125 v1729).toNat := fun v1729 k0_hw116 => k0_hw116.1
theorem k0_off358_inb : ∀ (v1729 : BitVec 32) (k0_hw116 : k0_chk116 v1729), ∀ a, (k0_off358 v1729) a + S8x128.size a ≤ S32000x128.size a := fun v1729 k0_hw116 => k0_hw116.2.1
theorem k0_off359_inb : ∀ (v1729 : BitVec 32) (k0_hw116 : k0_chk116 v1729), ∀ a, (k0_off359 v1729) a + S1x128.size a ≤ S4000x128.size a := fun v1729 k0_hw116 => k0_hw116.2.2

def k0_off360 (i : grid0.Coords) : Fin 2 → Nat :=
  let arg0 : BitVec 32 := BitVec.ofNat 32 (i 0).val
  let v1743 : Index := Scalar.indexCast arg0
  let c116 : Index := 116#32
  ![v1743.toNat, 116]
def k0_mult126 (v1744 : BitVec 32) : BitVec 32 :=
  v1744

def k0_off361 (v1744 : BitVec 32) : Fin 2 → Nat :=
  let v1745 : BitVec 32 := v1744
  let v1746 : Index := Scalar.indexCast v1745
  let c0_812 : Index := 0#32
  ![v1746.toNat, 0]
def k0_off362 (v1744 : BitVec 32) : Fin 2 → Nat :=
  let v1745 : BitVec 32 := v1744
  let c3_i32_815 : BitVec 32 := 3#32
  let v1752 : BitVec 32 := Scalar.shrui v1745 c3_i32_815
  let v1753 : Index := Scalar.indexCast v1752
  let c0_816 : Index := 0#32
  ![v1753.toNat, 0]

def k0_chk117 (v1744 : BitVec 32) : Prop :=
  (8 ∣ (k0_mult126 v1744).toNat) ∧
  (∀ a, (k0_off361 v1744) a + S8x128.size a ≤ S32000x128.size a) ∧
  (∀ a, (k0_off362 v1744) a + S1x128.size a ≤ S4000x128.size a)
theorem k0_mult126_dvd : ∀ (v1744 : BitVec 32) (k0_hw117 : k0_chk117 v1744), 8 ∣ (k0_mult126 v1744).toNat := fun v1744 k0_hw117 => k0_hw117.1
theorem k0_off361_inb : ∀ (v1744 : BitVec 32) (k0_hw117 : k0_chk117 v1744), ∀ a, (k0_off361 v1744) a + S8x128.size a ≤ S32000x128.size a := fun v1744 k0_hw117 => k0_hw117.2.1
theorem k0_off362_inb : ∀ (v1744 : BitVec 32) (k0_hw117 : k0_chk117 v1744), ∀ a, (k0_off362 v1744) a + S1x128.size a ≤ S4000x128.size a := fun v1744 k0_hw117 => k0_hw117.2.2

def k0_off363 (i : grid0.Coords) : Fin 2 → Nat :=
  let arg0 : BitVec 32 := BitVec.ofNat 32 (i 0).val
  let v1758 : Index := Scalar.indexCast arg0
  let c117 : Index := 117#32
  ![v1758.toNat, 117]
def k0_mult127 (v1759 : BitVec 32) : BitVec 32 :=
  v1759

def k0_off364 (v1759 : BitVec 32) : Fin 2 → Nat :=
  let v1760 : BitVec 32 := v1759
  let v1761 : Index := Scalar.indexCast v1760
  let c0_819 : Index := 0#32
  ![v1761.toNat, 0]
def k0_off365 (v1759 : BitVec 32) : Fin 2 → Nat :=
  let v1760 : BitVec 32 := v1759
  let c3_i32_822 : BitVec 32 := 3#32
  let v1767 : BitVec 32 := Scalar.shrui v1760 c3_i32_822
  let v1768 : Index := Scalar.indexCast v1767
  let c0_823 : Index := 0#32
  ![v1768.toNat, 0]

def k0_chk118 (v1759 : BitVec 32) : Prop :=
  (8 ∣ (k0_mult127 v1759).toNat) ∧
  (∀ a, (k0_off364 v1759) a + S8x128.size a ≤ S32000x128.size a) ∧
  (∀ a, (k0_off365 v1759) a + S1x128.size a ≤ S4000x128.size a)
theorem k0_mult127_dvd : ∀ (v1759 : BitVec 32) (k0_hw118 : k0_chk118 v1759), 8 ∣ (k0_mult127 v1759).toNat := fun v1759 k0_hw118 => k0_hw118.1
theorem k0_off364_inb : ∀ (v1759 : BitVec 32) (k0_hw118 : k0_chk118 v1759), ∀ a, (k0_off364 v1759) a + S8x128.size a ≤ S32000x128.size a := fun v1759 k0_hw118 => k0_hw118.2.1
theorem k0_off365_inb : ∀ (v1759 : BitVec 32) (k0_hw118 : k0_chk118 v1759), ∀ a, (k0_off365 v1759) a + S1x128.size a ≤ S4000x128.size a := fun v1759 k0_hw118 => k0_hw118.2.2

def k0_off366 (i : grid0.Coords) : Fin 2 → Nat :=
  let arg0 : BitVec 32 := BitVec.ofNat 32 (i 0).val
  let v1773 : Index := Scalar.indexCast arg0
  let c118 : Index := 118#32
  ![v1773.toNat, 118]
def k0_mult128 (v1774 : BitVec 32) : BitVec 32 :=
  v1774

def k0_off367 (v1774 : BitVec 32) : Fin 2 → Nat :=
  let v1775 : BitVec 32 := v1774
  let v1776 : Index := Scalar.indexCast v1775
  let c0_826 : Index := 0#32
  ![v1776.toNat, 0]
def k0_off368 (v1774 : BitVec 32) : Fin 2 → Nat :=
  let v1775 : BitVec 32 := v1774
  let c3_i32_829 : BitVec 32 := 3#32
  let v1782 : BitVec 32 := Scalar.shrui v1775 c3_i32_829
  let v1783 : Index := Scalar.indexCast v1782
  let c0_830 : Index := 0#32
  ![v1783.toNat, 0]

def k0_chk119 (v1774 : BitVec 32) : Prop :=
  (8 ∣ (k0_mult128 v1774).toNat) ∧
  (∀ a, (k0_off367 v1774) a + S8x128.size a ≤ S32000x128.size a) ∧
  (∀ a, (k0_off368 v1774) a + S1x128.size a ≤ S4000x128.size a)
theorem k0_mult128_dvd : ∀ (v1774 : BitVec 32) (k0_hw119 : k0_chk119 v1774), 8 ∣ (k0_mult128 v1774).toNat := fun v1774 k0_hw119 => k0_hw119.1
theorem k0_off367_inb : ∀ (v1774 : BitVec 32) (k0_hw119 : k0_chk119 v1774), ∀ a, (k0_off367 v1774) a + S8x128.size a ≤ S32000x128.size a := fun v1774 k0_hw119 => k0_hw119.2.1
theorem k0_off368_inb : ∀ (v1774 : BitVec 32) (k0_hw119 : k0_chk119 v1774), ∀ a, (k0_off368 v1774) a + S1x128.size a ≤ S4000x128.size a := fun v1774 k0_hw119 => k0_hw119.2.2

def k0_off369 (i : grid0.Coords) : Fin 2 → Nat :=
  let arg0 : BitVec 32 := BitVec.ofNat 32 (i 0).val
  let v1788 : Index := Scalar.indexCast arg0
  let c119 : Index := 119#32
  ![v1788.toNat, 119]
def k0_mult129 (v1789 : BitVec 32) : BitVec 32 :=
  v1789

def k0_off370 (v1789 : BitVec 32) : Fin 2 → Nat :=
  let v1790 : BitVec 32 := v1789
  let v1791 : Index := Scalar.indexCast v1790
  let c0_833 : Index := 0#32
  ![v1791.toNat, 0]
def k0_off371 (v1789 : BitVec 32) : Fin 2 → Nat :=
  let v1790 : BitVec 32 := v1789
  let c3_i32_836 : BitVec 32 := 3#32
  let v1797 : BitVec 32 := Scalar.shrui v1790 c3_i32_836
  let v1798 : Index := Scalar.indexCast v1797
  let c0_837 : Index := 0#32
  ![v1798.toNat, 0]

def k0_chk120 (v1789 : BitVec 32) : Prop :=
  (8 ∣ (k0_mult129 v1789).toNat) ∧
  (∀ a, (k0_off370 v1789) a + S8x128.size a ≤ S32000x128.size a) ∧
  (∀ a, (k0_off371 v1789) a + S1x128.size a ≤ S4000x128.size a)
theorem k0_mult129_dvd : ∀ (v1789 : BitVec 32) (k0_hw120 : k0_chk120 v1789), 8 ∣ (k0_mult129 v1789).toNat := fun v1789 k0_hw120 => k0_hw120.1
theorem k0_off370_inb : ∀ (v1789 : BitVec 32) (k0_hw120 : k0_chk120 v1789), ∀ a, (k0_off370 v1789) a + S8x128.size a ≤ S32000x128.size a := fun v1789 k0_hw120 => k0_hw120.2.1
theorem k0_off371_inb : ∀ (v1789 : BitVec 32) (k0_hw120 : k0_chk120 v1789), ∀ a, (k0_off371 v1789) a + S1x128.size a ≤ S4000x128.size a := fun v1789 k0_hw120 => k0_hw120.2.2

def k0_off372 (i : grid0.Coords) : Fin 2 → Nat :=
  let arg0 : BitVec 32 := BitVec.ofNat 32 (i 0).val
  let v1803 : Index := Scalar.indexCast arg0
  let c120 : Index := 120#32
  ![v1803.toNat, 120]
def k0_mult130 (v1804 : BitVec 32) : BitVec 32 :=
  v1804

def k0_off373 (v1804 : BitVec 32) : Fin 2 → Nat :=
  let v1805 : BitVec 32 := v1804
  let v1806 : Index := Scalar.indexCast v1805
  let c0_840 : Index := 0#32
  ![v1806.toNat, 0]
def k0_off374 (v1804 : BitVec 32) : Fin 2 → Nat :=
  let v1805 : BitVec 32 := v1804
  let c3_i32_843 : BitVec 32 := 3#32
  let v1812 : BitVec 32 := Scalar.shrui v1805 c3_i32_843
  let v1813 : Index := Scalar.indexCast v1812
  let c0_844 : Index := 0#32
  ![v1813.toNat, 0]

def k0_chk121 (v1804 : BitVec 32) : Prop :=
  (8 ∣ (k0_mult130 v1804).toNat) ∧
  (∀ a, (k0_off373 v1804) a + S8x128.size a ≤ S32000x128.size a) ∧
  (∀ a, (k0_off374 v1804) a + S1x128.size a ≤ S4000x128.size a)
theorem k0_mult130_dvd : ∀ (v1804 : BitVec 32) (k0_hw121 : k0_chk121 v1804), 8 ∣ (k0_mult130 v1804).toNat := fun v1804 k0_hw121 => k0_hw121.1
theorem k0_off373_inb : ∀ (v1804 : BitVec 32) (k0_hw121 : k0_chk121 v1804), ∀ a, (k0_off373 v1804) a + S8x128.size a ≤ S32000x128.size a := fun v1804 k0_hw121 => k0_hw121.2.1
theorem k0_off374_inb : ∀ (v1804 : BitVec 32) (k0_hw121 : k0_chk121 v1804), ∀ a, (k0_off374 v1804) a + S1x128.size a ≤ S4000x128.size a := fun v1804 k0_hw121 => k0_hw121.2.2

def k0_off375 (i : grid0.Coords) : Fin 2 → Nat :=
  let arg0 : BitVec 32 := BitVec.ofNat 32 (i 0).val
  let v1818 : Index := Scalar.indexCast arg0
  let c121 : Index := 121#32
  ![v1818.toNat, 121]
def k0_mult131 (v1819 : BitVec 32) : BitVec 32 :=
  v1819

def k0_off376 (v1819 : BitVec 32) : Fin 2 → Nat :=
  let v1820 : BitVec 32 := v1819
  let v1821 : Index := Scalar.indexCast v1820
  let c0_847 : Index := 0#32
  ![v1821.toNat, 0]
def k0_off377 (v1819 : BitVec 32) : Fin 2 → Nat :=
  let v1820 : BitVec 32 := v1819
  let c3_i32_850 : BitVec 32 := 3#32
  let v1827 : BitVec 32 := Scalar.shrui v1820 c3_i32_850
  let v1828 : Index := Scalar.indexCast v1827
  let c0_851 : Index := 0#32
  ![v1828.toNat, 0]

def k0_chk122 (v1819 : BitVec 32) : Prop :=
  (8 ∣ (k0_mult131 v1819).toNat) ∧
  (∀ a, (k0_off376 v1819) a + S8x128.size a ≤ S32000x128.size a) ∧
  (∀ a, (k0_off377 v1819) a + S1x128.size a ≤ S4000x128.size a)
theorem k0_mult131_dvd : ∀ (v1819 : BitVec 32) (k0_hw122 : k0_chk122 v1819), 8 ∣ (k0_mult131 v1819).toNat := fun v1819 k0_hw122 => k0_hw122.1
theorem k0_off376_inb : ∀ (v1819 : BitVec 32) (k0_hw122 : k0_chk122 v1819), ∀ a, (k0_off376 v1819) a + S8x128.size a ≤ S32000x128.size a := fun v1819 k0_hw122 => k0_hw122.2.1
theorem k0_off377_inb : ∀ (v1819 : BitVec 32) (k0_hw122 : k0_chk122 v1819), ∀ a, (k0_off377 v1819) a + S1x128.size a ≤ S4000x128.size a := fun v1819 k0_hw122 => k0_hw122.2.2

def k0_off378 (i : grid0.Coords) : Fin 2 → Nat :=
  let arg0 : BitVec 32 := BitVec.ofNat 32 (i 0).val
  let v1833 : Index := Scalar.indexCast arg0
  let c122 : Index := 122#32
  ![v1833.toNat, 122]
def k0_mult132 (v1834 : BitVec 32) : BitVec 32 :=
  v1834

def k0_off379 (v1834 : BitVec 32) : Fin 2 → Nat :=
  let v1835 : BitVec 32 := v1834
  let v1836 : Index := Scalar.indexCast v1835
  let c0_854 : Index := 0#32
  ![v1836.toNat, 0]
def k0_off380 (v1834 : BitVec 32) : Fin 2 → Nat :=
  let v1835 : BitVec 32 := v1834
  let c3_i32_857 : BitVec 32 := 3#32
  let v1842 : BitVec 32 := Scalar.shrui v1835 c3_i32_857
  let v1843 : Index := Scalar.indexCast v1842
  let c0_858 : Index := 0#32
  ![v1843.toNat, 0]

def k0_chk123 (v1834 : BitVec 32) : Prop :=
  (8 ∣ (k0_mult132 v1834).toNat) ∧
  (∀ a, (k0_off379 v1834) a + S8x128.size a ≤ S32000x128.size a) ∧
  (∀ a, (k0_off380 v1834) a + S1x128.size a ≤ S4000x128.size a)
theorem k0_mult132_dvd : ∀ (v1834 : BitVec 32) (k0_hw123 : k0_chk123 v1834), 8 ∣ (k0_mult132 v1834).toNat := fun v1834 k0_hw123 => k0_hw123.1
theorem k0_off379_inb : ∀ (v1834 : BitVec 32) (k0_hw123 : k0_chk123 v1834), ∀ a, (k0_off379 v1834) a + S8x128.size a ≤ S32000x128.size a := fun v1834 k0_hw123 => k0_hw123.2.1
theorem k0_off380_inb : ∀ (v1834 : BitVec 32) (k0_hw123 : k0_chk123 v1834), ∀ a, (k0_off380 v1834) a + S1x128.size a ≤ S4000x128.size a := fun v1834 k0_hw123 => k0_hw123.2.2

def k0_off381 (i : grid0.Coords) : Fin 2 → Nat :=
  let arg0 : BitVec 32 := BitVec.ofNat 32 (i 0).val
  let v1848 : Index := Scalar.indexCast arg0
  let c123 : Index := 123#32
  ![v1848.toNat, 123]
def k0_mult133 (v1849 : BitVec 32) : BitVec 32 :=
  v1849

def k0_off382 (v1849 : BitVec 32) : Fin 2 → Nat :=
  let v1850 : BitVec 32 := v1849
  let v1851 : Index := Scalar.indexCast v1850
  let c0_861 : Index := 0#32
  ![v1851.toNat, 0]
def k0_off383 (v1849 : BitVec 32) : Fin 2 → Nat :=
  let v1850 : BitVec 32 := v1849
  let c3_i32_864 : BitVec 32 := 3#32
  let v1857 : BitVec 32 := Scalar.shrui v1850 c3_i32_864
  let v1858 : Index := Scalar.indexCast v1857
  let c0_865 : Index := 0#32
  ![v1858.toNat, 0]

def k0_chk124 (v1849 : BitVec 32) : Prop :=
  (8 ∣ (k0_mult133 v1849).toNat) ∧
  (∀ a, (k0_off382 v1849) a + S8x128.size a ≤ S32000x128.size a) ∧
  (∀ a, (k0_off383 v1849) a + S1x128.size a ≤ S4000x128.size a)
theorem k0_mult133_dvd : ∀ (v1849 : BitVec 32) (k0_hw124 : k0_chk124 v1849), 8 ∣ (k0_mult133 v1849).toNat := fun v1849 k0_hw124 => k0_hw124.1
theorem k0_off382_inb : ∀ (v1849 : BitVec 32) (k0_hw124 : k0_chk124 v1849), ∀ a, (k0_off382 v1849) a + S8x128.size a ≤ S32000x128.size a := fun v1849 k0_hw124 => k0_hw124.2.1
theorem k0_off383_inb : ∀ (v1849 : BitVec 32) (k0_hw124 : k0_chk124 v1849), ∀ a, (k0_off383 v1849) a + S1x128.size a ≤ S4000x128.size a := fun v1849 k0_hw124 => k0_hw124.2.2

def k0_off384 (i : grid0.Coords) : Fin 2 → Nat :=
  let arg0 : BitVec 32 := BitVec.ofNat 32 (i 0).val
  let v1863 : Index := Scalar.indexCast arg0
  let c124 : Index := 124#32
  ![v1863.toNat, 124]
def k0_mult134 (v1864 : BitVec 32) : BitVec 32 :=
  v1864

def k0_off385 (v1864 : BitVec 32) : Fin 2 → Nat :=
  let v1865 : BitVec 32 := v1864
  let v1866 : Index := Scalar.indexCast v1865
  let c0_868 : Index := 0#32
  ![v1866.toNat, 0]
def k0_off386 (v1864 : BitVec 32) : Fin 2 → Nat :=
  let v1865 : BitVec 32 := v1864
  let c3_i32_871 : BitVec 32 := 3#32
  let v1872 : BitVec 32 := Scalar.shrui v1865 c3_i32_871
  let v1873 : Index := Scalar.indexCast v1872
  let c0_872 : Index := 0#32
  ![v1873.toNat, 0]

def k0_chk125 (v1864 : BitVec 32) : Prop :=
  (8 ∣ (k0_mult134 v1864).toNat) ∧
  (∀ a, (k0_off385 v1864) a + S8x128.size a ≤ S32000x128.size a) ∧
  (∀ a, (k0_off386 v1864) a + S1x128.size a ≤ S4000x128.size a)
theorem k0_mult134_dvd : ∀ (v1864 : BitVec 32) (k0_hw125 : k0_chk125 v1864), 8 ∣ (k0_mult134 v1864).toNat := fun v1864 k0_hw125 => k0_hw125.1
theorem k0_off385_inb : ∀ (v1864 : BitVec 32) (k0_hw125 : k0_chk125 v1864), ∀ a, (k0_off385 v1864) a + S8x128.size a ≤ S32000x128.size a := fun v1864 k0_hw125 => k0_hw125.2.1
theorem k0_off386_inb : ∀ (v1864 : BitVec 32) (k0_hw125 : k0_chk125 v1864), ∀ a, (k0_off386 v1864) a + S1x128.size a ≤ S4000x128.size a := fun v1864 k0_hw125 => k0_hw125.2.2

def k0_off387 (i : grid0.Coords) : Fin 2 → Nat :=
  let arg0 : BitVec 32 := BitVec.ofNat 32 (i 0).val
  let v1878 : Index := Scalar.indexCast arg0
  let c125 : Index := 125#32
  ![v1878.toNat, 125]
def k0_mult135 (v1879 : BitVec 32) : BitVec 32 :=
  v1879

def k0_off388 (v1879 : BitVec 32) : Fin 2 → Nat :=
  let v1880 : BitVec 32 := v1879
  let v1881 : Index := Scalar.indexCast v1880
  let c0_875 : Index := 0#32
  ![v1881.toNat, 0]
def k0_off389 (v1879 : BitVec 32) : Fin 2 → Nat :=
  let v1880 : BitVec 32 := v1879
  let c3_i32_878 : BitVec 32 := 3#32
  let v1887 : BitVec 32 := Scalar.shrui v1880 c3_i32_878
  let v1888 : Index := Scalar.indexCast v1887
  let c0_879 : Index := 0#32
  ![v1888.toNat, 0]

def k0_chk126 (v1879 : BitVec 32) : Prop :=
  (8 ∣ (k0_mult135 v1879).toNat) ∧
  (∀ a, (k0_off388 v1879) a + S8x128.size a ≤ S32000x128.size a) ∧
  (∀ a, (k0_off389 v1879) a + S1x128.size a ≤ S4000x128.size a)
theorem k0_mult135_dvd : ∀ (v1879 : BitVec 32) (k0_hw126 : k0_chk126 v1879), 8 ∣ (k0_mult135 v1879).toNat := fun v1879 k0_hw126 => k0_hw126.1
theorem k0_off388_inb : ∀ (v1879 : BitVec 32) (k0_hw126 : k0_chk126 v1879), ∀ a, (k0_off388 v1879) a + S8x128.size a ≤ S32000x128.size a := fun v1879 k0_hw126 => k0_hw126.2.1
theorem k0_off389_inb : ∀ (v1879 : BitVec 32) (k0_hw126 : k0_chk126 v1879), ∀ a, (k0_off389 v1879) a + S1x128.size a ≤ S4000x128.size a := fun v1879 k0_hw126 => k0_hw126.2.2

def k0_off390 (i : grid0.Coords) : Fin 2 → Nat :=
  let arg0 : BitVec 32 := BitVec.ofNat 32 (i 0).val
  let v1893 : Index := Scalar.indexCast arg0
  let c126 : Index := 126#32
  ![v1893.toNat, 126]
def k0_mult136 (v1894 : BitVec 32) : BitVec 32 :=
  v1894

def k0_off391 (v1894 : BitVec 32) : Fin 2 → Nat :=
  let v1895 : BitVec 32 := v1894
  let v1896 : Index := Scalar.indexCast v1895
  let c0_882 : Index := 0#32
  ![v1896.toNat, 0]
def k0_off392 (v1894 : BitVec 32) : Fin 2 → Nat :=
  let v1895 : BitVec 32 := v1894
  let c3_i32_885 : BitVec 32 := 3#32
  let v1902 : BitVec 32 := Scalar.shrui v1895 c3_i32_885
  let v1903 : Index := Scalar.indexCast v1902
  let c0_886 : Index := 0#32
  ![v1903.toNat, 0]

def k0_chk127 (v1894 : BitVec 32) : Prop :=
  (8 ∣ (k0_mult136 v1894).toNat) ∧
  (∀ a, (k0_off391 v1894) a + S8x128.size a ≤ S32000x128.size a) ∧
  (∀ a, (k0_off392 v1894) a + S1x128.size a ≤ S4000x128.size a)
theorem k0_mult136_dvd : ∀ (v1894 : BitVec 32) (k0_hw127 : k0_chk127 v1894), 8 ∣ (k0_mult136 v1894).toNat := fun v1894 k0_hw127 => k0_hw127.1
theorem k0_off391_inb : ∀ (v1894 : BitVec 32) (k0_hw127 : k0_chk127 v1894), ∀ a, (k0_off391 v1894) a + S8x128.size a ≤ S32000x128.size a := fun v1894 k0_hw127 => k0_hw127.2.1
theorem k0_off392_inb : ∀ (v1894 : BitVec 32) (k0_hw127 : k0_chk127 v1894), ∀ a, (k0_off392 v1894) a + S1x128.size a ≤ S4000x128.size a := fun v1894 k0_hw127 => k0_hw127.2.2

def k0_off393 (i : grid0.Coords) : Fin 2 → Nat :=
  let arg0 : BitVec 32 := BitVec.ofNat 32 (i 0).val
  let v1908 : Index := Scalar.indexCast arg0
  let c127 : Index := 127#32
  ![v1908.toNat, 127]
def k0_mult137 (v1909 : BitVec 32) : BitVec 32 :=
  v1909

def k0_off394 (v1909 : BitVec 32) : Fin 2 → Nat :=
  let v1910 : BitVec 32 := v1909
  let v1911 : Index := Scalar.indexCast v1910
  let c0_889 : Index := 0#32
  ![v1911.toNat, 0]
def k0_off395 (v1909 : BitVec 32) : Fin 2 → Nat :=
  let v1910 : BitVec 32 := v1909
  let c3_i32_892 : BitVec 32 := 3#32
  let v1917 : BitVec 32 := Scalar.shrui v1910 c3_i32_892
  let v1918 : Index := Scalar.indexCast v1917
  let c0_893 : Index := 0#32
  ![v1918.toNat, 0]

def k0_chk128 (v1909 : BitVec 32) : Prop :=
  (8 ∣ (k0_mult137 v1909).toNat) ∧
  (∀ a, (k0_off394 v1909) a + S8x128.size a ≤ S32000x128.size a) ∧
  (∀ a, (k0_off395 v1909) a + S1x128.size a ≤ S4000x128.size a)
theorem k0_mult137_dvd : ∀ (v1909 : BitVec 32) (k0_hw128 : k0_chk128 v1909), 8 ∣ (k0_mult137 v1909).toNat := fun v1909 k0_hw128 => k0_hw128.1
theorem k0_off394_inb : ∀ (v1909 : BitVec 32) (k0_hw128 : k0_chk128 v1909), ∀ a, (k0_off394 v1909) a + S8x128.size a ≤ S32000x128.size a := fun v1909 k0_hw128 => k0_hw128.2.1
theorem k0_off395_inb : ∀ (v1909 : BitVec 32) (k0_hw128 : k0_chk128 v1909), ∀ a, (k0_off395 v1909) a + S1x128.size a ≤ S4000x128.size a := fun v1909 k0_hw128 => k0_hw128.2.2

def k0_mult138 (i : grid0.Coords) : BitVec 32 :=
  let arg0 : BitVec 32 := BitVec.ofNat 32 (i 0).val
  let c128_i32 : BitVec 32 := 128#32
  let v1948 : BitVec 32 := Scalar.muli arg0 c128_i32
  v1948
def k0_off396 (i : grid0.Coords) : Fin 2 → Nat :=
  let arg0 : BitVec 32 := BitVec.ofNat 32 (i 0).val
  let c128_i32 : BitVec 32 := 128#32
  let v1948 : BitVec 32 := Scalar.muli arg0 c128_i32
  let v1949 : BitVec 32 := v1948
  let v1950 : Index := Scalar.indexCast v1949
  let c0_901 : Index := 0#32
  ![v1950.toNat, 0]
def k0_off397 (i : grid0.Coords) (c0_i32_909 : BitVec 32) : Fin 2 → Nat :=
  let arg0 : BitVec 32 := BitVec.ofNat 32 (i 0).val
  let c128_i32 : BitVec 32 := 128#32
  let v1948 : BitVec 32 := Scalar.muli arg0 c128_i32
  let v1949 : BitVec 32 := v1948
  let v1962 : BitVec 32 := Scalar.addi v1949 c0_i32_909
  let v1963 : Index := Scalar.indexCast v1962
  let c0_910 : Index := 0#32
  ![v1963.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

def cc0_transform_5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, c0_i32_10.toNat]

abbrev stage0_0 : Fin 1 → Memref sig .tc .vmem S64x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x16000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_d_model" => some ((1 / 768 : ℝ) : EReal)
  | _ => none
-- ==== ReferenceIdeal.lean ====
abbrev S2x4096 : Shape := ⟨2, ![2, 4096]⟩
abbrev S16000x768 : Shape := ⟨2, ![16000, 768]⟩
abbrev S16000x6 : Shape := ⟨2, ![16000, 6]⟩
abbrev S768 : Shape := ⟨1, ![768]⟩
abbrev S8192 : Shape := ⟨1, ![8192]⟩
abbrev S8192x1 : Shape := ⟨2, ![8192, 1]⟩
abbrev S8192x768 : Shape := ⟨2, ![8192, 768]⟩
abbrev S8192x6 : Shape := ⟨2, ![8192, 6]⟩
abbrev S1x768 : Shape := ⟨2, ![1, 768]⟩
abbrev S6x768 : Shape := ⟨2, ![6, 768]⟩
abbrev S2x4096x768 : Shape := ⟨3, ![2, 4096, 768]⟩

abbrev nBuf : Space → Nat
  | .hbm => 14
  | .vmem => 5
  | .smem => 0
  | _ => 0

abbrev bufTy : (tb : Table) → Fin (tcTables nBuf tb) → BufTy
  | .hbm, ⟨0, _⟩ => ⟨S2x4096, .i32⟩
  | .hbm, ⟨1, _⟩ => ⟨S16000x768, .i8⟩
  | .hbm, ⟨2, _⟩ => ⟨S16000x6, .f32⟩
  | .hbm, ⟨3, _⟩ => ⟨S768, .bf16⟩
  | .hbm, ⟨4, _⟩ => ⟨S8192, .i32⟩
  | .hbm, ⟨5, _⟩ => ⟨S8192x1, .i32⟩
  | .hbm, ⟨6, _⟩ => ⟨S8192x768, .i8⟩
  | .hbm, ⟨7, _⟩ => ⟨S8192x1, .i32⟩
  | .hbm, ⟨8, _⟩ => ⟨S8192x6, .f32⟩
  | .hbm, ⟨9, _⟩ => ⟨S1x768, .bf16⟩
  | .hbm, ⟨10, _⟩ => ⟨S8192x768, .bf16⟩
  | .hbm, ⟨11, _⟩ => ⟨S8192x768, .bf16⟩
  | .hbm, ⟨12, _⟩ => ⟨S2x4096x768, .bf16⟩
  | .hbm, ⟨13, _⟩ => ⟨S2x4096x768, .bf16⟩
  | .local _ .vmem, ⟨0, _⟩ => ⟨S8192x768, .i8⟩
  | .local _ .vmem, ⟨1, _⟩ => ⟨S8192x6, .f32⟩
  | .local _ .vmem, ⟨2, _⟩ => ⟨S1x768, .bf16⟩
  | .local _ .vmem, ⟨3, _⟩ => ⟨S8192x768, .bf16⟩
  | .local _ .vmem, ⟨4, _⟩ => ⟨S8192x768, .bf16⟩
  | _, _ => ⟨S2x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_v1 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Struct.lean ====
module

public import proofs.«01_k».proof.Proof.Gen.Kernel
public import Idealize.ShloMosaic.Lib.Tactic

/-! The kernel body regrouped: the one-time set-up, one token gather over its token number, the expansion of the
scales, and one group of eight rows over its group number. The printed body is these in sequence. -/

@[expose] public section

set_option maxRecDepth 100000

noncomputable section

namespace Cert.Kernel

open Idealize.ShloMosaic Idealize.SL.Sem
open Facts₀ Facts

variable {F : FTy → Type} [FloatOps F]

/-- The memory references the body works on. -/
structure Args where
  arg1 : Memref sig .tc .vmem S64x128 .i32
  harg1 : arg1.IsWhole
  arg2 : Memref sig .tc .hbm S16000x768 .i8
  harg2 : arg2.IsWhole
  arg3 : Memref sig .tc .vmem S6x16000 .f32
  harg3 : arg3.IsWhole
  arg4 : Memref sig .tc .vmem S768 .bf16
  harg4 : arg4.IsWhole
  arg5 : Memref sig .tc .vmem S1x128x768 .bf16
  harg5 : arg5.IsWhole
  arg6 : Memref sig .tc .vmem S1x128x768 .bf16
  harg6 : arg6.IsWhole
  arg7 : Memref sig .tc .vmem S32000x128 .i32
  harg7 : arg7.IsWhole
  arg8 : Memref sig .tc .vmem S16000x768 .i8
  harg8 : arg8.IsWhole
  arg9 : Memref sig .tc .vmem S4000x128 .f32
  harg9 : arg9.IsWhole
  arg10 : Memref sig .tc .vmem S8192x128 .i32
  harg10 : arg10.IsWhole
  arg11 : Memref sig .tc .vmem S64x128 .i32
  harg11 : arg11.IsWhole
  arg12 : Memref sig .tc .smem S64x128 .i32
  harg12 : arg12.IsWhole
  arg13 : Memref sig .tc .vmem S904x128 .i32
  harg13 : arg13.IsWhole
  arg14 : Memref sig .tc .vmem S128x128 .f32
  harg14 : arg14.IsWhole
  arg15 : Memref sig .tc .vmem S128x768 .f32
  harg15 : arg15.IsWhole
  arg16 : Memref sig .tc .vmem S128x768 .bf16
  harg16 : arg16.IsWhole
  arg17 : Memref sig .tc .vmem S8x768 .f32
  harg17 : arg17.IsWhole
  arg18 : DmaSems sig S6
  arg19 : DmaSems sig S_

/-- `f 0`, `f 1`, …, `f (n-1)` in sequence. -/
def seqN (n : ℕ) (f : Fin n → Prog (TpuEff nD τ sig (Elt F) Λ₀ .tc) PUnit) : Prog (TpuEff nD τ sig (Elt F) Λ₀ .tc) PUnit :=
  Nat.rec (motive := fun k => k ≤ n → Prog (TpuEff nD τ sig (Elt F) Λ₀ .tc) PUnit) (fun _ => pure ⟨⟩)
    (fun k ih h => f ⟨n - (k + 1), by omega⟩ >>= fun _ => ih (by omega)) n le_rfl

/-- Where token `t` of grid point `i` finds its word of the group table. -/
def offG (i : grid0.Coords) (t : Fin 128) : Fin 2 → ℕ :=
  ![(Scalar.indexCast (BitVec.ofNat 32 (i 0).val) : Index).toNat, t.val]

theorem offG_eq (i : grid0.Coords) (t : Fin 128) : offG i t = ![(i 0).val, t.val] := by
  have : (Scalar.indexCast (BitVec.ofNat 32 (i 0).val) : Index).toNat = (i 0).val := by
    have h : (i 0).val < 64 := (i 0).isLt
    have key : ∀ n : Fin 64, (Scalar.indexCast (BitVec.ofNat 32 n.val) : Index).toNat = n.val := by decide
    exact key ⟨_, h⟩
  unfold offG; rw [this]

theorem offG_inb (i : grid0.Coords) (t : Fin 128) : ∀ a, offG i t a + S1x1.size a ≤ S64x128.size a := by
  have h : (i 0).val < 64 := (i 0).isLt
  have ht := t.isLt
  rw [offG_eq]; intro a
  match a with
  | ⟨0, _⟩ => show (i 0).val + 1 ≤ 64; omega
  | ⟨1, _⟩ => show t.val + 1 ≤ 128; omega

theorem tile_inb (t : Fin 128) : ∀ a, S6x128.size a = 0 ∨
    (![t.val, 0] : Fin 2 → Nat) a + (![129, 1] : Fin 2 → Nat) a * (S6x128.size a - 1) < S904x128.size a := by
  have ht := t.isLt
  intro a
  match a with
  | ⟨0, _⟩ => right; show t.val + 129 * (6 - 1) < 904; omega
  | ⟨1, _⟩ => right; show 0 + 1 * (128 - 1) < 128; omega

theorem stile_inb (t : Fin 128) : ∀ a, (![t.val, 0] : Fin 2 → Nat) a + S1x128.size a ≤ S128x128.size a := by
  have ht := t.isLt
  intro a
  match a with
  | ⟨0, _⟩ => show t.val + 1 ≤ 128; omega
  | ⟨1, _⟩ => show 0 + 128 ≤ 128; omega

theorem rows_inb (s : Fin 16) (j : Fin 6) : ∀ a, (![129 * j.val + 8 * s.val, 0] : Fin 2 → Nat) a + S8x128.size a ≤ S904x128.size a := by
  have hs := s.isLt; have hj := j.isLt
  intro a
  match a with
  | ⟨0, _⟩ => show 129 * j.val + 8 * s.val + 8 ≤ 904; omega
  | ⟨1, _⟩ => show 0 + 128 ≤ 128; omega

theorem sfull_inb (s : Fin 16) (j : Fin 6) : ∀ a, (![8 * s.val, 128 * j.val] : Fin 2 → Nat) a + S8x128.size a ≤ S128x768.size a := by
  have hs := s.isLt; have hj := j.isLt
  intro a
  match a with
  | ⟨0, _⟩ => show 8 * s.val + 8 ≤ 128; omega
  | ⟨1, _⟩ => show 128 * j.val + 128 ≤ 768; omega

theorem wt_inb (j : Fin 6) : ∀ a, (![0, 128 * j.val] : Fin 2 → Nat) a + S8x128.size a ≤ S8x768.size a := by
  have hj := j.isLt
  intro a
  match a with
  | ⟨0, _⟩ => show 0 + 8 ≤ 8; omega
  | ⟨1, _⟩ => show 128 * j.val + 128 ≤ 768; omega

theorem out_inb (s : Fin 16) (j : Fin 6) : ∀ a, (![0, 8 * s.val, 128 * j.val] : Fin 3 → Nat) a + S1x8x128.size a ≤ S1x128x768.size a := by
  have hs := s.isLt; have hj := j.isLt
  intro a
  match a with
  | ⟨0, _⟩ => show 0 + 1 ≤ 1; omega
  | ⟨1, _⟩ => show 8 * s.val + 8 ≤ 128; omega
  | ⟨2, _⟩ => show 128 * j.val + 128 ≤ 768; omega

theorem out_packed : ∀ (s : Fin 16) (j : Fin 6),
    (Rect.unit (s := S1x128x768) ![0, 8 * s.val, 128 * j.val] S1x8x128.size (out_inb s j)).PackedRows (EltTy.packing .bf16) := by
  decide

/-- Token `t`: its group number is read, its eight table rows loaded and the first six kept in the tile at stride 129, its row
of the scale table kept at row `t`. -/
def gather (i : grid0.Coords) (A : Args) (t : Fin 128) : Prog (TpuEff nD τ sig (Elt F) Λ₀ .tc) PUnit := do
  let v : Elt F .i32 ← smemLoad A.arg12 (Rect.unit (s := S64x128) (offG i t) S1x1.size (offG_inb i t)) numel1_S1x1 rfl
  have hw : k0_chk1 v := (← Prog.lift (TpuEff.assume (k0_chk1 v) (k0_chk1.dec v))).down
  let x : Vec F S8x128 .i32 ← Prog.lift (.load A.arg7 (Rect.unit (s := S32000x128) (k0_off13 v) S8x128.size (k0_off13_inb v hw)).toLoadRect (View.loadsAt_vmem h_S8x128))
  let d : Vec F S6x128 .i32 ← Prog.lift (.load A.arg13 (⟨![t.val, 0], S6x128.size, ![129, 1], tile_inb t⟩ : LoadRect S904x128) (View.loadsAt_vmem h_S6x128))
  Prog.lift (.store A.arg13 ⟨(⟨![t.val, 0], S6x128.size, ![129, 1], tile_inb t⟩ : LoadRect S904x128), spos_129_1⟩
    (shapeCast S6x128 (extractStridedSlice S6x128 ![0, 0] x slices_S8x128_o0_0_S6x128) shapeCasts_S6x128_S6x128 : IVec S6x128 32) Finset.univ (View.stores_vmem_bits_univ h_S6x128 rfl) (.inl rfl))
  let z : Vec F S1x128 .f32 ← Prog.lift (.load A.arg9 (Rect.unit (s := S4000x128) (k0_off14 v) S1x128.size (k0_off14_inb v hw)).toLoadRect (View.loadsAt_vmem h_S1x128))
  let e : Vec F S1x128 .f32 ← Prog.lift (.load A.arg14 (Rect.unit (s := S128x128) ![t.val, 0] S1x128.size (stile_inb t)).toLoadRect (View.loadsAt_vmem h_S1x128))
  Prog.lift (.store A.arg14 (Rect.unit (s := S128x128) ![t.val, 0] S1x128.size (stile_inb t)) (shapeCast S1x128 z shapeCasts_S1x128_S1x128 : FVec F S1x128 .f32) Finset.univ (View.stores_vmem_bits_univ h_S1x128 rfl) (.inl rfl))

/-- The lane's slot number: the lane divided by eight, rounded down. -/
def slotOf : IVec S128x128 32 :=
  have v1923 : IVec S128x128 32 := iota .tc S128x128 32 [1] iota_S128x128_d1_w32
  let c8_i32 : BitVec 32 := 8#32
  have v1924 : IVec S128x128 32 := broadcast S128x128 c8_i32
  have v1925 : IVec S128x128 32 := divsi v1923 v1924
  let c0_i32_896 : BitVec 32 := 0#32
  have v1926 : IVec S128x128 32 := broadcast S128x128 c0_i32_896
  have v1927 : IVec S128x128 1 := cmpi .sgt v1923 v1926
  have v1928 : IVec S128x128 32 := extui 32 v1927 natLt_1_32
  let c0_i32_897 : BitVec 32 := 0#32
  have v1929 : IVec S128x128 32 := broadcast S128x128 c0_i32_897
  have v1930 : IVec S128x128 1 := cmpi .slt v1923 v1929
  have v1931 : IVec S128x128 32 := extui 32 v1930 natLt_1_32
  have v1932 : IVec S128x128 32 := subi v1928 v1931
  let c0_i32_898 : BitVec 32 := 0#32
  let v1933 : BitVec 1 := Scalar.cmpi .sgt c8_i32 c0_i32_898
  let v1934 : BitVec 32 := Scalar.extui v1933
  let c0_i32_899 : BitVec 32 := 0#32
  let v1935 : BitVec 1 := Scalar.cmpi .slt c8_i32 c0_i32_899
  let v1936 : BitVec 32 := Scalar.extui v1935
  let v1937 : BitVec 32 := Scalar.subi v1934 v1936
  have v1938 : IVec S128x128 32 := broadcast S128x128 v1937
  have v1939 : IVec S128x128 1 := cmpi .ne v1932 v1938
  have v1940 : IVec S128x128 32 := broadcast S128x128 c8_i32
  have v1941 : IVec S128x128 32 := remsi v1923 v1940
  let c0_i32_900 : BitVec 32 := 0#32
  have v1942 : IVec S128x128 32 := broadcast S128x128 c0_i32_900
  have v1943 : IVec S128x128 1 := cmpi .ne v1941 v1942
  have v1944 : IVec S128x128 1 := andi v1939 v1943
  let c1_i32 : BitVec 32 := 1#32
  have v1945 : IVec S128x128 32 := broadcast S128x128 c1_i32
  have v1946 : IVec S128x128 32 := subi v1925 v1945
  have v1947 : IVec S128x128 32 := select v1944 v1946 v1925
  let c128_i32 : BitVec 32 := 128#32
  v1947

/-- The scales of the 128 tokens, masked to the token's row in its group, and spread over the columns. -/
def sfullOf (kk : Vec F S128x128 .i32) (sc : Vec F S128x128 .f32) (ex : Vec F S128x768 .bf16) : FVec F S128x768 .f32 :=
  matmul dot_S128x128_S128x768_S128x768_1_0_0_1_n_n none
    (truncf .bf16 (select (cmpi .eq slotOf kk) sc (broadcast S128x128 (Scalar.ofBits .f32 0x00000000#32) : FVec F S128x128 .f32) : FVec F S128x128 .f32) bitsLt_bf16_f32 : FVec F S128x128 .bf16)
    ex (constant S128x768 .f32 0x00000000#32 : FVec F S128x768 .f32)

/-- The expansion of the scales. -/
def scales (i : grid0.Coords) (A : Args) : Prog (TpuEff nD τ sig (Elt F) Λ₀ .tc) PUnit := do
  let kk : Vec F S128x128 .i32 ← Prog.lift (.load A.arg10 (Rect.unit (s := S8192x128) (k0_off396 i) S128x128.size (k0_off396_inb i)).toLoadRect (View.loadsAt_vmem h_S128x128))
  let sc : Vec F S128x128 .f32 ← Prog.lift (.load A.arg14 (Rect.unit (s := S128x128) ![0, 0] S128x128.size inb_S128x128_S128x128_0_0).toLoadRect (View.loadsAt_vmem h_S128x128))
  let ex : Vec F S128x768 .bf16 ← Prog.lift (.load A.arg16 (Rect.unit (s := S128x768) ![0, 0] S128x768.size inb_S128x768_S128x768_0_0).toLoadRect (View.loadsAt_vmem h_S128x768))
  let d : Vec F S128x768 .f32 ← Prog.lift (.load A.arg15 (Rect.unit (s := S128x768) ![0, 0] S128x768.size inb_S128x768_S128x768_0_0).toLoadRect (View.loadsAt_vmem h_S128x768))
  Prog.lift (.store A.arg15 (Rect.unit (s := S128x768) ![0, 0] S128x768.size inb_S128x768_S128x768_0_0) (shapeCast S128x768 (sfullOf kk sc ex) shapeCasts_S128x768_S128x768 : FVec F S128x768 .f32) Finset.univ (View.stores_vmem_bits_univ h_S128x768 rfl) (.inl rfl))

/-- The shift that brings a row's byte of its word to the top. -/
def shOf (kk : Vec F S8x128 .i32) : IVec S8x128 32 :=
  subi (broadcast S8x128 24#32 : IVec S8x128 32) (muli (broadcast S8x128 8#32 : IVec S8x128 32) kk)

/-- Eight rows of one block of 128 columns of the embedding. -/
def embOf (kk : Vec F S8x128 .i32) (w : Vec F S8x128 .i32) (sf : Vec F S8x128 .f32) : FVec F S8x128 .bf16 :=
  truncf .bf16 (mulf (sitofp .f32 (shrsi (shli w (shOf kk)) (broadcast S8x128 24#32 : IVec S8x128 32) : IVec S8x128 32) : FVec F S8x128 .f32) sf) bitsLt_bf16_f32

/-- The embedding's block back in single precision. -/
def extOf (e : FVec F S8x128 .bf16) : FVec F S8x128 .f32 := extf .f32 e bitsLt_bf16_f32

/-- The sum of squares with one more block. -/
def accOf (acc : FVec F S8x128 .f32) (e : FVec F S8x128 .bf16) : FVec F S8x128 .f32 := addf acc (mulf (extOf e) (extOf e))

/-- The reciprocal root mean square of eight rows from the lane sums of squares. -/
def rmsOf (acc : FVec F S8x128 .f32) : FVec F S8x128 .f32 :=
  broadcastTo S8x128 (shapeCast S8x1 (rsqrt (addf (mulf (shapeCast S8x1 (multiReduction .add [1] S8 acc 0x00000000#32 reduces_S8x128_S8 (.inl rfl) rfl : FVec F S8 .f32) shapeCasts_S8_S8x1 : FVec F S8x1 .f32) (broadcast S8x1 (Scalar.ofBits .f32 0x3AAAAAAB#32) : FVec F S8x1 .f32)) (broadcast S8x1 (Scalar.ofBits .f32 0x358637BD#32) : FVec F S8x1 .f32)) : FVec F S8x1 .f32) shapeCasts_S8x1_S8x1 : FVec F S8x1 .f32) broadcasts_S8x1_S8x128

/-- Eight rows of one block of 128 columns of the result. -/
def outOf (e : FVec F S8x128 .bf16) (r : FVec F S8x128 .f32) (w : Vec F S8x128 .f32) : FVec F S8x128 .bf16 :=
  truncf .bf16 (mulf (mulf (extOf e) r) w) bitsLt_bf16_f32

/-- Column block `j` of row group `s`: its embedding is computed, stored and returned. -/
def embCol (A : Args) (s : Fin 16) (kk : Vec F S8x128 .i32) (j : Fin 6) : Prog (TpuEff nD τ sig (Elt F) Λ₀ .tc) (FVec F S8x128 .bf16) := do
  let w : Vec F S8x128 .i32 ← Prog.lift (.load A.arg13 (Rect.unit (s := S904x128) ![129 * j.val + 8 * s.val, 0] S8x128.size (rows_inb s j)).toLoadRect (View.loadsAt_vmem h_S8x128))
  let sf : Vec F S8x128 .f32 ← Prog.lift (.load A.arg15 (Rect.unit (s := S128x768) ![8 * s.val, 128 * j.val] S8x128.size (sfull_inb s j)).toLoadRect (View.loadsAt_vmem h_S8x128))
  let d : Vec F S1x8x128 .bf16 ← Prog.lift (.load A.arg6 (Rect.unit (s := S1x128x768) ![0, 8 * s.val, 128 * j.val] S1x8x128.size (out_inb s j)).toLoadRect (View.loadsAt_vmem h_S1x8x128))
  Prog.lift (.store A.arg6 (Rect.unit (s := S1x128x768) ![0, 8 * s.val, 128 * j.val] S1x8x128.size (out_inb s j)) (shapeCast S1x8x128 (embOf kk w sf) shapeCasts_S8x128_S1x8x128 : FVec F S1x8x128 .bf16) Finset.univ (View.stores_vmem h_S1x8x128 (A.harg6.storeExact_slice rfl _ (out_packed s j)) (fun _ => rfl)) (.inl rfl))
  pure (embOf kk w sf)

/-- Column block `j` of row group `s` of the result. -/
def outCol (A : Args) (s : Fin 16) (r : FVec F S8x128 .f32) (j : Fin 6) (e : FVec F S8x128 .bf16) : Prog (TpuEff nD τ sig (Elt F) Λ₀ .tc) PUnit := do
  let w : Vec F S8x128 .f32 ← Prog.lift (.load A.arg17 (Rect.unit (s := S8x768) ![0, 128 * j.val] S8x128.size (wt_inb j)).toLoadRect (View.loadsAt_vmem h_S8x128))
  let d : Vec F S1x8x128 .bf16 ← Prog.lift (.load A.arg5 (Rect.unit (s := S1x128x768) ![0, 8 * s.val, 128 * j.val] S1x8x128.size (out_inb s j)).toLoadRect (View.loadsAt_vmem h_S1x8x128))
  Prog.lift (.store A.arg5 (Rect.unit (s := S1x128x768) ![0, 8 * s.val, 128 * j.val] S1x8x128.size (out_inb s j)) (shapeCast S1x8x128 (outOf e r w) shapeCasts_S8x128_S1x8x128 : FVec F S1x8x128 .bf16) Finset.univ (View.stores_vmem h_S1x8x128 (A.harg5.storeExact_slice rfl _ (out_packed s j)) (fun _ => rfl)) (.inl rfl))

/-- The lane sums of squares of six blocks. -/
def acc6 (e0 e1 e2 e3 e4 e5 : FVec F S8x128 .bf16) : FVec F S8x128 .f32 :=
  accOf (accOf (accOf (accOf (accOf (accOf (broadcast S8x128 (Scalar.ofBits .f32 0x00000000#32) : FVec F S8x128 .f32) e0) e1) e2) e3) e4) e5

/-- Eight rows: the six column blocks of the embedding, then those of the result. -/
def group (i : grid0.Coords) (A : Args) (s : Fin 16) : Prog (TpuEff nD τ sig (Elt F) Λ₀ .tc) PUnit := do
  let kk : Vec F S8x128 .i32 ← Prog.lift (.load A.arg10 (Rect.unit (s := S8192x128) (k0_off397 i (BitVec.ofNat 32 (8 * s.val))) S8x128.size (k0_off397_inb i s)).toLoadRect (View.loadsAt_vmem h_S8x128))
  let e0 ← embCol A s kk 0
  let e1 ← embCol A s kk 1
  let e2 ← embCol A s kk 2
  let e3 ← embCol A s kk 3
  let e4 ← embCol A s kk 4
  let e5 ← embCol A s kk 5
  outCol A s (rmsOf (acc6 e0 e1 e2 e3 e4 e5)) 0 e0
  outCol A s (rmsOf (acc6 e0 e1 e2 e3 e4 e5)) 1 e1
  outCol A s (rmsOf (acc6 e0 e1 e2 e3 e4 e5)) 2 e2
  outCol A s (rmsOf (acc6 e0 e1 e2 e3 e4 e5)) 3 e3
  outCol A s (rmsOf (acc6 e0 e1 e2 e3 e4 e5)) 4 e4
  outCol A s (rmsOf (acc6 e0 e1 e2 e3 e4 e5)) 5 e5

/-- The work of every grid point. -/
def rest (i : grid0.Coords) (A : Args) : Prog (TpuEff nD τ sig (Elt F) Λ₀ .tc) PUnit := do
  seqN 128 (gather i A)
  scales i A
  seqN 16 (group i A)

/-- One trip of the loop that packs 128 rows of codes into words of the table. -/
def trip3 (i : grid0.Coords) (A : Args) (k0_h1 : k0_cond1 i = 1#1) (k0_t3 : Fin k0_t3_loop.trips) : Prog (TpuEff nD τ sig (Elt F) Λ₀ .tc) PUnit := do
  let c0_i32_2286 : BitVec 32 := 0#32
  let c1_i32_2288 : BitVec 32 := 1#32
  let v4434 : BitVec 32 ← k0_part1 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 c0_i32_2286 c1_i32_2288 k0_t3
  let c384_2308 : Index := 384#32
  let v4471 : Vec F S128x128 .i8 ← Prog.lift (.load A.arg8 (Rect.unit (s := S16000x768) (k0_off9 k0_t3) S128x128.size (k0_off9_inb i k0_t3 k0_h1)).toLoadRect (View.loadsAt_vmem h_S128x128))
  have v4472 : IVec S32x128 32 := bitcast S32x128 32 v4471 bitcasts_S128x128_w8_S32x128_w32
  let c256_i32_2309 : BitVec 32 := 256#32
  let v4473 : BitVec 32 := Scalar.muli v4434 c256_i32_2309
  let c3_i32_2310 : BitVec 32 := 3#32
  let v4474 : BitVec 32 := Scalar.addi v4473 c3_i32_2310
  let v4475 : Index := Scalar.indexCast v4474
  let c0_2311 : Index := 0#32
  let v4476 : Vec F S32x128 .i32 ← Prog.lift (.load A.arg7 (⟨k0_off6 k0_t3 3#32, S32x128.size, ![8, 1], (k0_off6_inb i k0_t3 k0_h1 3)⟩ : LoadRect S32000x128) (View.loadsAt_vmem h_S32x128))
  have v4477 : IVec S32x128 32 := shapeCast S32x128 v4476 shapeCasts_S32x128_S32x128
  have v4478 : IVec S32x128 32 := shapeCast S32x128 v4472 shapeCasts_S32x128_S32x128
  Prog.lift (.store A.arg7 ⟨(⟨k0_off6 k0_t3 3#32, S32x128.size, ![8, 1], (k0_off6_inb i k0_t3 k0_h1 3)⟩ : LoadRect S32000x128), spos_8_1⟩ v4478 Finset.univ (View.stores_vmem_bits_univ h_S32x128 rfl) (.inl rfl))
  let c128_i32_2312 : BitVec 32 := 128#32
  let v4479 : BitVec 32 := Scalar.muli v4434 c128_i32_2312
  let v4480 : BitVec 32 := v4479
  let v4481 : Index := Scalar.indexCast v4480
  let c512_2313 : Index := 512#32
  let v4482 : Vec F S128x128 .i8 ← Prog.lift (.load A.arg8 (Rect.unit (s := S16000x768) (k0_off10 k0_t3) S128x128.size (k0_off10_inb i k0_t3 k0_h1)).toLoadRect (View.loadsAt_vmem h_S128x128))
  have v4483 : IVec S32x128 32 := bitcast S32x128 32 v4482 bitcasts_S128x128_w8_S32x128_w32
  let c256_i32_2314 : BitVec 32 := 256#32
  let v4484 : BitVec 32 := Scalar.muli v4434 c256_i32_2314
  let c4_i32_2315 : BitVec 32 := 4#32
  let v4485 : BitVec 32 := Scalar.addi v4484 c4_i32_2315
  let v4486 : Index := Scalar.indexCast v4485
  let c0_2316 : Index := 0#32
  let v4487 : Vec F S32x128 .i32 ← Prog.lift (.load A.arg7 (⟨k0_off6 k0_t3 4#32, S32x128.size, ![8, 1], (k0_off6_inb i k0_t3 k0_h1 4)⟩ : LoadRect S32000x128) (View.loadsAt_vmem h_S32x128))
  have v4488 : IVec S32x128 32 := shapeCast S32x128 v4487 shapeCasts_S32x128_S32x128
  have v4489 : IVec S32x128 32 := shapeCast S32x128 v4483 shapeCasts_S32x128_S32x128
  Prog.lift (.store A.arg7 ⟨(⟨k0_off6 k0_t3 4#32, S32x128.size, ![8, 1], (k0_off6_inb i k0_t3 k0_h1 4)⟩ : LoadRect S32000x128), spos_8_1⟩ v4489 Finset.univ (View.stores_vmem_bits_univ h_S32x128 rfl) (.inl rfl))
  let c128_i32_2317 : BitVec 32 := 128#32
  let v4490 : BitVec 32 := Scalar.muli v4434 c128_i32_2317
  let v4491 : BitVec 32 := v4490
  let v4492 : Index := Scalar.indexCast v4491
  let c640_2318 : Index := 640#32
  let v4493 : Vec F S128x128 .i8 ← Prog.lift (.load A.arg8 (Rect.unit (s := S16000x768) (k0_off11 k0_t3) S128x128.size (k0_off11_inb i k0_t3 k0_h1)).toLoadRect (View.loadsAt_vmem h_S128x128))
  have v4494 : IVec S32x128 32 := bitcast S32x128 32 v4493 bitcasts_S128x128_w8_S32x128_w32
  let c256_i32_2319 : BitVec 32 := 256#32
  let v4495 : BitVec 32 := Scalar.muli v4434 c256_i32_2319
  let c5_i32_2320 : BitVec 32 := 5#32
  let v4496 : BitVec 32 := Scalar.addi v4495 c5_i32_2320
  let v4497 : Index := Scalar.indexCast v4496
  let c0_2321 : Index := 0#32
  let v4498 : Vec F S32x128 .i32 ← Prog.lift (.load A.arg7 (⟨k0_off6 k0_t3 5#32, S32x128.size, ![8, 1], (k0_off6_inb i k0_t3 k0_h1 5)⟩ : LoadRect S32000x128) (View.loadsAt_vmem h_S32x128))
  have v4499 : IVec S32x128 32 := shapeCast S32x128 v4498 shapeCasts_S32x128_S32x128
  have v4500 : IVec S32x128 32 := shapeCast S32x128 v4494 shapeCasts_S32x128_S32x128
  Prog.lift (.store A.arg7 ⟨(⟨k0_off6 k0_t3 5#32, S32x128.size, ![8, 1], (k0_off6_inb i k0_t3 k0_h1 5)⟩ : LoadRect S32000x128), spos_8_1⟩ v4500 Finset.univ (View.stores_vmem_bits_univ h_S32x128 rfl) (.inl rfl))
  pure ⟨⟩

/-- The set-up at the first grid point. -/
def step0 (i : grid0.Coords) (A : Args) (k0_h1 : k0_cond1 i = 1#1) : Prog (TpuEff nD τ sig (Elt F) Λ₀ .tc) PUnit := do
  k0_part2 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19
  let x3 ← k0_part3 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
  let x4 ← k0_part4 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x3.1 x3.2.1 x3.2.2.1 x3.2.2.2.1 x3.2.2.2.2
  let x5 ← k0_part5 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x4.1 x4.2.1 x4.2.2
  k0_part6 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 x5.1 x5.2.1 x5.2.2.1 x5.2.2.2.1 x5.2.2.2.2
  let v4424 : DmaSems sig S1 := A.arg18.slice (Rect.unit (s := S6) ![4] S1.size inb_S6_S1_4)
  let v4425 : DmaSems sig S_ := v4424.squeeze S_ squeezes_S1_S_
  let v4426 : Memref sig .tc .vmem S16000x128 .i8 := A.arg8.slice (Rect.unit (s := S16000x768) ![0, 512] S16000x128.size inb_S16000x768_S16000x128_0_512) (fun _ => rfl)
  let v4427 : Memref sig .tc .hbm S16000x128 .i8 := A.arg2.slice (Rect.unit (s := S16000x768) ![0, 512] S16000x128.size inb_S16000x768_S16000x128_0_512) (fun _ => rfl)
  Prog.lift (.waitDma2 v4425.sem v4427 v4426 (A.harg2.wordExact_slice rfl _ wordsi8_S16000x768_S16000x128_0_512) (A.harg8.wordExact_slice rfl _ wordsi8_S16000x768_S16000x128_0_512))
  let v4428 : DmaSems sig S1 := A.arg18.slice (Rect.unit (s := S6) ![5] S1.size inb_S6_S1_5)
  let v4429 : DmaSems sig S_ := v4428.squeeze S_ squeezes_S1_S_
  let v4430 : Memref sig .tc .vmem S16000x128 .i8 := A.arg8.slice (Rect.unit (s := S16000x768) ![0, 640] S16000x128.size inb_S16000x768_S16000x128_0_640) (fun _ => rfl)
  let v4431 : Memref sig .tc .hbm S16000x128 .i8 := A.arg2.slice (Rect.unit (s := S16000x768) ![0, 640] S16000x128.size inb_S16000x768_S16000x128_0_640) (fun _ => rfl)
  Prog.lift (.waitDma2 v4429.sem v4431 v4430 (A.harg2.wordExact_slice rfl _ wordsi8_S16000x768_S16000x128_0_640) (A.harg8.wordExact_slice rfl _ wordsi8_S16000x768_S16000x128_0_640))
  Scf.Loop.for k0_t3_loop (k0_t3_ok i k0_h1) ⟨⟩ fun k0_t3 _ => trip3 i A k0_h1 k0_t3

/-- The set-up at the first grid point, followed by `q`. -/
def step0K {α : Type} (i : grid0.Coords) (A : Args) (k0_h1 : k0_cond1 i = 1#1) (q : Prog (TpuEff nD τ sig (Elt F) Λ₀ .tc) α) : Prog (TpuEff nD τ sig (Elt F) Λ₀ .tc) α := do
  k0_part2 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19
  let x3 ← k0_part3 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
  let x4 ← k0_part4 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x3.1 x3.2.1 x3.2.2.1 x3.2.2.2.1 x3.2.2.2.2
  let x5 ← k0_part5 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x4.1 x4.2.1 x4.2.2
  k0_part6 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 x5.1 x5.2.1 x5.2.2.1 x5.2.2.2.1 x5.2.2.2.2
  let v4424 : DmaSems sig S1 := A.arg18.slice (Rect.unit (s := S6) ![4] S1.size inb_S6_S1_4)
  let v4425 : DmaSems sig S_ := v4424.squeeze S_ squeezes_S1_S_
  let v4426 : Memref sig .tc .vmem S16000x128 .i8 := A.arg8.slice (Rect.unit (s := S16000x768) ![0, 512] S16000x128.size inb_S16000x768_S16000x128_0_512) (fun _ => rfl)
  let v4427 : Memref sig .tc .hbm S16000x128 .i8 := A.arg2.slice (Rect.unit (s := S16000x768) ![0, 512] S16000x128.size inb_S16000x768_S16000x128_0_512) (fun _ => rfl)
  Prog.lift (.waitDma2 v4425.sem v4427 v4426 (A.harg2.wordExact_slice rfl _ wordsi8_S16000x768_S16000x128_0_512) (A.harg8.wordExact_slice rfl _ wordsi8_S16000x768_S16000x128_0_512))
  let v4428 : DmaSems sig S1 := A.arg18.slice (Rect.unit (s := S6) ![5] S1.size inb_S6_S1_5)
  let v4429 : DmaSems sig S_ := v4428.squeeze S_ squeezes_S1_S_
  let v4430 : Memref sig .tc .vmem S16000x128 .i8 := A.arg8.slice (Rect.unit (s := S16000x768) ![0, 640] S16000x128.size inb_S16000x768_S16000x128_0_640) (fun _ => rfl)
  let v4431 : Memref sig .tc .hbm S16000x128 .i8 := A.arg2.slice (Rect.unit (s := S16000x768) ![0, 640] S16000x128.size inb_S16000x768_S16000x128_0_640) (fun _ => rfl)
  Prog.lift (.waitDma2 v4429.sem v4431 v4430 (A.harg2.wordExact_slice rfl _ wordsi8_S16000x768_S16000x128_0_640) (A.harg8.wordExact_slice rfl _ wordsi8_S16000x768_S16000x128_0_640))
  Scf.Loop.for k0_t3_loop (k0_t3_ok i k0_h1) ⟨⟩ fun k0_t3 _ => trip3 i A k0_h1 k0_t3
  q

theorem step0K_eq {α : Type} (i : grid0.Coords) (A : Args) (k0_h1 : k0_cond1 i = 1#1) (q : Prog (TpuEff nD τ sig (Elt F) Λ₀ .tc) α) :
    step0K i A k0_h1 q = step0 i A k0_h1 >>= fun _ => q := by
  simp only [step0K, step0, bind_assoc]

/-- The first printed part after the set-up. -/
def tail7 (i : grid0.Coords) (A : Args) : Prog (TpuEff nD τ sig (Elt F) Λ₀ .tc) (BitVec 32) := do
  let ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ := A
  let arg0 : BitVec 32 := BitVec.ofNat 32 (i 0).val
  let v3 : Index := Scalar.indexCast arg0
  let c0 : Index := 0#32
  let v4 : Elt F .i32 ← smemLoad arg12 (Rect.unit (s := S64x128) (k0_off12 i) S1x1.size (k0_off12_inb i)) numel1_S1x1 rfl
  have k0_hw1 : k0_chk1 v4 := (← Prog.lift (TpuEff.assume (k0_chk1 v4) (k0_chk1.dec v4))).down
  let v5 : BitVec 32 := v4
  let v6 : Index := Scalar.indexCast v5
  let c0_1 : Index := 0#32
  let v7 : Vec F S8x128 .i32 ← Prog.lift (.load arg7 (Rect.unit (s := S32000x128) (k0_off13 v4) S8x128.size (k0_off13_inb v4 k0_hw1)).toLoadRect (View.loadsAt_vmem h_S8x128))
  have v8 : IVec S6x128 32 := extractStridedSlice S6x128 ![0, 0] v7 slices_S8x128_o0_0_S6x128
  let c0_2 : Index := 0#32
  let c0_3 : Index := 0#32
  let v9 : Vec F S6x128 .i32 ← Prog.lift (.load arg13 (⟨![0, 0], S6x128.size, ![129, 1], inb_S904x128_S6x128_0_0_s_129_1⟩ : LoadRect S904x128) (View.loadsAt_vmem h_S6x128))
  have v10 : IVec S6x128 32 := shapeCast S6x128 v9 shapeCasts_S6x128_S6x128
  have v11 : IVec S6x128 32 := shapeCast S6x128 v8 shapeCasts_S6x128_S6x128
  Prog.lift (.store arg13 ⟨(⟨![0, 0], S6x128.size, ![129, 1], inb_S904x128_S6x128_0_0_s_129_1⟩ : LoadRect S904x128), spos_129_1⟩ v11 Finset.univ (View.stores_vmem_bits_univ h_S6x128 rfl) (.inl rfl))
  let c3_i32 : BitVec 32 := 3#32
  let v12 : BitVec 32 := Scalar.shrui v5 c3_i32
  let v13 : Index := Scalar.indexCast v12
  let c0_4 : Index := 0#32
  let v14 : Vec F S1x128 .f32 ← Prog.lift (.load arg9 (Rect.unit (s := S4000x128) (k0_off14 v4) S1x128.size (k0_off14_inb v4 k0_hw1)).toLoadRect (View.loadsAt_vmem h_S1x128))
  let c0_5 : Index := 0#32
  let c0_6 : Index := 0#32
  let v15 : Vec F S1x128 .f32 ← Prog.lift (.load arg14 (Rect.unit (s := S128x128) ![0, 0] S1x128.size inb_S128x128_S1x128_0_0).toLoadRect (View.loadsAt_vmem h_S1x128))
  have v16 : FVec F S1x128 .f32 := shapeCast S1x128 v15 shapeCasts_S1x128_S1x128
  have v17 : FVec F S1x128 .f32 := shapeCast S1x128 v14 shapeCasts_S1x128_S1x128
  Prog.lift (.store arg14 (Rect.unit (s := S128x128) ![0, 0] S1x128.size inb_S128x128_S1x128_0_0) v17 Finset.univ (View.stores_vmem_bits_univ h_S1x128 rfl) (.inl rfl))
  let v18 : Index := Scalar.indexCast arg0
  let c1 : Index := 1#32
  let v19 : Elt F .i32 ← smemLoad arg12 (Rect.unit (s := S64x128) (k0_off15 i) S1x1.size (k0_off15_inb i)) numel1_S1x1 rfl
  have k0_hw2 : k0_chk2 v19 := (← Prog.lift (TpuEff.assume (k0_chk2 v19) (k0_chk2.dec v19))).down
  let v20 : BitVec 32 := v19
  let v21 : Index := Scalar.indexCast v20
  let c0_7 : Index := 0#32
  let v22 : Vec F S8x128 .i32 ← Prog.lift (.load arg7 (Rect.unit (s := S32000x128) (k0_off16 v19) S8x128.size (k0_off16_inb v19 k0_hw2)).toLoadRect (View.loadsAt_vmem h_S8x128))
  have v23 : IVec S6x128 32 := extractStridedSlice S6x128 ![0, 0] v22 slices_S8x128_o0_0_S6x128
  let c1_8 : Index := 1#32
  let c0_9 : Index := 0#32
  let v24 : Vec F S6x128 .i32 ← Prog.lift (.load arg13 (⟨![1, 0], S6x128.size, ![129, 1], inb_S904x128_S6x128_1_0_s_129_1⟩ : LoadRect S904x128) (View.loadsAt_vmem h_S6x128))
  have v25 : IVec S6x128 32 := shapeCast S6x128 v24 shapeCasts_S6x128_S6x128
  have v26 : IVec S6x128 32 := shapeCast S6x128 v23 shapeCasts_S6x128_S6x128
  Prog.lift (.store arg13 ⟨(⟨![1, 0], S6x128.size, ![129, 1], inb_S904x128_S6x128_1_0_s_129_1⟩ : LoadRect S904x128), spos_129_1⟩ v26 Finset.univ (View.stores_vmem_bits_univ h_S6x128 rfl) (.inl rfl))
  let c3_i32_10 : BitVec 32 := 3#32
  let v27 : BitVec 32 := Scalar.shrui v20 c3_i32_10
  let v28 : Index := Scalar.indexCast v27
  let c0_11 : Index := 0#32
  let v29 : Vec F S1x128 .f32 ← Prog.lift (.load arg9 (Rect.unit (s := S4000x128) (k0_off17 v19) S1x128.size (k0_off17_inb v19 k0_hw2)).toLoadRect (View.loadsAt_vmem h_S1x128))
  let c1_12 : Index := 1#32
  let c0_13 : Index := 0#32
  let v30 : Vec F S1x128 .f32 ← Prog.lift (.load arg14 (Rect.unit (s := S128x128) ![1, 0] S1x128.size inb_S128x128_S1x128_1_0).toLoadRect (View.loadsAt_vmem h_S1x128))
  have v31 : FVec F S1x128 .f32 := shapeCast S1x128 v30 shapeCasts_S1x128_S1x128
  have v32 : FVec F S1x128 .f32 := shapeCast S1x128 v29 shapeCasts_S1x128_S1x128
  Prog.lift (.store arg14 (Rect.unit (s := S128x128) ![1, 0] S1x128.size inb_S128x128_S1x128_1_0) v32 Finset.univ (View.stores_vmem_bits_univ h_S1x128 rfl) (.inl rfl))
  let v33 : Index := Scalar.indexCast arg0
  pure arg0

theorem part7_eq (i : grid0.Coords) (arg1 : Memref sig .tc .vmem S64x128 .i32) (harg1 : arg1.IsWhole) (arg2 : Memref sig .tc .hbm S16000x768 .i8) (harg2 : arg2.IsWhole) (arg3 : Memref sig .tc .vmem S6x16000 .f32) (harg3 : arg3.IsWhole) (arg4 : Memref sig .tc .vmem S768 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S32000x128 .i32) (harg7 : arg7.IsWhole) (arg8 : Memref sig .tc .vmem S16000x768 .i8) (harg8 : arg8.IsWhole) (arg9 : Memref sig .tc .vmem S4000x128 .f32) (harg9 : arg9.IsWhole) (arg10 : Memref sig .tc .vmem S8192x128 .i32) (harg10 : arg10.IsWhole) (arg11 : Memref sig .tc .vmem S64x128 .i32) (harg11 : arg11.IsWhole) (arg12 : Memref sig .tc .smem S64x128 .i32) (harg12 : arg12.IsWhole) (arg13 : Memref sig .tc .vmem S904x128 .i32) (harg13 : arg13.IsWhole) (arg14 : Memref sig .tc .vmem S128x128 .f32) (harg14 : arg14.IsWhole) (arg15 : Memref sig .tc .vmem S128x768 .f32) (harg15 : arg15.IsWhole) (arg16 : Memref sig .tc .vmem S128x768 .bf16) (harg16 : arg16.IsWhole) (arg17 : Memref sig .tc .vmem S8x768 .f32) (harg17 : arg17.IsWhole) (arg18 : DmaSems sig S6) (arg19 : DmaSems sig S_) :
    k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
      = if h : k0_cond1 i = 1#1 then step0K i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ h (tail7 i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩) else tail7 i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ := by
  sl_kernel_rfl

/-- The body: the set-up at the first grid point, then the work of every grid point. -/
def body (i : grid0.Coords) (A : Args) : Prog (TpuEff nD τ sig (Elt F) Λ₀ .tc) PUnit :=
  if h : k0_cond1 i = 1#1 then step0 i A h >>= fun _ => rest i A else rest i A

theorem head_eq {α β γ : Type} (q : Prog (TpuEff nD τ sig (Elt F) Λ₀ .tc) α) (k1 : α → Prog (TpuEff nD τ sig (Elt F) Λ₀ .tc) β)
    (k2 : β → Prog (TpuEff nD τ sig (Elt F) Λ₀ .tc) γ) (s : Prog (TpuEff nD τ sig (Elt F) Λ₀ .tc) PUnit) :
    (((s >>= fun _ => q) >>= k1) >>= k2) = (s >>= fun _ => ((q >>= k1) >>= k2)) := by
  simp only [bind_assoc]

set_option maxHeartbeats 40000000 in
set_option pp.maxSteps 300 in
/-- The printed body is `body`. -/
theorem body_eq (i : grid0.Coords) (arg1 : Memref sig .tc .vmem S64x128 .i32) (harg1 : arg1.IsWhole) (arg2 : Memref sig .tc .hbm S16000x768 .i8) (harg2 : arg2.IsWhole) (arg3 : Memref sig .tc .vmem S6x16000 .f32) (harg3 : arg3.IsWhole) (arg4 : Memref sig .tc .vmem S768 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S32000x128 .i32) (harg7 : arg7.IsWhole) (arg8 : Memref sig .tc .vmem S16000x768 .i8) (harg8 : arg8.IsWhole) (arg9 : Memref sig .tc .vmem S4000x128 .f32) (harg9 : arg9.IsWhole) (arg10 : Memref sig .tc .vmem S8192x128 .i32) (harg10 : arg10.IsWhole) (arg11 : Memref sig .tc .vmem S64x128 .i32) (harg11 : arg11.IsWhole) (arg12 : Memref sig .tc .smem S64x128 .i32) (harg12 : arg12.IsWhole) (arg13 : Memref sig .tc .vmem S904x128 .i32) (harg13 : arg13.IsWhole) (arg14 : Memref sig .tc .vmem S128x128 .f32) (harg14 : arg14.IsWhole) (arg15 : Memref sig .tc .vmem S128x768 .f32) (harg15 : arg15.IsWhole) (arg16 : Memref sig .tc .vmem S128x768 .bf16) (harg16 : arg16.IsWhole) (arg17 : Memref sig .tc .vmem S8x768 .f32) (harg17 : arg17.IsWhole) (arg18 : DmaSems sig S6) (arg19 : DmaSems sig S_) :
    cc0_int8_embed_rmsnorm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 = body i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ := by
  unfold cc0_int8_embed_rmsnorm k0_part127 body
  by_cases h : k0_cond1 i = 1#1
  · rw [part7_eq, dif_pos h, dif_pos h, step0K_eq, head_eq]
    refine congrArg (fun X => step0 i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ h >>= X) (funext fun _ => ?_)
    sl_kernel_rfl
  · rw [part7_eq, dif_neg h, dif_neg h]
    sl_kernel_rfl

end Cert.Kernel
-- ==== Proof.Wp.lean ====
module

public import Idealize.ShloMosaic.Rules.Step
public import Idealize.ShloMosaic.Lib.Memref
public import Idealize.ShloMosaic.Lib.Tactic
public import Idealize.ShloMosaic.Lib.Exec

/-! One rule per memory operation over buffers known by what is read through them. -/

@[expose] public section

noncomputable section

namespace Cert.Wp

open Idealize.ShloMosaic
open Idealize.SL
open Idealize.SL.RA Idealize.SL.Sem Idealize.SL.ProofMode
open Idealize.SL.BI (sProp bigSep)
open scoped Idealize.SL.BI
open Idealize.SL.BI.BIBase Idealize.SL.BI.Laws

open Classical in
/-- `X` with `w` over the elements a rectangle places. -/
def putR {α : Type} {s : Shape} (r : Rect s) (w : r.shape.Idx → α) (X : s.Idx → α) : s.Idx → α :=
  fun y => if h : ∃ x, r.emb x = y then w h.choose else X y

theorem putR_emb {α : Type} {s : Shape} (r : Rect s) (w : r.shape.Idx → α) (X : s.Idx → α) (x : r.shape.Idx) :
    putR r w X (r.emb x) = w x := by
  unfold putR
  have h : ∃ x', r.emb x' = r.emb x := ⟨x, rfl⟩
  rw [dif_pos h]
  exact congrArg w (r.emb.injective h.choose_spec)

theorem putR_of_not {α : Type} {s : Shape} (r : Rect s) (w : r.shape.Idx → α) (X : s.Idx → α) (y : s.Idx)
    (h : ∀ x, r.emb x ≠ y) : putR r w X y = X y := by
  unfold putR
  rw [dif_neg (fun ⟨x, hx⟩ => h x hx)]

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable [Preorder Lvl] {defs : Defs nD τ sig Val Λ} (𝒱 : Variants) (c : Thread nD τ)
  (bd : Option 𝒱.V) (E : Set Name)
variable {sp : Space} {s : Shape} {e : EltTy}

/-- A load reads the buffer's values at the rectangle's places. -/
theorem wp_ld {cs : CoreSpace} (m : Memref sig c.2.kind cs s e) (r : LoadRect s) (hl : m.view.LoadsAt r) (q : PosShare TreeShare)
    (X : s.Idx → Val e) (Q : (r.shape.Idx → Val e) → sProp 𝕄) :
    iprop(owns c m q X ∗ (owns c m q X -∗ Q (fun x => X (r.idx x))))
      ⊢ wp frame (wpE defs 𝒱 c bd) E (Prog.lift (.load m r hl)) Q := by
  unfold owns
  iintro ⟨⟨%f, %hf, H⟩, K⟩
  subst hf
  iapply (wp_load (k := .ret) (hl := hl) 𝒱 c bd E (View.setOn_subset_set _ _)) $$ H
  iintro H
  iapply (show Q (fun x => m.view.read Val f (r.idx x)) ⊢ wp frame (wpE defs 𝒱 c bd) E (Prog.ret (m.view.readAt Val r f)) Q from le_wp_ret frame (wpE defs 𝒱 c bd) E (m.view.readAt Val r f) Q)
  iapply K
  iexists f
  isplitr
  · ipureintro; rfl
  · iexact H

/-- A store puts its values at the rectangle's places. -/
theorem wp_st {cs : CoreSpace} (m : Memref sig c.2.kind cs s e) (r : Rect s) (w : r.shape.Idx → Val e)
    (hx : (m.access r).Stores Finset.univ) (hm : (Finset.univ : Finset r.shape.Idx) = Finset.univ ∨ ∀ a, r.stride a = 1)
    (X : s.Idx → Val e) (Q : PUnit → sProp 𝕄) :
    iprop(owns c m fullShare X ∗ (owns c m fullShare (putR r w X) -∗ Q ⟨⟩))
      ⊢ wp frame (wpE defs 𝒱 c bd) E (Prog.lift (.store m r w Finset.univ hx hm)) Q := by
  unfold owns
  iintro ⟨⟨%f, %hf, H⟩, K⟩
  subst hf
  iapply (wp_store (k := .ret) (hx := hx) (hm := hm) 𝒱 c bd E (show (m.access r).setOn Finset.univ ⊆ m.view.set from View.set_slice_subset _ _)) $$ H
  iintro H
  iapply (le_wp_ret frame (wpE defs 𝒱 c bd) E PUnit.unit Q)
  iapply K
  iexists ((m.access r).write Val f w Finset.univ)
  isplitr
  · ipureintro
    funext y
    by_cases h : ∃ x, r.emb x = y
    · obtain ⟨x, rfl⟩ := h
      rw [putR_emb]
      exact View.read_slice_write_emb r f w (Finset.mem_univ x)
    · rw [putR_of_not _ _ _ _ (fun x hx => h ⟨x, hx⟩)]
      exact View.read_slice_write_of_not_mem r f w Finset.univ (fun hm => by
        obtain ⟨x, -, hx⟩ := Finset.mem_map.mp hm
        exact h ⟨x, hx⟩)
  · iexact H

/-- A scalar load reads the buffer's value at the rectangle's one place. -/
theorem wp_sld (m : Memref sig c.2.kind .smem s e) (r : Rect s) (h1 : r.shape.numel = 1) (hp : e.packing = 1) (q : PosShare TreeShare)
    (X : s.Idx → Val e) (Q : Val e → sProp 𝕄) :
    iprop(owns c m q X ∗ (owns c m q X -∗ Q (X (r.emb (Shape.Idx.first (h1.symm ▸ Nat.one_pos))))))
      ⊢ wp frame (wpE defs 𝒱 c bd) E (smemLoad m r h1 hp) Q := by
  unfold owns
  iintro ⟨⟨%f, %hf, H⟩, K⟩
  subst hf
  iapply (wp_smemLoadElt (k := .ret) 𝒱 c bd E (show (m.access r).set ⊆ m.view.set from View.set_slice_subset _ _)) $$ H
  iintro H
  iapply (show Q (m.view.read Val f (r.emb (Shape.Idx.first (h1.symm ▸ Nat.one_pos)))) ⊢ wp frame (wpE defs 𝒱 c bd) E (Prog.ret ((m.access r).read Val f (Shape.Idx.first (h1.symm ▸ Nat.one_pos)))) Q from le_wp_ret frame (wpE defs 𝒱 c bd) E _ Q)
  iapply K
  iexists f
  isplitr
  · ipureintro; rfl
  · iexact H

/-- An assumed fact that holds. -/
theorem wp_asm {P : Prop} {d : Decidable P} (h : P) (Q : PLift P → sProp 𝕄) :
    Q ⟨h⟩ ⊢ wp frame (wpE defs 𝒱 c bd) E (Prog.lift (.assume P d)) Q :=
  (le_wp_ret frame (wpE defs 𝒱 c bd) E (PLift.up h) Q).trans (wp_assume (k := .ret) 𝒱 c bd E h)

end Cert.Wp
-- ==== Proof.Rest.lean ====
module

public import proofs.«01_k».proof.Proof.Struct
public import proofs.«01_k».proof.Proof.Wp
public import Idealize.ShloMosaic.Lib.Pipeline.FrameBody
public import Idealize.ShloMosaic.Lib.Pointwise

/-! What one grid point does after the set-up, as one rule per stage: the 128 token gathers, the expansion of the
scales, the sixteen groups of eight rows. -/

@[expose] public section

set_option maxRecDepth 100000

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts Cert.Wp

variable {F : FTy → Type} [FloatOps F]

local notation "𝕄" => MT nD τ sig Unit (Elt F) ℕ (Pipeline.UD sig nD τ) ℕ

variable (𝒱 : Variants) (c : Dev nD) (bd : Option 𝒱.V) (E : Set ℕ)

/-- A sequence keeps an invariant that each of its members advances. -/
theorem wp_seqN (n : ℕ) (f : Fin n → Prog (TpuEff nD τ sig (Elt F) Λ₀ .tc) PUnit) (I : ℕ → sProp 𝕄)
    (h : ∀ t : Fin n, I t.val ⊢ wp Idealize.ShloMosaic.frame (wpE defs₀ 𝒱 (c : Thread nD τ) bd) E (f t) fun _ => I (t.val + 1)) :
    I 0 ⊢ wp Idealize.ShloMosaic.frame (wpE defs₀ 𝒱 (c : Thread nD τ) bd) E (seqN n f) fun _ => I n := by
  have key : ∀ (k : ℕ) (hk : k ≤ n), I (n - k) ⊢ wp Idealize.ShloMosaic.frame (wpE defs₀ 𝒱 (c : Thread nD τ) bd) E
      (Nat.rec (motive := fun k => k ≤ n → Prog (TpuEff nD τ sig (Elt F) Λ₀ .tc) PUnit) (fun _ => pure ⟨⟩)
        (fun k ih h => f ⟨n - (k + 1), by omega⟩ >>= fun _ => ih (by omega)) k hk) fun _ => I n := by
    intro k
    induction k with
    | zero => intro hk; exact le_wp_ret Idealize.ShloMosaic.frame (wpE defs₀ 𝒱 (c : Thread nD τ) bd) E PUnit.unit (fun _ => I n)
    | succ k ih =>
      intro hk
      show _ ⊢ wp Idealize.ShloMosaic.frame (wpE defs₀ 𝒱 (c : Thread nD τ) bd) E (f ⟨n - (k + 1), by omega⟩ >>= fun _ => _) _
      rw [wp_bind]
      have h1 := h ⟨n - (k + 1), by omega⟩
      have e : n - (k + 1) + 1 = n - k := by omega
      simp only [e] at h1
      exact h1.trans (wp_mono _ _ _ (fun _ => ih (by omega)))
  have := key n le_rfl
  rw [Nat.sub_self] at this
  exact this

/-! ## Reading a rank-two array at numbers -/

/-- The element of `X` at row `r`, column `q` (each taken within its extent). -/
def rd2 {α : Type} {n m : ℕ} [NeZero n] [NeZero m] (X : (⟨2, ![n, m]⟩ : Shape).Idx → α) (r q : ℕ) : α :=
  X (ValueIdx.ix2 (Fin.ofNat n r) (Fin.ofNat m q))

theorem rd2_eq {α : Type} {n m : ℕ} [NeZero n] [NeZero m] (X : (⟨2, ![n, m]⟩ : Shape).Idx → α) (y : (⟨2, ![n, m]⟩ : Shape).Idx)
    {r q : ℕ} (h0 : (y 0).val = r) (h1 : (y 1).val = q) : X y = rd2 X r q := by
  subst h0 h1
  unfold rd2
  congr 1
  funext a
  match a with
  | ⟨0, _⟩ => exact Fin.ext (Nat.mod_eq_of_lt (y 0).isLt).symm
  | ⟨1, _⟩ => exact Fin.ext (Nat.mod_eq_of_lt (y 1).isLt).symm

/-! ## The gathers -/

/-- After `t` gathers at point `i`: the tile holds the first six words of each gathered group, at stride 129, and
    the scale rows lie one a token. -/
def GInv (i : grid0.Coords) (G : Vec F S64x128 .i32) (T : Vec F S32000x128 .i32) (ST : Vec F S4000x128 .f32) (t : ℕ)
    (X13 : Vec F S904x128 .i32) (X14 : Vec F S128x128 .f32) : Prop :=
  (∀ (t' j : ℕ) (y : S904x128.Idx), t' < t → j < 6 → (y 0).val = 129 * j + t' →
      X13 y = rd2 T ((rd2 G (i 0).val t' : BitVec 32).toNat + j) (y 1).val)
  ∧ ∀ (t' : ℕ) (y : S128x128.Idx), t' < t → (y 0).val = t' →
      X14 y = rd2 ST ((rd2 G (i 0).val t' : BitVec 32) >>> 3).toNat (y 1).val

theorem off13_eq (v : BitVec 32) : k0_off13 v = ![v.toNat, 0] := rfl
theorem off14_eq (v : BitVec 32) : k0_off14 v = ![(v >>> 3).toNat, 0] := rfl

/-- One more gather. -/
theorem GInv_step (i : grid0.Coords) (G : Vec F S64x128 .i32) (T : Vec F S32000x128 .i32) (ST : Vec F S4000x128 .f32) (t : Fin 128)
    (X13 : Vec F S904x128 .i32) (X14 : Vec F S128x128 .f32) (h : GInv i G T ST t.val X13 X14) (v : BitVec 32)
    (hv : v = rd2 G (i 0).val t.val) (hw : k0_chk1 v) (x : Vec F S8x128 .i32) (z : Vec F S1x128 .f32)
    (hx : x = fun y => T ((Rect.unit (s := S32000x128) (k0_off13 v) S8x128.size (k0_off13_inb v hw)).toLoadRect.idx y))
    (hz : z = fun y => ST ((Rect.unit (s := S4000x128) (k0_off14 v) S1x128.size (k0_off14_inb v hw)).toLoadRect.idx y)) :
    GInv i G T ST (t.val + 1)
      (putR ⟨(⟨![t.val, 0], S6x128.size, ![129, 1], tile_inb t⟩ : LoadRect S904x128), spos_129_1⟩
        (shapeCast S6x128 (extractStridedSlice S6x128 ![0, 0] x slices_S8x128_o0_0_S6x128) shapeCasts_S6x128_S6x128 : IVec S6x128 32) X13)
      (putR (Rect.unit (s := S128x128) ![t.val, 0] S1x128.size (stile_inb t)) (shapeCast S1x128 z shapeCasts_S1x128_S1x128 : FVec F S1x128 .f32) X14) := by
  obtain ⟨h13, h14⟩ := h
  constructor
  · intro t' j y ht' hj hy
    by_cases htt : t' = t.val
    · have hy1 : (y 1).val < 128 := (y 1).isLt
      have e : y = (⟨(⟨![t.val, 0], S6x128.size, ![129, 1], tile_inb t⟩ : LoadRect S904x128), spos_129_1⟩ : Rect S904x128).emb
          (ValueIdx.ix2 (n0 := 6) (n1 := 128) ⟨j, hj⟩ ⟨(y 1).val, hy1⟩) := by
        funext a
        match a with
        | ⟨0, _⟩ => exact Fin.ext (by rw [Rect.emb_apply]; show (y 0).val = t.val + 129 * j; omega)
        | ⟨1, _⟩ => exact Fin.ext (by rw [Rect.emb_apply]; show (y 1).val = 0 + 1 * (y 1).val; omega)
      rw [e, putR_emb, shapeCast_self]
      rw [← e, hx, htt, ← hv]
      show T _ = _
      refine rd2_eq T _ ?_ ?_
      · rw [LoadRect.idx_apply]
        show k0_off13 v 0 + 1 * (0 + j) = _
        rw [off13_eq]; show v.toNat + 1 * (0 + j) = _; omega
      · rw [LoadRect.idx_apply]
        show k0_off13 v 1 + 1 * (0 + (y 1).val) = _
        rw [off13_eq]; show 0 + 1 * (0 + (y 1).val) = _; omega
    · rw [putR_of_not]
      · exact h13 t' j y (by omega) hj hy
      · rintro x' rfl
        rw [Rect.emb_apply] at hy
        have hx6 : (x' 0).val < 6 := (x' 0).isLt
        have hy' : t.val + 129 * (x' 0).val = 129 * j + t' := hy
        have := t.isLt
        omega
  · intro t' y ht' hy
    by_cases htt : t' = t.val
    · have hy1 : (y 1).val < 128 := (y 1).isLt
      have e : y = (Rect.unit (s := S128x128) ![t.val, 0] S1x128.size (stile_inb t)).emb
          (ValueIdx.ix2 (n0 := 1) (n1 := 128) ⟨0, by omega⟩ ⟨(y 1).val, hy1⟩) := by
        funext a
        match a with
        | ⟨0, _⟩ => exact Fin.ext (by rw [Rect.emb_apply]; show (y 0).val = t.val + 1 * 0; omega)
        | ⟨1, _⟩ => exact Fin.ext (by rw [Rect.emb_apply]; show (y 1).val = 0 + 1 * (y 1).val; omega)
      rw [e, putR_emb, shapeCast_self]
      rw [← e, hz, htt, ← hv]
      refine rd2_eq ST _ ?_ ?_
      · rw [LoadRect.idx_apply]
        show k0_off14 v 0 + 1 * 0 = _
        rw [off14_eq]; show (v >>> 3).toNat + 1 * 0 = _; omega
      · rw [LoadRect.idx_apply]
        show k0_off14 v 1 + 1 * (y 1).val = _
        rw [off14_eq]; show 0 + 1 * (y 1).val = _; omega
    · rw [putR_of_not]
      · exact h14 t' y (by omega) hy
      · rintro x' rfl
        rw [Rect.emb_apply] at hy
        have hx1 : (x' 0).val < 1 := (x' 0).isLt
        have hy' : t.val + 1 * (x' 0).val = t' := hy
        omega

/-- What a point's gathers hold before gather `t`. -/
def gatherI (i : grid0.Coords) (A : Args) (G : Vec F S64x128 .i32) (T : Vec F S32000x128 .i32) (ST : Vec F S4000x128 .f32) (t : ℕ) : sProp 𝕄 :=
  iprop(owns (c : Thread nD τ) A.arg12 fullShare G ∗ owns (c : Thread nD τ) A.arg7 fullShare T ∗ owns (c : Thread nD τ) A.arg9 fullShare ST
    ∗ ∃ X13, ∃ X14, ⌜GInv i G T ST t X13 X14⌝ ∗ owns (c : Thread nD τ) A.arg13 fullShare X13 ∗ owns (c : Thread nD τ) A.arg14 fullShare X14)

theorem wp_gather (i : grid0.Coords) (A : Args) (G : Vec F S64x128 .i32) (T : Vec F S32000x128 .i32) (ST : Vec F S4000x128 .f32)
    (hG : ∀ y, k0_chk1 (G y)) (t : Fin 128) :
    gatherI c i A G T ST t.val ⊢ wp Idealize.ShloMosaic.frame (wpE defs₀ 𝒱 (c : Thread nD τ) bd) E (gather i A t) fun _ => gatherI c i A G T ST (t.val + 1) := by
  unfold gather gatherI
  simp only [wp_bind]
  iintro ⟨H12, H7, H9, %X13, %X14, %hI, H13, H14⟩
  iapply (wp_sld 𝒱 (c : Thread nD τ) bd E A.arg12 _ _ _ fullShare G _) $$ [H12 H7 H9 H13 H14]
  isplitl [H12]; · iexact H12
  iintro H12
  iapply (wp_asm 𝒱 (c : Thread nD τ) bd E (hG _) _)
  iapply (wp_ld 𝒱 (c : Thread nD τ) bd E A.arg7 _ _ fullShare T _) $$ [H12 H7 H9 H13 H14]
  isplitl [H7]; · iexact H7
  iintro H7
  iapply (wp_ld 𝒱 (c : Thread nD τ) bd E A.arg13 _ _ fullShare X13 _) $$ [H12 H7 H9 H13 H14]
  isplitl [H13]; · iexact H13
  iintro H13
  iapply (wp_st 𝒱 (c : Thread nD τ) bd E A.arg13 _ _ _ _ X13 _) $$ [H12 H7 H9 H13 H14]
  isplitl [H13]; · iexact H13
  iintro H13
  iapply (wp_ld 𝒱 (c : Thread nD τ) bd E A.arg9 _ _ fullShare ST _) $$ [H12 H7 H9 H13 H14]
  isplitl [H9]; · iexact H9
  iintro H9
  iapply (wp_ld 𝒱 (c : Thread nD τ) bd E A.arg14 _ _ fullShare X14 _) $$ [H12 H7 H9 H13 H14]
  isplitl [H14]; · iexact H14
  iintro H14
  iapply (wp_st 𝒱 (c : Thread nD τ) bd E A.arg14 _ _ _ _ X14 _) $$ [H12 H7 H9 H13 H14]
  isplitl [H14]; · iexact H14
  iintro H14
  isplitl [H12]; · iexact H12
  isplitl [H7]; · iexact H7
  isplitl [H9]; · iexact H9
  iexists _, _
  isplitr
  rotate_left
  · isplitl [H13]; · iexact H13
    iexact H14
  · ipureintro
    refine GInv_step i G T ST t X13 X14 hI _ (rd2_eq G _ ?_ ?_) (hG _) _ _ rfl rfl
    · rw [Rect.emb_apply]; show offG i t 0 + 1 * 0 = _; rw [offG_eq]; rfl
    · rw [Rect.emb_apply]; show offG i t 1 + 1 * 0 = _; rw [offG_eq]; rfl

/-! ## The scales -/

/-- The 128 rows of the row numbers that point `i` reads. -/
def kBlk (i : grid0.Coords) (K : Vec F S8192x128 .i32) : Vec F S128x128 .i32 := fun y => rd2 K (128 * (i 0).val + (y 0).val) (y 1).val

theorem load_whole {α : Type} {n m : ℕ} (X : (⟨2, ![n, m]⟩ : Shape).Idx → α) (h) :
    (fun y => X ((Rect.unit (s := (⟨2, ![n, m]⟩ : Shape)) ![0, 0] (⟨2, ![n, m]⟩ : Shape).size h).toLoadRect.idx y)) = X := by
  funext y
  congr 1
  funext a
  match a with
  | ⟨0, _⟩ => exact Fin.ext (by rw [LoadRect.idx_apply]; show 0 + 1 * (y 0).val = (y 0).val; omega)
  | ⟨1, _⟩ => exact Fin.ext (by rw [LoadRect.idx_apply]; show 0 + 1 * (y 1).val = (y 1).val; omega)

theorem putR_whole {α : Type} {n m : ℕ} (X w : (⟨2, ![n, m]⟩ : Shape).Idx → α) (h) :
    putR (Rect.unit (s := (⟨2, ![n, m]⟩ : Shape)) ![0, 0] (⟨2, ![n, m]⟩ : Shape).size h) w X = w := by
  funext y
  have e : y = (Rect.unit (s := (⟨2, ![n, m]⟩ : Shape)) ![0, 0] (⟨2, ![n, m]⟩ : Shape).size h).emb y := by
    funext a
    match a with
    | ⟨0, _⟩ => exact Fin.ext (by rw [Rect.emb_apply]; show (y 0).val = 0 + 1 * (y 0).val; omega)
    | ⟨1, _⟩ => exact Fin.ext (by rw [Rect.emb_apply]; show (y 1).val = 0 + 1 * (y 1).val; omega)
  conv_lhs => rw [e]
  rw [putR_emb]

theorem kBlk_eq (i : grid0.Coords) (K : Vec F S8192x128 .i32) :
    (fun y => K ((Rect.unit (s := S8192x128) (k0_off396 i) S128x128.size (k0_off396_inb i)).toLoadRect.idx y)) = kBlk i K := by
  funext y
  refine rd2_eq K _ ?_ ?_
  · rw [LoadRect.idx_apply]; show k0_off396 i 0 + 1 * (y 0).val = _; have h := congrFun (Gen.k0_off396_eq i) 0; rw [h]; show 128 * (i 0).val + 1 * (y 0).val = _; omega
  · rw [LoadRect.idx_apply]; show k0_off396 i 1 + 1 * (y 1).val = _; have h := congrFun (Gen.k0_off396_eq i) 1; rw [h]; show 0 + 1 * (y 1).val = _; omega

theorem wp_scales (i : grid0.Coords) (A : Args) (K : Vec F S8192x128 .i32) (X14 : Vec F S128x128 .f32) (EX : Vec F S128x768 .bf16)
    (X15 : Vec F S128x768 .f32) (Q : PUnit → sProp 𝕄) :
    iprop(owns (c : Thread nD τ) A.arg10 fullShare K ∗ owns (c : Thread nD τ) A.arg14 fullShare X14 ∗ owns (c : Thread nD τ) A.arg16 fullShare EX
      ∗ owns (c : Thread nD τ) A.arg15 fullShare X15
      ∗ (owns (c : Thread nD τ) A.arg10 fullShare K -∗ owns (c : Thread nD τ) A.arg14 fullShare X14 -∗ owns (c : Thread nD τ) A.arg16 fullShare EX
          -∗ owns (c : Thread nD τ) A.arg15 fullShare (sfullOf (kBlk i K) X14 EX : FVec F S128x768 .f32) -∗ Q ⟨⟩))
    ⊢ wp Idealize.ShloMosaic.frame (wpE defs₀ 𝒱 (c : Thread nD τ) bd) E (scales i A) Q := by
  unfold scales
  simp only [wp_bind]
  iintro ⟨H10, H14, H16, H15, HQ⟩
  iapply (wp_ld 𝒱 (c : Thread nD τ) bd E A.arg10 _ _ fullShare K _) $$ [H10 H14 H16 H15 HQ]
  isplitl [H10]; · iexact H10
  iintro H10
  iapply (wp_ld 𝒱 (c : Thread nD τ) bd E A.arg14 _ _ fullShare X14 _) $$ [H10 H14 H16 H15 HQ]
  isplitl [H14]; · iexact H14
  iintro H14
  iapply (wp_ld 𝒱 (c : Thread nD τ) bd E A.arg16 _ _ fullShare EX _) $$ [H10 H14 H16 H15 HQ]
  isplitl [H16]; · iexact H16
  iintro H16
  iapply (wp_ld 𝒱 (c : Thread nD τ) bd E A.arg15 _ _ fullShare X15 _) $$ [H10 H14 H16 H15 HQ]
  isplitl [H15]; · iexact H15
  iintro H15
  iapply (wp_st 𝒱 (c : Thread nD τ) bd E A.arg15 _ _ _ _ X15 _) $$ [H10 H14 H16 H15 HQ]
  isplitl [H15]; · iexact H15
  iintro H15
  rw [kBlk_eq, load_whole X14, load_whole EX, shapeCast_self, putR_whole]
  iapply HQ $$ H10 H14 H16 H15

/-! ## The groups of eight rows -/

/-- The row numbers of group `s`. -/
def kkV (i : grid0.Coords) (K : Vec F S8192x128 .i32) (s : ℕ) : Vec F S8x128 .i32 := fun y => rd2 K (128 * (i 0).val + 8 * s + (y 0).val) (y 1).val

/-- The embedding's block: rows `8s …`, columns `128j …`. -/
def embV (i : grid0.Coords) (K : Vec F S8192x128 .i32) (X13 : Vec F S904x128 .i32) (X15 : Vec F S128x768 .f32) (s j : ℕ) : FVec F S8x128 .bf16 :=
  embOf (kkV i K s) (fun y => rd2 X13 (129 * j + 8 * s + (y 0).val) (y 1).val) (fun y => rd2 X15 (8 * s + (y 0).val) (128 * j + (y 1).val))

/-- The result's block: rows `8s …`, columns `128j …`. -/
def outV (i : grid0.Coords) (K : Vec F S8192x128 .i32) (X13 : Vec F S904x128 .i32) (X15 : Vec F S128x768 .f32) (WT : Vec F S8x768 .f32) (s j : ℕ) : FVec F S8x128 .bf16 :=
  outOf (embV i K X13 X15 s j)
    (rmsOf (acc6 (embV i K X13 X15 s 0) (embV i K X13 X15 s 1) (embV i K X13 X15 s 2) (embV i K X13 X15 s 3) (embV i K X13 X15 s 4) (embV i K X13 X15 s 5)))
    (fun y => rd2 WT (y 0).val (128 * j + (y 1).val))

/-- The blocks that `D` marks are as `V` says. -/
def OInv (V : ℕ → ℕ → FVec F S8x128 .bf16) (D : ℕ → ℕ → Prop) (X : Vec F S1x128x768 .bf16) : Prop :=
  ∀ (s j : ℕ) (y : S1x128x768.Idx) (x : S8x128.Idx), D s j → (y 1).val = 8 * s + (x 0).val → (y 2).val = 128 * j + (x 1).val → X y = V s j x

theorem OInv_put (V : ℕ → ℕ → FVec F S8x128 .bf16) (D D' : ℕ → ℕ → Prop) (X : Vec F S1x128x768 .bf16) (h : OInv V D X) (s : Fin 16) (j : Fin 6)
    (e : FVec F S8x128 .bf16) (he : e = V s.val j.val) (hD : ∀ s' j', D' s' j' → D s' j' ∨ (s' = s.val ∧ j' = j.val)) :
    OInv V D' (putR (Rect.unit (s := S1x128x768) ![0, 8 * s.val, 128 * j.val] S1x8x128.size (out_inb s j)) (shapeCast S1x8x128 e shapeCasts_S8x128_S1x8x128 : FVec F S1x8x128 .bf16) X) := by
  intro s' j' y x hd h1 h2
  have hx0 : (x 0).val < 8 := (x 0).isLt
  have hx1 : (x 1).val < 128 := (x 1).isLt
  by_cases hs : s' = s.val ∧ j' = j.val
  · obtain ⟨rfl, rfl⟩ := hs
    have ey : y = (Rect.unit (s := S1x128x768) ![0, 8 * s.val, 128 * j.val] S1x8x128.size (out_inb s j)).emb
        (ValueIdx.ix3 (n0 := 1) (n1 := 8) (n2 := 128) ⟨0, by omega⟩ ⟨(x 0).val, hx0⟩ ⟨(x 1).val, hx1⟩) := by
      have hy0 : (y 0).val < 1 := (y 0).isLt
      funext a
      match a with
      | ⟨0, _⟩ => exact Fin.ext (by rw [Rect.emb_apply]; show (y 0).val = 0 + 1 * 0; omega)
      | ⟨1, _⟩ => exact Fin.ext (by rw [Rect.emb_apply]; show (y 1).val = 8 * s.val + 1 * (x 0).val; omega)
      | ⟨2, _⟩ => exact Fin.ext (by rw [Rect.emb_apply]; show (y 2).val = 128 * j.val + 1 * (x 1).val; omega)
    rw [ey, putR_emb, ← he]
    refine (congrArg e ?_ : shapeCast S1x8x128 e shapeCasts_S8x128_S1x8x128 _ = e x)
    exact Shape.reshapeEquiv_eq_of_rowMajor _ (by
      rw [Shape.rowMajor_val_three, Shape.rowMajor_val_two]
      show (x 0).val * 128 + (x 1).val = (0 * 8 + (x 0).val) * 128 + (x 1).val
      omega)
  · rw [putR_of_not]
    · rcases hD s' j' hd with hd' | hd'
      · exact h s' j' y x hd' h1 h2
      · exact absurd hd' hs
    · rintro x' rfl
      rw [Rect.emb_apply] at h1 h2
      have a1 : (x' 1).val < 8 := (x' 1).isLt
      have a2 : (x' 2).val < 128 := (x' 2).isLt
      have h1' : 8 * s.val + 1 * (x' 1).val = 8 * s' + (x 0).val := h1
      have h2' : 128 * j.val + 1 * (x' 2).val = 128 * j' + (x 1).val := h2
      exact hs ⟨by omega, by omega⟩

theorem wp_embCol (i : grid0.Coords) (A : Args) (s : Fin 16) (j : Fin 6) (K : Vec F S8192x128 .i32) (X13 : Vec F S904x128 .i32) (X15 : Vec F S128x768 .f32)
    (X6 : Vec F S1x128x768 .bf16) (D D' : ℕ → ℕ → Prop) (h : OInv (embV i K X13 X15) D X6)
    (hD : ∀ s' j', D' s' j' → D s' j' ∨ (s' = s.val ∧ j' = j.val)) (Q : FVec F S8x128 .bf16 → sProp 𝕄) :
    iprop(owns (c : Thread nD τ) A.arg13 fullShare X13 ∗ owns (c : Thread nD τ) A.arg15 fullShare X15 ∗ owns (c : Thread nD τ) A.arg6 fullShare X6
      ∗ (owns (c : Thread nD τ) A.arg13 fullShare X13 -∗ owns (c : Thread nD τ) A.arg15 fullShare X15
          -∗ (∃ X6', ⌜OInv (embV i K X13 X15) D' X6'⌝ ∗ owns (c : Thread nD τ) A.arg6 fullShare X6') -∗ Q (embV i K X13 X15 s.val j.val)))
    ⊢ wp Idealize.ShloMosaic.frame (wpE defs₀ 𝒱 (c : Thread nD τ) bd) E (embCol A s (kkV i K s.val) j) Q := by
  unfold embCol
  simp only [wp_bind]
  iintro ⟨H13, H15, H6, HQ⟩
  iapply (wp_ld 𝒱 (c : Thread nD τ) bd E A.arg13 _ _ fullShare X13 _) $$ [H13 H15 H6 HQ]
  isplitl [H13]; · iexact H13
  iintro H13
  iapply (wp_ld 𝒱 (c : Thread nD τ) bd E A.arg15 _ _ fullShare X15 _) $$ [H13 H15 H6 HQ]
  isplitl [H15]; · iexact H15
  iintro H15
  iapply (wp_ld 𝒱 (c : Thread nD τ) bd E A.arg6 _ _ fullShare X6 _) $$ [H13 H15 H6 HQ]
  isplitl [H6]; · iexact H6
  iintro H6
  iapply (wp_st 𝒱 (c : Thread nD τ) bd E A.arg6 _ _ _ _ X6 _) $$ [H13 H15 H6 HQ]
  isplitl [H6]; · iexact H6
  iintro H6
  have e13 : (fun y => X13 ((Rect.unit (s := S904x128) ![129 * j.val + 8 * s.val, 0] S8x128.size (rows_inb s j)).toLoadRect.idx y))
      = (fun y : S8x128.Idx => rd2 X13 (129 * j.val + 8 * s.val + (y 0).val) (y 1).val) := by
    funext y
    refine rd2_eq X13 _ ?_ ?_
    · rw [LoadRect.idx_apply]; show 129 * j.val + 8 * s.val + 1 * (y 0).val = _; omega
    · rw [LoadRect.idx_apply]; show 0 + 1 * (y 1).val = _; omega
  have e15 : (fun y => X15 ((Rect.unit (s := S128x768) ![8 * s.val, 128 * j.val] S8x128.size (sfull_inb s j)).toLoadRect.idx y))
      = (fun y : S8x128.Idx => rd2 X15 (8 * s.val + (y 0).val) (128 * j.val + (y 1).val)) := by
    funext y
    refine rd2_eq X15 _ ?_ ?_
    · rw [LoadRect.idx_apply]; show 8 * s.val + 1 * (y 0).val = _; omega
    · rw [LoadRect.idx_apply]; show 128 * j.val + 1 * (y 1).val = _; omega
  rw [e13, e15]
  iapply (le_wp_ret Idealize.ShloMosaic.frame (wpE defs₀ 𝒱 (c : Thread nD τ) bd) E (embV i K X13 X15 s.val j.val) Q)
  iapply HQ $$ H13 H15 [H6]
  iexists _
  isplitr
  rotate_left
  · iexact H6
  · ipureintro
    exact OInv_put _ D D' X6 h s j _ rfl hD

theorem wp_outCol (i : grid0.Coords) (A : Args) (s : Fin 16) (j : Fin 6) (V : ℕ → ℕ → FVec F S8x128 .bf16) (WT : Vec F S8x768 .f32)
    (X5 : Vec F S1x128x768 .bf16) (D D' : ℕ → ℕ → Prop) (r : FVec F S8x128 .f32) (e : FVec F S8x128 .bf16)
    (hV : outOf e r (fun y => rd2 WT (y 0).val (128 * j.val + (y 1).val)) = V s.val j.val) (h : OInv V D X5)
    (hD : ∀ s' j', D' s' j' → D s' j' ∨ (s' = s.val ∧ j' = j.val)) (Q : PUnit → sProp 𝕄) :
    iprop(owns (c : Thread nD τ) A.arg17 fullShare WT ∗ owns (c : Thread nD τ) A.arg5 fullShare X5
      ∗ (owns (c : Thread nD τ) A.arg17 fullShare WT -∗ (∃ X5', ⌜OInv V D' X5'⌝ ∗ owns (c : Thread nD τ) A.arg5 fullShare X5') -∗ Q ⟨⟩))
    ⊢ wp Idealize.ShloMosaic.frame (wpE defs₀ 𝒱 (c : Thread nD τ) bd) E (outCol A s r j e) Q := by
  unfold outCol
  simp only [wp_bind]
  iintro ⟨H17, H5, HQ⟩
  iapply (wp_ld 𝒱 (c : Thread nD τ) bd E A.arg17 _ _ fullShare WT _) $$ [H17 H5 HQ]
  isplitl [H17]; · iexact H17
  iintro H17
  iapply (wp_ld 𝒱 (c : Thread nD τ) bd E A.arg5 _ _ fullShare X5 _) $$ [H17 H5 HQ]
  isplitl [H5]; · iexact H5
  iintro H5
  iapply (wp_st 𝒱 (c : Thread nD τ) bd E A.arg5 _ _ _ _ X5 _) $$ [H17 H5 HQ]
  isplitl [H5]; · iexact H5
  iintro H5
  have e17 : (fun y => WT ((Rect.unit (s := S8x768) ![0, 128 * j.val] S8x128.size (wt_inb j)).toLoadRect.idx y))
      = (fun y : S8x128.Idx => rd2 WT (y 0).val (128 * j.val + (y 1).val)) := by
    funext y
    refine rd2_eq WT _ ?_ ?_
    · rw [LoadRect.idx_apply]; show 0 + 1 * (y 0).val = _; omega
    · rw [LoadRect.idx_apply]; show 128 * j.val + 1 * (y 1).val = _; omega
  rw [e17]
  iapply HQ $$ H17 [H5]
  iexists _
  isplitr
  rotate_left
  · iexact H5
  · ipureintro
    exact OInv_put _ D D' X5 h s j _ hV hD

/-- The blocks stored before column block `k` of group `s`. -/
def Dn (s k s' j' : ℕ) : Prop := (s' < s ∨ (s' = s ∧ j' < k)) ∧ j' < 6

theorem kkV_eq (i : grid0.Coords) (K : Vec F S8192x128 .i32) (s : Fin 16) :
    (fun y => K ((Rect.unit (s := S8192x128) (k0_off397 i (BitVec.ofNat 32 (8 * s.val))) S8x128.size (k0_off397_inb i s)).toLoadRect.idx y)) = kkV i K s.val := by
  funext y
  refine rd2_eq K _ ?_ ?_
  · rw [LoadRect.idx_apply]; show k0_off397 i (BitVec.ofNat 32 (8 * s.val)) 0 + 1 * (y 0).val = _; have h := congrFun (Gen.k0_off397_eq i s) 0; rw [h]; show 128 * (i 0).val + 8 * s.val + 1 * (y 0).val = _; omega
  · rw [LoadRect.idx_apply]; show k0_off397 i (BitVec.ofNat 32 (8 * s.val)) 1 + 1 * (y 1).val = _; have h := congrFun (Gen.k0_off397_eq i s) 1; rw [h]; show 0 + 1 * (y 1).val = _; omega

/-- What the groups hold before group `s`. -/
def groupI (i : grid0.Coords) (A : Args) (K : Vec F S8192x128 .i32) (X13 : Vec F S904x128 .i32) (X15 : Vec F S128x768 .f32) (WT : Vec F S8x768 .f32) (s : ℕ) : sProp 𝕄 :=
  iprop(owns (c : Thread nD τ) A.arg10 fullShare K ∗ owns (c : Thread nD τ) A.arg13 fullShare X13 ∗ owns (c : Thread nD τ) A.arg15 fullShare X15
    ∗ owns (c : Thread nD τ) A.arg17 fullShare WT
    ∗ (∃ X6, ⌜OInv (embV i K X13 X15) (Dn s 0) X6⌝ ∗ owns (c : Thread nD τ) A.arg6 fullShare X6)
    ∗ (∃ X5, ⌜OInv (outV i K X13 X15 WT) (Dn s 0) X5⌝ ∗ owns (c : Thread nD τ) A.arg5 fullShare X5))

theorem wp_group (i : grid0.Coords) (A : Args) (K : Vec F S8192x128 .i32) (X13 : Vec F S904x128 .i32) (X15 : Vec F S128x768 .f32) (WT : Vec F S8x768 .f32) (s : Fin 16) :
    groupI c i A K X13 X15 WT s.val ⊢ wp Idealize.ShloMosaic.frame (wpE defs₀ 𝒱 (c : Thread nD τ) bd) E (group i A s) fun _ => groupI c i A K X13 X15 WT (s.val + 1) := by
  unfold group groupI
  simp only [wp_bind]
  iintro ⟨H10, H13, H15, H17, ⟨%X6, %h6, H6⟩, ⟨%X5, %h5, H5⟩⟩
  iapply (wp_ld 𝒱 (c : Thread nD τ) bd E A.arg10 _ _ fullShare K _) $$ [H10 H13 H15 H17 H6 H5]
  isplitl [H10]; · iexact H10
  iintro H10
  rw [kkV_eq]
  iapply (wp_embCol 𝒱 c bd E i A s 0 K X13 X15 _ (Dn s.val 0) (Dn s.val 1) h6 (by intro s' j' hd; unfold Dn at *; show _ ∨ (s' = s.val ∧ j' = 0); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 1 K X13 X15 _ (Dn s.val 1) (Dn s.val 2) h6 (by intro s' j' hd; unfold Dn at *; show _ ∨ (s' = s.val ∧ j' = 1); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 2 K X13 X15 _ (Dn s.val 2) (Dn s.val 3) h6 (by intro s' j' hd; unfold Dn at *; show _ ∨ (s' = s.val ∧ j' = 2); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 3 K X13 X15 _ (Dn s.val 3) (Dn s.val 4) h6 (by intro s' j' hd; unfold Dn at *; show _ ∨ (s' = s.val ∧ j' = 3); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 4 K X13 X15 _ (Dn s.val 4) (Dn s.val 5) h6 (by intro s' j' hd; unfold Dn at *; show _ ∨ (s' = s.val ∧ j' = 4); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 5 K X13 X15 _ (Dn s.val 5) (Dn s.val 6) h6 (by intro s' j' hd; unfold Dn at *; show _ ∨ (s' = s.val ∧ j' = 5); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_outCol 𝒱 c bd E i A s 0 (outV i K X13 X15 WT) WT _ (Dn s.val 0) (Dn s.val 1) _ _ rfl h5 (by intro s' j' hd; unfold Dn at *; show _ ∨ (s' = s.val ∧ j' = 0); omega) _) $$ [H10 H13 H15 H17 H6 H5]
  isplitl [H17]; · iexact H17
  isplitl [H5]; · iexact H5
  clear h5 X5
  iintro H17 ⟨%X5, %h5, H5⟩
  iapply (wp_outCol 𝒱 c bd E i A s 1 (outV i K X13 X15 WT) WT _ (Dn s.val 1) (Dn s.val 2) _ _ rfl h5 (by intro s' j' hd; unfold Dn at *; show _ ∨ (s' = s.val ∧ j' = 1); omega) _) $$ [H10 H13 H15 H17 H6 H5]
  isplitl [H17]; · iexact H17
  isplitl [H5]; · iexact H5
  clear h5 X5
  iintro H17 ⟨%X5, %h5, H5⟩
  iapply (wp_outCol 𝒱 c bd E i A s 2 (outV i K X13 X15 WT) WT _ (Dn s.val 2) (Dn s.val 3) _ _ rfl h5 (by intro s' j' hd; unfold Dn at *; show _ ∨ (s' = s.val ∧ j' = 2); omega) _) $$ [H10 H13 H15 H17 H6 H5]
  isplitl [H17]; · iexact H17
  isplitl [H5]; · iexact H5
  clear h5 X5
  iintro H17 ⟨%X5, %h5, H5⟩
  iapply (wp_outCol 𝒱 c bd E i A s 3 (outV i K X13 X15 WT) WT _ (Dn s.val 3) (Dn s.val 4) _ _ rfl h5 (by intro s' j' hd; unfold Dn at *; show _ ∨ (s' = s.val ∧ j' = 3); omega) _) $$ [H10 H13 H15 H17 H6 H5]
  isplitl [H17]; · iexact H17
  isplitl [H5]; · iexact H5
  clear h5 X5
  iintro H17 ⟨%X5, %h5, H5⟩
  iapply (wp_outCol 𝒱 c bd E i A s 4 (outV i K X13 X15 WT) WT _ (Dn s.val 4) (Dn s.val 5) _ _ rfl h5 (by intro s' j' hd; unfold Dn at *; show _ ∨ (s' = s.val ∧ j' = 4); omega) _) $$ [H10 H13 H15 H17 H6 H5]
  isplitl [H17]; · iexact H17
  isplitl [H5]; · iexact H5
  clear h5 X5
  iintro H17 ⟨%X5, %h5, H5⟩
  iapply (wp_outCol 𝒱 c bd E i A s 5 (outV i K X13 X15 WT) WT _ (Dn s.val 5) (Dn s.val 6) _ _ rfl h5 (by intro s' j' hd; unfold Dn at *; show _ ∨ (s' = s.val ∧ j' = 5); omega) _) $$ [H10 H13 H15 H17 H6 H5]
  isplitl [H17]; · iexact H17
  isplitl [H5]; · iexact H5
  clear h5 X5
  iintro H17 ⟨%X5, %h5, H5⟩
  isplitl [H10]; · iexact H10
  isplitl [H13]; · iexact H13
  isplitl [H15]; · iexact H15
  isplitl [H17]; · iexact H17
  have hDn : ∀ s' j', Dn (s.val + 1) 0 s' j' → Dn s.val 6 s' j' := by intro s' j' h; unfold Dn at *; omega
  isplitl [H6]
  · iexists X6
    isplitr
    · ipureintro; exact fun s' j' y x hd => h6 s' j' y x (hDn s' j' hd)
    · iexact H6
  · iexists X5
    isplitr
    · ipureintro; exact fun s' j' y x hd => h5 s' j' y x (hDn s' j' hd)
    · iexact H5

/-! ## The whole point -/

/-- The gathered words as numbers place them: row `129 j + t` is word `j` of token `t`'s group. -/
def tileF (i : grid0.Coords) (G : Vec F S64x128 .i32) (T : Vec F S32000x128 .i32) : Vec F S904x128 .i32 :=
  fun y => rd2 T ((rd2 G (i 0).val ((y 0).val % 129) : BitVec 32).toNat + (y 0).val / 129) (y 1).val

/-- The gathered rows of scales. -/
def stileF (i : grid0.Coords) (G : Vec F S64x128 .i32) (ST : Vec F S4000x128 .f32) : Vec F S128x128 .f32 :=
  fun y => rd2 ST ((rd2 G (i 0).val (y 0).val : BitVec 32) >>> 3).toNat (y 1).val

/-- A block of the whole: from the values by row group and column block. -/
def wholeOf (V : ℕ → ℕ → FVec F S8x128 .bf16) : Vec F S1x128x768 .bf16 :=
  fun y => V ((y 1).val / 8) ((y 2).val / 128) (ValueIdx.ix2 (Fin.ofNat 8 (y 1).val) (Fin.ofNat 128 (y 2).val))

/-- The embedding's block at point `i`. -/
def embAll (i : grid0.Coords) (G : Vec F S64x128 .i32) (T : Vec F S32000x128 .i32) (ST : Vec F S4000x128 .f32) (K : Vec F S8192x128 .i32)
    (EX : Vec F S128x768 .bf16) : Vec F S1x128x768 .bf16 :=
  wholeOf (embV i K (tileF i G T) (sfullOf (kBlk i K) (stileF i G ST) EX : FVec F S128x768 .f32))

/-- The result's block at point `i`. -/
def outAll (i : grid0.Coords) (G : Vec F S64x128 .i32) (T : Vec F S32000x128 .i32) (ST : Vec F S4000x128 .f32) (K : Vec F S8192x128 .i32)
    (EX : Vec F S128x768 .bf16) (WT : Vec F S8x768 .f32) : Vec F S1x128x768 .bf16 :=
  wholeOf (outV i K (tileF i G T) (sfullOf (kBlk i K) (stileF i G ST) EX : FVec F S128x768 .f32) WT)

theorem OInv_whole (V : ℕ → ℕ → FVec F S8x128 .bf16) (X : Vec F S1x128x768 .bf16) (h : OInv V (Dn 16 0) X) : X = wholeOf V := by
  funext y
  have h1 : (y 1).val < 128 := (y 1).isLt
  have h2 : (y 2).val < 768 := (y 2).isLt
  refine h _ _ y _ ?_ ?_ ?_
  · unfold Dn; omega
  · show (y 1).val = 8 * ((y 1).val / 8) + (y 1).val % 8; omega
  · show (y 2).val = 128 * ((y 2).val / 128) + (y 2).val % 128; omega

theorem embV_congr (i : grid0.Coords) (K : Vec F S8192x128 .i32) (X13 X13' : Vec F S904x128 .i32) (X15 : Vec F S128x768 .f32)
    (h : ∀ (t' j : ℕ) (y : S904x128.Idx), t' < 128 → j < 6 → (y 0).val = 129 * j + t' → X13 y = X13' y) (s j : ℕ) (hs : s < 16) (hj : j < 6) :
    embV i K X13 X15 s j = embV i K X13' X15 s j := by
  unfold embV
  congr 1
  funext y
  have h0 : (y 0).val < 8 := (y 0).isLt
  refine h (8 * s + (y 0).val) j _ (by omega) hj ?_
  show (129 * j + 8 * s + (y 0).val) % 904 = _
  omega

theorem OInv_congr (V V' : ℕ → ℕ → FVec F S8x128 .bf16) (h : ∀ s j, s < 16 → j < 6 → V s j = V' s j) (X : Vec F S1x128x768 .bf16) (hX : OInv V (Dn 16 0) X) :
    OInv V' (Dn 16 0) X := fun s j y x hd h1 h2 => (hX s j y x hd h1 h2).trans (by
  unfold Dn at hd
  rw [h s j (by omega) (by omega)])

theorem outV_congr (i : grid0.Coords) (K : Vec F S8192x128 .i32) (X13 X13' : Vec F S904x128 .i32) (X15 : Vec F S128x768 .f32) (WT : Vec F S8x768 .f32)
    (h : ∀ (t' j : ℕ) (y : S904x128.Idx), t' < 128 → j < 6 → (y 0).val = 129 * j + t' → X13 y = X13' y) (s j : ℕ) (hs : s < 16) (hj : j < 6) :
    outV i K X13 X15 WT s j = outV i K X13' X15 WT s j := by
  unfold outV
  rw [embV_congr i K X13 X13' X15 h s j hs hj, embV_congr i K X13 X13' X15 h s 0 hs (by omega), embV_congr i K X13 X13' X15 h s 1 hs (by omega),
    embV_congr i K X13 X13' X15 h s 2 hs (by omega), embV_congr i K X13 X13' X15 h s 3 hs (by omega), embV_congr i K X13 X13' X15 h s 4 hs (by omega),
    embV_congr i K X13 X13' X15 h s 5 hs (by omega)]

/-- The work of a grid point, the set-up's buffers unchanged. `T'` is any table that agrees with the held one at the
    words of the groups. -/
theorem wp_rest (i : grid0.Coords) (A : Args) (G : Vec F S64x128 .i32) (T T' : Vec F S32000x128 .i32) (ST : Vec F S4000x128 .f32) (K : Vec F S8192x128 .i32)
    (EX : Vec F S128x768 .bf16) (WT : Vec F S8x768 .f32) (hG : ∀ y, k0_chk1 (G y))
    (hT : ∀ (y : S64x128.Idx) (j q : ℕ), j < 6 → rd2 T ((G y : BitVec 32).toNat + j) q = rd2 T' ((G y : BitVec 32).toNat + j) q) (Q : PUnit → sProp 𝕄) :
    iprop(owns (c : Thread nD τ) A.arg12 fullShare G ∗ owns (c : Thread nD τ) A.arg7 fullShare T ∗ owns (c : Thread nD τ) A.arg9 fullShare ST
      ∗ owns (c : Thread nD τ) A.arg10 fullShare K ∗ owns (c : Thread nD τ) A.arg16 fullShare EX ∗ owns (c : Thread nD τ) A.arg17 fullShare WT
      ∗ (∃ X, owns (c : Thread nD τ) A.arg13 fullShare X) ∗ (∃ X, owns (c : Thread nD τ) A.arg14 fullShare X) ∗ (∃ X, owns (c : Thread nD τ) A.arg15 fullShare X)
      ∗ (∃ X, owns (c : Thread nD τ) A.arg5 fullShare X) ∗ (∃ X, owns (c : Thread nD τ) A.arg6 fullShare X)
      ∗ (owns (c : Thread nD τ) A.arg12 fullShare G -∗ owns (c : Thread nD τ) A.arg7 fullShare T -∗ owns (c : Thread nD τ) A.arg9 fullShare ST
        -∗ owns (c : Thread nD τ) A.arg10 fullShare K -∗ owns (c : Thread nD τ) A.arg16 fullShare EX -∗ owns (c : Thread nD τ) A.arg17 fullShare WT
        -∗ (∃ X, owns (c : Thread nD τ) A.arg13 fullShare X) -∗ (∃ X, owns (c : Thread nD τ) A.arg14 fullShare X) -∗ (∃ X, owns (c : Thread nD τ) A.arg15 fullShare X)
        -∗ owns (c : Thread nD τ) A.arg5 fullShare (outAll i G T' ST K EX WT) -∗ owns (c : Thread nD τ) A.arg6 fullShare (embAll i G T' ST K EX) -∗ Q ⟨⟩))
    ⊢ wp Idealize.ShloMosaic.frame (wpE defs₀ 𝒱 (c : Thread nD τ) bd) E (rest i A) Q := by
  unfold rest
  simp only [wp_bind]
  iintro ⟨H12, H7, H9, H10, H16, H17, ⟨%X13, H13⟩, ⟨%X14, H14⟩, ⟨%X15, H15⟩, ⟨%X5, H5⟩, ⟨%X6, H6⟩, HQ⟩
  iapply (wp_wand_r Idealize.ShloMosaic.frame (wpE defs₀ 𝒱 (c : Thread nD τ) bd) E)
  isplitl [H12 H7 H9 H13 H14]
  · iapply (wp_seqN 𝒱 c bd E 128 (gather i A) (gatherI c i A G T ST) (wp_gather 𝒱 c bd E i A G T ST hG))
    unfold gatherI
    isplitl [H12]; · iexact H12
    isplitl [H7]; · iexact H7
    isplitl [H9]; · iexact H9
    iexists X13, X14
    isplitr
    · ipureintro; exact ⟨fun t' j y h => absurd h (Nat.not_lt_zero _), fun t' y h => absurd h (Nat.not_lt_zero _)⟩
    isplitl [H13]; · iexact H13
    iexact H14
  clear X13 X14
  unfold gatherI
  iintro %_ ⟨H12, H7, H9, %X13, %X14, %hI, H13, H14⟩
  have e14 : X14 = stileF i G ST := funext fun y => hI.2 (y 0).val y (y 0).isLt rfl
  have e13 : ∀ (t' j : ℕ) (y : S904x128.Idx), t' < 128 → j < 6 → (y 0).val = 129 * j + t' → X13 y = tileF i G T' y := by
    intro t' j y ht hj hy
    rw [hI.1 t' j y ht hj hy]
    unfold tileF
    rw [show (y 0).val % 129 = t' by omega, show (y 0).val / 129 = j by omega]
    exact hT _ j _ hj
  rw [e14]
  iapply (wp_scales 𝒱 c bd E i A K (stileF i G ST) EX X15 _) $$ [H12 H7 H9 H10 H16 H17 H13 H14 H15 H5 H6 HQ]
  isplitl [H10]; · iexact H10
  isplitl [H14]; · iexact H14
  isplitl [H16]; · iexact H16
  isplitl [H15]; · iexact H15
  iintro H10 H14 H16 H15
  iapply (wp_wand_r Idealize.ShloMosaic.frame (wpE defs₀ 𝒱 (c : Thread nD τ) bd) E)
  isplitl [H10 H13 H15 H17 H6 H5]
  · iapply (wp_seqN 𝒱 c bd E 16 (group i A) (groupI c i A K X13 (sfullOf (kBlk i K) (stileF i G ST) EX : FVec F S128x768 .f32) WT) (wp_group 𝒱 c bd E i A K X13 _ WT))
    unfold groupI
    isplitl [H10]; · iexact H10
    isplitl [H13]; · iexact H13
    isplitl [H15]; · iexact H15
    isplitl [H17]; · iexact H17
    isplitl [H6]
    · iexists X6
      isplitr
      · ipureintro; intro s j y x hd; exfalso; unfold Dn at hd; omega
      · iexact H6
    · iexists X5
      isplitr
      · ipureintro; intro s j y x hd; exfalso; unfold Dn at hd; omega
      · iexact H5
  clear X5 X6
  unfold groupI
  iintro %_ ⟨H10, H13, H15, H17, ⟨%X6, %h6, H6⟩, ⟨%X5, %h5, H5⟩⟩
  have e6 : X6 = embAll i G T' ST K EX := OInv_whole _ _ (OInv_congr _ _ (fun s j hs hj => embV_congr i K X13 (tileF i G T') _ e13 s j hs hj) X6 h6)
  have e5 : X5 = outAll i G T' ST K EX WT := OInv_whole _ _ (OInv_congr _ _ (fun s j hs hj => outV_congr i K X13 (tileF i G T') _ WT e13 s j hs hj) X5 h5)
  rw [e6, e5]
  iapply HQ $$ H12 H7 H9 H10 H16 H17 [H13] [H14] [H15] H5 H6
  · iexists _; iexact H13
  · iexists _; iexact H14
  · iexists _; iexact H15

end Cert.Kernel
-- ==== Proof.Dma.lean ====
module

public import proofs.«01_k».proof.Proof.Wp
public import Idealize.ShloMosaic.Lib.Transfers
public import Idealize.ShloMosaic.Lib.Exec.Geometry

/-! Transfers over buffers known by what is read through them, and a buffer cut into disjoint boxes. -/

@[expose] public section

noncomputable section

namespace Cert.Wp

open Idealize.ShloMosaic Idealize.ShloMosaic.Transfers
open Idealize.SL
open Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

/-- Core `c` owns the elements `S` of a memref at share `q`, and reads `X` there. -/
def ownsOn (c : Thread nD τ) {sp : Space} {s : Shape} {e : EltTy} (m : Memref sig c.2.kind sp s e) (q : PosShare TreeShare)
    (S : Finset s.Idx) (X : s.Idx → Val e) : sProp 𝕄 :=
  iprop(∃ f, ⌜∀ y ∈ S, m.view.read Val f y = X y⌝ ∗ (m.view.loc c ↦[m.view.setOn S]{q} f))

variable (c : Thread nD τ) {sp : Space} {s : Shape} {e : EltTy} (m : Memref sig c.2.kind sp s e) (q : PosShare TreeShare)

theorem owns_on (X : s.Idx → Val e) : (owns c m q X : sProp 𝕄) ⊢ ownsOn c m q Finset.univ X := by
  unfold owns ownsOn
  iintro ⟨%f, %hf, H⟩
  iexists f
  isplitr
  · ipureintro; intro y _; rw [hf]
  · iexact H

theorem on_owns (X : s.Idx → Val e) : (ownsOn c m q Finset.univ X : sProp 𝕄) ⊢ owns c m q X := by
  unfold owns ownsOn
  iintro ⟨%f, %hf, H⟩
  iexists f
  isplitr
  · ipureintro; funext y; exact hf y (Finset.mem_univ y)
  · iexact H

theorem setOn_rect (r : Rect s) (h : ∀ a, r.stride a = 1) : (m.slice r h).view.set = m.view.setOn r.set := by
  show (m.view.slice r).set = _
  rw [View.set_slice]; rfl

theorem rect_mem {s : Shape} (r : Rect s) (y : s.Idx) : y ∈ r.set ↔ ∃ x, r.emb x = y := by
  rw [← Rect.map_emb_univ, Finset.mem_map]
  exact ⟨fun ⟨x, _, h⟩ => ⟨x, h⟩, fun ⟨x, h⟩ => ⟨x, Finset.mem_univ x, h⟩⟩

theorem slice_on (r : Rect s) (h : ∀ a, r.stride a = 1) (X : s.Idx → Val e) :
    (owns c (m.slice r h) q (fun x => X (r.emb x)) : sProp 𝕄) ⊢ ownsOn c m q r.set X := by
  unfold owns ownsOn
  rw [setOn_rect]
  iintro ⟨%f, %hf, H⟩
  iexists f
  isplitr
  · ipureintro
    intro y hy
    obtain ⟨x, rfl⟩ := (rect_mem r y).mp hy
    exact congrFun hf x
  · iexact H

theorem on_slice (r : Rect s) (h : ∀ a, r.stride a = 1) (X : s.Idx → Val e) :
    (ownsOn c m q r.set X : sProp 𝕄) ⊢ owns c (m.slice r h) q (fun x => X (r.emb x)) := by
  unfold owns ownsOn
  rw [setOn_rect]
  iintro ⟨%f, %hf, H⟩
  iexists f
  isplitr
  · ipureintro
    funext x
    exact hf (r.emb x) ((rect_mem r _).mpr ⟨x, rfl⟩)
  · iexact H

theorem setOn_mono {S T : Finset s.Idx} (h : S ⊆ T) : m.view.setOn S ⊆ m.view.setOn T := Finset.map_subset_map.mpr h

theorem setOn_sdiff (S T : Finset s.Idx) [DecidableEq s.Idx] [DecidableEq m.view.ty.Idx] :
    m.view.setOn (T \ S) = m.view.setOn T \ m.view.setOn S := by
  unfold View.setOn
  ext x
  simp only [Finset.mem_map, Finset.mem_sdiff]
  constructor
  · rintro ⟨y, ⟨h1, h2⟩, rfl⟩
    exact ⟨⟨y, h1, rfl⟩, fun ⟨z, hz, e⟩ => h2 (m.view.emb.injective e ▸ hz)⟩
  · rintro ⟨⟨y, h1, rfl⟩, h2⟩
    exact ⟨y, ⟨h1, fun h => h2 ⟨y, h, rfl⟩⟩, rfl⟩

theorem on_split {S T : Finset s.Idx} (h : S ⊆ T) (X : s.Idx → Val e) :
    (ownsOn c m q T X : sProp 𝕄) ⊢ iprop(ownsOn c m q S X ∗ ownsOn c m q (T \ S) X) := by
  unfold ownsOn
  iintro ⟨%f, %hf, H⟩
  ihave H := (pointsTo_split_subset (setOn_mono c m h)).1 $$ H
  icases H with ⟨H1, H2⟩
  isplitl [H1]
  · iexists f
    isplitr
    · ipureintro; exact fun y hy => hf y (h hy)
    · iexact H1
  · iexists f
    isplitr
    · ipureintro; exact fun y hy => hf y (Finset.mem_sdiff.mp hy).1
    · rw [setOn_sdiff]; iexact H2

open Classical in
theorem on_join {S T : Finset s.Idx} (h : S ⊆ T) (X : s.Idx → Val e) :
    iprop(ownsOn c m q S X ∗ ownsOn c m q (T \ S) X) ⊢ (ownsOn c m q T X : sProp 𝕄) := by
  unfold ownsOn
  iintro ⟨⟨%f, %hf, H1⟩, %g, %hg, H2⟩
  let k : m.view.ty.Contents Val := fun i => if i ∈ m.view.setOn S then f i else g i
  have e1 : (m.view.loc c ↦[m.view.setOn S]{q} f : sProp 𝕄) ⊢ (m.view.loc c ↦[m.view.setOn S]{q} k) :=
    Entails.of_eq (pointsTo_congr (fun i hi => (if_pos hi).symm))
  have e2 : (m.view.loc c ↦[m.view.setOn (T \ S)]{q} g : sProp 𝕄) ⊢ (m.view.loc c ↦[m.view.setOn T \ m.view.setOn S]{q} k) :=
    Entails.of_eq ((pointsTo_congr (fun i hi => (if_neg (by rw [setOn_sdiff] at hi; exact (Finset.mem_sdiff.mp hi).2)).symm)).trans
      (by rw [setOn_sdiff]))
  ihave H1 := e1 $$ H1
  ihave H2 := e2 $$ H2
  iexists k
  isplitr
  · ipureintro
    intro y hy
    by_cases hS : y ∈ S
    · rw [← hf y hS]
      exact View.read_congr_at y (if_pos (Finset.mem_map.mpr ⟨y, hS, rfl⟩))
    · rw [← hg y (Finset.mem_sdiff.mpr ⟨hy, hS⟩)]
      refine View.read_congr_at y (if_neg fun hm => hS ?_)
      obtain ⟨z, hz, e⟩ := Finset.mem_map.mp hm
      exact m.view.emb.injective e ▸ hz
  · ihave H := (pointsTo_split_subset (ℓ := m.view.loc c) (I := m.view.setOn S) (S := m.view.setOn T) (q := q) (f := k) (setOn_mono c m h)).2 $$ [H1 H2]
    · isplitl [H1]; · iexact H1
      iexact H2
    iexact H

/-- A buffer cut into disjoint boxes, listed, that cover it. -/
theorem carve (r : Rect s) (h : ∀ a, r.stride a = 1) {T : Finset s.Idx} (hr : r.set ⊆ T) (X : s.Idx → Val e) :
    (ownsOn c m q T X : sProp 𝕄) ⊢ iprop(owns c (m.slice r h) q (fun x => X (r.emb x)) ∗ ownsOn c m q (T \ r.set) X) :=
  (on_split c m q hr X).trans (sep_mono (on_slice c m q r h X) .rfl)

theorem uncarve (r : Rect s) (h : ∀ a, r.stride a = 1) {T : Finset s.Idx} (hr : r.set ⊆ T) (X : s.Idx → Val e) :
    iprop(owns c (m.slice r h) q (fun x => X (r.emb x)) ∗ ownsOn c m q (T \ r.set) X) ⊢ (ownsOn c m q T X : sProp 𝕄) :=
  (sep_mono (slice_on c m q r h X) .rfl).trans (on_join c m q hr X)

variable [Preorder Lvl] {defs : Defs nD τ sig Val Λ} (𝒱 : Variants) (bd : Option 𝒱.V)

/-- A transfer between two memrefs: at its wait it delivers the destination holding what the source reads. -/
theorem wp_dma (EC : UEmb Counters (MT nD τ sig Ix Val Name U Lvl)) [Infinite Name] [EC.LandsIn (upEmb : UEmb _ 𝕄)] {sp' : Space} (src : Memref sig c.2.kind sp' s e)
    (dst : Memref sig c.2.kind sp s e) (sm : SemLoc sig)
    {hsrc : src.view.WordExact} {hdst : dst.view.WordExact} {hsem : DmaTarget.Typed (nD := nD) sp' sm (.here dst)}
    (X Y : s.Idx → Val e) (ι : Ix) (N : ℕ) (hN : dst.view.amount sm = N) (hN0 : 0 < N) (Q : PUnit → sProp 𝕄) :
    iprop(owns c src q X ∗ owns c dst fullShare Y ∗ semVal (c, sm) 0
        ∗ (Flight EC c sm ι N iprop(owns c dst fullShare X ∗ owns c src q X) -∗ Q ⟨⟩))
      ⊢ wp frame (wpE defs 𝒱 c bd) Set.univ (Prog.lift (.enqueueDma src (.here dst) sm hsrc hdst hsem)) Q := by
  iintro ⟨H1, H2, Hs, K⟩
  unfold owns
  icases H1 with ⟨%f, %hf, H1⟩
  icases H2 with ⟨%g, %hg, H2⟩
  iapply (wp_dmaLocal EC 𝒱 c bd (k := .ret) (fs := f) (fd := g) (q := q) ι N hN hN0 (Finset.Subset.refl _)) $$ [H1 H2 Hs]
  · isplitl [H1]; · iexact H1
    isplitl [H2]; · iexact H2
    iexact Hs
  iintro HF
  iapply (le_wp_ret frame (wpE defs 𝒱 c bd) Set.univ PUnit.unit Q)
  iapply K
  iapply (Flight_mono EC c ?_) $$ HF
  iintro ⟨Hd, Hs⟩
  isplitl [Hd]
  · iexists _
    isplitr
    rotate_left
    · iexact Hd
    · ipureintro
      rw [View.read_write_univ]; exact hf
  · iexists f
    isplitr
    · ipureintro; exact hf
    · iexact Hs

/-- The wait for a transfer in flight. -/
theorem wp_await (EC : UEmb Counters (MT nD τ sig Ix Val Name U Lvl)) [EC.LandsIn (upEmb : UEmb _ 𝕄)] {sp' : Space} {s' : Shape} {e' : EltTy} {κ' : Kind} (sem : DmaSem sig)
    (srcw : Memref sig c.2.kind sp' s' e') (dstw : Memref sig κ' sp s e) {hsrc : srcw.view.WordExact} {hdst : dstw.view.WordExact}
    (ι : Ix) (N : ℕ) (hN : dstw.view.dmaCredit = N) (D : sProp 𝕄) (W : Waits sig Ix) (Q : PUnit → sProp 𝕄) :
    iprop(Flight EC c (.dma sem) ι N D ∗ owes c 0 W
        ∗ (iprop(D ∗ semVal (c, .dma sem) 0 ∗ owes c 0 (insert (SemLoc.dma sem, ι) W)) -∗ Q ⟨⟩))
      ⊢ wp frame (wpE defs 𝒱 c bd) Set.univ (Prog.lift (.waitDma2 sem srcw dstw hsrc hdst)) Q := by
  iintro ⟨HF, HO, K⟩
  iapply (wp_waitLocal EC 𝒱 c bd (k := .ret) ι hN) $$ [HF HO]
  · isplitl [HF]; · iexact HF
    iexact HO
  iintro H
  iapply (le_wp_ret frame (wpE defs 𝒱 c bd) Set.univ PUnit.unit Q)
  iapply K
  iexact H

end Cert.Wp
-- ==== Proof.Trips.lean ====
module

public import proofs.«01_k».proof.Proof.Rest
public import proofs.«01_k».proof.Proof.Dma
public import proofs.«01_k».proof.Proof.Gen.Kernel.Skeleton

/-! What the first grid point sets up: the codes copied to fast memory and packed four to a word, the scales packed
thirty-two to a row, the group numbers, the byte numbers, the expansion matrix, the weight. -/

@[expose] public section

set_option maxRecDepth 100000

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts Cert.Wp
open Gen (k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_off1_eq k0_off2_eq k0_off3_eq k0_off4_eq k0_off5_eq k0_off6_eq k0_off7_eq k0_off8_eq k0_off9_eq k0_off10_eq k0_off11_eq k0_t1_body k0_t2_body k0_part1_eq_skeleton k0_part1_skel k0_part2_eq_skeleton k0_part2_skel k0_part3_eq_skeleton k0_part3_skel k0_part4_eq_skeleton k0_part4_skel k0_part5_eq_skeleton k0_part5_skel k0_part6_eq_skeleton k0_part6_skel)

variable {F : FTy → Type} [FloatOps F]

local notation "𝕄" => MT nD τ sig Unit (Elt F) ℕ (Pipeline.UD sig nD τ) ℕ

variable (𝒱 : Variants) (c : Dev nD) (bd : Option 𝒱.V) (E : Set ℕ)

/-! ## The byte numbers -/

/-- Row `r` of the token numbers. -/
def idRow (ids : Vec F S64x128 .i32) (r : ℕ) : Vec F S1x128 .i32 := fun x => rd2 ids r (x 1).val

/-- Each token's byte number, on every lane of the token's row. -/
def kscrF (ids : Vec F S64x128 .i32) : Vec F S8192x128 .i32 := fun y =>
  k0_pay9 (idRow ids ((y 0).val / 128)) (ValueIdx.ix2 (n0 := 128) (n1 := 128) (Fin.ofNat 128 (y 0).val) (Fin.ofNat 128 (y 1).val))

/-- An index of a rank-two array is its two coordinates. -/
theorem ix2_of {n m : ℕ} [NeZero n] [NeZero m] (x : (⟨2, ![n, m]⟩ : Shape).Idx) (a b : ℕ) (h0 : a % n = (x 0).val) (h1 : b % m = (x 1).val) :
    x = ValueIdx.ix2 (Fin.ofNat n a) (Fin.ofNat m b) := by
  funext k
  match k with
  | ⟨0, _⟩ => exact Fin.ext h0.symm
  | ⟨1, _⟩ => exact Fin.ext h1.symm

/-- Rows stored in blocks of `h`: one more block. -/
theorem rows_step {α : Type} {n m h t : ℕ} [NeZero m] (V : (⟨2, ![n, m]⟩ : Shape).Idx → α)
    (off : Fin 2 → ℕ) (inb : ∀ a, off a + (⟨2, ![h, m]⟩ : Shape).size a ≤ (⟨2, ![n, m]⟩ : Shape).size a)
    (h0 : off 0 = h * t) (h1 : off 1 = 0) (w : (⟨2, ![h, m]⟩ : Shape).Idx → α)
    (hw : ∀ (x : (⟨2, ![h, m]⟩ : Shape).Idx) (y : (⟨2, ![n, m]⟩ : Shape).Idx), (y 0).val = h * t + (x 0).val → (y 1).val = (x 1).val → w x = V y)
    (X : (⟨2, ![n, m]⟩ : Shape).Idx → α) (hX : ∀ y, (y 0).val < h * t → X y = V y) :
    ∀ y, (y 0).val < h * (t + 1) →
      putR (Rect.unit (s := (⟨2, ![n, m]⟩ : Shape)) off (⟨2, ![h, m]⟩ : Shape).size inb) w X y = V y := by
  intro y hy
  by_cases hlt : (y 0).val < h * t
  · rw [putR_of_not]
    · exact hX y hlt
    · rintro x' rfl
      rw [Rect.emb_apply] at hlt
      have : off 0 + 1 * (x' 0).val < h * t := hlt
      omega
  · have hy1 : (y 1).val < m := (y 1).isLt
    rw [Nat.mul_add, Nat.mul_one] at hy
    have hy0 : (y 0).val - h * t < h := by omega
    have e : y = (Rect.unit (s := (⟨2, ![n, m]⟩ : Shape)) off (⟨2, ![h, m]⟩ : Shape).size inb).emb
        (ValueIdx.ix2 (n0 := h) (n1 := m) ⟨(y 0).val - h * t, hy0⟩ ⟨(y 1).val, hy1⟩) := by
      funext a
      match a with
      | ⟨0, _⟩ => exact Fin.ext (by rw [Rect.emb_apply]; show (y 0).val = off 0 + 1 * ((y 0).val - h * t); omega)
      | ⟨1, _⟩ => exact Fin.ext (by rw [Rect.emb_apply]; show (y 1).val = off 1 + 1 * (y 1).val; omega)
    rw [e, putR_emb, ← e]
    refine hw _ y ?_ ?_
    · show (y 0).val = h * t + ((y 0).val - h * t); omega
    · rfl

def loop1I (A : Args) (ids : Vec F S64x128 .i32) (t : ℕ) (_ : Unit) : sProp 𝕄 :=
  iprop(owns (c : Thread nD τ) A.arg1 fullShare ids
    ∗ ∃ X, ⌜∀ y : S8192x128.Idx, (y 0).val < 128 * t → X y = kscrF ids y⌝ ∗ owns (c : Thread nD τ) A.arg10 fullShare X)

theorem kscr_hw (i : grid0.Coords) (k0_h1 : k0_cond1 i = 1#1) (ids : Vec F S64x128 .i32) (t : Fin k0_t1_loop.trips) (x : S128x128.Idx) (y : S8192x128.Idx)
    (h0 : (y 0).val = 128 * t.val + (x 0).val) (h1 : (y 1).val = (x 1).val) :
    k0_pay9 (fun z => ids ((Rect.unit (s := S64x128) (k0_off1 t) S1x128.size (k0_off1_inb i t k0_h1)).toLoadRect.idx z)) x = kscrF ids y := by
  have hx0 : (x 0).val < 128 := (x 0).isLt
  have hx1 : (x 1).val < 128 := (x 1).isLt
  unfold kscrF
  have e : x = ValueIdx.ix2 (n0 := 128) (n1 := 128) (Fin.ofNat 128 (y 0).val) (Fin.ofNat 128 (y 1).val) :=
    ix2_of x _ _ (by omega) (by omega)
  rw [← e, show (y 0).val / 128 = t.val by omega]
  refine congrFun (congrArg _ ?_) x
  funext z
  unfold idRow
  refine rd2_eq ids _ ?_ ?_
  · rw [LoadRect.idx_apply]
    have hz : (z 0).val < 1 := (z 0).isLt
    show k0_off1 t 0 + 1 * (z 0).val = _
    rw [k0_off1_eq]; show t.val + 1 * (z 0).val = _; omega
  · rw [LoadRect.idx_apply]
    show k0_off1 t 1 + 1 * (z 1).val = _
    rw [k0_off1_eq]; show 0 + 1 * (z 1).val = _; omega

theorem wp_trip1 (i : grid0.Coords) (A : Args) (k0_h1 : k0_cond1 i = 1#1) (ids : Vec F S64x128 .i32) (t : Fin k0_t1_loop.trips) (acc : Unit) :
    loop1I c A ids t.val acc ⊢ wp Idealize.ShloMosaic.frame (wpE defs₀ 𝒱 (c : Thread nD τ) bd) E
      (k0_t1_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 t acc)
      (loop1I c A ids (t.val + 1)) := by
  unfold k0_t1_body loop1I
  simp only [wp_bind]
  iintro ⟨H1, %X, %hX, H10⟩
  iapply (wp_ld 𝒱 (c : Thread nD τ) bd E A.arg1 _ _ fullShare ids _) $$ [H1 H10]
  isplitl [H1]; · iexact H1
  iintro H1
  iapply (wp_ld 𝒱 (c : Thread nD τ) bd E A.arg10 _ _ fullShare X _) $$ [H1 H10]
  isplitl [H10]; · iexact H10
  iintro H10
  iapply (wp_st 𝒱 (c : Thread nD τ) bd E A.arg10 _ _ _ _ X _) $$ [H1 H10]
  isplitl [H10]; · iexact H10
  iintro H10
  iapply (le_wp_ret Idealize.ShloMosaic.frame (wpE defs₀ 𝒱 (c : Thread nD τ) bd) E _ _)
  isplitl [H1]; · iexact H1
  iexists _
  isplitr
  rotate_left
  · iexact H10
  · ipureintro
    exact rows_step (n := 8192) (m := 128) (h := 128) (kscrF ids) (k0_off2 t) (k0_off2_inb i t k0_h1) (congrFun (k0_off2_eq t) 0) (congrFun (k0_off2_eq t) 1) _
      (fun x y h0 h1 => kscr_hw i k0_h1 ids t x y h0 h1) X hX

/-! ## The packed scales -/

/-- Block `t` of 128 columns of the scales. -/
def scBlk (sc : Vec F S6x16000 .f32) (t : ℕ) : Vec F S6x128 .f32 := fun x => rd2 sc (x 0).val (128 * t + (x 1).val)

/-- The scales of four tokens to a row: lane `8 k + j` of row `w` is scale `j` of token `4 w + k`. -/
def stabF (sc : Vec F S6x16000 .f32) : Vec F S4000x128 .f32 := fun y =>
  k0_pay23 (k0_pay19 (iota .tc S32x128 32 [0] iota_S32x128_d0_w32) k0_pay17 k0_pay18) k0_pay20
    (Scalar.select (Scalar.cmpi .eq 4#32 0#32) 1#32 4#32) k0_pay21 k0_pay22 (scBlk sc ((y 0).val / 32))
    (ValueIdx.ix2 (n0 := 32) (n1 := 128) (Fin.ofNat 32 (y 0).val) (Fin.ofNat 128 (y 1).val))

def loop2I (A : Args) (sc : Vec F S6x16000 .f32) (t : ℕ) (_ : Unit) : sProp 𝕄 :=
  iprop(owns (c : Thread nD τ) A.arg3 fullShare sc
    ∗ ∃ X, ⌜∀ y : S4000x128.Idx, (y 0).val < 32 * t → X y = stabF sc y⌝ ∗ owns (c : Thread nD τ) A.arg9 fullShare X)

theorem stab_hw (i : grid0.Coords) (k0_h1 : k0_cond1 i = 1#1) (sc : Vec F S6x16000 .f32) (t : Fin k0_t2_loop.trips) (x : S32x128.Idx) (y : S4000x128.Idx)
    (h0 : (y 0).val = 32 * t.val + (x 0).val) (h1 : (y 1).val = (x 1).val) :
    k0_pay23 (k0_pay19 (iota .tc S32x128 32 [0] iota_S32x128_d0_w32) k0_pay17 k0_pay18) k0_pay20
      (Scalar.select (Scalar.cmpi .eq 4#32 0#32) 1#32 4#32) k0_pay21 k0_pay22
      (fun z => sc ((Rect.unit (s := S6x16000) (k0_off3 t) S6x128.size (k0_off3_inb i t k0_h1)).toLoadRect.idx z)) x = stabF sc y := by
  have hx0 : (x 0).val < 32 := (x 0).isLt
  have hx1 : (x 1).val < 128 := (x 1).isLt
  unfold stabF
  have e : x = ValueIdx.ix2 (n0 := 32) (n1 := 128) (Fin.ofNat 32 (y 0).val) (Fin.ofNat 128 (y 1).val) :=
    ix2_of x _ _ (by omega) (by omega)
  rw [← e, show (y 0).val / 32 = t.val by omega]
  refine congrFun (congrArg _ ?_) x
  funext z
  unfold scBlk
  refine rd2_eq sc _ ?_ ?_
  · rw [LoadRect.idx_apply]
    show k0_off3 t 0 + 1 * (z 0).val = _
    rw [k0_off3_eq]; show 0 + 1 * (z 0).val = _; omega
  · rw [LoadRect.idx_apply]
    show k0_off3 t 1 + 1 * (z 1).val = _
    rw [k0_off3_eq]; show 128 * t.val + 1 * (z 1).val = _; omega

theorem wp_trip2 (i : grid0.Coords) (A : Args) (k0_h1 : k0_cond1 i = 1#1) (sc : Vec F S6x16000 .f32) (t : Fin k0_t2_loop.trips) (acc : Unit) :
    loop2I c A sc t.val acc ⊢ wp Idealize.ShloMosaic.frame (wpE defs₀ 𝒱 (c : Thread nD τ) bd) E
      (k0_t2_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
        (k0_pay19 (iota .tc S32x128 32 [0] iota_S32x128_d0_w32) k0_pay17 k0_pay18) k0_pay20
        (Scalar.select (Scalar.cmpi .eq 4#32 0#32) 1#32 4#32) k0_pay21 k0_pay22 t acc)
      (loop2I c A sc (t.val + 1)) := by
  unfold k0_t2_body loop2I
  simp only [wp_bind]
  iintro ⟨H1, %X, %hX, H10⟩
  iapply (wp_ld 𝒱 (c : Thread nD τ) bd E A.arg3 _ _ fullShare sc _) $$ [H1 H10]
  isplitl [H1]; · iexact H1
  iintro H1
  iapply (wp_ld 𝒱 (c : Thread nD τ) bd E A.arg9 _ _ fullShare X _) $$ [H1 H10]
  isplitl [H10]; · iexact H10
  iintro H10
  iapply (wp_st 𝒱 (c : Thread nD τ) bd E A.arg9 _ _ _ _ X _) $$ [H1 H10]
  isplitl [H10]; · iexact H10
  iintro H10
  iapply (le_wp_ret Idealize.ShloMosaic.frame (wpE defs₀ 𝒱 (c : Thread nD τ) bd) E _ _)
  isplitl [H1]; · iexact H1
  iexists _
  isplitr
  rotate_left
  · iexact H10
  · ipureintro
    exact rows_step (n := 4000) (m := 128) (h := 32) (stabF sc) (k0_off4 t) (k0_off4_inb i t k0_h1) (congrFun (k0_off4_eq t) 0) (congrFun (k0_off4_eq t) 1) _
      (fun x y h0 h1 => stab_hw i k0_h1 sc t x y h0 h1) X hX

/-! ## The packed codes -/

/-- Block `(b, j)` of 128 rows and 128 columns of the codes. -/
def cdBlk (C : Vec F S16000x768 .i8) (b j : ℕ) : Vec F S128x128 .i8 := fun x => rd2 C (128 * b + (x 0).val) (128 * j + (x 1).val)

/-- The codes packed: byte `k` of word `(8 w + j, l)` is code `128 j + l` of token `4 w + k`. -/
def tabF (C : Vec F S16000x768 .i8) : Vec F S32000x128 .i32 := fun y =>
  (bitcast S32x128 32 (cdBlk C ((y 0).val / 256) ((y 0).val % 8)) bitcasts_S128x128_w8_S32x128_w32 : IVec S32x128 32)
    (ValueIdx.ix2 (n0 := 32) (n1 := 128) (Fin.ofNat 32 ((y 0).val / 8)) (Fin.ofNat 128 (y 1).val))

/-- The words packed before column block `j` of trip `t`. -/
def TInv (C : Vec F S16000x768 .i8) (t j : ℕ) (X : Vec F S32000x128 .i32) : Prop :=
  ∀ (w j' : ℕ) (y : S32000x128.Idx), j' < 6 → (w < 32 * t ∨ (w < 32 * (t + 1) ∧ j' < j)) → (y 0).val = 8 * w + j' → X y = tabF C y

theorem TInv_step (C : Vec F S16000x768 .i8) (t j : ℕ) (hj : j < 6) (X : Vec F S32000x128 .i32) (hX : TInv C t j X)
    (off : Fin 2 → ℕ) (inb : ∀ a, S32x128.size a = 0 ∨ off a + (![8, 1] : Fin 2 → Nat) a * (S32x128.size a - 1) < S32000x128.size a)
    (h0 : off 0 = 256 * t + j) (h1 : off 1 = 0) (w : S32x128.Idx → BitVec 32)
    (hw : w = (bitcast S32x128 32 (cdBlk C t j) bitcasts_S128x128_w8_S32x128_w32 : IVec S32x128 32)) :
    TInv C t (j + 1) (putR ⟨(⟨off, S32x128.size, ![8, 1], inb⟩ : LoadRect S32000x128), spos_8_1⟩ w X) := by
  intro w' j' y hj' hwj hy
  by_cases hit : 32 * t ≤ w' ∧ j' = j
  · obtain ⟨hw', rfl⟩ := hit
    have hy1 : (y 1).val < 128 := (y 1).isLt
    have hlt : w' - 32 * t < 32 := by omega
    have e : y = (⟨(⟨off, S32x128.size, ![8, 1], inb⟩ : LoadRect S32000x128), spos_8_1⟩ : Rect S32000x128).emb
        (ValueIdx.ix2 (n0 := 32) (n1 := 128) ⟨w' - 32 * t, hlt⟩ ⟨(y 1).val, hy1⟩) := by
      funext a
      match a with
      | ⟨0, _⟩ => exact Fin.ext (by rw [Rect.emb_apply]; show (y 0).val = off 0 + 8 * (w' - 32 * t); omega)
      | ⟨1, _⟩ => exact Fin.ext (by rw [Rect.emb_apply]; show (y 1).val = off 1 + 1 * (y 1).val; omega)
    rw [e, putR_emb, ← e, hw]
    unfold tabF
    rw [show (y 0).val / 256 = t by omega, show (y 0).val % 8 = j' by omega]
    refine congrArg _ (ix2_of _ _ _ ?_ ?_)
    · show (y 0).val / 8 % 32 = w' - 32 * t; omega
    · show (y 1).val % 128 = (y 1).val; omega
  · rw [putR_of_not]
    · exact hX w' j' y hj' (by omega) hy
    · rintro x' rfl
      rw [Rect.emb_apply] at hy
      have hx : (x' 0).val < 32 := (x' 0).isLt
      have hy' : off 0 + 8 * (x' 0).val = 8 * w' + j' := hy
      omega

theorem cdBlk_of (C : Vec F S16000x768 .i8) (t j : ℕ) (off : Fin 2 → ℕ) (inb : ∀ a, off a + S128x128.size a ≤ S16000x768.size a)
    (h0 : off 0 = 128 * t) (h1 : off 1 = 128 * j) :
    (fun x => C ((Rect.unit (s := S16000x768) off S128x128.size inb).toLoadRect.idx x)) = cdBlk C t j := by
  funext x
  unfold cdBlk
  refine rd2_eq C _ ?_ ?_
  · rw [LoadRect.idx_apply]
    show off 0 + 1 * (x 0).val = _; omega
  · rw [LoadRect.idx_apply]
    show off 1 + 1 * (x 1).val = _; omega

theorem pay_of (v w : Vec F S128x128 .i8) (h : v = w) :
    (shapeCast S32x128 (bitcast S32x128 32 v bitcasts_S128x128_w8_S32x128_w32 : IVec S32x128 32) shapeCasts_S32x128_S32x128 : IVec S32x128 32)
      = bitcast S32x128 32 w bitcasts_S128x128_w8_S32x128_w32 := h ▸ shapeCast_self _ _

def loop3I (A : Args) (C : Vec F S16000x768 .i8) (t j : ℕ) : sProp 𝕄 :=
  iprop(owns (c : Thread nD τ) A.arg8 fullShare C
    ∗ ∃ X, ⌜TInv C t j X⌝ ∗ owns (c : Thread nD τ) A.arg7 fullShare X)

theorem TInv_next (C : Vec F S16000x768 .i8) (t : ℕ) (X : Vec F S32000x128 .i32) (h : TInv C t 6 X) : TInv C (t + 1) 0 X := by
  intro w j y hj hw hy
  exact h w j y hj (by omega) hy

set_option maxHeartbeats 2000000 in
theorem wp_trip3 (i : grid0.Coords) (A : Args) (k0_h1 : k0_cond1 i = 1#1) (C : Vec F S16000x768 .i8) (t : Fin k0_t3_loop.trips) :
    loop3I c A C t.val 0 ⊢ wp Idealize.ShloMosaic.frame (wpE defs₀ 𝒱 (c : Thread nD τ) bd) E
      (trip3 i A k0_h1 t) (fun _ => loop3I c A C (t.val + 1) 0) := by
  unfold trip3 loop3I
  rw [k0_part1_eq_skeleton]
  unfold k0_part1_skel
  simp only [wp_bind]
  iintro ⟨H8, %X0, %hX, H7⟩
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (le_wp_ret Idealize.ShloMosaic.frame (wpE defs₀ 𝒱 (c : Thread nD τ) bd) E _ _)
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (le_wp_ret Idealize.ShloMosaic.frame (wpE defs₀ 𝒱 (c : Thread nD τ) bd) E _ _)
  isplitl [H8]; · iexact H8
  iexists _
  isplitr
  rotate_left
  · iexact H7
  · ipureintro
    refine TInv_next C t.val _ ?_
    refine TInv_step C t.val 5 (by omega) _ ?_ (k0_off6 t 5#32) (k0_off6_inb i t k0_h1 5) (congrFun (k0_off6_eq t 5) 0) (congrFun (k0_off6_eq t 5) 1) _
      (pay_of _ _ (cdBlk_of C t.val 5 (k0_off11 t) (k0_off11_inb i t k0_h1) (congrFun (k0_off11_eq t) 0) (congrFun (k0_off11_eq t) 1)))
    refine TInv_step C t.val 4 (by omega) _ ?_ (k0_off6 t 4#32) (k0_off6_inb i t k0_h1 4) (congrFun (k0_off6_eq t 4) 0) (congrFun (k0_off6_eq t 4) 1) _
      (pay_of _ _ (cdBlk_of C t.val 4 (k0_off10 t) (k0_off10_inb i t k0_h1) (congrFun (k0_off10_eq t) 0) (congrFun (k0_off10_eq t) 1)))
    refine TInv_step C t.val 3 (by omega) _ ?_ (k0_off6 t 3#32) (k0_off6_inb i t k0_h1 3) (congrFun (k0_off6_eq t 3) 0) (congrFun (k0_off6_eq t 3) 1) _
      (pay_of _ _ (cdBlk_of C t.val 3 (k0_off9 t) (k0_off9_inb i t k0_h1) (congrFun (k0_off9_eq t) 0) (congrFun (k0_off9_eq t) 1)))
    refine TInv_step C t.val 2 (by omega) _ ?_ (k0_off6 t 2#32) (k0_off6_inb i t k0_h1 2) (congrFun (k0_off6_eq t 2) 0) (congrFun (k0_off6_eq t 2) 1) _
      (pay_of _ _ (cdBlk_of C t.val 2 (k0_off8 t) (k0_off8_inb i t k0_h1) (congrFun (k0_off8_eq t) 0) (congrFun (k0_off8_eq t) 1)))
    refine TInv_step C t.val 1 (by omega) _ ?_ (k0_off6 t 1#32) (k0_off6_inb i t k0_h1 1) (congrFun (k0_off6_eq t 1) 0) (congrFun (k0_off6_eq t 1) 1) _
      (pay_of _ _ (cdBlk_of C t.val 1 (k0_off7 t) (k0_off7_inb i t k0_h1) (congrFun (k0_off7_eq t) 0) (congrFun (k0_off7_eq t) 1)))
    refine TInv_step C t.val 0 (by omega) _ ?_ (k0_off6 t 0#32) (k0_off6_inb i t k0_h1 0) (congrFun (k0_off6_eq t 0) 0) (congrFun (k0_off6_eq t 0) 1) _
      (pay_of _ _ (cdBlk_of C t.val 0 (k0_off5 t) (k0_off5_inb i t k0_h1) (congrFun (k0_off5_eq t) 0) (congrFun (k0_off5_eq t) 1)))
    exact hX

end Cert.Kernel
-- ==== Proof.Step0.lean ====
module

public import proofs.«01_k».proof.Proof.Trips
public import proofs.«01_k».proof.Proof.Dma
public import proofs.«01_k».proof.Proof.Gen.Kernel.Skeleton

/-! What the first grid point sets up: the codes copied to fast memory and packed four to a word, the scales packed
thirty-two to a row, the group numbers, the byte numbers, the expansion matrix, the weight. -/

@[expose] public section

set_option maxRecDepth 100000

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts Cert.Wp
open Gen (k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_off1_eq k0_off2_eq k0_off3_eq k0_off4_eq k0_off5_eq k0_off6_eq k0_off7_eq k0_off8_eq k0_off9_eq k0_off10_eq k0_off11_eq k0_t1_body k0_t2_body k0_part1_eq_skeleton k0_part1_skel k0_part2_eq_skeleton k0_part2_skel k0_part3_eq_skeleton k0_part3_skel k0_part4_eq_skeleton k0_part4_skel k0_part5_eq_skeleton k0_part5_skel k0_part6_eq_skeleton k0_part6_skel)

variable {F : FTy → Type} [FloatOps F]

local notation "𝕄" => MT nD τ sig Unit (Elt F) ℕ (Pipeline.UD sig nD τ) ℕ

variable (𝒱 : Variants) (c : Dev nD) (bd : Option 𝒱.V) (E : Set ℕ)

/-! ## The six column slices -/

/-- Column block 0 of the codes. -/
abbrev cr0 : Rect S16000x768 := Rect.unit (s := S16000x768) ![0, 0] S16000x128.size inb_S16000x768_S16000x128_0_0
/-- Column block 1 of the codes. -/
abbrev cr1 : Rect S16000x768 := Rect.unit (s := S16000x768) ![0, 128] S16000x128.size inb_S16000x768_S16000x128_0_128
/-- Column block 2 of the codes. -/
abbrev cr2 : Rect S16000x768 := Rect.unit (s := S16000x768) ![0, 256] S16000x128.size inb_S16000x768_S16000x128_0_256
/-- Column block 3 of the codes. -/
abbrev cr3 : Rect S16000x768 := Rect.unit (s := S16000x768) ![0, 384] S16000x128.size inb_S16000x768_S16000x128_0_384
/-- Column block 4 of the codes. -/
abbrev cr4 : Rect S16000x768 := Rect.unit (s := S16000x768) ![0, 512] S16000x128.size inb_S16000x768_S16000x128_0_512
/-- Column block 5 of the codes. -/
abbrev cr5 : Rect S16000x768 := Rect.unit (s := S16000x768) ![0, 640] S16000x128.size inb_S16000x768_S16000x128_0_640

theorem pos_cols : 0 < S16000x128.numel := by decide +kernel

theorem cr_mem (o : ℕ) (inb : ∀ a, (![0, o] : Fin 2 → ℕ) a + S16000x128.size a ≤ S16000x768.size a) (y : S16000x768.Idx) :
    y ∈ (Rect.unit (s := S16000x768) ![0, o] S16000x128.size inb).set ↔ o ≤ (y 1).val ∧ (y 1).val < o + 128 := by
  rw [Rect.mem_set_unit]
  constructor
  · intro h; exact h 1
  · intro h a
    match a with
    | ⟨0, _⟩ => exact ⟨Nat.zero_le _, by show (y 0).val < 0 + 16000; have : (y 0).val < 16000 := (y 0).isLt; omega⟩
    | ⟨1, _⟩ => exact h

theorem cr_sub0 : cr0.set ⊆ (Finset.univ : Finset S16000x768.Idx) := fun y _ => Finset.mem_univ y
theorem cr_sub1 : cr1.set ⊆ ((Finset.univ \ cr0.set) : Finset S16000x768.Idx) := by
  intro y hy
  have h := (cr_mem _ _ y).mp hy
  simp only [Finset.mem_sdiff, Finset.mem_univ, true_and, cr_mem]
  omega
theorem cr_sub2 : cr2.set ⊆ (((Finset.univ \ cr0.set) \ cr1.set) : Finset S16000x768.Idx) := by
  intro y hy
  have h := (cr_mem _ _ y).mp hy
  simp only [Finset.mem_sdiff, Finset.mem_univ, true_and, cr_mem]
  omega
theorem cr_sub3 : cr3.set ⊆ ((((Finset.univ \ cr0.set) \ cr1.set) \ cr2.set) : Finset S16000x768.Idx) := by
  intro y hy
  have h := (cr_mem _ _ y).mp hy
  simp only [Finset.mem_sdiff, Finset.mem_univ, true_and, cr_mem]
  omega
theorem cr_sub4 : cr4.set ⊆ (((((Finset.univ \ cr0.set) \ cr1.set) \ cr2.set) \ cr3.set) : Finset S16000x768.Idx) := by
  intro y hy
  have h := (cr_mem _ _ y).mp hy
  simp only [Finset.mem_sdiff, Finset.mem_univ, true_and, cr_mem]
  omega
theorem cr_sub5 : cr5.set ⊆ ((((((Finset.univ \ cr0.set) \ cr1.set) \ cr2.set) \ cr3.set) \ cr4.set) : Finset S16000x768.Idx) := by
  intro y hy
  have h := (cr_mem _ _ y).mp hy
  simp only [Finset.mem_sdiff, Finset.mem_univ, true_and, cr_mem]
  omega
theorem cr_last : ((((((Finset.univ \ cr0.set) \ cr1.set) \ cr2.set) \ cr3.set) \ cr4.set) : Finset S16000x768.Idx) = cr5.set := by
  ext y
  have hy : (y 1).val < 768 := (y 1).isLt
  simp only [Finset.mem_sdiff, Finset.mem_univ, true_and, cr_mem]
  omega

/-- A sixteen-thousand-row array of codes is its six column blocks. -/
def six {sp : Space} (m : Memref sig .tc sp S16000x768 .i8) (q : PosShare TreeShare) (X : Vec F S16000x768 .i8) : sProp 𝕄 :=
  iprop(owns (c : Thread nD τ) (m.slice cr0 (fun _ => rfl)) q (fun x => X (cr0.emb x))
    ∗ owns (c : Thread nD τ) (m.slice cr1 (fun _ => rfl)) q (fun x => X (cr1.emb x))
    ∗ owns (c : Thread nD τ) (m.slice cr2 (fun _ => rfl)) q (fun x => X (cr2.emb x))
    ∗ owns (c : Thread nD τ) (m.slice cr3 (fun _ => rfl)) q (fun x => X (cr3.emb x))
    ∗ owns (c : Thread nD τ) (m.slice cr4 (fun _ => rfl)) q (fun x => X (cr4.emb x))
    ∗ owns (c : Thread nD τ) (m.slice cr5 (fun _ => rfl)) q (fun x => X (cr5.emb x)))

theorem six_of {sp : Space} (m : Memref sig .tc sp S16000x768 .i8) (q : PosShare TreeShare) (X : Vec F S16000x768 .i8) :
    (owns (c : Thread nD τ) m q X : sProp 𝕄) ⊢ six c m q X := by
  unfold six
  refine (owns_on (c : Thread nD τ) m q X).trans ?_
  refine (carve (c : Thread nD τ) m q cr0 (fun _ => rfl) cr_sub0 X).trans (sep_mono .rfl ?_)
  refine (carve (c : Thread nD τ) m q cr1 (fun _ => rfl) cr_sub1 X).trans (sep_mono .rfl ?_)
  refine (carve (c : Thread nD τ) m q cr2 (fun _ => rfl) cr_sub2 X).trans (sep_mono .rfl ?_)
  refine (carve (c : Thread nD τ) m q cr3 (fun _ => rfl) cr_sub3 X).trans (sep_mono .rfl ?_)
  refine (carve (c : Thread nD τ) m q cr4 (fun _ => rfl) cr_sub4 X).trans (sep_mono .rfl ?_)
  rw [cr_last]
  exact on_slice (c : Thread nD τ) m q cr5 (fun _ => rfl) X

theorem of_six {sp : Space} (m : Memref sig .tc sp S16000x768 .i8) (q : PosShare TreeShare) (X : Vec F S16000x768 .i8) :
    six c m q X ⊢ (owns (c : Thread nD τ) m q X : sProp 𝕄) := by
  unfold six
  refine .trans ?_ (on_owns (c : Thread nD τ) m q X)
  refine .trans (sep_mono .rfl ?_) (uncarve (c : Thread nD τ) m q cr0 (fun _ => rfl) cr_sub0 X)
  refine .trans (sep_mono .rfl ?_) (uncarve (c : Thread nD τ) m q cr1 (fun _ => rfl) cr_sub1 X)
  refine .trans (sep_mono .rfl ?_) (uncarve (c : Thread nD τ) m q cr2 (fun _ => rfl) cr_sub2 X)
  refine .trans (sep_mono .rfl ?_) (uncarve (c : Thread nD τ) m q cr3 (fun _ => rfl) cr_sub3 X)
  refine .trans (sep_mono .rfl ?_) (uncarve (c : Thread nD τ) m q cr4 (fun _ => rfl) cr_sub4 X)
  rw [cr_last]
  exact slice_on (c : Thread nD τ) m q cr5 (fun _ => rfl) X

/-! ## The set-up -/

/-- The semaphore of column block 0. -/
abbrev csem0 (A : Args) : DmaSem sig := ((A.arg18.slice (Rect.unit (s := S6) ![0] S1.size inb_S6_S1_0)).squeeze S_ squeezes_S1_S_).sem
/-- The semaphore of column block 1. -/
abbrev csem1 (A : Args) : DmaSem sig := ((A.arg18.slice (Rect.unit (s := S6) ![1] S1.size inb_S6_S1_1)).squeeze S_ squeezes_S1_S_).sem
/-- The semaphore of column block 2. -/
abbrev csem2 (A : Args) : DmaSem sig := ((A.arg18.slice (Rect.unit (s := S6) ![2] S1.size inb_S6_S1_2)).squeeze S_ squeezes_S1_S_).sem
/-- The semaphore of column block 3. -/
abbrev csem3 (A : Args) : DmaSem sig := ((A.arg18.slice (Rect.unit (s := S6) ![3] S1.size inb_S6_S1_3)).squeeze S_ squeezes_S1_S_).sem
/-- The semaphore of column block 4. -/
abbrev csem4 (A : Args) : DmaSem sig := ((A.arg18.slice (Rect.unit (s := S6) ![4] S1.size inb_S6_S1_4)).squeeze S_ squeezes_S1_S_).sem
/-- The semaphore of column block 5. -/
abbrev csem5 (A : Args) : DmaSem sig := ((A.arg18.slice (Rect.unit (s := S6) ![5] S1.size inb_S6_S1_5)).squeeze S_ squeezes_S1_S_).sem

/-- The seven semaphores at zero. -/
def sems0 (A : Args) : sProp 𝕄 :=
  iprop(semVal ((c : Thread nD τ), .dma A.arg19.sem) 0
    ∗ semVal ((c : Thread nD τ), .dma (csem0 A)) 0
    ∗ semVal ((c : Thread nD τ), .dma (csem1 A)) 0
    ∗ semVal ((c : Thread nD τ), .dma (csem2 A)) 0
    ∗ semVal ((c : Thread nD τ), .dma (csem3 A)) 0
    ∗ semVal ((c : Thread nD τ), .dma (csem4 A)) 0
    ∗ semVal ((c : Thread nD τ), .dma (csem5 A)) 0)

/-- The expansion matrix. -/
def expF : Vec F S128x768 .bf16 := k0_pay15 (F := F) k0_pay10 k0_pay11 k0_pay12 k0_pay13 k0_pay14

/-- What the set-up needs. -/
def pre0 (A : Args) (q1 : PosShare TreeShare) (ids : Vec F S64x128 .i32) (C : Vec F S16000x768 .i8) (sc : Vec F S6x16000 .f32) (wt : Vec F S768 .bf16) : sProp 𝕄 :=
  iprop(owns (c : Thread nD τ) A.arg1 fullShare ids ∗ owns (c : Thread nD τ) A.arg2 q1 C ∗ owns (c : Thread nD τ) A.arg3 fullShare sc
    ∗ owns (c : Thread nD τ) A.arg4 fullShare wt ∗ (∃ X, owns (c : Thread nD τ) A.arg7 fullShare X) ∗ (∃ X, owns (c : Thread nD τ) A.arg8 fullShare X)
    ∗ (∃ X, owns (c : Thread nD τ) A.arg9 fullShare X) ∗ (∃ X, owns (c : Thread nD τ) A.arg10 fullShare X) ∗ (∃ X, owns (c : Thread nD τ) A.arg11 fullShare X)
    ∗ (∃ X, owns (c : Thread nD τ) A.arg12 fullShare X) ∗ (∃ X, owns (c : Thread nD τ) A.arg16 fullShare X) ∗ (∃ X, owns (c : Thread nD τ) A.arg17 fullShare X)
    ∗ sems0 c A ∗ ∃ W, owes (c : Thread nD τ) 0 W)

/-- What the set-up leaves. -/
def post0 (A : Args) (q1 : PosShare TreeShare) (ids : Vec F S64x128 .i32) (C : Vec F S16000x768 .i8) (sc : Vec F S6x16000 .f32) (wt : Vec F S768 .bf16) : sProp 𝕄 :=
  iprop(owns (c : Thread nD τ) A.arg1 fullShare ids ∗ owns (c : Thread nD τ) A.arg2 q1 C ∗ owns (c : Thread nD τ) A.arg3 fullShare sc
    ∗ owns (c : Thread nD τ) A.arg4 fullShare wt ∗ (∃ T, ⌜TInv C 125 0 T⌝ ∗ owns (c : Thread nD τ) A.arg7 fullShare T) ∗ (∃ X, owns (c : Thread nD τ) A.arg8 fullShare X)
    ∗ owns (c : Thread nD τ) A.arg9 fullShare (stabF sc) ∗ owns (c : Thread nD τ) A.arg10 fullShare (kscrF ids) ∗ (∃ X, owns (c : Thread nD τ) A.arg11 fullShare X)
    ∗ owns (c : Thread nD τ) A.arg12 fullShare (k0_pay8 ids) ∗ owns (c : Thread nD τ) A.arg16 fullShare (expF (F := F)) ∗ owns (c : Thread nD τ) A.arg17 fullShare (k0_pay16 wt)
    ∗ sems0 c A ∗ ∃ W, owes (c : Thread nD τ) 0 W)

local notation "EC" => (countersEmb (U := Pipeline.UD sig nD τ) : UEmb Counters 𝕄)

theorem wp_loop3 (i : grid0.Coords) (A : Args) (k0_h1 : k0_cond1 i = 1#1) (C : Vec F S16000x768 .i8) :
    loop3I c A C 0 0 ⊢ wp Idealize.ShloMosaic.frame (wpE defs₀ 𝒱 (c : Thread nD τ) bd) E
      (Scf.Loop.for k0_t3_loop (k0_t3_ok i k0_h1) ⟨⟩ fun k0_t3 _ => trip3 i A k0_h1 k0_t3) (fun _ => loop3I c A C 125 0) := by
  refine .trans ?_ (Scf.wp_for Idealize.ShloMosaic.frame (wpE defs₀ 𝒱 (c : Thread nD τ) bd) E _ _ _ _ _ _ (fun t _ => loop3I c A C t 0)
    (fun t _ => wp_trip3 𝒱 c bd E i A k0_h1 C t))
  iintro H
  isplitl [H]; · iexact H
  iintro %_ H
  iexact H

theorem wp_loop1 (i : grid0.Coords) (A : Args) (k0_h1 : k0_cond1 i = 1#1) (ids : Vec F S64x128 .i32) :
    loop1I c A ids 0 () ⊢ wp Idealize.ShloMosaic.frame (wpE defs₀ 𝒱 (c : Thread nD τ) bd) E
      (Scf.Loop.for k0_t1_loop (k0_t1_ok i k0_h1) ⟨⟩ (k0_t1_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1)) (fun _ => loop1I c A ids 64 ()) := by
  refine .trans ?_ (Scf.wp_for Idealize.ShloMosaic.frame (wpE defs₀ 𝒱 (c : Thread nD τ) bd) E _ _ _ _ _ _ (fun t a => loop1I c A ids t a)
    (fun t a => wp_trip1 𝒱 c bd E i A k0_h1 ids t a))
  iintro H
  isplitl [H]; · iexact H
  iintro %_ H
  iexact H

theorem wp_loop2 (i : grid0.Coords) (A : Args) (k0_h1 : k0_cond1 i = 1#1) (sc : Vec F S6x16000 .f32) :
    loop2I c A sc 0 () ⊢ wp Idealize.ShloMosaic.frame (wpE defs₀ 𝒱 (c : Thread nD τ) bd) E
      (Scf.Loop.for k0_t2_loop (k0_t2_ok i k0_h1) ⟨⟩ (k0_t2_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
        (k0_pay19 (iota .tc S32x128 32 [0] iota_S32x128_d0_w32) k0_pay17 k0_pay18) k0_pay20
        (Scalar.select (Scalar.cmpi .eq 4#32 0#32) 1#32 4#32) k0_pay21 k0_pay22)) (fun _ => loop2I c A sc 125 ()) := by
  refine .trans ?_ (Scf.wp_for Idealize.ShloMosaic.frame (wpE defs₀ 𝒱 (c : Thread nD τ) bd) E _ _ _ _ _ _ (fun t a => loop2I c A sc t a)
    (fun t a => wp_trip2 𝒱 c bd E i A k0_h1 sc t a))
  iintro H
  isplitl [H]; · iexact H
  iintro %_ H
  iexact H

theorem load_all {α : Type} {n : ℕ} (X : (⟨1, ![n]⟩ : Shape).Idx → α) {inb} :
    (fun x => X ((Rect.unit (s := (⟨1, ![n]⟩ : Shape)) ![0] (⟨1, ![n]⟩ : Shape).size inb).toLoadRect.idx x)) = X := by
  funext x
  congr 1
  funext a
  match a with
  | ⟨0, _⟩ => exact Fin.ext (by rw [LoadRect.idx_apply]; show 0 + 1 * (x 0).val = (x 0).val; omega)

set_option maxHeartbeats 8000000 in
theorem wp_step0 (i : grid0.Coords) (A : Args) (k0_h1 : k0_cond1 i = 1#1) (q1 : PosShare TreeShare) (ids : Vec F S64x128 .i32) (C : Vec F S16000x768 .i8)
    (sc : Vec F S6x16000 .f32) (wt : Vec F S768 .bf16) (Q : PUnit → sProp 𝕄) :
    iprop(pre0 c A q1 ids C sc wt ∗ (post0 c A q1 ids C sc wt -∗ Q ⟨⟩))
      ⊢ wp Idealize.ShloMosaic.frame (wpE defs₀ 𝒱 (c : Thread nD τ) bd) Set.univ (step0 i A k0_h1) Q := by
  unfold step0
  rw [k0_part2_eq_skeleton, k0_part3_eq_skeleton, k0_part4_eq_skeleton, k0_part5_eq_skeleton, k0_part6_eq_skeleton]
  unfold k0_part2_skel k0_part3_skel k0_part4_skel k0_part5_skel k0_part6_skel
  simp only [wp_bind]
  unfold pre0 sems0
  iintro ⟨⟨H1, H2, H3, H4, ⟨%X7, H7⟩, ⟨%X8, H8⟩, ⟨%X9, H9⟩, ⟨%X10, H10⟩, ⟨%X11, H11⟩, ⟨%X12, H12⟩, ⟨%X16, H16⟩, ⟨%X17, H17⟩, ⟨S, S0, S1, S2, S3, S4, S5⟩, %W, HO⟩, HQ⟩
  ihave H2 := (six_of c A.arg2 q1 C) $$ H2
  ihave H8 := (six_of c A.arg8 fullShare X8) $$ H8
  unfold six
  icases H2 with ⟨A0, A1, A2, A3, A4, A5⟩
  icases H8 with ⟨B0, B1, B2, B3, B4, B5⟩
  iapply (wp_dma (c : Thread nD τ) q1 𝒱 bd EC (A.arg2.slice cr0 (fun _ => rfl)) (A.arg8.slice cr0 (fun _ => rfl)) (.dma (csem0 A)) _ _ () _ rfl
    (View.dmaCredit_pos _ pos_cols) _) $$ [H1 H3 H4 H7 H9 H10 H11 H12 H16 H17 S HO HQ S0 S1 S2 S3 S4 S5 A0 A1 A2 A3 A4 A5 B0 B1 B2 B3 B4 B5]
  isplitl [A0]; · iexact A0
  isplitl [B0]; · iexact B0
  isplitl [S0]; · iexact S0
  iintro F0
  iapply (wp_dma (c : Thread nD τ) q1 𝒱 bd EC (A.arg2.slice cr1 (fun _ => rfl)) (A.arg8.slice cr1 (fun _ => rfl)) (.dma (csem1 A)) _ _ () _ rfl
    (View.dmaCredit_pos _ pos_cols) _) $$ [H1 H3 H4 H7 H9 H10 H11 H12 H16 H17 S HO HQ S1 S2 S3 S4 S5 A1 A2 A3 A4 A5 B1 B2 B3 B4 B5 F0]
  isplitl [A1]; · iexact A1
  isplitl [B1]; · iexact B1
  isplitl [S1]; · iexact S1
  iintro F1
  iapply (wp_dma (c : Thread nD τ) q1 𝒱 bd EC (A.arg2.slice cr2 (fun _ => rfl)) (A.arg8.slice cr2 (fun _ => rfl)) (.dma (csem2 A)) _ _ () _ rfl
    (View.dmaCredit_pos _ pos_cols) _) $$ [H1 H3 H4 H7 H9 H10 H11 H12 H16 H17 S HO HQ S2 S3 S4 S5 A2 A3 A4 A5 B2 B3 B4 B5 F0 F1]
  isplitl [A2]; · iexact A2
  isplitl [B2]; · iexact B2
  isplitl [S2]; · iexact S2
  iintro F2
  iapply (wp_dma (c : Thread nD τ) q1 𝒱 bd EC (A.arg2.slice cr3 (fun _ => rfl)) (A.arg8.slice cr3 (fun _ => rfl)) (.dma (csem3 A)) _ _ () _ rfl
    (View.dmaCredit_pos _ pos_cols) _) $$ [H1 H3 H4 H7 H9 H10 H11 H12 H16 H17 S HO HQ S3 S4 S5 A3 A4 A5 B3 B4 B5 F0 F1 F2]
  isplitl [A3]; · iexact A3
  isplitl [B3]; · iexact B3
  isplitl [S3]; · iexact S3
  iintro F3
  iapply (wp_dma (c : Thread nD τ) q1 𝒱 bd EC (A.arg2.slice cr4 (fun _ => rfl)) (A.arg8.slice cr4 (fun _ => rfl)) (.dma (csem4 A)) _ _ () _ rfl
    (View.dmaCredit_pos _ pos_cols) _) $$ [H1 H3 H4 H7 H9 H10 H11 H12 H16 H17 S HO HQ S4 S5 A4 A5 B4 B5 F0 F1 F2 F3]
  isplitl [A4]; · iexact A4
  isplitl [B4]; · iexact B4
  isplitl [S4]; · iexact S4
  iintro F4
  iapply (wp_dma (c : Thread nD τ) q1 𝒱 bd EC (A.arg2.slice cr5 (fun _ => rfl)) (A.arg8.slice cr5 (fun _ => rfl)) (.dma (csem5 A)) _ _ () _ rfl
    (View.dmaCredit_pos _ pos_cols) _) $$ [H1 H3 H4 H7 H9 H10 H11 H12 H16 H17 S HO HQ S5 A5 B5 F0 F1 F2 F3 F4]
  isplitl [A5]; · iexact A5
  isplitl [B5]; · iexact B5
  isplitl [S5]; · iexact S5
  iintro F5
  iapply (le_wp_ret Idealize.ShloMosaic.frame (wpE defs₀ 𝒱 (c : Thread nD τ) bd) Set.univ _ _)
  iapply (wp_ld 𝒱 (c : Thread nD τ) bd Set.univ A.arg1 _ _ fullShare ids _) $$ [H1 H3 H4 H7 H9 H10 H11 H12 H16 H17 S HO HQ F0 F1 F2 F3 F4 F5]
  isplitl [H1]; · iexact H1
  iintro H1
  rw [load_whole ids]
  iapply (wp_ld 𝒱 (c : Thread nD τ) bd Set.univ A.arg11 _ _ fullShare X11 _) $$ [H1 H3 H4 H7 H9 H10 H11 H12 H16 H17 S HO HQ F0 F1 F2 F3 F4 F5]
  isplitl [H11]; · iexact H11
  iintro H11
  iapply (wp_st 𝒱 (c : Thread nD τ) bd Set.univ A.arg11 _ _ _ _ X11 _) $$ [H1 H3 H4 H7 H9 H10 H11 H12 H16 H17 S HO HQ F0 F1 F2 F3 F4 F5]
  isplitl [H11]; · iexact H11
  iintro H11
  rw [putR_whole X11]
  iapply (wp_dma (c : Thread nD τ) fullShare 𝒱 bd EC A.arg11 A.arg12 (.dma A.arg19.sem) _ _ () _ rfl
    (View.dmaCredit_pos _ h_S64x128) _) $$ [H1 H3 H4 H7 H9 H10 H11 H12 H16 H17 S HO HQ F0 F1 F2 F3 F4 F5]
  isplitl [H11]; · iexact H11
  isplitl [H12]; · iexact H12
  isplitl [S]; · iexact S
  iintro F
  iapply (wp_wand_r Idealize.ShloMosaic.frame (wpE defs₀ 𝒱 (c : Thread nD τ) bd) Set.univ)
  isplitl [H1 H10]
  · iapply (wp_loop1 𝒱 c bd Set.univ i A k0_h1 ids)
    unfold loop1I
    isplitl [H1]; · iexact H1
    iexists X10
    isplitr
    · ipureintro; intro y hy; exact absurd hy (Nat.not_lt_zero _)
    · iexact H10
  unfold loop1I
  iintro %_ ⟨H1, %Y10, %h10, H10⟩
  have e10 : Y10 = kscrF ids := funext fun y => h10 y (y 0).isLt
  rw [e10]
  iapply (le_wp_ret Idealize.ShloMosaic.frame (wpE defs₀ 𝒱 (c : Thread nD τ) bd) Set.univ _ _)
  iapply (wp_ld 𝒱 (c : Thread nD τ) bd Set.univ A.arg16 _ _ fullShare X16 _) $$ [H1 H3 H4 H7 H9 H10 H16 H17 HO HQ F0 F1 F2 F3 F4 F5 F]
  isplitl [H16]; · iexact H16
  iintro H16
  iapply (wp_st 𝒱 (c : Thread nD τ) bd Set.univ A.arg16 _ _ _ _ X16 _) $$ [H1 H3 H4 H7 H9 H10 H16 H17 HO HQ F0 F1 F2 F3 F4 F5 F]
  isplitl [H16]; · iexact H16
  iintro H16
  rw [putR_whole X16]
  iapply (wp_ld 𝒱 (c : Thread nD τ) bd Set.univ A.arg4 _ _ fullShare wt _) $$ [H1 H3 H4 H7 H9 H10 H16 H17 HO HQ F0 F1 F2 F3 F4 F5 F]
  isplitl [H4]; · iexact H4
  iintro H4
  rw [load_all wt]
  iapply (wp_ld 𝒱 (c : Thread nD τ) bd Set.univ A.arg17 _ _ fullShare X17 _) $$ [H1 H3 H4 H7 H9 H10 H16 H17 HO HQ F0 F1 F2 F3 F4 F5 F]
  isplitl [H17]; · iexact H17
  iintro H17
  iapply (wp_st 𝒱 (c : Thread nD τ) bd Set.univ A.arg17 _ _ _ _ X17 _) $$ [H1 H3 H4 H7 H9 H10 H16 H17 HO HQ F0 F1 F2 F3 F4 F5 F]
  isplitl [H17]; · iexact H17
  iintro H17
  rw [putR_whole X17]
  iapply (le_wp_ret Idealize.ShloMosaic.frame (wpE defs₀ 𝒱 (c : Thread nD τ) bd) Set.univ _ _)
  iapply (le_wp_ret Idealize.ShloMosaic.frame (wpE defs₀ 𝒱 (c : Thread nD τ) bd) Set.univ _ _)
  iapply (wp_wand_r Idealize.ShloMosaic.frame (wpE defs₀ 𝒱 (c : Thread nD τ) bd) Set.univ)
  isplitl [H3 H9]
  · iapply (wp_loop2 𝒱 c bd Set.univ i A k0_h1 sc)
    unfold loop2I
    isplitl [H3]; · iexact H3
    iexists X9
    isplitr
    · ipureintro; intro y hy; exact absurd hy (Nat.not_lt_zero _)
    · iexact H9
  unfold loop2I
  iintro %_ ⟨H3, %Y9, %h9, H9⟩
  have e9 : Y9 = stabF sc := funext fun y => h9 y (y 0).isLt
  rw [e9]
  iapply (wp_await (c : Thread nD τ) 𝒱 bd EC A.arg19.sem A.arg11 A.arg12 () _ rfl _ _ _) $$ [H1 H3 H4 H7 H9 H10 H16 H17 HO HQ F0 F1 F2 F3 F4 F5 F]
  isplitl [F]; · iexact F
  isplitl [HO]; · iexact HO
  iintro ⟨⟨H12, H11⟩, S, HO⟩
  iapply (wp_await (c : Thread nD τ) 𝒱 bd EC (csem0 A) (A.arg2.slice cr0 (fun _ => rfl)) (A.arg8.slice cr0 (fun _ => rfl)) () _ rfl _ _ _) $$ [H1 H3 H4 H7 H9 H10 H16 H17 HO HQ F0 F1 F2 F3 F4 F5 H11 H12 S]
  isplitl [F0]; · iexact F0
  isplitl [HO]; · iexact HO
  iintro ⟨⟨B0, A0⟩, S0, HO⟩
  iapply (wp_await (c : Thread nD τ) 𝒱 bd EC (csem1 A) (A.arg2.slice cr1 (fun _ => rfl)) (A.arg8.slice cr1 (fun _ => rfl)) () _ rfl _ _ _) $$ [H1 H3 H4 H7 H9 H10 H16 H17 HO HQ F1 F2 F3 F4 F5 H11 H12 S A0 B0 S0]
  isplitl [F1]; · iexact F1
  isplitl [HO]; · iexact HO
  iintro ⟨⟨B1, A1⟩, S1, HO⟩
  iapply (wp_await (c : Thread nD τ) 𝒱 bd EC (csem2 A) (A.arg2.slice cr2 (fun _ => rfl)) (A.arg8.slice cr2 (fun _ => rfl)) () _ rfl _ _ _) $$ [H1 H3 H4 H7 H9 H10 H16 H17 HO HQ F2 F3 F4 F5 H11 H12 S A0 B0 S0 A1 B1 S1]
  isplitl [F2]; · iexact F2
  isplitl [HO]; · iexact HO
  iintro ⟨⟨B2, A2⟩, S2, HO⟩
  iapply (wp_await (c : Thread nD τ) 𝒱 bd EC (csem3 A) (A.arg2.slice cr3 (fun _ => rfl)) (A.arg8.slice cr3 (fun _ => rfl)) () _ rfl _ _ _) $$ [H1 H3 H4 H7 H9 H10 H16 H17 HO HQ F3 F4 F5 H11 H12 S A0 B0 S0 A1 B1 S1 A2 B2 S2]
  isplitl [F3]; · iexact F3
  isplitl [HO]; · iexact HO
  iintro ⟨⟨B3, A3⟩, S3, HO⟩
  iapply (le_wp_ret Idealize.ShloMosaic.frame (wpE defs₀ 𝒱 (c : Thread nD τ) bd) Set.univ _ _)
  iapply (wp_await (c : Thread nD τ) 𝒱 bd EC (csem4 A) (A.arg2.slice cr4 (fun _ => rfl)) (A.arg8.slice cr4 (fun _ => rfl)) () _ rfl _ _ _) $$ [H1 H3 H4 H7 H9 H10 H16 H17 HO HQ F4 F5 H11 H12 S A0 B0 S0 A1 B1 S1 A2 B2 S2 A3 B3 S3]
  isplitl [F4]; · iexact F4
  isplitl [HO]; · iexact HO
  iintro ⟨⟨B4, A4⟩, S4, HO⟩
  iapply (wp_await (c : Thread nD τ) 𝒱 bd EC (csem5 A) (A.arg2.slice cr5 (fun _ => rfl)) (A.arg8.slice cr5 (fun _ => rfl)) () _ rfl _ _ _) $$ [H1 H3 H4 H7 H9 H10 H16 H17 HO HQ F5 H11 H12 S A0 B0 S0 A1 B1 S1 A2 B2 S2 A3 B3 S3 A4 B4 S4]
  isplitl [F5]; · iexact F5
  isplitl [HO]; · iexact HO
  iintro ⟨⟨B5, A5⟩, S5, HO⟩
  ihave H2 := (of_six c A.arg2 q1 C) $$ [A0 A1 A2 A3 A4 A5]
  · unfold six
    isplitl [A0]; · iexact A0
    isplitl [A1]; · iexact A1
    isplitl [A2]; · iexact A2
    isplitl [A3]; · iexact A3
    isplitl [A4]; · iexact A4
    iexact A5
  ihave H8 := (of_six c A.arg8 fullShare C) $$ [B0 B1 B2 B3 B4 B5]
  · unfold six
    isplitl [B0]; · iexact B0
    isplitl [B1]; · iexact B1
    isplitl [B2]; · iexact B2
    isplitl [B3]; · iexact B3
    isplitl [B4]; · iexact B4
    iexact B5
  iapply (wp_wand_r Idealize.ShloMosaic.frame (wpE defs₀ 𝒱 (c : Thread nD τ) bd) Set.univ)
  isplitl [H8 H7]
  · iapply (wp_loop3 𝒱 c bd Set.univ i A k0_h1 C)
    unfold loop3I
    isplitl [H8]; · iexact H8
    iexists X7
    isplitr
    · ipureintro; intro w j y hj hw hy; omega
    · iexact H7
  unfold loop3I
  iintro %_ ⟨H8, HT⟩
  iapply HQ
  unfold post0 sems0
  isplitl [H1]; · iexact H1
  isplitl [H2]; · iexact H2
  isplitl [H3]; · iexact H3
  isplitl [H4]; · iexact H4
  isplitl [HT]; · iexact HT
  isplitl [H8]; · iexists _; iexact H8
  isplitl [H9]; · iexact H9
  isplitl [H10]; · iexact H10
  isplitl [H11]; · iexists _; iexact H11
  isplitl [H12]; · iexact H12
  isplitl [H16]; · iexact H16
  isplitl [H17]; · iexact H17
  isplitl [S S0 S1 S2 S3 S4 S5]
  · isplitl [S]; · iexact S
    isplitl [S0]; · iexact S0
    isplitl [S1]; · iexact S1
    isplitl [S2]; · iexact S2
    isplitl [S3]; · iexact S3
    isplitl [S4]; · iexact S4
    iexact S5
  iexists _; iexact HO

end Cert.Kernel
-- ==== Proof.Word.lean ====
module

public import Idealize.ShloMosaic.PureOps

/-! The token number brought into the table's range, as a machine word. -/

@[expose] public section

namespace Cert.Wp

open Idealize.ShloMosaic

/-- The token number brought into the table's range. -/
def clipW (x : BitVec 32) : BitVec 32 := IntOp.minsi 15999#32 (IntOp.maxsi 0#32 x)

theorem clipW_toNat (x : BitVec 32) : ((clipW x).toNat : ℤ) = min 15999 (max 0 x.toInt) := by
  have hx := BitVec.toInt_eq_toNat_cond x
  have h0 : (0#32).toInt = 0 := rfl
  have h1 : (15999#32).toInt = 15999 := rfl
  have hlt := x.isLt
  unfold clipW IntOp.minsi IntOp.maxsi
  simp only [BitVec.slt_iff_toInt_lt, h0]
  by_cases h : x.toInt < 0
  · rw [if_pos h, h0, h1, if_neg (by decide)]
    show ((0 : ℕ) : ℤ) = _
    omega
  · rw [if_neg h, h1]
    by_cases h' : 15999 < x.toInt
    · rw [if_pos h']
      show ((15999 : ℕ) : ℤ) = _
      omega
    · rw [if_neg h']
      omega

theorem clipW_le (x : BitVec 32) : (clipW x).toNat ≤ 15999 := by
  have := clipW_toNat x
  omega

end Cert.Wp
-- ==== Proof.Launch.lean ====
module

public import proofs.«01_k».proof.Proof.Rest
public import proofs.«01_k».proof.Proof.Step0
public import proofs.«01_k».proof.Proof.Word
public import proofs.«01_k».proof.Proof.Gen.Kernel.Frame
public import Idealize.ShloMosaic.Lib.Pipeline.Frame

/-! The kernel's launch: what its scratch holds between grid points, the body at a point, and the run of the whole
program with the contents of both results. -/

@[expose] public section

set_option maxRecDepth 100000

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Facts₀ Facts Cert.Wp
open Gen (k0_pay8 k0_pay16)

variable {F : FTy → Type} [FloatOps F]

local notation "𝕄" => MT nD τ sig Unit (Elt F) ℕ (Pipeline.UD sig nD τ) ℕ

/-! ## The group numbers -/

theorem pay8_apply (ids : Vec F S64x128 .i32) (y : S64x128.Idx) :
    (k0_pay8 ids y : BitVec 32) = (clipW (ids y)) >>> (2 : ℕ) * 8#32 := by
  unfold k0_pay8
  simp only [shapeCast_self]
  rfl

theorem pay8_nat (ids : Vec F S64x128 .i32) (y : S64x128.Idx) :
    (k0_pay8 ids y : BitVec 32).toNat = 8 * ((clipW (ids y)).toNat / 4) := by
  rw [pay8_apply]
  have := clipW_le (ids y)
  rw [BitVec.toNat_mul, BitVec.toNat_ushiftRight, Nat.shiftRight_eq_div_pow]
  show (_ / 4 * 8) % 4294967296 = _
  omega

theorem grp_ok (ids : Vec F S64x128 .i32) (y : S64x128.Idx) : k0_chk1 (k0_pay8 ids y) := by
  have hn := pay8_nat ids y
  have hc := clipW_le (ids y)
  unfold k0_chk1 k0_mult10 k0_off13 k0_off14
  refine ⟨⟨_, hn⟩, ?_, ?_⟩
  · intro a
    match a with
    | ⟨0, _⟩ => show (k0_pay8 ids y : BitVec 32).toNat + 8 ≤ 32000; omega
    | ⟨1, _⟩ => exact (Nat.le_refl 128 : 0 + 128 ≤ 128)
  · intro a
    match a with
    | ⟨0, _⟩ =>
      show ((k0_pay8 ids y : BitVec 32) >>> (3 : ℕ)).toNat + 1 ≤ 4000
      rw [BitVec.toNat_ushiftRight, Nat.shiftRight_eq_div_pow]; omega
    | ⟨1, _⟩ => exact (Nat.le_refl 128 : 0 + 128 ≤ 128)

theorem tab_ok (ids : Vec F S64x128 .i32) (C : Vec F S16000x768 .i8) (T : Vec F S32000x128 .i32) (hT : TInv C 125 0 T)
    (y : S64x128.Idx) (j q : ℕ) (hj : j < 6) :
    rd2 T ((k0_pay8 ids y : BitVec 32).toNat + j) q = rd2 (tabF C) ((k0_pay8 ids y : BitVec 32).toNat + j) q := by
  have hn := pay8_nat ids y
  have hc := clipW_le (ids y)
  unfold rd2
  refine hT ((clipW (ids y)).toNat / 4) j _ hj (.inl (by omega)) ?_
  show ((k0_pay8 ids y : BitVec 32).toNat + j) % 32000 = _
  omega

/-! ## The operands the body is handed -/

variable (m : (ℓ : Loc nD τ sig) → Buf (Elt F) ℓ) (ρ : Dev nD → PrngReg)

/-- The body's operands at point `t`. -/
abbrev argsAt (t : Fin cfg0.N) : Args :=
  ⟨win0_0.stage (cfg0.slots t 0), hstage0_0 ((cfg0.slots t 0).cast nbuf0_0), Memref.whole main_arg1, Memref.isWhole_whole _,
    win0_1.stage (cfg0.slots t 1), hstage0_1 ((cfg0.slots t 1).cast nbuf0_1), win0_2.stage (cfg0.slots t 2), hstage0_2 ((cfg0.slots t 2).cast nbuf0_2),
    win0_3.stage (cfg0.slots t 3), hstage0_3 ((cfg0.slots t 3).cast nbuf0_3), win0_4.stage (cfg0.slots t 4), hstage0_4 ((cfg0.slots t 4).cast nbuf0_4),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _, Memref.whole cc0_scratch7, Memref.isWhole_whole _, Memref.whole cc0_scratch8, Memref.isWhole_whole _,
    Memref.whole cc0_scratch9, Memref.isWhole_whole _, Memref.whole cc0_scratch10, Memref.isWhole_whole _, cc0_scratch11, cc0_scratch12⟩

theorem bodyAt_eq (t : Fin cfg0.N) : Gen.bodyAt0 (F := F) t = body (grid0.coords t) (argsAt t) := by
  unfold Gen.bodyAt0; exact body_eq _ _ _ _ _ _ _ _ _ _ _ _ _ _ _ _ _ _ _ _ _ _ _ _ _ _ _ _ _ _ _ _ _ _ _ _ _

/-- The kernel's own semaphores: the single one, then the array of six. -/
abbrev osem0 : Fin 7 → SemLoc sig := fun j =>
  (![SemLoc.dma 13, SemLoc.dma 7, SemLoc.dma 8, SemLoc.dma 9, SemLoc.dma 10, SemLoc.dma 11, SemLoc.dma 12] : Fin 7 → SemLoc sig) j
theorem ownSemFacts0 : Pipeline.OwnSemFacts spec0 osem0 := by decide
theorem ownSems00_eq (c : Dev nD) (t : Fin cfg0.N) :
    (Pipeline.ownSems0 (Ix := Unit) (Name := ℕ) (U := Pipeline.UD sig nD τ) (Lvl := ℕ) (Val := Elt F) (τ := τ) osem0 c : sProp 𝕄)
      = sems0 c (argsAt t) := by
  rw [Pipeline.ownSems0_eq_of_list c osem0 [0, 1, 2, 3, 4, 5, 6] (by decide) (by decide)]; rfl

/-- The codes, left in slow memory. -/
def H0 : Finset (Ref sig .tc) := {main_arg1}
theorem H0_sub : H0 ⊆ Pipeline.restRefs sig spec0 := by decide
theorem hbm0_eq (c : Dev nD) :
    (bigSep H0 (fun b => ((c : Thread nD τ).loc b) ↦{fullShare} Gen.V m c b) : sProp 𝕄)
      = owns (c : Thread nD τ) (Memref.whole main_arg1) fullShare (Gen.V m c main_arg1) := by
  rw [BI.bigSep_eq_bigSepL_of_eq [main_arg1] (by decide) (by decide), owns_whole]; rfl

/-! ## What the region finds -/

/-- The first grid point. -/
abbrev t0 : Fin cfg0.N := ⟨0, by decide⟩
/-- The token numbers. -/
def idsA (c : Dev nD) : Vec F S64x128 .i32 := Gen.iblk m c 0 t0
/-- The scales. -/
def scA (c : Dev nD) : Vec F S6x16000 .f32 := Gen.iblk m c 1 t0
/-- The weight. -/
def wtA (c : Dev nD) : Vec F S768 .bf16 := Gen.iblk m c 2 t0
/-- The codes. -/
def cdA (c : Dev nD) : Vec F S16000x768 .i8 := Gen.V m c main_arg1

/-- The result's block at point `t`. -/
def outAt (c : Dev nD) (t : Fin cfg0.N) : Vec F S1x128x768 .bf16 :=
  outAll (grid0.coords t) (k0_pay8 (idsA m c)) (tabF (cdA m c)) (stabF (scA m c)) (kscrF (idsA m c)) (expF (F := F)) (k0_pay16 (wtA m c))
/-- The embedding's block at point `t`. -/
def embAt (c : Dev nD) (t : Fin cfg0.N) : Vec F S1x128x768 .bf16 :=
  embAll (grid0.coords t) (k0_pay8 (idsA m c)) (tabF (cdA m c)) (stabF (scA m c)) (kscrF (idsA m c)) (expF (F := F))

/-- The scratch the steps read, as the set-up leaves it. -/
def keepF (c : Dev nD) : sProp 𝕄 :=
  iprop((∃ T, ⌜TInv (cdA m c) 125 0 T⌝ ∗ owns (c : Thread nD τ) (Memref.whole cc0_scratch0) fullShare T)
    ∗ owns (c : Thread nD τ) (Memref.whole cc0_scratch2) fullShare (stabF (scA m c)) ∗ owns (c : Thread nD τ) (Memref.whole cc0_scratch3) fullShare (kscrF (idsA m c))
    ∗ owns (c : Thread nD τ) (Memref.whole cc0_scratch5) fullShare (k0_pay8 (idsA m c)) ∗ owns (c : Thread nD τ) (Memref.whole cc0_scratch9) fullShare (expF (F := F))
    ∗ owns (c : Thread nD τ) (Memref.whole cc0_scratch10) fullShare (k0_pay16 (wtA m c)))

/-- The scratch the steps read, at some contents. -/
def keepE (c : Dev nD) : sProp 𝕄 :=
  iprop((∃ X, owns (c : Thread nD τ) (Memref.whole cc0_scratch0) fullShare X)
    ∗ (∃ X, owns (c : Thread nD τ) (Memref.whole cc0_scratch2) fullShare X) ∗ (∃ X, owns (c : Thread nD τ) (Memref.whole cc0_scratch3) fullShare X)
    ∗ (∃ X, owns (c : Thread nD τ) (Memref.whole cc0_scratch5) fullShare X) ∗ (∃ X, owns (c : Thread nD τ) (Memref.whole cc0_scratch9) fullShare X)
    ∗ (∃ X, owns (c : Thread nD τ) (Memref.whole cc0_scratch10) fullShare X))

/-- The rest: the other scratch at some contents, the generator register, the semaphores at zero, the codes. -/
def othr (c : Dev nD) : sProp 𝕄 :=
  iprop((∃ X, owns (c : Thread nD τ) (Memref.whole cc0_scratch1) fullShare X) ∗ (∃ X, owns (c : Thread nD τ) (Memref.whole cc0_scratch4) fullShare X)
    ∗ (∃ X, owns (c : Thread nD τ) (Memref.whole cc0_scratch6) fullShare X) ∗ (∃ X, owns (c : Thread nD τ) (Memref.whole cc0_scratch7) fullShare X)
    ∗ (∃ X, owns (c : Thread nD τ) (Memref.whole cc0_scratch8) fullShare X)
    ∗ (∃ r, prngReg c r) ∗ sems0 c (argsAt t0) ∗ owns (c : Thread nD τ) (Memref.whole main_arg1) fullShare (cdA m c))

theorem keepF_E (c : Dev nD) : keepF m c ⊢ (keepE c : sProp 𝕄) := by
  unfold keepF keepE
  iintro ⟨⟨%T, -, H7⟩, H9, H10, H12, H16, H17⟩
  isplitl [H7]; · iexists _; iexact H7
  isplitl [H9]; · iexists _; iexact H9
  isplitl [H10]; · iexists _; iexact H10
  isplitl [H12]; · iexists _; iexact H12
  isplitl [H16]; · iexists _; iexact H16
  iexists _; iexact H17

theorem PhiD0_eq (c : Dev nD) :
    (Pipeline.ΦD osem0 spec0 H0 (Gen.V m) c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch6) fullShare d)
          ∗ (∃ d, owns (c : Thread nD τ) (Memref.whole cc0_scratch7) fullShare d) ∗ (∃ d, owns (c : Thread nD τ) (Memref.whole cc0_scratch8) fullShare d)
          ∗ (∃ d, owns (c : Thread nD τ) (Memref.whole cc0_scratch9) fullShare d) ∗ (∃ d, owns (c : Thread nD τ) (Memref.whole cc0_scratch10) fullShare d)
          ∗ (∃ d, owns (c : Thread nD τ) (Memref.whole cc0_scratch5) fullShare d)) ∗ (∃ r, prngReg c r)
          ∗ sems0 c (argsAt t0) ∗ owns (c : Thread nD τ) (Memref.whole main_arg1) fullShare (cdA m c)) := by
  rw [Pipeline.ΦD_eq, Gen.scopedRest0_eq, ownSems00_eq c t0, hbm0_eq]; simp only [owns_whole]; try rfl

theorem PhiD_in (c : Dev nD) : Pipeline.ΦD osem0 spec0 H0 (Gen.V m) c ⊢ (iprop(keepE c ∗ othr m c) : sProp 𝕄) := by
  rw [PhiD0_eq]; unfold keepE othr
  iintro ⟨⟨H0, H1, H2, H3, H4, H6, H7, H8, H9, H10, H5⟩, HP, HS, HC⟩
  isplitl [H0 H2 H3 H5 H9 H10]
  · isplitl [H0]; · iexact H0
    isplitl [H2]; · iexact H2
    isplitl [H3]; · iexact H3
    isplitl [H5]; · iexact H5
    isplitl [H9]; · iexact H9
    iexact H10
  isplitl [H1]; · iexact H1
  isplitl [H4]; · iexact H4
  isplitl [H6]; · iexact H6
  isplitl [H7]; · iexact H7
  isplitl [H8]; · iexact H8
  isplitl [HP]; · iexact HP
  isplitl [HS]; · iexact HS
  iexact HC

theorem PhiD_out (c : Dev nD) : (iprop(keepE c ∗ othr m c) : sProp 𝕄) ⊢ Pipeline.ΦD osem0 spec0 H0 (Gen.V m) c := by
  rw [PhiD0_eq]; unfold keepE othr
  iintro ⟨⟨H0, H2, H3, H5, H9, H10⟩, H1, H4, H6, H7, H8, HP, HS, HC⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    iexact H5
  isplitl [HP]; · iexact HP
  isplitl [HS]; · iexact HS
  iexact HC

/-! ## The proof data -/

/-- Between the points: before the first, scratch at anything; after it, what the set-up left. -/
def PhiAt (c : Dev nD) (t : Fin (cfg0.N + 1)) : sProp 𝕄 :=
  if t.val = 0 then iprop(keepE c ∗ othr m c) else iprop(keepF m c ∗ othr m c)

/-- The proof data on core `c`. -/
def dats (_ : Fin 1) (c : Dev nD) : Dat τ (Elt F) Unit ℕ (Pipeline.UD sig nD τ) ℕ cfg0 c where
  A w := Gen.V m c (Pipeline.arrRef spec0 w)
  after := fun | 0 => Gen.iblk m c 0 | 1 => Gen.iblk m c 1 | 2 => Gen.iblk m c 2 | 3 => outAt m c | 4 => embAt m c | ⟨_ + 5, h⟩ => absurd h (Nat.not_lt.2 (Nat.le_add_left _ _))
  Φ t := PhiAt m c t
  q _ := fullShare
  owed _ := 0

theorem A_eq (c : Dev nD) (w : Fin cfg0.W) : (dats m 0 c).A w = Gen.V m c (Pipeline.arrRef spec0 w) := by dsimp only [dats]

theorem Phi_eq (c : Dev nD) (t : Fin (cfg0.N + 1)) : (dats m 0 c).Φ t = PhiAt m c t := by dsimp only [dats]

theorem before0 (c : Dev nD) (t : Fin cfg0.N) (d) : (dats m 0 c).before 0 t d = Gen.iblk m c 0 t :=
  ((dats m 0 c).before_in_eq_fetched 0 rfl (fun _ => rfl) (fun _ _ _ => rfl) (fun t => by show Gen.iblk m c 0 t = _; unfold Dat.blockOf Gen.iblk; rw [A_eq]; try rfl) t d).trans
    (by unfold Dat.fetched Dat.blockOf Gen.iblk; rw [A_eq]; try rfl)
theorem before1 (c : Dev nD) (t : Fin cfg0.N) (d) : (dats m 0 c).before 1 t d = Gen.iblk m c 1 t :=
  ((dats m 0 c).before_in_eq_fetched 1 rfl (fun _ => rfl) (fun _ _ _ => rfl) (fun t => by show Gen.iblk m c 1 t = _; unfold Dat.blockOf Gen.iblk; rw [A_eq]; try rfl) t d).trans
    (by unfold Dat.fetched Dat.blockOf Gen.iblk; rw [A_eq]; try rfl)
theorem before2 (c : Dev nD) (t : Fin cfg0.N) (d) : (dats m 0 c).before 2 t d = Gen.iblk m c 2 t :=
  ((dats m 0 c).before_in_eq_fetched 2 rfl (fun _ => rfl) (fun _ _ _ => rfl) (fun t => by show Gen.iblk m c 2 t = _; unfold Dat.blockOf Gen.iblk; rw [A_eq]; try rfl) t d).trans
    (by unfold Dat.fetched Dat.blockOf Gen.iblk; rw [A_eq]; try rfl)

theorem cond1_iff : ∀ t : Fin grid0.N, k0_cond1 (grid0.coords t) = 1#1 ↔ t.val = 0 := by decide +kernel

/-! ## The body at a point -/

/-- The steps of a point, from what the set-up left. -/
theorem wp_steps (c : Dev nD) (t : Fin cfg0.N) (Q : PUnit → sProp 𝕄) :
    iprop(keepF m c ∗ othr m c ∗ (∃ X, owns (c : Thread nD τ) (argsAt t).arg5 fullShare X) ∗ (∃ X, owns (c : Thread nD τ) (argsAt t).arg6 fullShare X)
      ∗ (keepF m c -∗ othr m c -∗ owns (c : Thread nD τ) (argsAt t).arg5 fullShare (outAt m c t) -∗ owns (c : Thread nD τ) (argsAt t).arg6 fullShare (embAt m c t) -∗ Q ⟨⟩))
    ⊢ wp frame (wpE (defs₀ (F := F)) Variants.none (c : Thread nD τ) none) Set.univ (rest (grid0.coords t) (argsAt t)) Q := by
  unfold keepF othr
  iintro ⟨⟨⟨%T, %hT, H7⟩, H9, H10, H12, H16, H17⟩, ⟨H8, H11, H13, H14, H15, HP, HS, HC⟩, H5, H6, HQ⟩
  iapply (wp_rest Variants.none c none Set.univ (grid0.coords t) (argsAt t) (k0_pay8 (idsA m c)) T (tabF (cdA m c)) (stabF (scA m c)) (kscrF (idsA m c)) (expF (F := F)) (k0_pay16 (wtA m c))
    (grp_ok _) (tab_ok _ _ _ hT) Q)
  isplitl [H12]; · iexact H12
  isplitl [H7]; · iexact H7
  isplitl [H9]; · iexact H9
  isplitl [H10]; · iexact H10
  isplitl [H16]; · iexact H16
  isplitl [H17]; · iexact H17
  isplitl [H13]; · iexact H13
  isplitl [H14]; · iexact H14
  isplitl [H15]; · iexact H15
  isplitl [H5]; · iexact H5
  isplitl [H6]; · iexact H6
  iintro H12 H7 H9 H10 H16 H17 H13 H14 H15 H5 H6
  iapply HQ $$ [H7 H9 H10 H12 H16 H17] [H8 H11 H13 H14 H15 HP HS HC] [H5] [H6]
  · isplitl [H7]
    · iexists T; isplitr; · ipureintro; exact hT
      iexact H7
    isplitl [H9]; · iexact H9
    isplitl [H10]; · iexact H10
    isplitl [H12]; · iexact H12
    isplitl [H16]; · iexact H16
    iexact H17
  · isplitl [H8]; · iexact H8
    isplitl [H11]; · iexact H11
    isplitl [H13]; · iexact H13
    isplitl [H14]; · iexact H14
    isplitl [H15]; · iexact H15
    isplitl [HP]; · iexact HP
    isplitl [HS]; · iexact HS
    iexact HC
  · iexact H5
  · iexact H6

/-- The set-up of the first point. -/
theorem wp_setup (c : Dev nD) (h : k0_cond1 (grid0.coords t0) = 1#1) (W : Waits sig Unit) (Q : PUnit → sProp 𝕄) :
    iprop(keepE c ∗ othr m c ∗ owes (c : Thread nD τ) 0 W ∗ owns (c : Thread nD τ) (argsAt t0).arg1 fullShare (idsA m c)
      ∗ owns (c : Thread nD τ) (argsAt t0).arg3 fullShare (scA m c) ∗ owns (c : Thread nD τ) (argsAt t0).arg4 fullShare (wtA m c)
      ∗ (keepF m c -∗ othr m c -∗ (∃ W, owes (c : Thread nD τ) 0 W) -∗ owns (c : Thread nD τ) (argsAt t0).arg1 fullShare (idsA m c)
      -∗ owns (c : Thread nD τ) (argsAt t0).arg3 fullShare (scA m c) -∗ owns (c : Thread nD τ) (argsAt t0).arg4 fullShare (wtA m c) -∗ Q ⟨⟩))
    ⊢ wp frame (wpE (defs₀ (F := F)) Variants.none (c : Thread nD τ) none) Set.univ (step0 (grid0.coords t0) (argsAt t0) h) Q := by
  unfold keepE othr
  iintro ⟨⟨H7, H9, H10, H12, H16, H17⟩, ⟨H8, H11, H13, H14, H15, HP, HS, HC⟩, HO, H1, H3, H4, HQ⟩
  iapply (wp_step0 Variants.none c none (grid0.coords t0) (argsAt t0) h fullShare (idsA m c) (cdA m c) (scA m c) (wtA m c) Q)
  unfold pre0 post0
  isplitl [H1 H3 H4 H7 H8 H9 H10 H11 H12 H16 H17 HS HC HO]
  · isplitl [H1]; · iexact H1
    isplitl [HC]; · iexact HC
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [HS]; · iexact HS
    iexists W; iexact HO
  iintro ⟨H1, HC, H3, H4, H7, H8, H9, H10, H11, H12, H16, H17, HS, HO⟩
  iapply HQ $$ [H7 H9 H10 H12 H16 H17] [H8 H11 H13 H14 H15 HP HS HC] [HO] [H1] [H3] [H4]
  · unfold keepF
    isplitl [H7]; · iexact H7
    isplitl [H9]; · iexact H9
    isplitl [H10]; · iexact H10
    isplitl [H12]; · iexact H12
    isplitl [H16]; · iexact H16
    iexact H17
  · isplitl [H8]; · iexact H8
    isplitl [H11]; · iexact H11
    isplitl [H13]; · iexact H13
    isplitl [H14]; · iexact H14
    isplitl [H15]; · iexact H15
    isplitl [HP]; · iexact HP
    isplitl [HS]; · iexact HS
    iexact HC
  · iexact HO
  · iexact H1
  · iexact H3
  · iexact H4

/-- What the body is called with at point `t`. -/
def bodyPre (c : Dev nD) (t : Fin cfg0.N) : sProp 𝕄 :=
  iprop(PhiAt m c t.castSucc ∗ (dats m 0 c).owesAt () t.castSucc
    ∗ owns (c : Thread nD τ) (argsAt t).arg1 fullShare (Gen.iblk m c 0 t) ∗ owns (c : Thread nD τ) (argsAt t).arg3 fullShare (Gen.iblk m c 1 t)
    ∗ owns (c : Thread nD τ) (argsAt t).arg4 fullShare (Gen.iblk m c 2 t) ∗ (∃ d, owns (c : Thread nD τ) (argsAt t).arg5 fullShare d)
    ∗ (∃ d, owns (c : Thread nD τ) (argsAt t).arg6 fullShare d))
/-- What it returns. -/
def bodyPost (c : Dev nD) (t : Fin cfg0.N) : sProp 𝕄 :=
  iprop(PhiAt m c t.succ ∗ (dats m 0 c).owesAt () t.succ
    ∗ owns (c : Thread nD τ) (argsAt t).arg1 fullShare (Gen.iblk m c 0 t) ∗ owns (c : Thread nD τ) (argsAt t).arg3 fullShare (Gen.iblk m c 1 t)
    ∗ owns (c : Thread nD τ) (argsAt t).arg4 fullShare (Gen.iblk m c 2 t) ∗ owns (c : Thread nD τ) (argsAt t).arg5 fullShare (outAt m c t)
    ∗ owns (c : Thread nD τ) (argsAt t).arg6 fullShare (embAt m c t))

theorem sound_body (c : Dev nD) (t : Fin cfg0.N) :
    bodyPre m c t ⊢ wp frame (wpE (defs₀ (F := F)) Variants.none (c : Thread nD τ) none) Set.univ (Gen.bodyAt0 t) (fun _ => bodyPost m c t) := by
  rw [bodyAt_eq]
  unfold bodyPre bodyPost Dat.owesAt Pipeline.owesWithin body PhiAt
  rw [show (dats m 0 c).owed t.castSucc = 0 from rfl, show (dats m 0 c).owed t.succ = 0 from rfl, if_neg (show t.succ.val ≠ 0 from Nat.succ_ne_zero _)]
  by_cases ht : t.val = 0
  · obtain rfl : t = t0 := Fin.ext ht
    have h : k0_cond1 (grid0.coords t0) = 1#1 := (cond1_iff t0).mpr rfl
    rw [dif_pos h, if_pos (show t0.castSucc.val = 0 from rfl)]
    simp only [wp_bind]
    iintro ⟨⟨HK, HR⟩, ⟨%W, -, HO⟩, H1, H3, H4, H5, H6⟩
    iapply (wp_setup m c h W _)
    isplitl [HK]; · iexact HK
    isplitl [HR]; · iexact HR
    isplitl [HO]; · iexact HO
    isplitl [H1]; · iexact H1
    isplitl [H3]; · iexact H3
    isplitl [H4]; · iexact H4
    iintro HK HR ⟨%W', HO⟩ H1 H3 H4
    iapply (wp_steps m c t0 _)
    isplitl [HK]; · iexact HK
    isplitl [HR]; · iexact HR
    isplitl [H5]; · iexact H5
    isplitl [H6]; · iexact H6
    iintro HK HR H5 H6
    isplitl [HK HR]
    · isplitl [HK]; · iexact HK
      iexact HR
    isplitl [HO]
    · iexists W'; isplitr; · ipureintro; exact fun _ _ => Or.inl trivial
      iexact HO
    isplitl [H1]; · iexact H1
    isplitl [H3]; · iexact H3
    isplitl [H4]; · iexact H4
    isplitl [H5]; · iexact H5
    iexact H6
  · have h : ¬ k0_cond1 (grid0.coords t) = 1#1 := fun h => ht ((cond1_iff t).mp h)
    rw [dif_neg h, if_neg (show ¬ t.castSucc.val = 0 from ht)]
    iintro ⟨⟨HK, HR⟩, ⟨%W, -, HO⟩, H1, H3, H4, H5, H6⟩
    iapply (wp_steps m c t _)
    isplitl [HK]; · iexact HK
    isplitl [HR]; · iexact HR
    isplitl [H5]; · iexact H5
    isplitl [H6]; · iexact H6
    iintro HK HR H5 H6
    isplitl [HK HR]
    · isplitl [HK]; · iexact HK
      iexact HR
    isplitl [HO]
    · iexists W; isplitr; · ipureintro; exact fun _ _ => Or.inl trivial
      iexact HO
    isplitl [H1]; · iexact H1
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = Gen.bodyAt0 t := by
  unfold defs₀; rw [Defs.onTc_tc]

theorem pre_in (c : Dev nD) (t : Fin cfg0.N) :
    (iprop((dats m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d))) : sProp 𝕄)
      ⊢ bodyPre m c t := by
  unfold bodyPre
  rw [Phi_eq]
  simp only [before0, before1, before2]
  iintro ⟨HF, HO, ⟨%d0, H1⟩, ⟨%d1, H3⟩, ⟨%d2, H4⟩, ⟨%d3, H5⟩, ⟨%d4, H6⟩⟩
  isplitl [HF]; · iexact HF
  isplitl [HO]; · iexact HO
  isplitl [H1]; · iexact H1
  isplitl [H3]; · iexact H3
  isplitl [H4]; · iexact H4
  isplitl [H5]; · iexists _; iexact H5
  iexists _; iexact H6

theorem body_obligation (c : Dev nD) :
    BodyObligation (dats (F := F) m 0 c) (defs₀ (F := F)) Variants.none () Set.univ := fun t => by
  rw [Gen.bigSep_W0, Gen.bigSep_W0, defs₀_row]
  exact triple_restated (sound_body m c t) rfl (pre_in m c t) fun _ => .rfl

/-! ## The run -/

theorem hmainD (𝒱₀ : Variants) :
    Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

variable [∀ e, Nonempty (Elt F e)]

set_option backward.isDefEq.respectTransparency.types false in
/-- The run: the arrays end as the proof data say, every other buffer as the region found it, every semaphore at zero. -/
theorem run_main :
    θ_run defs (onTc (τ := τ) (main (F := F))) (s₀ m ρ)
      (fun r => Pipeline.FramePost cfgs (dats m) 0 (Gen.V m) r ∧ r.2.sem = fun _ => 0) :=
  Pipeline.θ_run_frame_dma (Q' := _) cfgs (dats m) (0 : Fin 1) Gen.launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmainD m Variants.none) (hA := A_eq m)
    (hin := fun c => PhiD_in m c) (hout := fun c => (show (dats m 0 c).Φ (Fin.last _) ⊢ _ from by
      rw [Phi_eq]
      unfold PhiAt
      rw [if_neg (by decide)]
      exact (sep_mono (keepF_E m c) .rfl).trans (PhiD_out m c)))

theorem run_args (c : Dev nD) {r : PUnit × MemSt nD τ sig (Elt F)} (h : Pipeline.FramePost cfgs (dats m) 0 (Gen.V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).1 2).trans (((dats m 0 c).arrAt_in 2 rfl _).trans ((A_eq m c 2).trans (Gen.V_main_arg3 m c)))⟩

/-- The frame: the run ends, the arguments as launched, every semaphore at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => run_args m c h.1, h.2⟩) (run_main m ρ)

end Cert.Kernel

end
-- ==== Proof.StructI.lean ====
module

public import proofs.«01_k».proof.Proof.Gen.KernelIdeal
public import Idealize.ShloMosaic.Lib.Tactic

/-! The kernel body regrouped: the one-time set-up, one token gather over its token number, the expansion of the
scales, and one group of eight rows over its group number. The printed body is these in sequence. -/

@[expose] public section

set_option maxRecDepth 100000

noncomputable section

namespace Cert.KernelIdeal

open Idealize.ShloMosaic Idealize.SL.Sem
open Facts₀ Facts

variable {F : FTy → Type} [FloatOps F] [Named F]

/-- The memory references the body works on. -/
structure Args where
  arg1 : Memref sig .tc .vmem S64x128 .i32
  harg1 : arg1.IsWhole
  arg2 : Memref sig .tc .hbm S16000x768 .i8
  harg2 : arg2.IsWhole
  arg3 : Memref sig .tc .vmem S6x16000 .f32
  harg3 : arg3.IsWhole
  arg4 : Memref sig .tc .vmem S768 .bf16
  harg4 : arg4.IsWhole
  arg5 : Memref sig .tc .vmem S1x128x768 .bf16
  harg5 : arg5.IsWhole
  arg6 : Memref sig .tc .vmem S1x128x768 .bf16
  harg6 : arg6.IsWhole
  arg7 : Memref sig .tc .vmem S32000x128 .i32
  harg7 : arg7.IsWhole
  arg8 : Memref sig .tc .vmem S16000x768 .i8
  harg8 : arg8.IsWhole
  arg9 : Memref sig .tc .vmem S4000x128 .f32
  harg9 : arg9.IsWhole
  arg10 : Memref sig .tc .vmem S8192x128 .i32
  harg10 : arg10.IsWhole
  arg11 : Memref sig .tc .vmem S64x128 .i32
  harg11 : arg11.IsWhole
  arg12 : Memref sig .tc .smem S64x128 .i32
  harg12 : arg12.IsWhole
  arg13 : Memref sig .tc .vmem S904x128 .i32
  harg13 : arg13.IsWhole
  arg14 : Memref sig .tc .vmem S128x128 .f32
  harg14 : arg14.IsWhole
  arg15 : Memref sig .tc .vmem S128x768 .f32
  harg15 : arg15.IsWhole
  arg16 : Memref sig .tc .vmem S128x768 .bf16
  harg16 : arg16.IsWhole
  arg17 : Memref sig .tc .vmem S8x768 .f32
  harg17 : arg17.IsWhole
  arg18 : DmaSems sig S6
  arg19 : DmaSems sig S_

/-- `f 0`, `f 1`, …, `f (n-1)` in sequence. -/
def seqN (n : ℕ) (f : Fin n → Prog (TpuEff nD τ sig (Elt F) Λ₀ .tc) PUnit) : Prog (TpuEff nD τ sig (Elt F) Λ₀ .tc) PUnit :=
  Nat.rec (motive := fun k => k ≤ n → Prog (TpuEff nD τ sig (Elt F) Λ₀ .tc) PUnit) (fun _ => pure ⟨⟩)
    (fun k ih h => f ⟨n - (k + 1), by omega⟩ >>= fun _ => ih (by omega)) n le_rfl

/-- Where token `t` of grid point `i` finds its word of the group table. -/
def offG (i : grid0.Coords) (t : Fin 128) : Fin 2 → ℕ :=
  ![(Scalar.indexCast (BitVec.ofNat 32 (i 0).val) : Index).toNat, t.val]

theorem offG_eq (i : grid0.Coords) (t : Fin 128) : offG i t = ![(i 0).val, t.val] := by
  have : (Scalar.indexCast (BitVec.ofNat 32 (i 0).val) : Index).toNat = (i 0).val := by
    have h : (i 0).val < 64 := (i 0).isLt
    have key : ∀ n : Fin 64, (Scalar.indexCast (BitVec.ofNat 32 n.val) : Index).toNat = n.val := by decide
    exact key ⟨_, h⟩
  unfold offG; rw [this]

theorem offG_inb (i : grid0.Coords) (t : Fin 128) : ∀ a, offG i t a + S1x1.size a ≤ S64x128.size a := by
  have h : (i 0).val < 64 := (i 0).isLt
  have ht := t.isLt
  rw [offG_eq]; intro a
  match a with
  | ⟨0, _⟩ => show (i 0).val + 1 ≤ 64; omega
  | ⟨1, _⟩ => show t.val + 1 ≤ 128; omega

theorem tile_inb (t : Fin 128) : ∀ a, S6x128.size a = 0 ∨
    (![t.val, 0] : Fin 2 → Nat) a + (![129, 1] : Fin 2 → Nat) a * (S6x128.size a - 1) < S904x128.size a := by
  have ht := t.isLt
  intro a
  match a with
  | ⟨0, _⟩ => right; show t.val + 129 * (6 - 1) < 904; omega
  | ⟨1, _⟩ => right; show 0 + 1 * (128 - 1) < 128; omega

theorem stile_inb (t : Fin 128) : ∀ a, (![t.val, 0] : Fin 2 → Nat) a + S1x128.size a ≤ S128x128.size a := by
  have ht := t.isLt
  intro a
  match a with
  | ⟨0, _⟩ => show t.val + 1 ≤ 128; omega
  | ⟨1, _⟩ => show 0 + 128 ≤ 128; omega

theorem rows_inb (s : Fin 16) (j : Fin 6) : ∀ a, (![129 * j.val + 8 * s.val, 0] : Fin 2 → Nat) a + S8x128.size a ≤ S904x128.size a := by
  have hs := s.isLt; have hj := j.isLt
  intro a
  match a with
  | ⟨0, _⟩ => show 129 * j.val + 8 * s.val + 8 ≤ 904; omega
  | ⟨1, _⟩ => show 0 + 128 ≤ 128; omega

theorem sfull_inb (s : Fin 16) (j : Fin 6) : ∀ a, (![8 * s.val, 128 * j.val] : Fin 2 → Nat) a + S8x128.size a ≤ S128x768.size a := by
  have hs := s.isLt; have hj := j.isLt
  intro a
  match a with
  | ⟨0, _⟩ => show 8 * s.val + 8 ≤ 128; omega
  | ⟨1, _⟩ => show 128 * j.val + 128 ≤ 768; omega

theorem wt_inb (j : Fin 6) : ∀ a, (![0, 128 * j.val] : Fin 2 → Nat) a + S8x128.size a ≤ S8x768.size a := by
  have hj := j.isLt
  intro a
  match a with
  | ⟨0, _⟩ => show 0 + 8 ≤ 8; omega
  | ⟨1, _⟩ => show 128 * j.val + 128 ≤ 768; omega

theorem out_inb (s : Fin 16) (j : Fin 6) : ∀ a, (![0, 8 * s.val, 128 * j.val] : Fin 3 → Nat) a + S1x8x128.size a ≤ S1x128x768.size a := by
  have hs := s.isLt; have hj := j.isLt
  intro a
  match a with
  | ⟨0, _⟩ => show 0 + 1 ≤ 1; omega
  | ⟨1, _⟩ => show 8 * s.val + 8 ≤ 128; omega
  | ⟨2, _⟩ => show 128 * j.val + 128 ≤ 768; omega

theorem out_packed : ∀ (s : Fin 16) (j : Fin 6),
    (Rect.unit (s := S1x128x768) ![0, 8 * s.val, 128 * j.val] S1x8x128.size (out_inb s j)).PackedRows (EltTy.packing .bf16) := by
  decide

/-- Token `t`: its group number is read, its eight table rows loaded and the first six kept in the tile at stride 129, its row
of the scale table kept at row `t`. -/
def gather (i : grid0.Coords) (A : Args) (t : Fin 128) : Prog (TpuEff nD τ sig (Elt F) Λ₀ .tc) PUnit := do
  let v : Elt F .i32 ← smemLoad A.arg12 (Rect.unit (s := S64x128) (offG i t) S1x1.size (offG_inb i t)) numel1_S1x1 rfl
  have hw : k0_chk1 v := (← Prog.lift (TpuEff.assume (k0_chk1 v) (k0_chk1.dec v))).down
  let x : Vec F S8x128 .i32 ← Prog.lift (.load A.arg7 (Rect.unit (s := S32000x128) (k0_off13 v) S8x128.size (k0_off13_inb v hw)).toLoadRect (View.loadsAt_vmem h_S8x128))
  let d : Vec F S6x128 .i32 ← Prog.lift (.load A.arg13 (⟨![t.val, 0], S6x128.size, ![129, 1], tile_inb t⟩ : LoadRect S904x128) (View.loadsAt_vmem h_S6x128))
  Prog.lift (.store A.arg13 ⟨(⟨![t.val, 0], S6x128.size, ![129, 1], tile_inb t⟩ : LoadRect S904x128), spos_129_1⟩
    (shapeCast S6x128 (extractStridedSlice S6x128 ![0, 0] x slices_S8x128_o0_0_S6x128) shapeCasts_S6x128_S6x128 : IVec S6x128 32) Finset.univ (View.stores_vmem_bits_univ h_S6x128 rfl) (.inl rfl))
  let z : Vec F S1x128 .f32 ← Prog.lift (.load A.arg9 (Rect.unit (s := S4000x128) (k0_off14 v) S1x128.size (k0_off14_inb v hw)).toLoadRect (View.loadsAt_vmem h_S1x128))
  let e : Vec F S1x128 .f32 ← Prog.lift (.load A.arg14 (Rect.unit (s := S128x128) ![t.val, 0] S1x128.size (stile_inb t)).toLoadRect (View.loadsAt_vmem h_S1x128))
  Prog.lift (.store A.arg14 (Rect.unit (s := S128x128) ![t.val, 0] S1x128.size (stile_inb t)) (shapeCast S1x128 z shapeCasts_S1x128_S1x128 : FVec F S1x128 .f32) Finset.univ (View.stores_vmem_bits_univ h_S1x128 rfl) (.inl rfl))

/-- The lane's slot number: the lane divided by eight, rounded down. -/
def slotOf : IVec S128x128 32 :=
  have v1923 : IVec S128x128 32 := iota .tc S128x128 32 [1] iota_S128x128_d1_w32
  let c8_i32 : BitVec 32 := 8#32
  have v1924 : IVec S128x128 32 := broadcast S128x128 c8_i32
  have v1925 : IVec S128x128 32 := divsi v1923 v1924
  let c0_i32_896 : BitVec 32 := 0#32
  have v1926 : IVec S128x128 32 := broadcast S128x128 c0_i32_896
  have v1927 : IVec S128x128 1 := cmpi .sgt v1923 v1926
  have v1928 : IVec S128x128 32 := extui 32 v1927 natLt_1_32
  let c0_i32_897 : BitVec 32 := 0#32
  have v1929 : IVec S128x128 32 := broadcast S128x128 c0_i32_897
  have v1930 : IVec S128x128 1 := cmpi .slt v1923 v1929
  have v1931 : IVec S128x128 32 := extui 32 v1930 natLt_1_32
  have v1932 : IVec S128x128 32 := subi v1928 v1931
  let c0_i32_898 : BitVec 32 := 0#32
  let v1933 : BitVec 1 := Scalar.cmpi .sgt c8_i32 c0_i32_898
  let v1934 : BitVec 32 := Scalar.extui v1933
  let c0_i32_899 : BitVec 32 := 0#32
  let v1935 : BitVec 1 := Scalar.cmpi .slt c8_i32 c0_i32_899
  let v1936 : BitVec 32 := Scalar.extui v1935
  let v1937 : BitVec 32 := Scalar.subi v1934 v1936
  have v1938 : IVec S128x128 32 := broadcast S128x128 v1937
  have v1939 : IVec S128x128 1 := cmpi .ne v1932 v1938
  have v1940 : IVec S128x128 32 := broadcast S128x128 c8_i32
  have v1941 : IVec S128x128 32 := remsi v1923 v1940
  let c0_i32_900 : BitVec 32 := 0#32
  have v1942 : IVec S128x128 32 := broadcast S128x128 c0_i32_900
  have v1943 : IVec S128x128 1 := cmpi .ne v1941 v1942
  have v1944 : IVec S128x128 1 := andi v1939 v1943
  let c1_i32 : BitVec 32 := 1#32
  have v1945 : IVec S128x128 32 := broadcast S128x128 c1_i32
  have v1946 : IVec S128x128 32 := subi v1925 v1945
  have v1947 : IVec S128x128 32 := select v1944 v1946 v1925
  let c128_i32 : BitVec 32 := 128#32
  v1947

/-- The scales of the 128 tokens, masked to the token's row in its group, and spread over the columns. -/
def sfullOf (kk : Vec F S128x128 .i32) (sc : Vec F S128x128 .f32) (ex : Vec F S128x768 .bf16) : FVec F S128x768 .f32 :=
  matmul dot_S128x128_S128x768_S128x768_1_0_0_1_n_n none
    (truncf .bf16 (select (cmpi .eq slotOf kk) sc (broadcast S128x128 (Scalar.ofBits .f32 0x00000000#32) : FVec F S128x128 .f32) : FVec F S128x128 .f32) bitsLt_bf16_f32 : FVec F S128x128 .bf16)
    ex (constant S128x768 .f32 0x00000000#32 : FVec F S128x768 .f32)

/-- The expansion of the scales. -/
def scales (i : grid0.Coords) (A : Args) : Prog (TpuEff nD τ sig (Elt F) Λ₀ .tc) PUnit := do
  let kk : Vec F S128x128 .i32 ← Prog.lift (.load A.arg10 (Rect.unit (s := S8192x128) (k0_off396 i) S128x128.size (k0_off396_inb i)).toLoadRect (View.loadsAt_vmem h_S128x128))
  let sc : Vec F S128x128 .f32 ← Prog.lift (.load A.arg14 (Rect.unit (s := S128x128) ![0, 0] S128x128.size inb_S128x128_S128x128_0_0).toLoadRect (View.loadsAt_vmem h_S128x128))
  let ex : Vec F S128x768 .bf16 ← Prog.lift (.load A.arg16 (Rect.unit (s := S128x768) ![0, 0] S128x768.size inb_S128x768_S128x768_0_0).toLoadRect (View.loadsAt_vmem h_S128x768))
  let d : Vec F S128x768 .f32 ← Prog.lift (.load A.arg15 (Rect.unit (s := S128x768) ![0, 0] S128x768.size inb_S128x768_S128x768_0_0).toLoadRect (View.loadsAt_vmem h_S128x768))
  Prog.lift (.store A.arg15 (Rect.unit (s := S128x768) ![0, 0] S128x768.size inb_S128x768_S128x768_0_0) (shapeCast S128x768 (sfullOf kk sc ex) shapeCasts_S128x768_S128x768 : FVec F S128x768 .f32) Finset.univ (View.stores_vmem_bits_univ h_S128x768 rfl) (.inl rfl))

/-- The shift that brings a row's byte of its word to the top. -/
def shOf (kk : Vec F S8x128 .i32) : IVec S8x128 32 :=
  subi (broadcast S8x128 24#32 : IVec S8x128 32) (muli (broadcast S8x128 8#32 : IVec S8x128 32) kk)

/-- Eight rows of one block of 128 columns of the embedding. -/
def embOf (kk : Vec F S8x128 .i32) (w : Vec F S8x128 .i32) (sf : Vec F S8x128 .f32) : FVec F S8x128 .bf16 :=
  truncf .bf16 (mulf (sitofp .f32 (shrsi (shli w (shOf kk)) (broadcast S8x128 24#32 : IVec S8x128 32) : IVec S8x128 32) : FVec F S8x128 .f32) sf) bitsLt_bf16_f32

/-- The embedding's block back in single precision. -/
def extOf (e : FVec F S8x128 .bf16) : FVec F S8x128 .f32 := extf .f32 e bitsLt_bf16_f32

/-- The sum of squares with one more block. -/
def accOf (acc : FVec F S8x128 .f32) (e : FVec F S8x128 .bf16) : FVec F S8x128 .f32 := addf acc (mulf (extOf e) (extOf e))

/-- The reciprocal root mean square of eight rows from the lane sums of squares. -/
def rmsOf (acc : FVec F S8x128 .f32) : FVec F S8x128 .f32 :=
  broadcastTo S8x128 (shapeCast S8x1 (rsqrt (addf (mulf (shapeCast S8x1 (multiReduction .add [1] S8 acc 0x00000000#32 reduces_S8x128_S8 (.inl rfl) rfl : FVec F S8 .f32) shapeCasts_S8_S8x1 : FVec F S8x1 .f32) (broadcast S8x1 (Named.named κ "inv_d_model" 0x3AAAAAAB#32) : FVec F S8x1 .f32)) (broadcast S8x1 (Scalar.ofBits .f32 0x358637BD#32) : FVec F S8x1 .f32)) : FVec F S8x1 .f32) shapeCasts_S8x1_S8x1 : FVec F S8x1 .f32) broadcasts_S8x1_S8x128

/-- Eight rows of one block of 128 columns of the result. -/
def outOf (e : FVec F S8x128 .bf16) (r : FVec F S8x128 .f32) (w : Vec F S8x128 .f32) : FVec F S8x128 .bf16 :=
  truncf .bf16 (mulf (mulf (extOf e) r) w) bitsLt_bf16_f32

/-- Column block `j` of row group `s`: its embedding is computed, stored and returned. -/
def embCol (A : Args) (s : Fin 16) (kk : Vec F S8x128 .i32) (j : Fin 6) : Prog (TpuEff nD τ sig (Elt F) Λ₀ .tc) (FVec F S8x128 .bf16) := do
  let w : Vec F S8x128 .i32 ← Prog.lift (.load A.arg13 (Rect.unit (s := S904x128) ![129 * j.val + 8 * s.val, 0] S8x128.size (rows_inb s j)).toLoadRect (View.loadsAt_vmem h_S8x128))
  let sf : Vec F S8x128 .f32 ← Prog.lift (.load A.arg15 (Rect.unit (s := S128x768) ![8 * s.val, 128 * j.val] S8x128.size (sfull_inb s j)).toLoadRect (View.loadsAt_vmem h_S8x128))
  let d : Vec F S1x8x128 .bf16 ← Prog.lift (.load A.arg6 (Rect.unit (s := S1x128x768) ![0, 8 * s.val, 128 * j.val] S1x8x128.size (out_inb s j)).toLoadRect (View.loadsAt_vmem h_S1x8x128))
  Prog.lift (.store A.arg6 (Rect.unit (s := S1x128x768) ![0, 8 * s.val, 128 * j.val] S1x8x128.size (out_inb s j)) (shapeCast S1x8x128 (embOf kk w sf) shapeCasts_S8x128_S1x8x128 : FVec F S1x8x128 .bf16) Finset.univ (View.stores_vmem h_S1x8x128 (A.harg6.storeExact_slice rfl _ (out_packed s j)) (fun _ => rfl)) (.inl rfl))
  pure (embOf kk w sf)

/-- Column block `j` of row group `s` of the result. -/
def outCol (A : Args) (s : Fin 16) (r : FVec F S8x128 .f32) (j : Fin 6) (e : FVec F S8x128 .bf16) : Prog (TpuEff nD τ sig (Elt F) Λ₀ .tc) PUnit := do
  let w : Vec F S8x128 .f32 ← Prog.lift (.load A.arg17 (Rect.unit (s := S8x768) ![0, 128 * j.val] S8x128.size (wt_inb j)).toLoadRect (View.loadsAt_vmem h_S8x128))
  let d : Vec F S1x8x128 .bf16 ← Prog.lift (.load A.arg5 (Rect.unit (s := S1x128x768) ![0, 8 * s.val, 128 * j.val] S1x8x128.size (out_inb s j)).toLoadRect (View.loadsAt_vmem h_S1x8x128))
  Prog.lift (.store A.arg5 (Rect.unit (s := S1x128x768) ![0, 8 * s.val, 128 * j.val] S1x8x128.size (out_inb s j)) (shapeCast S1x8x128 (outOf e r w) shapeCasts_S8x128_S1x8x128 : FVec F S1x8x128 .bf16) Finset.univ (View.stores_vmem h_S1x8x128 (A.harg5.storeExact_slice rfl _ (out_packed s j)) (fun _ => rfl)) (.inl rfl))

/-- The lane sums of squares of six blocks. -/
def acc6 (e0 e1 e2 e3 e4 e5 : FVec F S8x128 .bf16) : FVec F S8x128 .f32 :=
  accOf (accOf (accOf (accOf (accOf (accOf (broadcast S8x128 (Scalar.ofBits .f32 0x00000000#32) : FVec F S8x128 .f32) e0) e1) e2) e3) e4) e5

/-- Eight rows: the six column blocks of the embedding, then those of the result. -/
def group (i : grid0.Coords) (A : Args) (s : Fin 16) : Prog (TpuEff nD τ sig (Elt F) Λ₀ .tc) PUnit := do
  let kk : Vec F S8x128 .i32 ← Prog.lift (.load A.arg10 (Rect.unit (s := S8192x128) (k0_off397 i (BitVec.ofNat 32 (8 * s.val))) S8x128.size (k0_off397_inb i s)).toLoadRect (View.loadsAt_vmem h_S8x128))
  let e0 ← embCol A s kk 0
  let e1 ← embCol A s kk 1
  let e2 ← embCol A s kk 2
  let e3 ← embCol A s kk 3
  let e4 ← embCol A s kk 4
  let e5 ← embCol A s kk 5
  outCol A s (rmsOf (acc6 e0 e1 e2 e3 e4 e5)) 0 e0
  outCol A s (rmsOf (acc6 e0 e1 e2 e3 e4 e5)) 1 e1
  outCol A s (rmsOf (acc6 e0 e1 e2 e3 e4 e5)) 2 e2
  outCol A s (rmsOf (acc6 e0 e1 e2 e3 e4 e5)) 3 e3
  outCol A s (rmsOf (acc6 e0 e1 e2 e3 e4 e5)) 4 e4
  outCol A s (rmsOf (acc6 e0 e1 e2 e3 e4 e5)) 5 e5

/-- The work of every grid point. -/
def rest (i : grid0.Coords) (A : Args) : Prog (TpuEff nD τ sig (Elt F) Λ₀ .tc) PUnit := do
  seqN 128 (gather i A)
  scales i A
  seqN 16 (group i A)

/-- One trip of the loop that packs 128 rows of codes into words of the table. -/
def trip3 (i : grid0.Coords) (A : Args) (k0_h1 : k0_cond1 i = 1#1) (k0_t3 : Fin k0_t3_loop.trips) : Prog (TpuEff nD τ sig (Elt F) Λ₀ .tc) PUnit := do
  let c0_i32_2286 : BitVec 32 := 0#32
  let c1_i32_2288 : BitVec 32 := 1#32
  let v4434 : BitVec 32 ← k0_part1 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 c0_i32_2286 c1_i32_2288 k0_t3
  let c384_2308 : Index := 384#32
  let v4471 : Vec F S128x128 .i8 ← Prog.lift (.load A.arg8 (Rect.unit (s := S16000x768) (k0_off9 k0_t3) S128x128.size (k0_off9_inb i k0_t3 k0_h1)).toLoadRect (View.loadsAt_vmem h_S128x128))
  have v4472 : IVec S32x128 32 := bitcast S32x128 32 v4471 bitcasts_S128x128_w8_S32x128_w32
  let c256_i32_2309 : BitVec 32 := 256#32
  let v4473 : BitVec 32 := Scalar.muli v4434 c256_i32_2309
  let c3_i32_2310 : BitVec 32 := 3#32
  let v4474 : BitVec 32 := Scalar.addi v4473 c3_i32_2310
  let v4475 : Index := Scalar.indexCast v4474
  let c0_2311 : Index := 0#32
  let v4476 : Vec F S32x128 .i32 ← Prog.lift (.load A.arg7 (⟨k0_off6 k0_t3 3#32, S32x128.size, ![8, 1], (k0_off6_inb i k0_t3 k0_h1 3)⟩ : LoadRect S32000x128) (View.loadsAt_vmem h_S32x128))
  have v4477 : IVec S32x128 32 := shapeCast S32x128 v4476 shapeCasts_S32x128_S32x128
  have v4478 : IVec S32x128 32 := shapeCast S32x128 v4472 shapeCasts_S32x128_S32x128
  Prog.lift (.store A.arg7 ⟨(⟨k0_off6 k0_t3 3#32, S32x128.size, ![8, 1], (k0_off6_inb i k0_t3 k0_h1 3)⟩ : LoadRect S32000x128), spos_8_1⟩ v4478 Finset.univ (View.stores_vmem_bits_univ h_S32x128 rfl) (.inl rfl))
  let c128_i32_2312 : BitVec 32 := 128#32
  let v4479 : BitVec 32 := Scalar.muli v4434 c128_i32_2312
  let v4480 : BitVec 32 := v4479
  let v4481 : Index := Scalar.indexCast v4480
  let c512_2313 : Index := 512#32
  let v4482 : Vec F S128x128 .i8 ← Prog.lift (.load A.arg8 (Rect.unit (s := S16000x768) (k0_off10 k0_t3) S128x128.size (k0_off10_inb i k0_t3 k0_h1)).toLoadRect (View.loadsAt_vmem h_S128x128))
  have v4483 : IVec S32x128 32 := bitcast S32x128 32 v4482 bitcasts_S128x128_w8_S32x128_w32
  let c256_i32_2314 : BitVec 32 := 256#32
  let v4484 : BitVec 32 := Scalar.muli v4434 c256_i32_2314
  let c4_i32_2315 : BitVec 32 := 4#32
  let v4485 : BitVec 32 := Scalar.addi v4484 c4_i32_2315
  let v4486 : Index := Scalar.indexCast v4485
  let c0_2316 : Index := 0#32
  let v4487 : Vec F S32x128 .i32 ← Prog.lift (.load A.arg7 (⟨k0_off6 k0_t3 4#32, S32x128.size, ![8, 1], (k0_off6_inb i k0_t3 k0_h1 4)⟩ : LoadRect S32000x128) (View.loadsAt_vmem h_S32x128))
  have v4488 : IVec S32x128 32 := shapeCast S32x128 v4487 shapeCasts_S32x128_S32x128
  have v4489 : IVec S32x128 32 := shapeCast S32x128 v4483 shapeCasts_S32x128_S32x128
  Prog.lift (.store A.arg7 ⟨(⟨k0_off6 k0_t3 4#32, S32x128.size, ![8, 1], (k0_off6_inb i k0_t3 k0_h1 4)⟩ : LoadRect S32000x128), spos_8_1⟩ v4489 Finset.univ (View.stores_vmem_bits_univ h_S32x128 rfl) (.inl rfl))
  let c128_i32_2317 : BitVec 32 := 128#32
  let v4490 : BitVec 32 := Scalar.muli v4434 c128_i32_2317
  let v4491 : BitVec 32 := v4490
  let v4492 : Index := Scalar.indexCast v4491
  let c640_2318 : Index := 640#32
  let v4493 : Vec F S128x128 .i8 ← Prog.lift (.load A.arg8 (Rect.unit (s := S16000x768) (k0_off11 k0_t3) S128x128.size (k0_off11_inb i k0_t3 k0_h1)).toLoadRect (View.loadsAt_vmem h_S128x128))
  have v4494 : IVec S32x128 32 := bitcast S32x128 32 v4493 bitcasts_S128x128_w8_S32x128_w32
  let c256_i32_2319 : BitVec 32 := 256#32
  let v4495 : BitVec 32 := Scalar.muli v4434 c256_i32_2319
  let c5_i32_2320 : BitVec 32 := 5#32
  let v4496 : BitVec 32 := Scalar.addi v4495 c5_i32_2320
  let v4497 : Index := Scalar.indexCast v4496
  let c0_2321 : Index := 0#32
  let v4498 : Vec F S32x128 .i32 ← Prog.lift (.load A.arg7 (⟨k0_off6 k0_t3 5#32, S32x128.size, ![8, 1], (k0_off6_inb i k0_t3 k0_h1 5)⟩ : LoadRect S32000x128) (View.loadsAt_vmem h_S32x128))
  have v4499 : IVec S32x128 32 := shapeCast S32x128 v4498 shapeCasts_S32x128_S32x128
  have v4500 : IVec S32x128 32 := shapeCast S32x128 v4494 shapeCasts_S32x128_S32x128
  Prog.lift (.store A.arg7 ⟨(⟨k0_off6 k0_t3 5#32, S32x128.size, ![8, 1], (k0_off6_inb i k0_t3 k0_h1 5)⟩ : LoadRect S32000x128), spos_8_1⟩ v4500 Finset.univ (View.stores_vmem_bits_univ h_S32x128 rfl) (.inl rfl))
  pure ⟨⟩

/-- The set-up at the first grid point. -/
def step0 (i : grid0.Coords) (A : Args) (k0_h1 : k0_cond1 i = 1#1) : Prog (TpuEff nD τ sig (Elt F) Λ₀ .tc) PUnit := do
  k0_part2 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19
  let x3 ← k0_part3 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
  let x4 ← k0_part4 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x3.1 x3.2.1 x3.2.2.1 x3.2.2.2.1 x3.2.2.2.2
  let x5 ← k0_part5 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x4.1 x4.2.1 x4.2.2
  k0_part6 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 x5.1 x5.2.1 x5.2.2.1 x5.2.2.2.1 x5.2.2.2.2
  let v4424 : DmaSems sig S1 := A.arg18.slice (Rect.unit (s := S6) ![4] S1.size inb_S6_S1_4)
  let v4425 : DmaSems sig S_ := v4424.squeeze S_ squeezes_S1_S_
  let v4426 : Memref sig .tc .vmem S16000x128 .i8 := A.arg8.slice (Rect.unit (s := S16000x768) ![0, 512] S16000x128.size inb_S16000x768_S16000x128_0_512) (fun _ => rfl)
  let v4427 : Memref sig .tc .hbm S16000x128 .i8 := A.arg2.slice (Rect.unit (s := S16000x768) ![0, 512] S16000x128.size inb_S16000x768_S16000x128_0_512) (fun _ => rfl)
  Prog.lift (.waitDma2 v4425.sem v4427 v4426 (A.harg2.wordExact_slice rfl _ wordsi8_S16000x768_S16000x128_0_512) (A.harg8.wordExact_slice rfl _ wordsi8_S16000x768_S16000x128_0_512))
  let v4428 : DmaSems sig S1 := A.arg18.slice (Rect.unit (s := S6) ![5] S1.size inb_S6_S1_5)
  let v4429 : DmaSems sig S_ := v4428.squeeze S_ squeezes_S1_S_
  let v4430 : Memref sig .tc .vmem S16000x128 .i8 := A.arg8.slice (Rect.unit (s := S16000x768) ![0, 640] S16000x128.size inb_S16000x768_S16000x128_0_640) (fun _ => rfl)
  let v4431 : Memref sig .tc .hbm S16000x128 .i8 := A.arg2.slice (Rect.unit (s := S16000x768) ![0, 640] S16000x128.size inb_S16000x768_S16000x128_0_640) (fun _ => rfl)
  Prog.lift (.waitDma2 v4429.sem v4431 v4430 (A.harg2.wordExact_slice rfl _ wordsi8_S16000x768_S16000x128_0_640) (A.harg8.wordExact_slice rfl _ wordsi8_S16000x768_S16000x128_0_640))
  Scf.Loop.for k0_t3_loop (k0_t3_ok i k0_h1) ⟨⟩ fun k0_t3 _ => trip3 i A k0_h1 k0_t3

/-- The set-up at the first grid point, followed by `q`. -/
def step0K {α : Type} (i : grid0.Coords) (A : Args) (k0_h1 : k0_cond1 i = 1#1) (q : Prog (TpuEff nD τ sig (Elt F) Λ₀ .tc) α) : Prog (TpuEff nD τ sig (Elt F) Λ₀ .tc) α := do
  k0_part2 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19
  let x3 ← k0_part3 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
  let x4 ← k0_part4 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x3.1 x3.2.1 x3.2.2.1 x3.2.2.2.1 x3.2.2.2.2
  let x5 ← k0_part5 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 x4.1 x4.2.1 x4.2.2
  k0_part6 i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 x5.1 x5.2.1 x5.2.2.1 x5.2.2.2.1 x5.2.2.2.2
  let v4424 : DmaSems sig S1 := A.arg18.slice (Rect.unit (s := S6) ![4] S1.size inb_S6_S1_4)
  let v4425 : DmaSems sig S_ := v4424.squeeze S_ squeezes_S1_S_
  let v4426 : Memref sig .tc .vmem S16000x128 .i8 := A.arg8.slice (Rect.unit (s := S16000x768) ![0, 512] S16000x128.size inb_S16000x768_S16000x128_0_512) (fun _ => rfl)
  let v4427 : Memref sig .tc .hbm S16000x128 .i8 := A.arg2.slice (Rect.unit (s := S16000x768) ![0, 512] S16000x128.size inb_S16000x768_S16000x128_0_512) (fun _ => rfl)
  Prog.lift (.waitDma2 v4425.sem v4427 v4426 (A.harg2.wordExact_slice rfl _ wordsi8_S16000x768_S16000x128_0_512) (A.harg8.wordExact_slice rfl _ wordsi8_S16000x768_S16000x128_0_512))
  let v4428 : DmaSems sig S1 := A.arg18.slice (Rect.unit (s := S6) ![5] S1.size inb_S6_S1_5)
  let v4429 : DmaSems sig S_ := v4428.squeeze S_ squeezes_S1_S_
  let v4430 : Memref sig .tc .vmem S16000x128 .i8 := A.arg8.slice (Rect.unit (s := S16000x768) ![0, 640] S16000x128.size inb_S16000x768_S16000x128_0_640) (fun _ => rfl)
  let v4431 : Memref sig .tc .hbm S16000x128 .i8 := A.arg2.slice (Rect.unit (s := S16000x768) ![0, 640] S16000x128.size inb_S16000x768_S16000x128_0_640) (fun _ => rfl)
  Prog.lift (.waitDma2 v4429.sem v4431 v4430 (A.harg2.wordExact_slice rfl _ wordsi8_S16000x768_S16000x128_0_640) (A.harg8.wordExact_slice rfl _ wordsi8_S16000x768_S16000x128_0_640))
  Scf.Loop.for k0_t3_loop (k0_t3_ok i k0_h1) ⟨⟩ fun k0_t3 _ => trip3 i A k0_h1 k0_t3
  q

theorem step0K_eq {α : Type} (i : grid0.Coords) (A : Args) (k0_h1 : k0_cond1 i = 1#1) (q : Prog (TpuEff nD τ sig (Elt F) Λ₀ .tc) α) :
    step0K i A k0_h1 q = step0 i A k0_h1 >>= fun _ => q := by
  simp only [step0K, step0, bind_assoc]

/-- The first printed part after the set-up. -/
def tail7 (i : grid0.Coords) (A : Args) : Prog (TpuEff nD τ sig (Elt F) Λ₀ .tc) (BitVec 32) := do
  let ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ := A
  let arg0 : BitVec 32 := BitVec.ofNat 32 (i 0).val
  let v3 : Index := Scalar.indexCast arg0
  let c0 : Index := 0#32
  let v4 : Elt F .i32 ← smemLoad arg12 (Rect.unit (s := S64x128) (k0_off12 i) S1x1.size (k0_off12_inb i)) numel1_S1x1 rfl
  have k0_hw1 : k0_chk1 v4 := (← Prog.lift (TpuEff.assume (k0_chk1 v4) (k0_chk1.dec v4))).down
  let v5 : BitVec 32 := v4
  let v6 : Index := Scalar.indexCast v5
  let c0_1 : Index := 0#32
  let v7 : Vec F S8x128 .i32 ← Prog.lift (.load arg7 (Rect.unit (s := S32000x128) (k0_off13 v4) S8x128.size (k0_off13_inb v4 k0_hw1)).toLoadRect (View.loadsAt_vmem h_S8x128))
  have v8 : IVec S6x128 32 := extractStridedSlice S6x128 ![0, 0] v7 slices_S8x128_o0_0_S6x128
  let c0_2 : Index := 0#32
  let c0_3 : Index := 0#32
  let v9 : Vec F S6x128 .i32 ← Prog.lift (.load arg13 (⟨![0, 0], S6x128.size, ![129, 1], inb_S904x128_S6x128_0_0_s_129_1⟩ : LoadRect S904x128) (View.loadsAt_vmem h_S6x128))
  have v10 : IVec S6x128 32 := shapeCast S6x128 v9 shapeCasts_S6x128_S6x128
  have v11 : IVec S6x128 32 := shapeCast S6x128 v8 shapeCasts_S6x128_S6x128
  Prog.lift (.store arg13 ⟨(⟨![0, 0], S6x128.size, ![129, 1], inb_S904x128_S6x128_0_0_s_129_1⟩ : LoadRect S904x128), spos_129_1⟩ v11 Finset.univ (View.stores_vmem_bits_univ h_S6x128 rfl) (.inl rfl))
  let c3_i32 : BitVec 32 := 3#32
  let v12 : BitVec 32 := Scalar.shrui v5 c3_i32
  let v13 : Index := Scalar.indexCast v12
  let c0_4 : Index := 0#32
  let v14 : Vec F S1x128 .f32 ← Prog.lift (.load arg9 (Rect.unit (s := S4000x128) (k0_off14 v4) S1x128.size (k0_off14_inb v4 k0_hw1)).toLoadRect (View.loadsAt_vmem h_S1x128))
  let c0_5 : Index := 0#32
  let c0_6 : Index := 0#32
  let v15 : Vec F S1x128 .f32 ← Prog.lift (.load arg14 (Rect.unit (s := S128x128) ![0, 0] S1x128.size inb_S128x128_S1x128_0_0).toLoadRect (View.loadsAt_vmem h_S1x128))
  have v16 : FVec F S1x128 .f32 := shapeCast S1x128 v15 shapeCasts_S1x128_S1x128
  have v17 : FVec F S1x128 .f32 := shapeCast S1x128 v14 shapeCasts_S1x128_S1x128
  Prog.lift (.store arg14 (Rect.unit (s := S128x128) ![0, 0] S1x128.size inb_S128x128_S1x128_0_0) v17 Finset.univ (View.stores_vmem_bits_univ h_S1x128 rfl) (.inl rfl))
  let v18 : Index := Scalar.indexCast arg0
  let c1 : Index := 1#32
  let v19 : Elt F .i32 ← smemLoad arg12 (Rect.unit (s := S64x128) (k0_off15 i) S1x1.size (k0_off15_inb i)) numel1_S1x1 rfl
  have k0_hw2 : k0_chk2 v19 := (← Prog.lift (TpuEff.assume (k0_chk2 v19) (k0_chk2.dec v19))).down
  let v20 : BitVec 32 := v19
  let v21 : Index := Scalar.indexCast v20
  let c0_7 : Index := 0#32
  let v22 : Vec F S8x128 .i32 ← Prog.lift (.load arg7 (Rect.unit (s := S32000x128) (k0_off16 v19) S8x128.size (k0_off16_inb v19 k0_hw2)).toLoadRect (View.loadsAt_vmem h_S8x128))
  have v23 : IVec S6x128 32 := extractStridedSlice S6x128 ![0, 0] v22 slices_S8x128_o0_0_S6x128
  let c1_8 : Index := 1#32
  let c0_9 : Index := 0#32
  let v24 : Vec F S6x128 .i32 ← Prog.lift (.load arg13 (⟨![1, 0], S6x128.size, ![129, 1], inb_S904x128_S6x128_1_0_s_129_1⟩ : LoadRect S904x128) (View.loadsAt_vmem h_S6x128))
  have v25 : IVec S6x128 32 := shapeCast S6x128 v24 shapeCasts_S6x128_S6x128
  have v26 : IVec S6x128 32 := shapeCast S6x128 v23 shapeCasts_S6x128_S6x128
  Prog.lift (.store arg13 ⟨(⟨![1, 0], S6x128.size, ![129, 1], inb_S904x128_S6x128_1_0_s_129_1⟩ : LoadRect S904x128), spos_129_1⟩ v26 Finset.univ (View.stores_vmem_bits_univ h_S6x128 rfl) (.inl rfl))
  let c3_i32_10 : BitVec 32 := 3#32
  let v27 : BitVec 32 := Scalar.shrui v20 c3_i32_10
  let v28 : Index := Scalar.indexCast v27
  let c0_11 : Index := 0#32
  let v29 : Vec F S1x128 .f32 ← Prog.lift (.load arg9 (Rect.unit (s := S4000x128) (k0_off17 v19) S1x128.size (k0_off17_inb v19 k0_hw2)).toLoadRect (View.loadsAt_vmem h_S1x128))
  let c1_12 : Index := 1#32
  let c0_13 : Index := 0#32
  let v30 : Vec F S1x128 .f32 ← Prog.lift (.load arg14 (Rect.unit (s := S128x128) ![1, 0] S1x128.size inb_S128x128_S1x128_1_0).toLoadRect (View.loadsAt_vmem h_S1x128))
  have v31 : FVec F S1x128 .f32 := shapeCast S1x128 v30 shapeCasts_S1x128_S1x128
  have v32 : FVec F S1x128 .f32 := shapeCast S1x128 v29 shapeCasts_S1x128_S1x128
  Prog.lift (.store arg14 (Rect.unit (s := S128x128) ![1, 0] S1x128.size inb_S128x128_S1x128_1_0) v32 Finset.univ (View.stores_vmem_bits_univ h_S1x128 rfl) (.inl rfl))
  let v33 : Index := Scalar.indexCast arg0
  pure arg0

theorem part7_eq (i : grid0.Coords) (arg1 : Memref sig .tc .vmem S64x128 .i32) (harg1 : arg1.IsWhole) (arg2 : Memref sig .tc .hbm S16000x768 .i8) (harg2 : arg2.IsWhole) (arg3 : Memref sig .tc .vmem S6x16000 .f32) (harg3 : arg3.IsWhole) (arg4 : Memref sig .tc .vmem S768 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S32000x128 .i32) (harg7 : arg7.IsWhole) (arg8 : Memref sig .tc .vmem S16000x768 .i8) (harg8 : arg8.IsWhole) (arg9 : Memref sig .tc .vmem S4000x128 .f32) (harg9 : arg9.IsWhole) (arg10 : Memref sig .tc .vmem S8192x128 .i32) (harg10 : arg10.IsWhole) (arg11 : Memref sig .tc .vmem S64x128 .i32) (harg11 : arg11.IsWhole) (arg12 : Memref sig .tc .smem S64x128 .i32) (harg12 : arg12.IsWhole) (arg13 : Memref sig .tc .vmem S904x128 .i32) (harg13 : arg13.IsWhole) (arg14 : Memref sig .tc .vmem S128x128 .f32) (harg14 : arg14.IsWhole) (arg15 : Memref sig .tc .vmem S128x768 .f32) (harg15 : arg15.IsWhole) (arg16 : Memref sig .tc .vmem S128x768 .bf16) (harg16 : arg16.IsWhole) (arg17 : Memref sig .tc .vmem S8x768 .f32) (harg17 : arg17.IsWhole) (arg18 : DmaSems sig S6) (arg19 : DmaSems sig S_) :
    k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
      = if h : k0_cond1 i = 1#1 then step0K i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ h (tail7 i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩) else tail7 i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ := by
  sl_kernel_rfl

/-- The body: the set-up at the first grid point, then the work of every grid point. -/
def body (i : grid0.Coords) (A : Args) : Prog (TpuEff nD τ sig (Elt F) Λ₀ .tc) PUnit :=
  if h : k0_cond1 i = 1#1 then step0 i A h >>= fun _ => rest i A else rest i A

theorem head_eq {α β γ : Type} (q : Prog (TpuEff nD τ sig (Elt F) Λ₀ .tc) α) (k1 : α → Prog (TpuEff nD τ sig (Elt F) Λ₀ .tc) β)
    (k2 : β → Prog (TpuEff nD τ sig (Elt F) Λ₀ .tc) γ) (s : Prog (TpuEff nD τ sig (Elt F) Λ₀ .tc) PUnit) :
    (((s >>= fun _ => q) >>= k1) >>= k2) = (s >>= fun _ => ((q >>= k1) >>= k2)) := by
  simp only [bind_assoc]

set_option maxHeartbeats 40000000 in
set_option pp.maxSteps 300 in
/-- The printed body is `body`. -/
theorem body_eq (i : grid0.Coords) (arg1 : Memref sig .tc .vmem S64x128 .i32) (harg1 : arg1.IsWhole) (arg2 : Memref sig .tc .hbm S16000x768 .i8) (harg2 : arg2.IsWhole) (arg3 : Memref sig .tc .vmem S6x16000 .f32) (harg3 : arg3.IsWhole) (arg4 : Memref sig .tc .vmem S768 .bf16) (harg4 : arg4.IsWhole) (arg5 : Memref sig .tc .vmem S1x128x768 .bf16) (harg5 : arg5.IsWhole) (arg6 : Memref sig .tc .vmem S1x128x768 .bf16) (harg6 : arg6.IsWhole) (arg7 : Memref sig .tc .vmem S32000x128 .i32) (harg7 : arg7.IsWhole) (arg8 : Memref sig .tc .vmem S16000x768 .i8) (harg8 : arg8.IsWhole) (arg9 : Memref sig .tc .vmem S4000x128 .f32) (harg9 : arg9.IsWhole) (arg10 : Memref sig .tc .vmem S8192x128 .i32) (harg10 : arg10.IsWhole) (arg11 : Memref sig .tc .vmem S64x128 .i32) (harg11 : arg11.IsWhole) (arg12 : Memref sig .tc .smem S64x128 .i32) (harg12 : arg12.IsWhole) (arg13 : Memref sig .tc .vmem S904x128 .i32) (harg13 : arg13.IsWhole) (arg14 : Memref sig .tc .vmem S128x128 .f32) (harg14 : arg14.IsWhole) (arg15 : Memref sig .tc .vmem S128x768 .f32) (harg15 : arg15.IsWhole) (arg16 : Memref sig .tc .vmem S128x768 .bf16) (harg16 : arg16.IsWhole) (arg17 : Memref sig .tc .vmem S8x768 .f32) (harg17 : arg17.IsWhole) (arg18 : DmaSems sig S6) (arg19 : DmaSems sig S_) :
    cc0_int8_embed_rmsnorm (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 = body i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ := by
  unfold cc0_int8_embed_rmsnorm k0_part127 body
  by_cases h : k0_cond1 i = 1#1
  · rw [part7_eq, dif_pos h, dif_pos h, step0K_eq, head_eq]
    refine congrArg (fun X => step0 i ⟨arg1, harg1, arg2, harg2, arg3, harg3, arg4, harg4, arg5, harg5, arg6, harg6, arg7, harg7, arg8, harg8, arg9, harg9, arg10, harg10, arg11, harg11, arg12, harg12, arg13, harg13, arg14, harg14, arg15, harg15, arg16, harg16, arg17, harg17, arg18, arg19⟩ h >>= X) (funext fun _ => ?_)
    sl_kernel_rfl
  · rw [part7_eq, dif_neg h, dif_neg h]
    sl_kernel_rfl

end Cert.KernelIdeal
-- ==== Proof.RestI.lean ====
module

public import proofs.«01_k».proof.Proof.StructI
public import proofs.«01_k».proof.Proof.Wp
public import Idealize.ShloMosaic.Lib.Pipeline.FrameBody
public import Idealize.ShloMosaic.Lib.Pointwise

/-! What one grid point does after the set-up, as one rule per stage: the 128 token gathers, the expansion of the
scales, the sixteen groups of eight rows. -/

@[expose] public section

set_option maxRecDepth 100000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts Cert.Wp

variable {F : FTy → Type} [FloatOps F] [Named F]

local notation "𝕄" => MT nD τ sig Unit (Elt F) ℕ (Pipeline.UD sig nD τ) ℕ

variable (𝒱 : Variants) (c : Dev nD) (bd : Option 𝒱.V) (E : Set ℕ)

/-- A sequence keeps an invariant that each of its members advances. -/
theorem wp_seqN (n : ℕ) (f : Fin n → Prog (TpuEff nD τ sig (Elt F) Λ₀ .tc) PUnit) (I : ℕ → sProp 𝕄)
    (h : ∀ t : Fin n, I t.val ⊢ wp Idealize.ShloMosaic.frame (wpE defs₀ 𝒱 (c : Thread nD τ) bd) E (f t) fun _ => I (t.val + 1)) :
    I 0 ⊢ wp Idealize.ShloMosaic.frame (wpE defs₀ 𝒱 (c : Thread nD τ) bd) E (seqN n f) fun _ => I n := by
  have key : ∀ (k : ℕ) (hk : k ≤ n), I (n - k) ⊢ wp Idealize.ShloMosaic.frame (wpE defs₀ 𝒱 (c : Thread nD τ) bd) E
      (Nat.rec (motive := fun k => k ≤ n → Prog (TpuEff nD τ sig (Elt F) Λ₀ .tc) PUnit) (fun _ => pure ⟨⟩)
        (fun k ih h => f ⟨n - (k + 1), by omega⟩ >>= fun _ => ih (by omega)) k hk) fun _ => I n := by
    intro k
    induction k with
    | zero => intro hk; exact le_wp_ret Idealize.ShloMosaic.frame (wpE defs₀ 𝒱 (c : Thread nD τ) bd) E PUnit.unit (fun _ => I n)
    | succ k ih =>
      intro hk
      show _ ⊢ wp Idealize.ShloMosaic.frame (wpE defs₀ 𝒱 (c : Thread nD τ) bd) E (f ⟨n - (k + 1), by omega⟩ >>= fun _ => _) _
      rw [wp_bind]
      have h1 := h ⟨n - (k + 1), by omega⟩
      have e : n - (k + 1) + 1 = n - k := by omega
      simp only [e] at h1
      exact h1.trans (wp_mono _ _ _ (fun _ => ih (by omega)))
  have := key n le_rfl
  rw [Nat.sub_self] at this
  exact this

/-! ## Reading a rank-two array at numbers -/

/-- The element of `X` at row `r`, column `q` (each taken within its extent). -/
def rd2 {α : Type} {n m : ℕ} [NeZero n] [NeZero m] (X : (⟨2, ![n, m]⟩ : Shape).Idx → α) (r q : ℕ) : α :=
  X (ValueIdx.ix2 (Fin.ofNat n r) (Fin.ofNat m q))

theorem rd2_eq {α : Type} {n m : ℕ} [NeZero n] [NeZero m] (X : (⟨2, ![n, m]⟩ : Shape).Idx → α) (y : (⟨2, ![n, m]⟩ : Shape).Idx)
    {r q : ℕ} (h0 : (y 0).val = r) (h1 : (y 1).val = q) : X y = rd2 X r q := by
  subst h0 h1
  unfold rd2
  congr 1
  funext a
  match a with
  | ⟨0, _⟩ => exact Fin.ext (Nat.mod_eq_of_lt (y 0).isLt).symm
  | ⟨1, _⟩ => exact Fin.ext (Nat.mod_eq_of_lt (y 1).isLt).symm

/-! ## The gathers -/

/-- After `t` gathers at point `i`: the tile holds the first six words of each gathered group, at stride 129, and
    the scale rows lie one a token. -/
def GInv (i : grid0.Coords) (G : Vec F S64x128 .i32) (T : Vec F S32000x128 .i32) (ST : Vec F S4000x128 .f32) (t : ℕ)
    (X13 : Vec F S904x128 .i32) (X14 : Vec F S128x128 .f32) : Prop :=
  (∀ (t' j : ℕ) (y : S904x128.Idx), t' < t → j < 6 → (y 0).val = 129 * j + t' →
      X13 y = rd2 T ((rd2 G (i 0).val t' : BitVec 32).toNat + j) (y 1).val)
  ∧ ∀ (t' : ℕ) (y : S128x128.Idx), t' < t → (y 0).val = t' →
      X14 y = rd2 ST ((rd2 G (i 0).val t' : BitVec 32) >>> 3).toNat (y 1).val

theorem off13_eq (v : BitVec 32) : k0_off13 v = ![v.toNat, 0] := rfl
theorem off14_eq (v : BitVec 32) : k0_off14 v = ![(v >>> 3).toNat, 0] := rfl

/-- One more gather. -/
theorem GInv_step (i : grid0.Coords) (G : Vec F S64x128 .i32) (T : Vec F S32000x128 .i32) (ST : Vec F S4000x128 .f32) (t : Fin 128)
    (X13 : Vec F S904x128 .i32) (X14 : Vec F S128x128 .f32) (h : GInv i G T ST t.val X13 X14) (v : BitVec 32)
    (hv : v = rd2 G (i 0).val t.val) (hw : k0_chk1 v) (x : Vec F S8x128 .i32) (z : Vec F S1x128 .f32)
    (hx : x = fun y => T ((Rect.unit (s := S32000x128) (k0_off13 v) S8x128.size (k0_off13_inb v hw)).toLoadRect.idx y))
    (hz : z = fun y => ST ((Rect.unit (s := S4000x128) (k0_off14 v) S1x128.size (k0_off14_inb v hw)).toLoadRect.idx y)) :
    GInv i G T ST (t.val + 1)
      (putR ⟨(⟨![t.val, 0], S6x128.size, ![129, 1], tile_inb t⟩ : LoadRect S904x128), spos_129_1⟩
        (shapeCast S6x128 (extractStridedSlice S6x128 ![0, 0] x slices_S8x128_o0_0_S6x128) shapeCasts_S6x128_S6x128 : IVec S6x128 32) X13)
      (putR (Rect.unit (s := S128x128) ![t.val, 0] S1x128.size (stile_inb t)) (shapeCast S1x128 z shapeCasts_S1x128_S1x128 : FVec F S1x128 .f32) X14) := by
  obtain ⟨h13, h14⟩ := h
  constructor
  · intro t' j y ht' hj hy
    by_cases htt : t' = t.val
    · have hy1 : (y 1).val < 128 := (y 1).isLt
      have e : y = (⟨(⟨![t.val, 0], S6x128.size, ![129, 1], tile_inb t⟩ : LoadRect S904x128), spos_129_1⟩ : Rect S904x128).emb
          (ValueIdx.ix2 (n0 := 6) (n1 := 128) ⟨j, hj⟩ ⟨(y 1).val, hy1⟩) := by
        funext a
        match a with
        | ⟨0, _⟩ => exact Fin.ext (by rw [Rect.emb_apply]; show (y 0).val = t.val + 129 * j; omega)
        | ⟨1, _⟩ => exact Fin.ext (by rw [Rect.emb_apply]; show (y 1).val = 0 + 1 * (y 1).val; omega)
      rw [e, putR_emb, shapeCast_self]
      rw [← e, hx, htt, ← hv]
      show T _ = _
      refine rd2_eq T _ ?_ ?_
      · rw [LoadRect.idx_apply]
        show k0_off13 v 0 + 1 * (0 + j) = _
        rw [off13_eq]; show v.toNat + 1 * (0 + j) = _; omega
      · rw [LoadRect.idx_apply]
        show k0_off13 v 1 + 1 * (0 + (y 1).val) = _
        rw [off13_eq]; show 0 + 1 * (0 + (y 1).val) = _; omega
    · rw [putR_of_not]
      · exact h13 t' j y (by omega) hj hy
      · rintro x' rfl
        rw [Rect.emb_apply] at hy
        have hx6 : (x' 0).val < 6 := (x' 0).isLt
        have hy' : t.val + 129 * (x' 0).val = 129 * j + t' := hy
        have := t.isLt
        omega
  · intro t' y ht' hy
    by_cases htt : t' = t.val
    · have hy1 : (y 1).val < 128 := (y 1).isLt
      have e : y = (Rect.unit (s := S128x128) ![t.val, 0] S1x128.size (stile_inb t)).emb
          (ValueIdx.ix2 (n0 := 1) (n1 := 128) ⟨0, by omega⟩ ⟨(y 1).val, hy1⟩) := by
        funext a
        match a with
        | ⟨0, _⟩ => exact Fin.ext (by rw [Rect.emb_apply]; show (y 0).val = t.val + 1 * 0; omega)
        | ⟨1, _⟩ => exact Fin.ext (by rw [Rect.emb_apply]; show (y 1).val = 0 + 1 * (y 1).val; omega)
      rw [e, putR_emb, shapeCast_self]
      rw [← e, hz, htt, ← hv]
      refine rd2_eq ST _ ?_ ?_
      · rw [LoadRect.idx_apply]
        show k0_off14 v 0 + 1 * 0 = _
        rw [off14_eq]; show (v >>> 3).toNat + 1 * 0 = _; omega
      · rw [LoadRect.idx_apply]
        show k0_off14 v 1 + 1 * (y 1).val = _
        rw [off14_eq]; show 0 + 1 * (y 1).val = _; omega
    · rw [putR_of_not]
      · exact h14 t' y (by omega) hy
      · rintro x' rfl
        rw [Rect.emb_apply] at hy
        have hx1 : (x' 0).val < 1 := (x' 0).isLt
        have hy' : t.val + 1 * (x' 0).val = t' := hy
        omega

/-- What a point's gathers hold before gather `t`. -/
def gatherI (i : grid0.Coords) (A : Args) (G : Vec F S64x128 .i32) (T : Vec F S32000x128 .i32) (ST : Vec F S4000x128 .f32) (t : ℕ) : sProp 𝕄 :=
  iprop(owns (c : Thread nD τ) A.arg12 fullShare G ∗ owns (c : Thread nD τ) A.arg7 fullShare T ∗ owns (c : Thread nD τ) A.arg9 fullShare ST
    ∗ ∃ X13, ∃ X14, ⌜GInv i G T ST t X13 X14⌝ ∗ owns (c : Thread nD τ) A.arg13 fullShare X13 ∗ owns (c : Thread nD τ) A.arg14 fullShare X14)

theorem wp_gather (i : grid0.Coords) (A : Args) (G : Vec F S64x128 .i32) (T : Vec F S32000x128 .i32) (ST : Vec F S4000x128 .f32)
    (hG : ∀ y, k0_chk1 (G y)) (t : Fin 128) :
    gatherI c i A G T ST t.val ⊢ wp Idealize.ShloMosaic.frame (wpE defs₀ 𝒱 (c : Thread nD τ) bd) E (gather i A t) fun _ => gatherI c i A G T ST (t.val + 1) := by
  unfold gather gatherI
  simp only [wp_bind]
  iintro ⟨H12, H7, H9, %X13, %X14, %hI, H13, H14⟩
  iapply (wp_sld 𝒱 (c : Thread nD τ) bd E A.arg12 _ _ _ fullShare G _) $$ [H12 H7 H9 H13 H14]
  isplitl [H12]; · iexact H12
  iintro H12
  iapply (wp_asm 𝒱 (c : Thread nD τ) bd E (hG _) _)
  iapply (wp_ld 𝒱 (c : Thread nD τ) bd E A.arg7 _ _ fullShare T _) $$ [H12 H7 H9 H13 H14]
  isplitl [H7]; · iexact H7
  iintro H7
  iapply (wp_ld 𝒱 (c : Thread nD τ) bd E A.arg13 _ _ fullShare X13 _) $$ [H12 H7 H9 H13 H14]
  isplitl [H13]; · iexact H13
  iintro H13
  iapply (wp_st 𝒱 (c : Thread nD τ) bd E A.arg13 _ _ _ _ X13 _) $$ [H12 H7 H9 H13 H14]
  isplitl [H13]; · iexact H13
  iintro H13
  iapply (wp_ld 𝒱 (c : Thread nD τ) bd E A.arg9 _ _ fullShare ST _) $$ [H12 H7 H9 H13 H14]
  isplitl [H9]; · iexact H9
  iintro H9
  iapply (wp_ld 𝒱 (c : Thread nD τ) bd E A.arg14 _ _ fullShare X14 _) $$ [H12 H7 H9 H13 H14]
  isplitl [H14]; · iexact H14
  iintro H14
  iapply (wp_st 𝒱 (c : Thread nD τ) bd E A.arg14 _ _ _ _ X14 _) $$ [H12 H7 H9 H13 H14]
  isplitl [H14]; · iexact H14
  iintro H14
  isplitl [H12]; · iexact H12
  isplitl [H7]; · iexact H7
  isplitl [H9]; · iexact H9
  iexists _, _
  isplitr
  rotate_left
  · isplitl [H13]; · iexact H13
    iexact H14
  · ipureintro
    refine GInv_step i G T ST t X13 X14 hI _ (rd2_eq G _ ?_ ?_) (hG _) _ _ rfl rfl
    · rw [Rect.emb_apply]; show offG i t 0 + 1 * 0 = _; rw [offG_eq]; rfl
    · rw [Rect.emb_apply]; show offG i t 1 + 1 * 0 = _; rw [offG_eq]; rfl

/-! ## The scales -/

/-- The 128 rows of the row numbers that point `i` reads. -/
def kBlk (i : grid0.Coords) (K : Vec F S8192x128 .i32) : Vec F S128x128 .i32 := fun y => rd2 K (128 * (i 0).val + (y 0).val) (y 1).val

theorem load_whole {α : Type} {n m : ℕ} (X : (⟨2, ![n, m]⟩ : Shape).Idx → α) (h) :
    (fun y => X ((Rect.unit (s := (⟨2, ![n, m]⟩ : Shape)) ![0, 0] (⟨2, ![n, m]⟩ : Shape).size h).toLoadRect.idx y)) = X := by
  funext y
  congr 1
  funext a
  match a with
  | ⟨0, _⟩ => exact Fin.ext (by rw [LoadRect.idx_apply]; show 0 + 1 * (y 0).val = (y 0).val; omega)
  | ⟨1, _⟩ => exact Fin.ext (by rw [LoadRect.idx_apply]; show 0 + 1 * (y 1).val = (y 1).val; omega)

theorem putR_whole {α : Type} {n m : ℕ} (X w : (⟨2, ![n, m]⟩ : Shape).Idx → α) (h) :
    putR (Rect.unit (s := (⟨2, ![n, m]⟩ : Shape)) ![0, 0] (⟨2, ![n, m]⟩ : Shape).size h) w X = w := by
  funext y
  have e : y = (Rect.unit (s := (⟨2, ![n, m]⟩ : Shape)) ![0, 0] (⟨2, ![n, m]⟩ : Shape).size h).emb y := by
    funext a
    match a with
    | ⟨0, _⟩ => exact Fin.ext (by rw [Rect.emb_apply]; show (y 0).val = 0 + 1 * (y 0).val; omega)
    | ⟨1, _⟩ => exact Fin.ext (by rw [Rect.emb_apply]; show (y 1).val = 0 + 1 * (y 1).val; omega)
  conv_lhs => rw [e]
  rw [putR_emb]

theorem kBlk_eq (i : grid0.Coords) (K : Vec F S8192x128 .i32) :
    (fun y => K ((Rect.unit (s := S8192x128) (k0_off396 i) S128x128.size (k0_off396_inb i)).toLoadRect.idx y)) = kBlk i K := by
  funext y
  refine rd2_eq K _ ?_ ?_
  · rw [LoadRect.idx_apply]; show k0_off396 i 0 + 1 * (y 0).val = _; have h := congrFun (Gen.k0_off396_eq i) 0; rw [h]; show 128 * (i 0).val + 1 * (y 0).val = _; omega
  · rw [LoadRect.idx_apply]; show k0_off396 i 1 + 1 * (y 1).val = _; have h := congrFun (Gen.k0_off396_eq i) 1; rw [h]; show 0 + 1 * (y 1).val = _; omega

theorem wp_scales (i : grid0.Coords) (A : Args) (K : Vec F S8192x128 .i32) (X14 : Vec F S128x128 .f32) (EX : Vec F S128x768 .bf16)
    (X15 : Vec F S128x768 .f32) (Q : PUnit → sProp 𝕄) :
    iprop(owns (c : Thread nD τ) A.arg10 fullShare K ∗ owns (c : Thread nD τ) A.arg14 fullShare X14 ∗ owns (c : Thread nD τ) A.arg16 fullShare EX
      ∗ owns (c : Thread nD τ) A.arg15 fullShare X15
      ∗ (owns (c : Thread nD τ) A.arg10 fullShare K -∗ owns (c : Thread nD τ) A.arg14 fullShare X14 -∗ owns (c : Thread nD τ) A.arg16 fullShare EX
          -∗ owns (c : Thread nD τ) A.arg15 fullShare (sfullOf (kBlk i K) X14 EX : FVec F S128x768 .f32) -∗ Q ⟨⟩))
    ⊢ wp Idealize.ShloMosaic.frame (wpE defs₀ 𝒱 (c : Thread nD τ) bd) E (scales i A) Q := by
  unfold scales
  simp only [wp_bind]
  iintro ⟨H10, H14, H16, H15, HQ⟩
  iapply (wp_ld 𝒱 (c : Thread nD τ) bd E A.arg10 _ _ fullShare K _) $$ [H10 H14 H16 H15 HQ]
  isplitl [H10]; · iexact H10
  iintro H10
  iapply (wp_ld 𝒱 (c : Thread nD τ) bd E A.arg14 _ _ fullShare X14 _) $$ [H10 H14 H16 H15 HQ]
  isplitl [H14]; · iexact H14
  iintro H14
  iapply (wp_ld 𝒱 (c : Thread nD τ) bd E A.arg16 _ _ fullShare EX _) $$ [H10 H14 H16 H15 HQ]
  isplitl [H16]; · iexact H16
  iintro H16
  iapply (wp_ld 𝒱 (c : Thread nD τ) bd E A.arg15 _ _ fullShare X15 _) $$ [H10 H14 H16 H15 HQ]
  isplitl [H15]; · iexact H15
  iintro H15
  iapply (wp_st 𝒱 (c : Thread nD τ) bd E A.arg15 _ _ _ _ X15 _) $$ [H10 H14 H16 H15 HQ]
  isplitl [H15]; · iexact H15
  iintro H15
  rw [kBlk_eq, load_whole X14, load_whole EX, shapeCast_self, putR_whole]
  iapply HQ $$ H10 H14 H16 H15

/-! ## The groups of eight rows -/

/-- The row numbers of group `s`. -/
def kkV (i : grid0.Coords) (K : Vec F S8192x128 .i32) (s : ℕ) : Vec F S8x128 .i32 := fun y => rd2 K (128 * (i 0).val + 8 * s + (y 0).val) (y 1).val

/-- The embedding's block: rows `8s …`, columns `128j …`. -/
def embV (i : grid0.Coords) (K : Vec F S8192x128 .i32) (X13 : Vec F S904x128 .i32) (X15 : Vec F S128x768 .f32) (s j : ℕ) : FVec F S8x128 .bf16 :=
  embOf (kkV i K s) (fun y => rd2 X13 (129 * j + 8 * s + (y 0).val) (y 1).val) (fun y => rd2 X15 (8 * s + (y 0).val) (128 * j + (y 1).val))

/-- The result's block: rows `8s …`, columns `128j …`. -/
def outV (i : grid0.Coords) (K : Vec F S8192x128 .i32) (X13 : Vec F S904x128 .i32) (X15 : Vec F S128x768 .f32) (WT : Vec F S8x768 .f32) (s j : ℕ) : FVec F S8x128 .bf16 :=
  outOf (embV i K X13 X15 s j)
    (rmsOf (acc6 (embV i K X13 X15 s 0) (embV i K X13 X15 s 1) (embV i K X13 X15 s 2) (embV i K X13 X15 s 3) (embV i K X13 X15 s 4) (embV i K X13 X15 s 5)))
    (fun y => rd2 WT (y 0).val (128 * j + (y 1).val))

/-- The blocks that `D` marks are as `V` says. -/
def OInv (V : ℕ → ℕ → FVec F S8x128 .bf16) (D : ℕ → ℕ → Prop) (X : Vec F S1x128x768 .bf16) : Prop :=
  ∀ (s j : ℕ) (y : S1x128x768.Idx) (x : S8x128.Idx), D s j → (y 1).val = 8 * s + (x 0).val → (y 2).val = 128 * j + (x 1).val → X y = V s j x

theorem OInv_put (V : ℕ → ℕ → FVec F S8x128 .bf16) (D D' : ℕ → ℕ → Prop) (X : Vec F S1x128x768 .bf16) (h : OInv V D X) (s : Fin 16) (j : Fin 6)
    (e : FVec F S8x128 .bf16) (he : e = V s.val j.val) (hD : ∀ s' j', D' s' j' → D s' j' ∨ (s' = s.val ∧ j' = j.val)) :
    OInv V D' (putR (Rect.unit (s := S1x128x768) ![0, 8 * s.val, 128 * j.val] S1x8x128.size (out_inb s j)) (shapeCast S1x8x128 e shapeCasts_S8x128_S1x8x128 : FVec F S1x8x128 .bf16) X) := by
  intro s' j' y x hd h1 h2
  have hx0 : (x 0).val < 8 := (x 0).isLt
  have hx1 : (x 1).val < 128 := (x 1).isLt
  by_cases hs : s' = s.val ∧ j' = j.val
  · obtain ⟨rfl, rfl⟩ := hs
    have ey : y = (Rect.unit (s := S1x128x768) ![0, 8 * s.val, 128 * j.val] S1x8x128.size (out_inb s j)).emb
        (ValueIdx.ix3 (n0 := 1) (n1 := 8) (n2 := 128) ⟨0, by omega⟩ ⟨(x 0).val, hx0⟩ ⟨(x 1).val, hx1⟩) := by
      have hy0 : (y 0).val < 1 := (y 0).isLt
      funext a
      match a with
      | ⟨0, _⟩ => exact Fin.ext (by rw [Rect.emb_apply]; show (y 0).val = 0 + 1 * 0; omega)
      | ⟨1, _⟩ => exact Fin.ext (by rw [Rect.emb_apply]; show (y 1).val = 8 * s.val + 1 * (x 0).val; omega)
      | ⟨2, _⟩ => exact Fin.ext (by rw [Rect.emb_apply]; show (y 2).val = 128 * j.val + 1 * (x 1).val; omega)
    rw [ey, putR_emb, ← he]
    refine (congrArg e ?_ : shapeCast S1x8x128 e shapeCasts_S8x128_S1x8x128 _ = e x)
    exact Shape.reshapeEquiv_eq_of_rowMajor _ (by
      rw [Shape.rowMajor_val_three, Shape.rowMajor_val_two]
      show (x 0).val * 128 + (x 1).val = (0 * 8 + (x 0).val) * 128 + (x 1).val
      omega)
  · rw [putR_of_not]
    · rcases hD s' j' hd with hd' | hd'
      · exact h s' j' y x hd' h1 h2
      · exact absurd hd' hs
    · rintro x' rfl
      rw [Rect.emb_apply] at h1 h2
      have a1 : (x' 1).val < 8 := (x' 1).isLt
      have a2 : (x' 2).val < 128 := (x' 2).isLt
      have h1' : 8 * s.val + 1 * (x' 1).val = 8 * s' + (x 0).val := h1
      have h2' : 128 * j.val + 1 * (x' 2).val = 128 * j' + (x 1).val := h2
      exact hs ⟨by omega, by omega⟩

theorem wp_embCol (i : grid0.Coords) (A : Args) (s : Fin 16) (j : Fin 6) (K : Vec F S8192x128 .i32) (X13 : Vec F S904x128 .i32) (X15 : Vec F S128x768 .f32)
    (X6 : Vec F S1x128x768 .bf16) (D D' : ℕ → ℕ → Prop) (h : OInv (embV i K X13 X15) D X6)
    (hD : ∀ s' j', D' s' j' → D s' j' ∨ (s' = s.val ∧ j' = j.val)) (Q : FVec F S8x128 .bf16 → sProp 𝕄) :
    iprop(owns (c : Thread nD τ) A.arg13 fullShare X13 ∗ owns (c : Thread nD τ) A.arg15 fullShare X15 ∗ owns (c : Thread nD τ) A.arg6 fullShare X6
      ∗ (owns (c : Thread nD τ) A.arg13 fullShare X13 -∗ owns (c : Thread nD τ) A.arg15 fullShare X15
          -∗ (∃ X6', ⌜OInv (embV i K X13 X15) D' X6'⌝ ∗ owns (c : Thread nD τ) A.arg6 fullShare X6') -∗ Q (embV i K X13 X15 s.val j.val)))
    ⊢ wp Idealize.ShloMosaic.frame (wpE defs₀ 𝒱 (c : Thread nD τ) bd) E (embCol A s (kkV i K s.val) j) Q := by
  unfold embCol
  simp only [wp_bind]
  iintro ⟨H13, H15, H6, HQ⟩
  iapply (wp_ld 𝒱 (c : Thread nD τ) bd E A.arg13 _ _ fullShare X13 _) $$ [H13 H15 H6 HQ]
  isplitl [H13]; · iexact H13
  iintro H13
  iapply (wp_ld 𝒱 (c : Thread nD τ) bd E A.arg15 _ _ fullShare X15 _) $$ [H13 H15 H6 HQ]
  isplitl [H15]; · iexact H15
  iintro H15
  iapply (wp_ld 𝒱 (c : Thread nD τ) bd E A.arg6 _ _ fullShare X6 _) $$ [H13 H15 H6 HQ]
  isplitl [H6]; · iexact H6
  iintro H6
  iapply (wp_st 𝒱 (c : Thread nD τ) bd E A.arg6 _ _ _ _ X6 _) $$ [H13 H15 H6 HQ]
  isplitl [H6]; · iexact H6
  iintro H6
  have e13 : (fun y => X13 ((Rect.unit (s := S904x128) ![129 * j.val + 8 * s.val, 0] S8x128.size (rows_inb s j)).toLoadRect.idx y))
      = (fun y : S8x128.Idx => rd2 X13 (129 * j.val + 8 * s.val + (y 0).val) (y 1).val) := by
    funext y
    refine rd2_eq X13 _ ?_ ?_
    · rw [LoadRect.idx_apply]; show 129 * j.val + 8 * s.val + 1 * (y 0).val = _; omega
    · rw [LoadRect.idx_apply]; show 0 + 1 * (y 1).val = _; omega
  have e15 : (fun y => X15 ((Rect.unit (s := S128x768) ![8 * s.val, 128 * j.val] S8x128.size (sfull_inb s j)).toLoadRect.idx y))
      = (fun y : S8x128.Idx => rd2 X15 (8 * s.val + (y 0).val) (128 * j.val + (y 1).val)) := by
    funext y
    refine rd2_eq X15 _ ?_ ?_
    · rw [LoadRect.idx_apply]; show 8 * s.val + 1 * (y 0).val = _; omega
    · rw [LoadRect.idx_apply]; show 128 * j.val + 1 * (y 1).val = _; omega
  rw [e13, e15]
  iapply (le_wp_ret Idealize.ShloMosaic.frame (wpE defs₀ 𝒱 (c : Thread nD τ) bd) E (embV i K X13 X15 s.val j.val) Q)
  iapply HQ $$ H13 H15 [H6]
  iexists _
  isplitr
  rotate_left
  · iexact H6
  · ipureintro
    exact OInv_put _ D D' X6 h s j _ rfl hD

theorem wp_outCol (i : grid0.Coords) (A : Args) (s : Fin 16) (j : Fin 6) (V : ℕ → ℕ → FVec F S8x128 .bf16) (WT : Vec F S8x768 .f32)
    (X5 : Vec F S1x128x768 .bf16) (D D' : ℕ → ℕ → Prop) (r : FVec F S8x128 .f32) (e : FVec F S8x128 .bf16)
    (hV : outOf e r (fun y => rd2 WT (y 0).val (128 * j.val + (y 1).val)) = V s.val j.val) (h : OInv V D X5)
    (hD : ∀ s' j', D' s' j' → D s' j' ∨ (s' = s.val ∧ j' = j.val)) (Q : PUnit → sProp 𝕄) :
    iprop(owns (c : Thread nD τ) A.arg17 fullShare WT ∗ owns (c : Thread nD τ) A.arg5 fullShare X5
      ∗ (owns (c : Thread nD τ) A.arg17 fullShare WT -∗ (∃ X5', ⌜OInv V D' X5'⌝ ∗ owns (c : Thread nD τ) A.arg5 fullShare X5') -∗ Q ⟨⟩))
    ⊢ wp Idealize.ShloMosaic.frame (wpE defs₀ 𝒱 (c : Thread nD τ) bd) E (outCol A s r j e) Q := by
  unfold outCol
  simp only [wp_bind]
  iintro ⟨H17, H5, HQ⟩
  iapply (wp_ld 𝒱 (c : Thread nD τ) bd E A.arg17 _ _ fullShare WT _) $$ [H17 H5 HQ]
  isplitl [H17]; · iexact H17
  iintro H17
  iapply (wp_ld 𝒱 (c : Thread nD τ) bd E A.arg5 _ _ fullShare X5 _) $$ [H17 H5 HQ]
  isplitl [H5]; · iexact H5
  iintro H5
  iapply (wp_st 𝒱 (c : Thread nD τ) bd E A.arg5 _ _ _ _ X5 _) $$ [H17 H5 HQ]
  isplitl [H5]; · iexact H5
  iintro H5
  have e17 : (fun y => WT ((Rect.unit (s := S8x768) ![0, 128 * j.val] S8x128.size (wt_inb j)).toLoadRect.idx y))
      = (fun y : S8x128.Idx => rd2 WT (y 0).val (128 * j.val + (y 1).val)) := by
    funext y
    refine rd2_eq WT _ ?_ ?_
    · rw [LoadRect.idx_apply]; show 0 + 1 * (y 0).val = _; omega
    · rw [LoadRect.idx_apply]; show 128 * j.val + 1 * (y 1).val = _; omega
  rw [e17]
  iapply HQ $$ H17 [H5]
  iexists _
  isplitr
  rotate_left
  · iexact H5
  · ipureintro
    exact OInv_put _ D D' X5 h s j _ hV hD

/-- The blocks stored before column block `k` of group `s`. -/
def Dn (s k s' j' : ℕ) : Prop := (s' < s ∨ (s' = s ∧ j' < k)) ∧ j' < 6

theorem kkV_eq (i : grid0.Coords) (K : Vec F S8192x128 .i32) (s : Fin 16) :
    (fun y => K ((Rect.unit (s := S8192x128) (k0_off397 i (BitVec.ofNat 32 (8 * s.val))) S8x128.size (k0_off397_inb i s)).toLoadRect.idx y)) = kkV i K s.val := by
  funext y
  refine rd2_eq K _ ?_ ?_
  · rw [LoadRect.idx_apply]; show k0_off397 i (BitVec.ofNat 32 (8 * s.val)) 0 + 1 * (y 0).val = _; have h := congrFun (Gen.k0_off397_eq i s) 0; rw [h]; show 128 * (i 0).val + 8 * s.val + 1 * (y 0).val = _; omega
  · rw [LoadRect.idx_apply]; show k0_off397 i (BitVec.ofNat 32 (8 * s.val)) 1 + 1 * (y 1).val = _; have h := congrFun (Gen.k0_off397_eq i s) 1; rw [h]; show 0 + 1 * (y 1).val = _; omega

/-- What the groups hold before group `s`. -/
def groupI (i : grid0.Coords) (A : Args) (K : Vec F S8192x128 .i32) (X13 : Vec F S904x128 .i32) (X15 : Vec F S128x768 .f32) (WT : Vec F S8x768 .f32) (s : ℕ) : sProp 𝕄 :=
  iprop(owns (c : Thread nD τ) A.arg10 fullShare K ∗ owns (c : Thread nD τ) A.arg13 fullShare X13 ∗ owns (c : Thread nD τ) A.arg15 fullShare X15
    ∗ owns (c : Thread nD τ) A.arg17 fullShare WT
    ∗ (∃ X6, ⌜OInv (embV i K X13 X15) (Dn s 0) X6⌝ ∗ owns (c : Thread nD τ) A.arg6 fullShare X6)
    ∗ (∃ X5, ⌜OInv (outV i K X13 X15 WT) (Dn s 0) X5⌝ ∗ owns (c : Thread nD τ) A.arg5 fullShare X5))

theorem wp_group (i : grid0.Coords) (A : Args) (K : Vec F S8192x128 .i32) (X13 : Vec F S904x128 .i32) (X15 : Vec F S128x768 .f32) (WT : Vec F S8x768 .f32) (s : Fin 16) :
    groupI c i A K X13 X15 WT s.val ⊢ wp Idealize.ShloMosaic.frame (wpE defs₀ 𝒱 (c : Thread nD τ) bd) E (group i A s) fun _ => groupI c i A K X13 X15 WT (s.val + 1) := by
  unfold group groupI
  simp only [wp_bind]
  iintro ⟨H10, H13, H15, H17, ⟨%X6, %h6, H6⟩, ⟨%X5, %h5, H5⟩⟩
  iapply (wp_ld 𝒱 (c : Thread nD τ) bd E A.arg10 _ _ fullShare K _) $$ [H10 H13 H15 H17 H6 H5]
  isplitl [H10]; · iexact H10
  iintro H10
  rw [kkV_eq]
  iapply (wp_embCol 𝒱 c bd E i A s 0 K X13 X15 _ (Dn s.val 0) (Dn s.val 1) h6 (by intro s' j' hd; unfold Dn at *; show _ ∨ (s' = s.val ∧ j' = 0); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 1 K X13 X15 _ (Dn s.val 1) (Dn s.val 2) h6 (by intro s' j' hd; unfold Dn at *; show _ ∨ (s' = s.val ∧ j' = 1); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 2 K X13 X15 _ (Dn s.val 2) (Dn s.val 3) h6 (by intro s' j' hd; unfold Dn at *; show _ ∨ (s' = s.val ∧ j' = 2); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 3 K X13 X15 _ (Dn s.val 3) (Dn s.val 4) h6 (by intro s' j' hd; unfold Dn at *; show _ ∨ (s' = s.val ∧ j' = 3); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 4 K X13 X15 _ (Dn s.val 4) (Dn s.val 5) h6 (by intro s' j' hd; unfold Dn at *; show _ ∨ (s' = s.val ∧ j' = 4); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_embCol 𝒱 c bd E i A s 5 K X13 X15 _ (Dn s.val 5) (Dn s.val 6) h6 (by intro s' j' hd; unfold Dn at *; show _ ∨ (s' = s.val ∧ j' = 5); omega) _) $$ [H10 H13 H15 H17 H6 H5]
  isplitl [H13]; · iexact H13
  isplitl [H15]; · iexact H15
  isplitl [H6]; · iexact H6
  clear h6 X6
  iintro H13 H15 ⟨%X6, %h6, H6⟩
  iapply (wp_outCol 𝒱 c bd E i A s 0 (outV i K X13 X15 WT) WT _ (Dn s.val 0) (Dn s.val 1) _ _ rfl h5 (by intro s' j' hd; unfold Dn at *; show _ ∨ (s' = s.val ∧ j' = 0); omega) _) $$ [H10 H13 H15 H17 H6 H5]
  isplitl [H17]; · iexact H17
  isplitl [H5]; · iexact H5
  clear h5 X5
  iintro H17 ⟨%X5, %h5, H5⟩
  iapply (wp_outCol 𝒱 c bd E i A s 1 (outV i K X13 X15 WT) WT _ (Dn s.val 1) (Dn s.val 2) _ _ rfl h5 (by intro s' j' hd; unfold Dn at *; show _ ∨ (s' = s.val ∧ j' = 1); omega) _) $$ [H10 H13 H15 H17 H6 H5]
  isplitl [H17]; · iexact H17
  isplitl [H5]; · iexact H5
  clear h5 X5
  iintro H17 ⟨%X5, %h5, H5⟩
  iapply (wp_outCol 𝒱 c bd E i A s 2 (outV i K X13 X15 WT) WT _ (Dn s.val 2) (Dn s.val 3) _ _ rfl h5 (by intro s' j' hd; unfold Dn at *; show _ ∨ (s' = s.val ∧ j' = 2); omega) _) $$ [H10 H13 H15 H17 H6 H5]
  isplitl [H17]; · iexact H17
  isplitl [H5]; · iexact H5
  clear h5 X5
  iintro H17 ⟨%X5, %h5, H5⟩
  iapply (wp_outCol 𝒱 c bd E i A s 3 (outV i K X13 X15 WT) WT _ (Dn s.val 3) (Dn s.val 4) _ _ rfl h5 (by intro s' j' hd; unfold Dn at *; show _ ∨ (s' = s.val ∧ j' = 3); omega) _) $$ [H10 H13 H15 H17 H6 H5]
  isplitl [H17]; · iexact H17
  isplitl [H5]; · iexact H5
  clear h5 X5
  iintro H17 ⟨%X5, %h5, H5⟩
  iapply (wp_outCol 𝒱 c bd E i A s 4 (outV i K X13 X15 WT) WT _ (Dn s.val 4) (Dn s.val 5) _ _ rfl h5 (by intro s' j' hd; unfold Dn at *; show _ ∨ (s' = s.val ∧ j' = 4); omega) _) $$ [H10 H13 H15 H17 H6 H5]
  isplitl [H17]; · iexact H17
  isplitl [H5]; · iexact H5
  clear h5 X5
  iintro H17 ⟨%X5, %h5, H5⟩
  iapply (wp_outCol 𝒱 c bd E i A s 5 (outV i K X13 X15 WT) WT _ (Dn s.val 5) (Dn s.val 6) _ _ rfl h5 (by intro s' j' hd; unfold Dn at *; show _ ∨ (s' = s.val ∧ j' = 5); omega) _) $$ [H10 H13 H15 H17 H6 H5]
  isplitl [H17]; · iexact H17
  isplitl [H5]; · iexact H5
  clear h5 X5
  iintro H17 ⟨%X5, %h5, H5⟩
  isplitl [H10]; · iexact H10
  isplitl [H13]; · iexact H13
  isplitl [H15]; · iexact H15
  isplitl [H17]; · iexact H17
  have hDn : ∀ s' j', Dn (s.val + 1) 0 s' j' → Dn s.val 6 s' j' := by intro s' j' h; unfold Dn at *; omega
  isplitl [H6]
  · iexists X6
    isplitr
    · ipureintro; exact fun s' j' y x hd => h6 s' j' y x (hDn s' j' hd)
    · iexact H6
  · iexists X5
    isplitr
    · ipureintro; exact fun s' j' y x hd => h5 s' j' y x (hDn s' j' hd)
    · iexact H5

/-! ## The whole point -/

/-- The gathered words as numbers place them: row `129 j + t` is word `j` of token `t`'s group. -/
def tileF (i : grid0.Coords) (G : Vec F S64x128 .i32) (T : Vec F S32000x128 .i32) : Vec F S904x128 .i32 :=
  fun y => rd2 T ((rd2 G (i 0).val ((y 0).val % 129) : BitVec 32).toNat + (y 0).val / 129) (y 1).val

/-- The gathered rows of scales. -/
def stileF (i : grid0.Coords) (G : Vec F S64x128 .i32) (ST : Vec F S4000x128 .f32) : Vec F S128x128 .f32 :=
  fun y => rd2 ST ((rd2 G (i 0).val (y 0).val : BitVec 32) >>> 3).toNat (y 1).val

/-- A block of the whole: from the values by row group and column block. -/
def wholeOf (V : ℕ → ℕ → FVec F S8x128 .bf16) : Vec F S1x128x768 .bf16 :=
  fun y => V ((y 1).val / 8) ((y 2).val / 128) (ValueIdx.ix2 (Fin.ofNat 8 (y 1).val) (Fin.ofNat 128 (y 2).val))

/-- The embedding's block at point `i`. -/
def embAll (i : grid0.Coords) (G : Vec F S64x128 .i32) (T : Vec F S32000x128 .i32) (ST : Vec F S4000x128 .f32) (K : Vec F S8192x128 .i32)
    (EX : Vec F S128x768 .bf16) : Vec F S1x128x768 .bf16 :=
  wholeOf (embV i K (tileF i G T) (sfullOf (kBlk i K) (stileF i G ST) EX : FVec F S128x768 .f32))

/-- The result's block at point `i`. -/
def outAll (i : grid0.Coords) (G : Vec F S64x128 .i32) (T : Vec F S32000x128 .i32) (ST : Vec F S4000x128 .f32) (K : Vec F S8192x128 .i32)
    (EX : Vec F S128x768 .bf16) (WT : Vec F S8x768 .f32) : Vec F S1x128x768 .bf16 :=
  wholeOf (outV i K (tileF i G T) (sfullOf (kBlk i K) (stileF i G ST) EX : FVec F S128x768 .f32) WT)

theorem OInv_whole (V : ℕ → ℕ → FVec F S8x128 .bf16) (X : Vec F S1x128x768 .bf16) (h : OInv V (Dn 16 0) X) : X = wholeOf V := by
  funext y
  have h1 : (y 1).val < 128 := (y 1).isLt
  have h2 : (y 2).val < 768 := (y 2).isLt
  refine h _ _ y _ ?_ ?_ ?_
  · unfold Dn; omega
  · show (y 1).val = 8 * ((y 1).val / 8) + (y 1).val % 8; omega
  · show (y 2).val = 128 * ((y 2).val / 128) + (y 2).val % 128; omega

theorem embV_congr (i : grid0.Coords) (K : Vec F S8192x128 .i32) (X13 X13' : Vec F S904x128 .i32) (X15 : Vec F S128x768 .f32)
    (h : ∀ (t' j : ℕ) (y : S904x128.Idx), t' < 128 → j < 6 → (y 0).val = 129 * j + t' → X13 y = X13' y) (s j : ℕ) (hs : s < 16) (hj : j < 6) :
    embV i K X13 X15 s j = embV i K X13' X15 s j := by
  unfold embV
  congr 1
  funext y
  have h0 : (y 0).val < 8 := (y 0).isLt
  refine h (8 * s + (y 0).val) j _ (by omega) hj ?_
  show (129 * j + 8 * s + (y 0).val) % 904 = _
  omega

theorem OInv_congr (V V' : ℕ → ℕ → FVec F S8x128 .bf16) (h : ∀ s j, s < 16 → j < 6 → V s j = V' s j) (X : Vec F S1x128x768 .bf16) (hX : OInv V (Dn 16 0) X) :
    OInv V' (Dn 16 0) X := fun s j y x hd h1 h2 => (hX s j y x hd h1 h2).trans (by
  unfold Dn at hd
  rw [h s j (by omega) (by omega)])

theorem outV_congr (i : grid0.Coords) (K : Vec F S8192x128 .i32) (X13 X13' : Vec F S904x128 .i32) (X15 : Vec F S128x768 .f32) (WT : Vec F S8x768 .f32)
    (h : ∀ (t' j : ℕ) (y : S904x128.Idx), t' < 128 → j < 6 → (y 0).val = 129 * j + t' → X13 y = X13' y) (s j : ℕ) (hs : s < 16) (hj : j < 6) :
    outV i K X13 X15 WT s j = outV i K X13' X15 WT s j := by
  unfold outV
  rw [embV_congr i K X13 X13' X15 h s j hs hj, embV_congr i K X13 X13' X15 h s 0 hs (by omega), embV_congr i K X13 X13' X15 h s 1 hs (by omega),
    embV_congr i K X13 X13' X15 h s 2 hs (by omega), embV_congr i K X13 X13' X15 h s 3 hs (by omega), embV_congr i K X13 X13' X15 h s 4 hs (by omega),
    embV_congr i K X13 X13' X15 h s 5 hs (by omega)]

/-- The work of a grid point, the set-up's buffers unchanged. `T'` is any table that agrees with the held one at the
    words of the groups. -/
theorem wp_rest (i : grid0.Coords) (A : Args) (G : Vec F S64x128 .i32) (T T' : Vec F S32000x128 .i32) (ST : Vec F S4000x128 .f32) (K : Vec F S8192x128 .i32)
    (EX : Vec F S128x768 .bf16) (WT : Vec F S8x768 .f32) (hG : ∀ y, k0_chk1 (G y))
    (hT : ∀ (y : S64x128.Idx) (j q : ℕ), j < 6 → rd2 T ((G y : BitVec 32).toNat + j) q = rd2 T' ((G y : BitVec 32).toNat + j) q) (Q : PUnit → sProp 𝕄) :
    iprop(owns (c : Thread nD τ) A.arg12 fullShare G ∗ owns (c : Thread nD τ) A.arg7 fullShare T ∗ owns (c : Thread nD τ) A.arg9 fullShare ST
      ∗ owns (c : Thread nD τ) A.arg10 fullShare K ∗ owns (c : Thread nD τ) A.arg16 fullShare EX ∗ owns (c : Thread nD τ) A.arg17 fullShare WT
      ∗ (∃ X, owns (c : Thread nD τ) A.arg13 fullShare X) ∗ (∃ X, owns (c : Thread nD τ) A.arg14 fullShare X) ∗ (∃ X, owns (c : Thread nD τ) A.arg15 fullShare X)
      ∗ (∃ X, owns (c : Thread nD τ) A.arg5 fullShare X) ∗ (∃ X, owns (c : Thread nD τ) A.arg6 fullShare X)
      ∗ (owns (c : Thread nD τ) A.arg12 fullShare G -∗ owns (c : Thread nD τ) A.arg7 fullShare T -∗ owns (c : Thread nD τ) A.arg9 fullShare ST
        -∗ owns (c : Thread nD τ) A.arg10 fullShare K -∗ owns (c : Thread nD τ) A.arg16 fullShare EX -∗ owns (c : Thread nD τ) A.arg17 fullShare WT
        -∗ (∃ X, owns (c : Thread nD τ) A.arg13 fullShare X) -∗ (∃ X, owns (c : Thread nD τ) A.arg14 fullShare X) -∗ (∃ X, owns (c : Thread nD τ) A.arg15 fullShare X)
        -∗ owns (c : Thread nD τ) A.arg5 fullShare (outAll i G T' ST K EX WT) -∗ owns (c : Thread nD τ) A.arg6 fullShare (embAll i G T' ST K EX) -∗ Q ⟨⟩))
    ⊢ wp Idealize.ShloMosaic.frame (wpE defs₀ 𝒱 (c : Thread nD τ) bd) E (rest i A) Q := by
  unfold rest
  simp only [wp_bind]
  iintro ⟨H12, H7, H9, H10, H16, H17, ⟨%X13, H13⟩, ⟨%X14, H14⟩, ⟨%X15, H15⟩, ⟨%X5, H5⟩, ⟨%X6, H6⟩, HQ⟩
  iapply (wp_wand_r Idealize.ShloMosaic.frame (wpE defs₀ 𝒱 (c : Thread nD τ) bd) E)
  isplitl [H12 H7 H9 H13 H14]
  · iapply (wp_seqN 𝒱 c bd E 128 (gather i A) (gatherI c i A G T ST) (wp_gather 𝒱 c bd E i A G T ST hG))
    unfold gatherI
    isplitl [H12]; · iexact H12
    isplitl [H7]; · iexact H7
    isplitl [H9]; · iexact H9
    iexists X13, X14
    isplitr
    · ipureintro; exact ⟨fun t' j y h => absurd h (Nat.not_lt_zero _), fun t' y h => absurd h (Nat.not_lt_zero _)⟩
    isplitl [H13]; · iexact H13
    iexact H14
  clear X13 X14
  unfold gatherI
  iintro %_ ⟨H12, H7, H9, %X13, %X14, %hI, H13, H14⟩
  have e14 : X14 = stileF i G ST := funext fun y => hI.2 (y 0).val y (y 0).isLt rfl
  have e13 : ∀ (t' j : ℕ) (y : S904x128.Idx), t' < 128 → j < 6 → (y 0).val = 129 * j + t' → X13 y = tileF i G T' y := by
    intro t' j y ht hj hy
    rw [hI.1 t' j y ht hj hy]
    unfold tileF
    rw [show (y 0).val % 129 = t' by omega, show (y 0).val / 129 = j by omega]
    exact hT _ j _ hj
  rw [e14]
  iapply (wp_scales 𝒱 c bd E i A K (stileF i G ST) EX X15 _) $$ [H12 H7 H9 H10 H16 H17 H13 H14 H15 H5 H6 HQ]
  isplitl [H10]; · iexact H10
  isplitl [H14]; · iexact H14
  isplitl [H16]; · iexact H16
  isplitl [H15]; · iexact H15
  iintro H10 H14 H16 H15
  iapply (wp_wand_r Idealize.ShloMosaic.frame (wpE defs₀ 𝒱 (c : Thread nD τ) bd) E)
  isplitl [H10 H13 H15 H17 H6 H5]
  · iapply (wp_seqN 𝒱 c bd E 16 (group i A) (groupI c i A K X13 (sfullOf (kBlk i K) (stileF i G ST) EX : FVec F S128x768 .f32) WT) (wp_group 𝒱 c bd E i A K X13 _ WT))
    unfold groupI
    isplitl [H10]; · iexact H10
    isplitl [H13]; · iexact H13
    isplitl [H15]; · iexact H15
    isplitl [H17]; · iexact H17
    isplitl [H6]
    · iexists X6
      isplitr
      · ipureintro; intro s j y x hd; exfalso; unfold Dn at hd; omega
      · iexact H6
    · iexists X5
      isplitr
      · ipureintro; intro s j y x hd; exfalso; unfold Dn at hd; omega
      · iexact H5
  clear X5 X6
  unfold groupI
  iintro %_ ⟨H10, H13, H15, H17, ⟨%X6, %h6, H6⟩, ⟨%X5, %h5, H5⟩⟩
  have e6 : X6 = embAll i G T' ST K EX := OInv_whole _ _ (OInv_congr _ _ (fun s j hs hj => embV_congr i K X13 (tileF i G T') _ e13 s j hs hj) X6 h6)
  have e5 : X5 = outAll i G T' ST K EX WT := OInv_whole _ _ (OInv_congr _ _ (fun s j hs hj => outV_congr i K X13 (tileF i G T') _ WT e13 s j hs hj) X5 h5)
  rw [e6, e5]
  iapply HQ $$ H12 H7 H9 H10 H16 H17 [H13] [H14] [H15] H5 H6
  · iexists _; iexact H13
  · iexists _; iexact H14
  · iexists _; iexact H15

end Cert.KernelIdeal
-- ==== Proof.TripsI.lean ====
module

public import proofs.«01_k».proof.Proof.RestI
public import proofs.«01_k».proof.Proof.Dma
public import proofs.«01_k».proof.Proof.Gen.KernelIdeal.Skeleton

/-! What the first grid point sets up: the codes copied to fast memory and packed four to a word, the scales packed
thirty-two to a row, the group numbers, the byte numbers, the expansion matrix, the weight. -/

@[expose] public section

set_option maxRecDepth 100000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts Cert.Wp
open Gen (k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_off1_eq k0_off2_eq k0_off3_eq k0_off4_eq k0_off5_eq k0_off6_eq k0_off7_eq k0_off8_eq k0_off9_eq k0_off10_eq k0_off11_eq k0_t1_body k0_t2_body k0_part1_eq_skeleton k0_part1_skel k0_part2_eq_skeleton k0_part2_skel k0_part3_eq_skeleton k0_part3_skel k0_part4_eq_skeleton k0_part4_skel k0_part5_eq_skeleton k0_part5_skel k0_part6_eq_skeleton k0_part6_skel)

variable {F : FTy → Type} [FloatOps F] [Named F]

local notation "𝕄" => MT nD τ sig Unit (Elt F) ℕ (Pipeline.UD sig nD τ) ℕ

variable (𝒱 : Variants) (c : Dev nD) (bd : Option 𝒱.V) (E : Set ℕ)

/-! ## The byte numbers -/

/-- Row `r` of the token numbers. -/
def idRow (ids : Vec F S64x128 .i32) (r : ℕ) : Vec F S1x128 .i32 := fun x => rd2 ids r (x 1).val

/-- Each token's byte number, on every lane of the token's row. -/
def kscrF (ids : Vec F S64x128 .i32) : Vec F S8192x128 .i32 := fun y =>
  k0_pay9 (idRow ids ((y 0).val / 128)) (ValueIdx.ix2 (n0 := 128) (n1 := 128) (Fin.ofNat 128 (y 0).val) (Fin.ofNat 128 (y 1).val))

/-- An index of a rank-two array is its two coordinates. -/
theorem ix2_of {n m : ℕ} [NeZero n] [NeZero m] (x : (⟨2, ![n, m]⟩ : Shape).Idx) (a b : ℕ) (h0 : a % n = (x 0).val) (h1 : b % m = (x 1).val) :
    x = ValueIdx.ix2 (Fin.ofNat n a) (Fin.ofNat m b) := by
  funext k
  match k with
  | ⟨0, _⟩ => exact Fin.ext h0.symm
  | ⟨1, _⟩ => exact Fin.ext h1.symm

/-- Rows stored in blocks of `h`: one more block. -/
theorem rows_step {α : Type} {n m h t : ℕ} [NeZero m] (V : (⟨2, ![n, m]⟩ : Shape).Idx → α)
    (off : Fin 2 → ℕ) (inb : ∀ a, off a + (⟨2, ![h, m]⟩ : Shape).size a ≤ (⟨2, ![n, m]⟩ : Shape).size a)
    (h0 : off 0 = h * t) (h1 : off 1 = 0) (w : (⟨2, ![h, m]⟩ : Shape).Idx → α)
    (hw : ∀ (x : (⟨2, ![h, m]⟩ : Shape).Idx) (y : (⟨2, ![n, m]⟩ : Shape).Idx), (y 0).val = h * t + (x 0).val → (y 1).val = (x 1).val → w x = V y)
    (X : (⟨2, ![n, m]⟩ : Shape).Idx → α) (hX : ∀ y, (y 0).val < h * t → X y = V y) :
    ∀ y, (y 0).val < h * (t + 1) →
      putR (Rect.unit (s := (⟨2, ![n, m]⟩ : Shape)) off (⟨2, ![h, m]⟩ : Shape).size inb) w X y = V y := by
  intro y hy
  by_cases hlt : (y 0).val < h * t
  · rw [putR_of_not]
    · exact hX y hlt
    · rintro x' rfl
      rw [Rect.emb_apply] at hlt
      have : off 0 + 1 * (x' 0).val < h * t := hlt
      omega
  · have hy1 : (y 1).val < m := (y 1).isLt
    rw [Nat.mul_add, Nat.mul_one] at hy
    have hy0 : (y 0).val - h * t < h := by omega
    have e : y = (Rect.unit (s := (⟨2, ![n, m]⟩ : Shape)) off (⟨2, ![h, m]⟩ : Shape).size inb).emb
        (ValueIdx.ix2 (n0 := h) (n1 := m) ⟨(y 0).val - h * t, hy0⟩ ⟨(y 1).val, hy1⟩) := by
      funext a
      match a with
      | ⟨0, _⟩ => exact Fin.ext (by rw [Rect.emb_apply]; show (y 0).val = off 0 + 1 * ((y 0).val - h * t); omega)
      | ⟨1, _⟩ => exact Fin.ext (by rw [Rect.emb_apply]; show (y 1).val = off 1 + 1 * (y 1).val; omega)
    rw [e, putR_emb, ← e]
    refine hw _ y ?_ ?_
    · show (y 0).val = h * t + ((y 0).val - h * t); omega
    · rfl

def loop1I (A : Args) (ids : Vec F S64x128 .i32) (t : ℕ) (_ : Unit) : sProp 𝕄 :=
  iprop(owns (c : Thread nD τ) A.arg1 fullShare ids
    ∗ ∃ X, ⌜∀ y : S8192x128.Idx, (y 0).val < 128 * t → X y = kscrF ids y⌝ ∗ owns (c : Thread nD τ) A.arg10 fullShare X)

theorem kscr_hw (i : grid0.Coords) (k0_h1 : k0_cond1 i = 1#1) (ids : Vec F S64x128 .i32) (t : Fin k0_t1_loop.trips) (x : S128x128.Idx) (y : S8192x128.Idx)
    (h0 : (y 0).val = 128 * t.val + (x 0).val) (h1 : (y 1).val = (x 1).val) :
    k0_pay9 (fun z => ids ((Rect.unit (s := S64x128) (k0_off1 t) S1x128.size (k0_off1_inb i t k0_h1)).toLoadRect.idx z)) x = kscrF ids y := by
  have hx0 : (x 0).val < 128 := (x 0).isLt
  have hx1 : (x 1).val < 128 := (x 1).isLt
  unfold kscrF
  have e : x = ValueIdx.ix2 (n0 := 128) (n1 := 128) (Fin.ofNat 128 (y 0).val) (Fin.ofNat 128 (y 1).val) :=
    ix2_of x _ _ (by omega) (by omega)
  rw [← e, show (y 0).val / 128 = t.val by omega]
  refine congrFun (congrArg _ ?_) x
  funext z
  unfold idRow
  refine rd2_eq ids _ ?_ ?_
  · rw [LoadRect.idx_apply]
    have hz : (z 0).val < 1 := (z 0).isLt
    show k0_off1 t 0 + 1 * (z 0).val = _
    rw [k0_off1_eq]; show t.val + 1 * (z 0).val = _; omega
  · rw [LoadRect.idx_apply]
    show k0_off1 t 1 + 1 * (z 1).val = _
    rw [k0_off1_eq]; show 0 + 1 * (z 1).val = _; omega

theorem wp_trip1 (i : grid0.Coords) (A : Args) (k0_h1 : k0_cond1 i = 1#1) (ids : Vec F S64x128 .i32) (t : Fin k0_t1_loop.trips) (acc : Unit) :
    loop1I c A ids t.val acc ⊢ wp Idealize.ShloMosaic.frame (wpE defs₀ 𝒱 (c : Thread nD τ) bd) E
      (k0_t1_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1 t acc)
      (loop1I c A ids (t.val + 1)) := by
  unfold k0_t1_body loop1I
  simp only [wp_bind]
  iintro ⟨H1, %X, %hX, H10⟩
  iapply (wp_ld 𝒱 (c : Thread nD τ) bd E A.arg1 _ _ fullShare ids _) $$ [H1 H10]
  isplitl [H1]; · iexact H1
  iintro H1
  iapply (wp_ld 𝒱 (c : Thread nD τ) bd E A.arg10 _ _ fullShare X _) $$ [H1 H10]
  isplitl [H10]; · iexact H10
  iintro H10
  iapply (wp_st 𝒱 (c : Thread nD τ) bd E A.arg10 _ _ _ _ X _) $$ [H1 H10]
  isplitl [H10]; · iexact H10
  iintro H10
  iapply (le_wp_ret Idealize.ShloMosaic.frame (wpE defs₀ 𝒱 (c : Thread nD τ) bd) E _ _)
  isplitl [H1]; · iexact H1
  iexists _
  isplitr
  rotate_left
  · iexact H10
  · ipureintro
    exact rows_step (n := 8192) (m := 128) (h := 128) (kscrF ids) (k0_off2 t) (k0_off2_inb i t k0_h1) (congrFun (k0_off2_eq t) 0) (congrFun (k0_off2_eq t) 1) _
      (fun x y h0 h1 => kscr_hw i k0_h1 ids t x y h0 h1) X hX

/-! ## The packed scales -/

/-- Block `t` of 128 columns of the scales. -/
def scBlk (sc : Vec F S6x16000 .f32) (t : ℕ) : Vec F S6x128 .f32 := fun x => rd2 sc (x 0).val (128 * t + (x 1).val)

/-- The scales of four tokens to a row: lane `8 k + j` of row `w` is scale `j` of token `4 w + k`. -/
def stabF (sc : Vec F S6x16000 .f32) : Vec F S4000x128 .f32 := fun y =>
  k0_pay23 (k0_pay19 (iota .tc S32x128 32 [0] iota_S32x128_d0_w32) k0_pay17 k0_pay18) k0_pay20
    (Scalar.select (Scalar.cmpi .eq 4#32 0#32) 1#32 4#32) k0_pay21 k0_pay22 (scBlk sc ((y 0).val / 32))
    (ValueIdx.ix2 (n0 := 32) (n1 := 128) (Fin.ofNat 32 (y 0).val) (Fin.ofNat 128 (y 1).val))

def loop2I (A : Args) (sc : Vec F S6x16000 .f32) (t : ℕ) (_ : Unit) : sProp 𝕄 :=
  iprop(owns (c : Thread nD τ) A.arg3 fullShare sc
    ∗ ∃ X, ⌜∀ y : S4000x128.Idx, (y 0).val < 32 * t → X y = stabF sc y⌝ ∗ owns (c : Thread nD τ) A.arg9 fullShare X)

theorem stab_hw (i : grid0.Coords) (k0_h1 : k0_cond1 i = 1#1) (sc : Vec F S6x16000 .f32) (t : Fin k0_t2_loop.trips) (x : S32x128.Idx) (y : S4000x128.Idx)
    (h0 : (y 0).val = 32 * t.val + (x 0).val) (h1 : (y 1).val = (x 1).val) :
    k0_pay23 (k0_pay19 (iota .tc S32x128 32 [0] iota_S32x128_d0_w32) k0_pay17 k0_pay18) k0_pay20
      (Scalar.select (Scalar.cmpi .eq 4#32 0#32) 1#32 4#32) k0_pay21 k0_pay22
      (fun z => sc ((Rect.unit (s := S6x16000) (k0_off3 t) S6x128.size (k0_off3_inb i t k0_h1)).toLoadRect.idx z)) x = stabF sc y := by
  have hx0 : (x 0).val < 32 := (x 0).isLt
  have hx1 : (x 1).val < 128 := (x 1).isLt
  unfold stabF
  have e : x = ValueIdx.ix2 (n0 := 32) (n1 := 128) (Fin.ofNat 32 (y 0).val) (Fin.ofNat 128 (y 1).val) :=
    ix2_of x _ _ (by omega) (by omega)
  rw [← e, show (y 0).val / 32 = t.val by omega]
  refine congrFun (congrArg _ ?_) x
  funext z
  unfold scBlk
  refine rd2_eq sc _ ?_ ?_
  · rw [LoadRect.idx_apply]
    show k0_off3 t 0 + 1 * (z 0).val = _
    rw [k0_off3_eq]; show 0 + 1 * (z 0).val = _; omega
  · rw [LoadRect.idx_apply]
    show k0_off3 t 1 + 1 * (z 1).val = _
    rw [k0_off3_eq]; show 128 * t.val + 1 * (z 1).val = _; omega

theorem wp_trip2 (i : grid0.Coords) (A : Args) (k0_h1 : k0_cond1 i = 1#1) (sc : Vec F S6x16000 .f32) (t : Fin k0_t2_loop.trips) (acc : Unit) :
    loop2I c A sc t.val acc ⊢ wp Idealize.ShloMosaic.frame (wpE defs₀ 𝒱 (c : Thread nD τ) bd) E
      (k0_t2_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
        (k0_pay19 (iota .tc S32x128 32 [0] iota_S32x128_d0_w32) k0_pay17 k0_pay18) k0_pay20
        (Scalar.select (Scalar.cmpi .eq 4#32 0#32) 1#32 4#32) k0_pay21 k0_pay22 t acc)
      (loop2I c A sc (t.val + 1)) := by
  unfold k0_t2_body loop2I
  simp only [wp_bind]
  iintro ⟨H1, %X, %hX, H10⟩
  iapply (wp_ld 𝒱 (c : Thread nD τ) bd E A.arg3 _ _ fullShare sc _) $$ [H1 H10]
  isplitl [H1]; · iexact H1
  iintro H1
  iapply (wp_ld 𝒱 (c : Thread nD τ) bd E A.arg9 _ _ fullShare X _) $$ [H1 H10]
  isplitl [H10]; · iexact H10
  iintro H10
  iapply (wp_st 𝒱 (c : Thread nD τ) bd E A.arg9 _ _ _ _ X _) $$ [H1 H10]
  isplitl [H10]; · iexact H10
  iintro H10
  iapply (le_wp_ret Idealize.ShloMosaic.frame (wpE defs₀ 𝒱 (c : Thread nD τ) bd) E _ _)
  isplitl [H1]; · iexact H1
  iexists _
  isplitr
  rotate_left
  · iexact H10
  · ipureintro
    exact rows_step (n := 4000) (m := 128) (h := 32) (stabF sc) (k0_off4 t) (k0_off4_inb i t k0_h1) (congrFun (k0_off4_eq t) 0) (congrFun (k0_off4_eq t) 1) _
      (fun x y h0 h1 => stab_hw i k0_h1 sc t x y h0 h1) X hX

/-! ## The packed codes -/

/-- Block `(b, j)` of 128 rows and 128 columns of the codes. -/
def cdBlk (C : Vec F S16000x768 .i8) (b j : ℕ) : Vec F S128x128 .i8 := fun x => rd2 C (128 * b + (x 0).val) (128 * j + (x 1).val)

/-- The codes packed: byte `k` of word `(8 w + j, l)` is code `128 j + l` of token `4 w + k`. -/
def tabF (C : Vec F S16000x768 .i8) : Vec F S32000x128 .i32 := fun y =>
  (bitcast S32x128 32 (cdBlk C ((y 0).val / 256) ((y 0).val % 8)) bitcasts_S128x128_w8_S32x128_w32 : IVec S32x128 32)
    (ValueIdx.ix2 (n0 := 32) (n1 := 128) (Fin.ofNat 32 ((y 0).val / 8)) (Fin.ofNat 128 (y 1).val))

/-- The words packed before column block `j` of trip `t`. -/
def TInv (C : Vec F S16000x768 .i8) (t j : ℕ) (X : Vec F S32000x128 .i32) : Prop :=
  ∀ (w j' : ℕ) (y : S32000x128.Idx), j' < 6 → (w < 32 * t ∨ (w < 32 * (t + 1) ∧ j' < j)) → (y 0).val = 8 * w + j' → X y = tabF C y

theorem TInv_step (C : Vec F S16000x768 .i8) (t j : ℕ) (hj : j < 6) (X : Vec F S32000x128 .i32) (hX : TInv C t j X)
    (off : Fin 2 → ℕ) (inb : ∀ a, S32x128.size a = 0 ∨ off a + (![8, 1] : Fin 2 → Nat) a * (S32x128.size a - 1) < S32000x128.size a)
    (h0 : off 0 = 256 * t + j) (h1 : off 1 = 0) (w : S32x128.Idx → BitVec 32)
    (hw : w = (bitcast S32x128 32 (cdBlk C t j) bitcasts_S128x128_w8_S32x128_w32 : IVec S32x128 32)) :
    TInv C t (j + 1) (putR ⟨(⟨off, S32x128.size, ![8, 1], inb⟩ : LoadRect S32000x128), spos_8_1⟩ w X) := by
  intro w' j' y hj' hwj hy
  by_cases hit : 32 * t ≤ w' ∧ j' = j
  · obtain ⟨hw', rfl⟩ := hit
    have hy1 : (y 1).val < 128 := (y 1).isLt
    have hlt : w' - 32 * t < 32 := by omega
    have e : y = (⟨(⟨off, S32x128.size, ![8, 1], inb⟩ : LoadRect S32000x128), spos_8_1⟩ : Rect S32000x128).emb
        (ValueIdx.ix2 (n0 := 32) (n1 := 128) ⟨w' - 32 * t, hlt⟩ ⟨(y 1).val, hy1⟩) := by
      funext a
      match a with
      | ⟨0, _⟩ => exact Fin.ext (by rw [Rect.emb_apply]; show (y 0).val = off 0 + 8 * (w' - 32 * t); omega)
      | ⟨1, _⟩ => exact Fin.ext (by rw [Rect.emb_apply]; show (y 1).val = off 1 + 1 * (y 1).val; omega)
    rw [e, putR_emb, ← e, hw]
    unfold tabF
    rw [show (y 0).val / 256 = t by omega, show (y 0).val % 8 = j' by omega]
    refine congrArg _ (ix2_of _ _ _ ?_ ?_)
    · show (y 0).val / 8 % 32 = w' - 32 * t; omega
    · show (y 1).val % 128 = (y 1).val; omega
  · rw [putR_of_not]
    · exact hX w' j' y hj' (by omega) hy
    · rintro x' rfl
      rw [Rect.emb_apply] at hy
      have hx : (x' 0).val < 32 := (x' 0).isLt
      have hy' : off 0 + 8 * (x' 0).val = 8 * w' + j' := hy
      omega

theorem cdBlk_of (C : Vec F S16000x768 .i8) (t j : ℕ) (off : Fin 2 → ℕ) (inb : ∀ a, off a + S128x128.size a ≤ S16000x768.size a)
    (h0 : off 0 = 128 * t) (h1 : off 1 = 128 * j) :
    (fun x => C ((Rect.unit (s := S16000x768) off S128x128.size inb).toLoadRect.idx x)) = cdBlk C t j := by
  funext x
  unfold cdBlk
  refine rd2_eq C _ ?_ ?_
  · rw [LoadRect.idx_apply]
    show off 0 + 1 * (x 0).val = _; omega
  · rw [LoadRect.idx_apply]
    show off 1 + 1 * (x 1).val = _; omega

theorem pay_of (v w : Vec F S128x128 .i8) (h : v = w) :
    (shapeCast S32x128 (bitcast S32x128 32 v bitcasts_S128x128_w8_S32x128_w32 : IVec S32x128 32) shapeCasts_S32x128_S32x128 : IVec S32x128 32)
      = bitcast S32x128 32 w bitcasts_S128x128_w8_S32x128_w32 := h ▸ shapeCast_self _ _

def loop3I (A : Args) (C : Vec F S16000x768 .i8) (t j : ℕ) : sProp 𝕄 :=
  iprop(owns (c : Thread nD τ) A.arg8 fullShare C
    ∗ ∃ X, ⌜TInv C t j X⌝ ∗ owns (c : Thread nD τ) A.arg7 fullShare X)

theorem TInv_next (C : Vec F S16000x768 .i8) (t : ℕ) (X : Vec F S32000x128 .i32) (h : TInv C t 6 X) : TInv C (t + 1) 0 X := by
  intro w j y hj hw hy
  exact h w j y hj (by omega) hy

set_option maxHeartbeats 2000000 in
theorem wp_trip3 (i : grid0.Coords) (A : Args) (k0_h1 : k0_cond1 i = 1#1) (C : Vec F S16000x768 .i8) (t : Fin k0_t3_loop.trips) :
    loop3I c A C t.val 0 ⊢ wp Idealize.ShloMosaic.frame (wpE defs₀ 𝒱 (c : Thread nD τ) bd) E
      (trip3 i A k0_h1 t) (fun _ => loop3I c A C (t.val + 1) 0) := by
  unfold trip3 loop3I
  rw [k0_part1_eq_skeleton]
  unfold k0_part1_skel
  simp only [wp_bind]
  iintro ⟨H8, %X0, %hX, H7⟩
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (le_wp_ret Idealize.ShloMosaic.frame (wpE defs₀ 𝒱 (c : Thread nD τ) bd) E _ _)
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (wp_ld 𝒱 (c : Thread nD τ) bd E A.arg8 _ _ fullShare C _) $$ [H8 H7]
  isplitl [H8]; · iexact H8
  iintro H8
  iapply (wp_ld 𝒱 (c : Thread nD τ) bd E A.arg7 _ _ fullShare _ _) $$ [H8 H7]
  isplitl [H7]; · iexact H7
  iintro H7
  iapply (wp_st 𝒱 (c : Thread nD τ) bd E A.arg7 _ _ _ _ _ _) $$ [H8 H7]
  isplitl [H7]; · iexact H7
  iintro H7
  iapply (le_wp_ret Idealize.ShloMosaic.frame (wpE defs₀ 𝒱 (c : Thread nD τ) bd) E _ _)
  isplitl [H8]; · iexact H8
  iexists _
  isplitr
  rotate_left
  · iexact H7
  · ipureintro
    refine TInv_next C t.val _ ?_
    refine TInv_step C t.val 5 (by omega) _ ?_ (k0_off6 t 5#32) (k0_off6_inb i t k0_h1 5) (congrFun (k0_off6_eq t 5) 0) (congrFun (k0_off6_eq t 5) 1) _
      (pay_of _ _ (cdBlk_of C t.val 5 (k0_off11 t) (k0_off11_inb i t k0_h1) (congrFun (k0_off11_eq t) 0) (congrFun (k0_off11_eq t) 1)))
    refine TInv_step C t.val 4 (by omega) _ ?_ (k0_off6 t 4#32) (k0_off6_inb i t k0_h1 4) (congrFun (k0_off6_eq t 4) 0) (congrFun (k0_off6_eq t 4) 1) _
      (pay_of _ _ (cdBlk_of C t.val 4 (k0_off10 t) (k0_off10_inb i t k0_h1) (congrFun (k0_off10_eq t) 0) (congrFun (k0_off10_eq t) 1)))
    refine TInv_step C t.val 3 (by omega) _ ?_ (k0_off6 t 3#32) (k0_off6_inb i t k0_h1 3) (congrFun (k0_off6_eq t 3) 0) (congrFun (k0_off6_eq t 3) 1) _
      (pay_of _ _ (cdBlk_of C t.val 3 (k0_off9 t) (k0_off9_inb i t k0_h1) (congrFun (k0_off9_eq t) 0) (congrFun (k0_off9_eq t) 1)))
    refine TInv_step C t.val 2 (by omega) _ ?_ (k0_off6 t 2#32) (k0_off6_inb i t k0_h1 2) (congrFun (k0_off6_eq t 2) 0) (congrFun (k0_off6_eq t 2) 1) _
      (pay_of _ _ (cdBlk_of C t.val 2 (k0_off8 t) (k0_off8_inb i t k0_h1) (congrFun (k0_off8_eq t) 0) (congrFun (k0_off8_eq t) 1)))
    refine TInv_step C t.val 1 (by omega) _ ?_ (k0_off6 t 1#32) (k0_off6_inb i t k0_h1 1) (congrFun (k0_off6_eq t 1) 0) (congrFun (k0_off6_eq t 1) 1) _
      (pay_of _ _ (cdBlk_of C t.val 1 (k0_off7 t) (k0_off7_inb i t k0_h1) (congrFun (k0_off7_eq t) 0) (congrFun (k0_off7_eq t) 1)))
    refine TInv_step C t.val 0 (by omega) _ ?_ (k0_off6 t 0#32) (k0_off6_inb i t k0_h1 0) (congrFun (k0_off6_eq t 0) 0) (congrFun (k0_off6_eq t 0) 1) _
      (pay_of _ _ (cdBlk_of C t.val 0 (k0_off5 t) (k0_off5_inb i t k0_h1) (congrFun (k0_off5_eq t) 0) (congrFun (k0_off5_eq t) 1)))
    exact hX

end Cert.KernelIdeal
-- ==== Proof.Step0I.lean ====
module

public import proofs.«01_k».proof.Proof.TripsI
public import proofs.«01_k».proof.Proof.Dma
public import proofs.«01_k».proof.Proof.Gen.KernelIdeal.Skeleton

/-! What the first grid point sets up: the codes copied to fast memory and packed four to a word, the scales packed
thirty-two to a row, the group numbers, the byte numbers, the expansion matrix, the weight. -/

@[expose] public section

set_option maxRecDepth 100000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts Cert.Wp
open Gen (k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_off1_eq k0_off2_eq k0_off3_eq k0_off4_eq k0_off5_eq k0_off6_eq k0_off7_eq k0_off8_eq k0_off9_eq k0_off10_eq k0_off11_eq k0_t1_body k0_t2_body k0_part1_eq_skeleton k0_part1_skel k0_part2_eq_skeleton k0_part2_skel k0_part3_eq_skeleton k0_part3_skel k0_part4_eq_skeleton k0_part4_skel k0_part5_eq_skeleton k0_part5_skel k0_part6_eq_skeleton k0_part6_skel)

variable {F : FTy → Type} [FloatOps F] [Named F]

local notation "𝕄" => MT nD τ sig Unit (Elt F) ℕ (Pipeline.UD sig nD τ) ℕ

variable (𝒱 : Variants) (c : Dev nD) (bd : Option 𝒱.V) (E : Set ℕ)

/-! ## The six column slices -/

/-- Column block 0 of the codes. -/
abbrev cr0 : Rect S16000x768 := Rect.unit (s := S16000x768) ![0, 0] S16000x128.size inb_S16000x768_S16000x128_0_0
/-- Column block 1 of the codes. -/
abbrev cr1 : Rect S16000x768 := Rect.unit (s := S16000x768) ![0, 128] S16000x128.size inb_S16000x768_S16000x128_0_128
/-- Column block 2 of the codes. -/
abbrev cr2 : Rect S16000x768 := Rect.unit (s := S16000x768) ![0, 256] S16000x128.size inb_S16000x768_S16000x128_0_256
/-- Column block 3 of the codes. -/
abbrev cr3 : Rect S16000x768 := Rect.unit (s := S16000x768) ![0, 384] S16000x128.size inb_S16000x768_S16000x128_0_384
/-- Column block 4 of the codes. -/
abbrev cr4 : Rect S16000x768 := Rect.unit (s := S16000x768) ![0, 512] S16000x128.size inb_S16000x768_S16000x128_0_512
/-- Column block 5 of the codes. -/
abbrev cr5 : Rect S16000x768 := Rect.unit (s := S16000x768) ![0, 640] S16000x128.size inb_S16000x768_S16000x128_0_640

theorem pos_cols : 0 < S16000x128.numel := by decide +kernel

theorem cr_mem (o : ℕ) (inb : ∀ a, (![0, o] : Fin 2 → ℕ) a + S16000x128.size a ≤ S16000x768.size a) (y : S16000x768.Idx) :
    y ∈ (Rect.unit (s := S16000x768) ![0, o] S16000x128.size inb).set ↔ o ≤ (y 1).val ∧ (y 1).val < o + 128 := by
  rw [Rect.mem_set_unit]
  constructor
  · intro h; exact h 1
  · intro h a
    match a with
    | ⟨0, _⟩ => exact ⟨Nat.zero_le _, by show (y 0).val < 0 + 16000; have : (y 0).val < 16000 := (y 0).isLt; omega⟩
    | ⟨1, _⟩ => exact h

theorem cr_sub0 : cr0.set ⊆ (Finset.univ : Finset S16000x768.Idx) := fun y _ => Finset.mem_univ y
theorem cr_sub1 : cr1.set ⊆ ((Finset.univ \ cr0.set) : Finset S16000x768.Idx) := by
  intro y hy
  have h := (cr_mem _ _ y).mp hy
  simp only [Finset.mem_sdiff, Finset.mem_univ, true_and, cr_mem]
  omega
theorem cr_sub2 : cr2.set ⊆ (((Finset.univ \ cr0.set) \ cr1.set) : Finset S16000x768.Idx) := by
  intro y hy
  have h := (cr_mem _ _ y).mp hy
  simp only [Finset.mem_sdiff, Finset.mem_univ, true_and, cr_mem]
  omega
theorem cr_sub3 : cr3.set ⊆ ((((Finset.univ \ cr0.set) \ cr1.set) \ cr2.set) : Finset S16000x768.Idx) := by
  intro y hy
  have h := (cr_mem _ _ y).mp hy
  simp only [Finset.mem_sdiff, Finset.mem_univ, true_and, cr_mem]
  omega
theorem cr_sub4 : cr4.set ⊆ (((((Finset.univ \ cr0.set) \ cr1.set) \ cr2.set) \ cr3.set) : Finset S16000x768.Idx) := by
  intro y hy
  have h := (cr_mem _ _ y).mp hy
  simp only [Finset.mem_sdiff, Finset.mem_univ, true_and, cr_mem]
  omega
theorem cr_sub5 : cr5.set ⊆ ((((((Finset.univ \ cr0.set) \ cr1.set) \ cr2.set) \ cr3.set) \ cr4.set) : Finset S16000x768.Idx) := by
  intro y hy
  have h := (cr_mem _ _ y).mp hy
  simp only [Finset.mem_sdiff, Finset.mem_univ, true_and, cr_mem]
  omega
theorem cr_last : ((((((Finset.univ \ cr0.set) \ cr1.set) \ cr2.set) \ cr3.set) \ cr4.set) : Finset S16000x768.Idx) = cr5.set := by
  ext y
  have hy : (y 1).val < 768 := (y 1).isLt
  simp only [Finset.mem_sdiff, Finset.mem_univ, true_and, cr_mem]
  omega

/-- A sixteen-thousand-row array of codes is its six column blocks. -/
def six {sp : Space} (m : Memref sig .tc sp S16000x768 .i8) (q : PosShare TreeShare) (X : Vec F S16000x768 .i8) : sProp 𝕄 :=
  iprop(owns (c : Thread nD τ) (m.slice cr0 (fun _ => rfl)) q (fun x => X (cr0.emb x))
    ∗ owns (c : Thread nD τ) (m.slice cr1 (fun _ => rfl)) q (fun x => X (cr1.emb x))
    ∗ owns (c : Thread nD τ) (m.slice cr2 (fun _ => rfl)) q (fun x => X (cr2.emb x))
    ∗ owns (c : Thread nD τ) (m.slice cr3 (fun _ => rfl)) q (fun x => X (cr3.emb x))
    ∗ owns (c : Thread nD τ) (m.slice cr4 (fun _ => rfl)) q (fun x => X (cr4.emb x))
    ∗ owns (c : Thread nD τ) (m.slice cr5 (fun _ => rfl)) q (fun x => X (cr5.emb x)))

theorem six_of {sp : Space} (m : Memref sig .tc sp S16000x768 .i8) (q : PosShare TreeShare) (X : Vec F S16000x768 .i8) :
    (owns (c : Thread nD τ) m q X : sProp 𝕄) ⊢ six c m q X := by
  unfold six
  refine (owns_on (c : Thread nD τ) m q X).trans ?_
  refine (carve (c : Thread nD τ) m q cr0 (fun _ => rfl) cr_sub0 X).trans (sep_mono .rfl ?_)
  refine (carve (c : Thread nD τ) m q cr1 (fun _ => rfl) cr_sub1 X).trans (sep_mono .rfl ?_)
  refine (carve (c : Thread nD τ) m q cr2 (fun _ => rfl) cr_sub2 X).trans (sep_mono .rfl ?_)
  refine (carve (c : Thread nD τ) m q cr3 (fun _ => rfl) cr_sub3 X).trans (sep_mono .rfl ?_)
  refine (carve (c : Thread nD τ) m q cr4 (fun _ => rfl) cr_sub4 X).trans (sep_mono .rfl ?_)
  rw [cr_last]
  exact on_slice (c : Thread nD τ) m q cr5 (fun _ => rfl) X

theorem of_six {sp : Space} (m : Memref sig .tc sp S16000x768 .i8) (q : PosShare TreeShare) (X : Vec F S16000x768 .i8) :
    six c m q X ⊢ (owns (c : Thread nD τ) m q X : sProp 𝕄) := by
  unfold six
  refine .trans ?_ (on_owns (c : Thread nD τ) m q X)
  refine .trans (sep_mono .rfl ?_) (uncarve (c : Thread nD τ) m q cr0 (fun _ => rfl) cr_sub0 X)
  refine .trans (sep_mono .rfl ?_) (uncarve (c : Thread nD τ) m q cr1 (fun _ => rfl) cr_sub1 X)
  refine .trans (sep_mono .rfl ?_) (uncarve (c : Thread nD τ) m q cr2 (fun _ => rfl) cr_sub2 X)
  refine .trans (sep_mono .rfl ?_) (uncarve (c : Thread nD τ) m q cr3 (fun _ => rfl) cr_sub3 X)
  refine .trans (sep_mono .rfl ?_) (uncarve (c : Thread nD τ) m q cr4 (fun _ => rfl) cr_sub4 X)
  rw [cr_last]
  exact slice_on (c : Thread nD τ) m q cr5 (fun _ => rfl) X

/-! ## The set-up -/

/-- The semaphore of column block 0. -/
abbrev csem0 (A : Args) : DmaSem sig := ((A.arg18.slice (Rect.unit (s := S6) ![0] S1.size inb_S6_S1_0)).squeeze S_ squeezes_S1_S_).sem
/-- The semaphore of column block 1. -/
abbrev csem1 (A : Args) : DmaSem sig := ((A.arg18.slice (Rect.unit (s := S6) ![1] S1.size inb_S6_S1_1)).squeeze S_ squeezes_S1_S_).sem
/-- The semaphore of column block 2. -/
abbrev csem2 (A : Args) : DmaSem sig := ((A.arg18.slice (Rect.unit (s := S6) ![2] S1.size inb_S6_S1_2)).squeeze S_ squeezes_S1_S_).sem
/-- The semaphore of column block 3. -/
abbrev csem3 (A : Args) : DmaSem sig := ((A.arg18.slice (Rect.unit (s := S6) ![3] S1.size inb_S6_S1_3)).squeeze S_ squeezes_S1_S_).sem
/-- The semaphore of column block 4. -/
abbrev csem4 (A : Args) : DmaSem sig := ((A.arg18.slice (Rect.unit (s := S6) ![4] S1.size inb_S6_S1_4)).squeeze S_ squeezes_S1_S_).sem
/-- The semaphore of column block 5. -/
abbrev csem5 (A : Args) : DmaSem sig := ((A.arg18.slice (Rect.unit (s := S6) ![5] S1.size inb_S6_S1_5)).squeeze S_ squeezes_S1_S_).sem

/-- The seven semaphores at zero. -/
def sems0 (A : Args) : sProp 𝕄 :=
  iprop(semVal ((c : Thread nD τ), .dma A.arg19.sem) 0
    ∗ semVal ((c : Thread nD τ), .dma (csem0 A)) 0
    ∗ semVal ((c : Thread nD τ), .dma (csem1 A)) 0
    ∗ semVal ((c : Thread nD τ), .dma (csem2 A)) 0
    ∗ semVal ((c : Thread nD τ), .dma (csem3 A)) 0
    ∗ semVal ((c : Thread nD τ), .dma (csem4 A)) 0
    ∗ semVal ((c : Thread nD τ), .dma (csem5 A)) 0)

/-- The expansion matrix. -/
def expF : Vec F S128x768 .bf16 := k0_pay15 (F := F) k0_pay10 k0_pay11 k0_pay12 k0_pay13 k0_pay14

/-- What the set-up needs. -/
def pre0 (A : Args) (q1 : PosShare TreeShare) (ids : Vec F S64x128 .i32) (C : Vec F S16000x768 .i8) (sc : Vec F S6x16000 .f32) (wt : Vec F S768 .bf16) : sProp 𝕄 :=
  iprop(owns (c : Thread nD τ) A.arg1 fullShare ids ∗ owns (c : Thread nD τ) A.arg2 q1 C ∗ owns (c : Thread nD τ) A.arg3 fullShare sc
    ∗ owns (c : Thread nD τ) A.arg4 fullShare wt ∗ (∃ X, owns (c : Thread nD τ) A.arg7 fullShare X) ∗ (∃ X, owns (c : Thread nD τ) A.arg8 fullShare X)
    ∗ (∃ X, owns (c : Thread nD τ) A.arg9 fullShare X) ∗ (∃ X, owns (c : Thread nD τ) A.arg10 fullShare X) ∗ (∃ X, owns (c : Thread nD τ) A.arg11 fullShare X)
    ∗ (∃ X, owns (c : Thread nD τ) A.arg12 fullShare X) ∗ (∃ X, owns (c : Thread nD τ) A.arg16 fullShare X) ∗ (∃ X, owns (c : Thread nD τ) A.arg17 fullShare X)
    ∗ sems0 c A ∗ ∃ W, owes (c : Thread nD τ) 0 W)

/-- What the set-up leaves. -/
def post0 (A : Args) (q1 : PosShare TreeShare) (ids : Vec F S64x128 .i32) (C : Vec F S16000x768 .i8) (sc : Vec F S6x16000 .f32) (wt : Vec F S768 .bf16) : sProp 𝕄 :=
  iprop(owns (c : Thread nD τ) A.arg1 fullShare ids ∗ owns (c : Thread nD τ) A.arg2 q1 C ∗ owns (c : Thread nD τ) A.arg3 fullShare sc
    ∗ owns (c : Thread nD τ) A.arg4 fullShare wt ∗ (∃ T, ⌜TInv C 125 0 T⌝ ∗ owns (c : Thread nD τ) A.arg7 fullShare T) ∗ (∃ X, owns (c : Thread nD τ) A.arg8 fullShare X)
    ∗ owns (c : Thread nD τ) A.arg9 fullShare (stabF sc) ∗ owns (c : Thread nD τ) A.arg10 fullShare (kscrF ids) ∗ (∃ X, owns (c : Thread nD τ) A.arg11 fullShare X)
    ∗ owns (c : Thread nD τ) A.arg12 fullShare (k0_pay8 ids) ∗ owns (c : Thread nD τ) A.arg16 fullShare (expF (F := F)) ∗ owns (c : Thread nD τ) A.arg17 fullShare (k0_pay16 wt)
    ∗ sems0 c A ∗ ∃ W, owes (c : Thread nD τ) 0 W)

local notation "EC" => (countersEmb (U := Pipeline.UD sig nD τ) : UEmb Counters 𝕄)

theorem wp_loop3 (i : grid0.Coords) (A : Args) (k0_h1 : k0_cond1 i = 1#1) (C : Vec F S16000x768 .i8) :
    loop3I c A C 0 0 ⊢ wp Idealize.ShloMosaic.frame (wpE defs₀ 𝒱 (c : Thread nD τ) bd) E
      (Scf.Loop.for k0_t3_loop (k0_t3_ok i k0_h1) ⟨⟩ fun k0_t3 _ => trip3 i A k0_h1 k0_t3) (fun _ => loop3I c A C 125 0) := by
  refine .trans ?_ (Scf.wp_for Idealize.ShloMosaic.frame (wpE defs₀ 𝒱 (c : Thread nD τ) bd) E _ _ _ _ _ _ (fun t _ => loop3I c A C t 0)
    (fun t _ => wp_trip3 𝒱 c bd E i A k0_h1 C t))
  iintro H
  isplitl [H]; · iexact H
  iintro %_ H
  iexact H

theorem wp_loop1 (i : grid0.Coords) (A : Args) (k0_h1 : k0_cond1 i = 1#1) (ids : Vec F S64x128 .i32) :
    loop1I c A ids 0 () ⊢ wp Idealize.ShloMosaic.frame (wpE defs₀ 𝒱 (c : Thread nD τ) bd) E
      (Scf.Loop.for k0_t1_loop (k0_t1_ok i k0_h1) ⟨⟩ (k0_t1_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1)) (fun _ => loop1I c A ids 64 ()) := by
  refine .trans ?_ (Scf.wp_for Idealize.ShloMosaic.frame (wpE defs₀ 𝒱 (c : Thread nD τ) bd) E _ _ _ _ _ _ (fun t a => loop1I c A ids t a)
    (fun t a => wp_trip1 𝒱 c bd E i A k0_h1 ids t a))
  iintro H
  isplitl [H]; · iexact H
  iintro %_ H
  iexact H

theorem wp_loop2 (i : grid0.Coords) (A : Args) (k0_h1 : k0_cond1 i = 1#1) (sc : Vec F S6x16000 .f32) :
    loop2I c A sc 0 () ⊢ wp Idealize.ShloMosaic.frame (wpE defs₀ 𝒱 (c : Thread nD τ) bd) E
      (Scf.Loop.for k0_t2_loop (k0_t2_ok i k0_h1) ⟨⟩ (k0_t2_body i A.arg1 A.harg1 A.arg2 A.harg2 A.arg3 A.harg3 A.arg4 A.harg4 A.arg5 A.harg5 A.arg6 A.harg6 A.arg7 A.harg7 A.arg8 A.harg8 A.arg9 A.harg9 A.arg10 A.harg10 A.arg11 A.harg11 A.arg12 A.harg12 A.arg13 A.harg13 A.arg14 A.harg14 A.arg15 A.harg15 A.arg16 A.harg16 A.arg17 A.harg17 A.arg18 A.arg19 k0_h1
        (k0_pay19 (iota .tc S32x128 32 [0] iota_S32x128_d0_w32) k0_pay17 k0_pay18) k0_pay20
        (Scalar.select (Scalar.cmpi .eq 4#32 0#32) 1#32 4#32) k0_pay21 k0_pay22)) (fun _ => loop2I c A sc 125 ()) := by
  refine .trans ?_ (Scf.wp_for Idealize.ShloMosaic.frame (wpE defs₀ 𝒱 (c : Thread nD τ) bd) E _ _ _ _ _ _ (fun t a => loop2I c A sc t a)
    (fun t a => wp_trip2 𝒱 c bd E i A k0_h1 sc t a))
  iintro H
  isplitl [H]; · iexact H
  iintro %_ H
  iexact H

theorem load_all {α : Type} {n : ℕ} (X : (⟨1, ![n]⟩ : Shape).Idx → α) {inb} :
    (fun x => X ((Rect.unit (s := (⟨1, ![n]⟩ : Shape)) ![0] (⟨1, ![n]⟩ : Shape).size inb).toLoadRect.idx x)) = X := by
  funext x
  congr 1
  funext a
  match a with
  | ⟨0, _⟩ => exact Fin.ext (by rw [LoadRect.idx_apply]; show 0 + 1 * (x 0).val = (x 0).val; omega)

set_option maxHeartbeats 8000000 in
theorem wp_step0 (i : grid0.Coords) (A : Args) (k0_h1 : k0_cond1 i = 1#1) (q1 : PosShare TreeShare) (ids : Vec F S64x128 .i32) (C : Vec F S16000x768 .i8)
    (sc : Vec F S6x16000 .f32) (wt : Vec F S768 .bf16) (Q : PUnit → sProp 𝕄) :
    iprop(pre0 c A q1 ids C sc wt ∗ (post0 c A q1 ids C sc wt -∗ Q ⟨⟩))
      ⊢ wp Idealize.ShloMosaic.frame (wpE defs₀ 𝒱 (c : Thread nD τ) bd) Set.univ (step0 i A k0_h1) Q := by
  unfold step0
  rw [k0_part2_eq_skeleton, k0_part3_eq_skeleton, k0_part4_eq_skeleton, k0_part5_eq_skeleton, k0_part6_eq_skeleton]
  unfold k0_part2_skel k0_part3_skel k0_part4_skel k0_part5_skel k0_part6_skel
  simp only [wp_bind]
  unfold pre0 sems0
  iintro ⟨⟨H1, H2, H3, H4, ⟨%X7, H7⟩, ⟨%X8, H8⟩, ⟨%X9, H9⟩, ⟨%X10, H10⟩, ⟨%X11, H11⟩, ⟨%X12, H12⟩, ⟨%X16, H16⟩, ⟨%X17, H17⟩, ⟨S, S0, S1, S2, S3, S4, S5⟩, %W, HO⟩, HQ⟩
  ihave H2 := (six_of c A.arg2 q1 C) $$ H2
  ihave H8 := (six_of c A.arg8 fullShare X8) $$ H8
  unfold six
  icases H2 with ⟨A0, A1, A2, A3, A4, A5⟩
  icases H8 with ⟨B0, B1, B2, B3, B4, B5⟩
  iapply (wp_dma (c : Thread nD τ) q1 𝒱 bd EC (A.arg2.slice cr0 (fun _ => rfl)) (A.arg8.slice cr0 (fun _ => rfl)) (.dma (csem0 A)) _ _ () _ rfl
    (View.dmaCredit_pos _ pos_cols) _) $$ [H1 H3 H4 H7 H9 H10 H11 H12 H16 H17 S HO HQ S0 S1 S2 S3 S4 S5 A0 A1 A2 A3 A4 A5 B0 B1 B2 B3 B4 B5]
  isplitl [A0]; · iexact A0
  isplitl [B0]; · iexact B0
  isplitl [S0]; · iexact S0
  iintro F0
  iapply (wp_dma (c : Thread nD τ) q1 𝒱 bd EC (A.arg2.slice cr1 (fun _ => rfl)) (A.arg8.slice cr1 (fun _ => rfl)) (.dma (csem1 A)) _ _ () _ rfl
    (View.dmaCredit_pos _ pos_cols) _) $$ [H1 H3 H4 H7 H9 H10 H11 H12 H16 H17 S HO HQ S1 S2 S3 S4 S5 A1 A2 A3 A4 A5 B1 B2 B3 B4 B5 F0]
  isplitl [A1]; · iexact A1
  isplitl [B1]; · iexact B1
  isplitl [S1]; · iexact S1
  iintro F1
  iapply (wp_dma (c : Thread nD τ) q1 𝒱 bd EC (A.arg2.slice cr2 (fun _ => rfl)) (A.arg8.slice cr2 (fun _ => rfl)) (.dma (csem2 A)) _ _ () _ rfl
    (View.dmaCredit_pos _ pos_cols) _) $$ [H1 H3 H4 H7 H9 H10 H11 H12 H16 H17 S HO HQ S2 S3 S4 S5 A2 A3 A4 A5 B2 B3 B4 B5 F0 F1]
  isplitl [A2]; · iexact A2
  isplitl [B2]; · iexact B2
  isplitl [S2]; · iexact S2
  iintro F2
  iapply (wp_dma (c : Thread nD τ) q1 𝒱 bd EC (A.arg2.slice cr3 (fun _ => rfl)) (A.arg8.slice cr3 (fun _ => rfl)) (.dma (csem3 A)) _ _ () _ rfl
    (View.dmaCredit_pos _ pos_cols) _) $$ [H1 H3 H4 H7 H9 H10 H11 H12 H16 H17 S HO HQ S3 S4 S5 A3 A4 A5 B3 B4 B5 F0 F1 F2]
  isplitl [A3]; · iexact A3
  isplitl [B3]; · iexact B3
  isplitl [S3]; · iexact S3
  iintro F3
  iapply (wp_dma (c : Thread nD τ) q1 𝒱 bd EC (A.arg2.slice cr4 (fun _ => rfl)) (A.arg8.slice cr4 (fun _ => rfl)) (.dma (csem4 A)) _ _ () _ rfl
    (View.dmaCredit_pos _ pos_cols) _) $$ [H1 H3 H4 H7 H9 H10 H11 H12 H16 H17 S HO HQ S4 S5 A4 A5 B4 B5 F0 F1 F2 F3]
  isplitl [A4]; · iexact A4
  isplitl [B4]; · iexact B4
  isplitl [S4]; · iexact S4
  iintro F4
  iapply (wp_dma (c : Thread nD τ) q1 𝒱 bd EC (A.arg2.slice cr5 (fun _ => rfl)) (A.arg8.slice cr5 (fun _ => rfl)) (.dma (csem5 A)) _ _ () _ rfl
    (View.dmaCredit_pos _ pos_cols) _) $$ [H1 H3 H4 H7 H9 H10 H11 H12 H16 H17 S HO HQ S5 A5 B5 F0 F1 F2 F3 F4]
  isplitl [A5]; · iexact A5
  isplitl [B5]; · iexact B5
  isplitl [S5]; · iexact S5
  iintro F5
  iapply (le_wp_ret Idealize.ShloMosaic.frame (wpE defs₀ 𝒱 (c : Thread nD τ) bd) Set.univ _ _)
  iapply (wp_ld 𝒱 (c : Thread nD τ) bd Set.univ A.arg1 _ _ fullShare ids _) $$ [H1 H3 H4 H7 H9 H10 H11 H12 H16 H17 S HO HQ F0 F1 F2 F3 F4 F5]
  isplitl [H1]; · iexact H1
  iintro H1
  rw [load_whole ids]
  iapply (wp_ld 𝒱 (c : Thread nD τ) bd Set.univ A.arg11 _ _ fullShare X11 _) $$ [H1 H3 H4 H7 H9 H10 H11 H12 H16 H17 S HO HQ F0 F1 F2 F3 F4 F5]
  isplitl [H11]; · iexact H11
  iintro H11
  iapply (wp_st 𝒱 (c : Thread nD τ) bd Set.univ A.arg11 _ _ _ _ X11 _) $$ [H1 H3 H4 H7 H9 H10 H11 H12 H16 H17 S HO HQ F0 F1 F2 F3 F4 F5]
  isplitl [H11]; · iexact H11
  iintro H11
  rw [putR_whole X11]
  iapply (wp_dma (c : Thread nD τ) fullShare 𝒱 bd EC A.arg11 A.arg12 (.dma A.arg19.sem) _ _ () _ rfl
    (View.dmaCredit_pos _ h_S64x128) _) $$ [H1 H3 H4 H7 H9 H10 H11 H12 H16 H17 S HO HQ F0 F1 F2 F3 F4 F5]
  isplitl [H11]; · iexact H11
  isplitl [H12]; · iexact H12
  isplitl [S]; · iexact S
  iintro F
  iapply (wp_wand_r Idealize.ShloMosaic.frame (wpE defs₀ 𝒱 (c : Thread nD τ) bd) Set.univ)
  isplitl [H1 H10]
  · iapply (wp_loop1 𝒱 c bd Set.univ i A k0_h1 ids)
    unfold loop1I
    isplitl [H1]; · iexact H1
    iexists X10
    isplitr
    · ipureintro; intro y hy; exact absurd hy (Nat.not_lt_zero _)
    · iexact H10
  unfold loop1I
  iintro %_ ⟨H1, %Y10, %h10, H10⟩
  have e10 : Y10 = kscrF ids := funext fun y => h10 y (y 0).isLt
  rw [e10]
  iapply (le_wp_ret Idealize.ShloMosaic.frame (wpE defs₀ 𝒱 (c : Thread nD τ) bd) Set.univ _ _)
  iapply (wp_ld 𝒱 (c : Thread nD τ) bd Set.univ A.arg16 _ _ fullShare X16 _) $$ [H1 H3 H4 H7 H9 H10 H16 H17 HO HQ F0 F1 F2 F3 F4 F5 F]
  isplitl [H16]; · iexact H16
  iintro H16
  iapply (wp_st 𝒱 (c : Thread nD τ) bd Set.univ A.arg16 _ _ _ _ X16 _) $$ [H1 H3 H4 H7 H9 H10 H16 H17 HO HQ F0 F1 F2 F3 F4 F5 F]
  isplitl [H16]; · iexact H16
  iintro H16
  rw [putR_whole X16]
  iapply (wp_ld 𝒱 (c : Thread nD τ) bd Set.univ A.arg4 _ _ fullShare wt _) $$ [H1 H3 H4 H7 H9 H10 H16 H17 HO HQ F0 F1 F2 F3 F4 F5 F]
  isplitl [H4]; · iexact H4
  iintro H4
  rw [load_all wt]
  iapply (wp_ld 𝒱 (c : Thread nD τ) bd Set.univ A.arg17 _ _ fullShare X17 _) $$ [H1 H3 H4 H7 H9 H10 H16 H17 HO HQ F0 F1 F2 F3 F4 F5 F]
  isplitl [H17]; · iexact H17
  iintro H17
  iapply (wp_st 𝒱 (c : Thread nD τ) bd Set.univ A.arg17 _ _ _ _ X17 _) $$ [H1 H3 H4 H7 H9 H10 H16 H17 HO HQ F0 F1 F2 F3 F4 F5 F]
  isplitl [H17]; · iexact H17
  iintro H17
  rw [putR_whole X17]
  iapply (le_wp_ret Idealize.ShloMosaic.frame (wpE defs₀ 𝒱 (c : Thread nD τ) bd) Set.univ _ _)
  iapply (le_wp_ret Idealize.ShloMosaic.frame (wpE defs₀ 𝒱 (c : Thread nD τ) bd) Set.univ _ _)
  iapply (wp_wand_r Idealize.ShloMosaic.frame (wpE defs₀ 𝒱 (c : Thread nD τ) bd) Set.univ)
  isplitl [H3 H9]
  · iapply (wp_loop2 𝒱 c bd Set.univ i A k0_h1 sc)
    unfold loop2I
    isplitl [H3]; · iexact H3
    iexists X9
    isplitr
    · ipureintro; intro y hy; exact absurd hy (Nat.not_lt_zero _)
    · iexact H9
  unfold loop2I
  iintro %_ ⟨H3, %Y9, %h9, H9⟩
  have e9 : Y9 = stabF sc := funext fun y => h9 y (y 0).isLt
  rw [e9]
  iapply (wp_await (c : Thread nD τ) 𝒱 bd EC A.arg19.sem A.arg11 A.arg12 () _ rfl _ _ _) $$ [H1 H3 H4 H7 H9 H10 H16 H17 HO HQ F0 F1 F2 F3 F4 F5 F]
  isplitl [F]; · iexact F
  isplitl [HO]; · iexact HO
  iintro ⟨⟨H12, H11⟩, S, HO⟩
  iapply (wp_await (c : Thread nD τ) 𝒱 bd EC (csem0 A) (A.arg2.slice cr0 (fun _ => rfl)) (A.arg8.slice cr0 (fun _ => rfl)) () _ rfl _ _ _) $$ [H1 H3 H4 H7 H9 H10 H16 H17 HO HQ F0 F1 F2 F3 F4 F5 H11 H12 S]
  isplitl [F0]; · iexact F0
  isplitl [HO]; · iexact HO
  iintro ⟨⟨B0, A0⟩, S0, HO⟩
  iapply (wp_await (c : Thread nD τ) 𝒱 bd EC (csem1 A) (A.arg2.slice cr1 (fun _ => rfl)) (A.arg8.slice cr1 (fun _ => rfl)) () _ rfl _ _ _) $$ [H1 H3 H4 H7 H9 H10 H16 H17 HO HQ F1 F2 F3 F4 F5 H11 H12 S A0 B0 S0]
  isplitl [F1]; · iexact F1
  isplitl [HO]; · iexact HO
  iintro ⟨⟨B1, A1⟩, S1, HO⟩
  iapply (wp_await (c : Thread nD τ) 𝒱 bd EC (csem2 A) (A.arg2.slice cr2 (fun _ => rfl)) (A.arg8.slice cr2 (fun _ => rfl)) () _ rfl _ _ _) $$ [H1 H3 H4 H7 H9 H10 H16 H17 HO HQ F2 F3 F4 F5 H11 H12 S A0 B0 S0 A1 B1 S1]
  isplitl [F2]; · iexact F2
  isplitl [HO]; · iexact HO
  iintro ⟨⟨B2, A2⟩, S2, HO⟩
  iapply (wp_await (c : Thread nD τ) 𝒱 bd EC (csem3 A) (A.arg2.slice cr3 (fun _ => rfl)) (A.arg8.slice cr3 (fun _ => rfl)) () _ rfl _ _ _) $$ [H1 H3 H4 H7 H9 H10 H16 H17 HO HQ F3 F4 F5 H11 H12 S A0 B0 S0 A1 B1 S1 A2 B2 S2]
  isplitl [F3]; · iexact F3
  isplitl [HO]; · iexact HO
  iintro ⟨⟨B3, A3⟩, S3, HO⟩
  iapply (le_wp_ret Idealize.ShloMosaic.frame (wpE defs₀ 𝒱 (c : Thread nD τ) bd) Set.univ _ _)
  iapply (wp_await (c : Thread nD τ) 𝒱 bd EC (csem4 A) (A.arg2.slice cr4 (fun _ => rfl)) (A.arg8.slice cr4 (fun _ => rfl)) () _ rfl _ _ _) $$ [H1 H3 H4 H7 H9 H10 H16 H17 HO HQ F4 F5 H11 H12 S A0 B0 S0 A1 B1 S1 A2 B2 S2 A3 B3 S3]
  isplitl [F4]; · iexact F4
  isplitl [HO]; · iexact HO
  iintro ⟨⟨B4, A4⟩, S4, HO⟩
  iapply (wp_await (c : Thread nD τ) 𝒱 bd EC (csem5 A) (A.arg2.slice cr5 (fun _ => rfl)) (A.arg8.slice cr5 (fun _ => rfl)) () _ rfl _ _ _) $$ [H1 H3 H4 H7 H9 H10 H16 H17 HO HQ F5 H11 H12 S A0 B0 S0 A1 B1 S1 A2 B2 S2 A3 B3 S3 A4 B4 S4]
  isplitl [F5]; · iexact F5
  isplitl [HO]; · iexact HO
  iintro ⟨⟨B5, A5⟩, S5, HO⟩
  ihave H2 := (of_six c A.arg2 q1 C) $$ [A0 A1 A2 A3 A4 A5]
  · unfold six
    isplitl [A0]; · iexact A0
    isplitl [A1]; · iexact A1
    isplitl [A2]; · iexact A2
    isplitl [A3]; · iexact A3
    isplitl [A4]; · iexact A4
    iexact A5
  ihave H8 := (of_six c A.arg8 fullShare C) $$ [B0 B1 B2 B3 B4 B5]
  · unfold six
    isplitl [B0]; · iexact B0
    isplitl [B1]; · iexact B1
    isplitl [B2]; · iexact B2
    isplitl [B3]; · iexact B3
    isplitl [B4]; · iexact B4
    iexact B5
  iapply (wp_wand_r Idealize.ShloMosaic.frame (wpE defs₀ 𝒱 (c : Thread nD τ) bd) Set.univ)
  isplitl [H8 H7]
  · iapply (wp_loop3 𝒱 c bd Set.univ i A k0_h1 C)
    unfold loop3I
    isplitl [H8]; · iexact H8
    iexists X7
    isplitr
    · ipureintro; intro w j y hj hw hy; omega
    · iexact H7
  unfold loop3I
  iintro %_ ⟨H8, HT⟩
  iapply HQ
  unfold post0 sems0
  isplitl [H1]; · iexact H1
  isplitl [H2]; · iexact H2
  isplitl [H3]; · iexact H3
  isplitl [H4]; · iexact H4
  isplitl [HT]; · iexact HT
  isplitl [H8]; · iexists _; iexact H8
  isplitl [H9]; · iexact H9
  isplitl [H10]; · iexact H10
  isplitl [H11]; · iexists _; iexact H11
  isplitl [H12]; · iexact H12
  isplitl [H16]; · iexact H16
  isplitl [H17]; · iexact H17
  isplitl [S S0 S1 S2 S3 S4 S5]
  · isplitl [S]; · iexact S
    isplitl [S0]; · iexact S0
    isplitl [S1]; · iexact S1
    isplitl [S2]; · iexact S2
    isplitl [S3]; · iexact S3
    isplitl [S4]; · iexact S4
    iexact S5
  iexists _; iexact HO

end Cert.KernelIdeal
-- ==== Proof.LaunchI.lean ====
module

public import proofs.«01_k».proof.Proof.RestI
public import proofs.«01_k».proof.Proof.Step0I
public import proofs.«01_k».proof.Proof.Word
public import proofs.«01_k».proof.Proof.Gen.KernelIdeal.Frame
public import Idealize.ShloMosaic.Lib.Pipeline.Frame

/-! The kernel's launch: what its scratch holds between grid points, the body at a point, and the run of the whole
program with the contents of both results. -/

@[expose] public section

set_option maxRecDepth 100000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Facts₀ Facts Cert.Wp
open Gen (k0_pay8 k0_pay16)

variable {F : FTy → Type} [FloatOps F] [Named F]

local notation "𝕄" => MT nD τ sig Unit (Elt F) ℕ (Pipeline.UD sig nD τ) ℕ

/-! ## The group numbers -/

theorem pay8_apply (ids : Vec F S64x128 .i32) (y : S64x128.Idx) :
    (k0_pay8 ids y : BitVec 32) = (clipW (ids y)) >>> (2 : ℕ) * 8#32 := by
  unfold k0_pay8
  simp only [shapeCast_self]
  rfl

theorem pay8_nat (ids : Vec F S64x128 .i32) (y : S64x128.Idx) :
    (k0_pay8 ids y : BitVec 32).toNat = 8 * ((clipW (ids y)).toNat / 4) := by
  rw [pay8_apply]
  have := clipW_le (ids y)
  rw [BitVec.toNat_mul, BitVec.toNat_ushiftRight, Nat.shiftRight_eq_div_pow]
  show (_ / 4 * 8) % 4294967296 = _
  omega

theorem grp_ok (ids : Vec F S64x128 .i32) (y : S64x128.Idx) : k0_chk1 (k0_pay8 ids y) := by
  have hn := pay8_nat ids y
  have hc := clipW_le (ids y)
  unfold k0_chk1 k0_mult10 k0_off13 k0_off14
  refine ⟨⟨_, hn⟩, ?_, ?_⟩
  · intro a
    match a with
    | ⟨0, _⟩ => show (k0_pay8 ids y : BitVec 32).toNat + 8 ≤ 32000; omega
    | ⟨1, _⟩ => exact (Nat.le_refl 128 : 0 + 128 ≤ 128)
  · intro a
    match a with
    | ⟨0, _⟩ =>
      show ((k0_pay8 ids y : BitVec 32) >>> (3 : ℕ)).toNat + 1 ≤ 4000
      rw [BitVec.toNat_ushiftRight, Nat.shiftRight_eq_div_pow]; omega
    | ⟨1, _⟩ => exact (Nat.le_refl 128 : 0 + 128 ≤ 128)

theorem tab_ok (ids : Vec F S64x128 .i32) (C : Vec F S16000x768 .i8) (T : Vec F S32000x128 .i32) (hT : TInv C 125 0 T)
    (y : S64x128.Idx) (j q : ℕ) (hj : j < 6) :
    rd2 T ((k0_pay8 ids y : BitVec 32).toNat + j) q = rd2 (tabF C) ((k0_pay8 ids y : BitVec 32).toNat + j) q := by
  have hn := pay8_nat ids y
  have hc := clipW_le (ids y)
  unfold rd2
  refine hT ((clipW (ids y)).toNat / 4) j _ hj (.inl (by omega)) ?_
  show ((k0_pay8 ids y : BitVec 32).toNat + j) % 32000 = _
  omega

/-! ## The operands the body is handed -/

variable (m : (ℓ : Loc nD τ sig) → Buf (Elt F) ℓ) (ρ : Dev nD → PrngReg)

/-- The body's operands at point `t`. -/
abbrev argsAt (t : Fin cfg0.N) : Args :=
  ⟨win0_0.stage (cfg0.slots t 0), hstage0_0 ((cfg0.slots t 0).cast nbuf0_0), Memref.whole main_arg1, Memref.isWhole_whole _,
    win0_1.stage (cfg0.slots t 1), hstage0_1 ((cfg0.slots t 1).cast nbuf0_1), win0_2.stage (cfg0.slots t 2), hstage0_2 ((cfg0.slots t 2).cast nbuf0_2),
    win0_3.stage (cfg0.slots t 3), hstage0_3 ((cfg0.slots t 3).cast nbuf0_3), win0_4.stage (cfg0.slots t 4), hstage0_4 ((cfg0.slots t 4).cast nbuf0_4),
    Memref.whole cc0_scratch0, Memref.isWhole_whole _, Memref.whole cc0_scratch1, Memref.isWhole_whole _, Memref.whole cc0_scratch2, Memref.isWhole_whole _,
    Memref.whole cc0_scratch3, Memref.isWhole_whole _, Memref.whole cc0_scratch4, Memref.isWhole_whole _, Memref.whole cc0_scratch5, Memref.isWhole_whole _,
    Memref.whole cc0_scratch6, Memref.isWhole_whole _, Memref.whole cc0_scratch7, Memref.isWhole_whole _, Memref.whole cc0_scratch8, Memref.isWhole_whole _,
    Memref.whole cc0_scratch9, Memref.isWhole_whole _, Memref.whole cc0_scratch10, Memref.isWhole_whole _, cc0_scratch11, cc0_scratch12⟩

theorem bodyAt_eq (t : Fin cfg0.N) : Gen.bodyAt0 (F := F) t = body (grid0.coords t) (argsAt t) := by
  unfold Gen.bodyAt0; exact body_eq _ _ _ _ _ _ _ _ _ _ _ _ _ _ _ _ _ _ _ _ _ _ _ _ _ _ _ _ _ _ _ _ _ _ _ _ _

/-- The kernel's own semaphores: the single one, then the array of six. -/
abbrev osem0 : Fin 7 → SemLoc sig := fun j =>
  (![SemLoc.dma 13, SemLoc.dma 7, SemLoc.dma 8, SemLoc.dma 9, SemLoc.dma 10, SemLoc.dma 11, SemLoc.dma 12] : Fin 7 → SemLoc sig) j
theorem ownSemFacts0 : Pipeline.OwnSemFacts spec0 osem0 := by decide
theorem ownSems00_eq (c : Dev nD) (t : Fin cfg0.N) :
    (Pipeline.ownSems0 (Ix := Unit) (Name := ℕ) (U := Pipeline.UD sig nD τ) (Lvl := ℕ) (Val := Elt F) (τ := τ) osem0 c : sProp 𝕄)
      = sems0 c (argsAt t) := by
  rw [Pipeline.ownSems0_eq_of_list c osem0 [0, 1, 2, 3, 4, 5, 6] (by decide) (by decide)]; rfl

/-- The codes, left in slow memory. -/
def H0 : Finset (Ref sig .tc) := {main_arg1}
theorem H0_sub : H0 ⊆ Pipeline.restRefs sig spec0 := by decide
theorem hbm0_eq (c : Dev nD) :
    (bigSep H0 (fun b => ((c : Thread nD τ).loc b) ↦{fullShare} Gen.V m c b) : sProp 𝕄)
      = owns (c : Thread nD τ) (Memref.whole main_arg1) fullShare (Gen.V m c main_arg1) := by
  rw [BI.bigSep_eq_bigSepL_of_eq [main_arg1] (by decide) (by decide), owns_whole]; rfl

/-! ## What the region finds -/

/-- The first grid point. -/
abbrev t0 : Fin cfg0.N := ⟨0, by decide⟩
/-- The token numbers. -/
def idsA (c : Dev nD) : Vec F S64x128 .i32 := Gen.iblk m c 0 t0
/-- The scales. -/
def scA (c : Dev nD) : Vec F S6x16000 .f32 := Gen.iblk m c 1 t0
/-- The weight. -/
def wtA (c : Dev nD) : Vec F S768 .bf16 := Gen.iblk m c 2 t0
/-- The codes. -/
def cdA (c : Dev nD) : Vec F S16000x768 .i8 := Gen.V m c main_arg1

/-- The result's block at point `t`. -/
def outAt (c : Dev nD) (t : Fin cfg0.N) : Vec F S1x128x768 .bf16 :=
  outAll (grid0.coords t) (k0_pay8 (idsA m c)) (tabF (cdA m c)) (stabF (scA m c)) (kscrF (idsA m c)) (expF (F := F)) (k0_pay16 (wtA m c))
/-- The embedding's block at point `t`. -/
def embAt (c : Dev nD) (t : Fin cfg0.N) : Vec F S1x128x768 .bf16 :=
  embAll (grid0.coords t) (k0_pay8 (idsA m c)) (tabF (cdA m c)) (stabF (scA m c)) (kscrF (idsA m c)) (expF (F := F))

/-- The scratch the steps read, as the set-up leaves it. -/
def keepF (c : Dev nD) : sProp 𝕄 :=
  iprop((∃ T, ⌜TInv (cdA m c) 125 0 T⌝ ∗ owns (c : Thread nD τ) (Memref.whole cc0_scratch0) fullShare T)
    ∗ owns (c : Thread nD τ) (Memref.whole cc0_scratch2) fullShare (stabF (scA m c)) ∗ owns (c : Thread nD τ) (Memref.whole cc0_scratch3) fullShare (kscrF (idsA m c))
    ∗ owns (c : Thread nD τ) (Memref.whole cc0_scratch5) fullShare (k0_pay8 (idsA m c)) ∗ owns (c : Thread nD τ) (Memref.whole cc0_scratch9) fullShare (expF (F := F))
    ∗ owns (c : Thread nD τ) (Memref.whole cc0_scratch10) fullShare (k0_pay16 (wtA m c)))

/-- The scratch the steps read, at some contents. -/
def keepE (c : Dev nD) : sProp 𝕄 :=
  iprop((∃ X, owns (c : Thread nD τ) (Memref.whole cc0_scratch0) fullShare X)
    ∗ (∃ X, owns (c : Thread nD τ) (Memref.whole cc0_scratch2) fullShare X) ∗ (∃ X, owns (c : Thread nD τ) (Memref.whole cc0_scratch3) fullShare X)
    ∗ (∃ X, owns (c : Thread nD τ) (Memref.whole cc0_scratch5) fullShare X) ∗ (∃ X, owns (c : Thread nD τ) (Memref.whole cc0_scratch9) fullShare X)
    ∗ (∃ X, owns (c : Thread nD τ) (Memref.whole cc0_scratch10) fullShare X))

/-- The rest: the other scratch at some contents, the generator register, the semaphores at zero, the codes. -/
def othr (c : Dev nD) : sProp 𝕄 :=
  iprop((∃ X, owns (c : Thread nD τ) (Memref.whole cc0_scratch1) fullShare X) ∗ (∃ X, owns (c : Thread nD τ) (Memref.whole cc0_scratch4) fullShare X)
    ∗ (∃ X, owns (c : Thread nD τ) (Memref.whole cc0_scratch6) fullShare X) ∗ (∃ X, owns (c : Thread nD τ) (Memref.whole cc0_scratch7) fullShare X)
    ∗ (∃ X, owns (c : Thread nD τ) (Memref.whole cc0_scratch8) fullShare X)
    ∗ (∃ r, prngReg c r) ∗ sems0 c (argsAt t0) ∗ owns (c : Thread nD τ) (Memref.whole main_arg1) fullShare (cdA m c))

theorem keepF_E (c : Dev nD) : keepF m c ⊢ (keepE c : sProp 𝕄) := by
  unfold keepF keepE
  iintro ⟨⟨%T, -, H7⟩, H9, H10, H12, H16, H17⟩
  isplitl [H7]; · iexists _; iexact H7
  isplitl [H9]; · iexists _; iexact H9
  isplitl [H10]; · iexists _; iexact H10
  isplitl [H12]; · iexists _; iexact H12
  isplitl [H16]; · iexists _; iexact H16
  iexists _; iexact H17

theorem PhiD0_eq (c : Dev nD) :
    (Pipeline.ΦD osem0 spec0 H0 (Gen.V m) c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch6) fullShare d)
          ∗ (∃ d, owns (c : Thread nD τ) (Memref.whole cc0_scratch7) fullShare d) ∗ (∃ d, owns (c : Thread nD τ) (Memref.whole cc0_scratch8) fullShare d)
          ∗ (∃ d, owns (c : Thread nD τ) (Memref.whole cc0_scratch9) fullShare d) ∗ (∃ d, owns (c : Thread nD τ) (Memref.whole cc0_scratch10) fullShare d)
          ∗ (∃ d, owns (c : Thread nD τ) (Memref.whole cc0_scratch5) fullShare d)) ∗ (∃ r, prngReg c r)
          ∗ sems0 c (argsAt t0) ∗ owns (c : Thread nD τ) (Memref.whole main_arg1) fullShare (cdA m c)) := by
  rw [Pipeline.ΦD_eq, Gen.scopedRest0_eq, ownSems00_eq c t0, hbm0_eq]; simp only [owns_whole]; try rfl

theorem PhiD_in (c : Dev nD) : Pipeline.ΦD osem0 spec0 H0 (Gen.V m) c ⊢ (iprop(keepE c ∗ othr m c) : sProp 𝕄) := by
  rw [PhiD0_eq]; unfold keepE othr
  iintro ⟨⟨H0, H1, H2, H3, H4, H6, H7, H8, H9, H10, H5⟩, HP, HS, HC⟩
  isplitl [H0 H2 H3 H5 H9 H10]
  · isplitl [H0]; · iexact H0
    isplitl [H2]; · iexact H2
    isplitl [H3]; · iexact H3
    isplitl [H5]; · iexact H5
    isplitl [H9]; · iexact H9
    iexact H10
  isplitl [H1]; · iexact H1
  isplitl [H4]; · iexact H4
  isplitl [H6]; · iexact H6
  isplitl [H7]; · iexact H7
  isplitl [H8]; · iexact H8
  isplitl [HP]; · iexact HP
  isplitl [HS]; · iexact HS
  iexact HC

theorem PhiD_out (c : Dev nD) : (iprop(keepE c ∗ othr m c) : sProp 𝕄) ⊢ Pipeline.ΦD osem0 spec0 H0 (Gen.V m) c := by
  rw [PhiD0_eq]; unfold keepE othr
  iintro ⟨⟨H0, H2, H3, H5, H9, H10⟩, H1, H4, H6, H7, H8, HP, HS, HC⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    iexact H5
  isplitl [HP]; · iexact HP
  isplitl [HS]; · iexact HS
  iexact HC

/-! ## The proof data -/

/-- Between the points: before the first, scratch at anything; after it, what the set-up left. -/
def PhiAt (c : Dev nD) (t : Fin (cfg0.N + 1)) : sProp 𝕄 :=
  if t.val = 0 then iprop(keepE c ∗ othr m c) else iprop(keepF m c ∗ othr m c)

/-- The proof data on core `c`. -/
def dats (_ : Fin 1) (c : Dev nD) : Dat τ (Elt F) Unit ℕ (Pipeline.UD sig nD τ) ℕ cfg0 c where
  A w := Gen.V m c (Pipeline.arrRef spec0 w)
  after := fun | 0 => Gen.iblk m c 0 | 1 => Gen.iblk m c 1 | 2 => Gen.iblk m c 2 | 3 => outAt m c | 4 => embAt m c | ⟨_ + 5, h⟩ => absurd h (Nat.not_lt.2 (Nat.le_add_left _ _))
  Φ t := PhiAt m c t
  q _ := fullShare
  owed _ := 0

theorem A_eq (c : Dev nD) (w : Fin cfg0.W) : (dats m 0 c).A w = Gen.V m c (Pipeline.arrRef spec0 w) := by dsimp only [dats]

theorem Phi_eq (c : Dev nD) (t : Fin (cfg0.N + 1)) : (dats m 0 c).Φ t = PhiAt m c t := by dsimp only [dats]

theorem before0 (c : Dev nD) (t : Fin cfg0.N) (d) : (dats m 0 c).before 0 t d = Gen.iblk m c 0 t :=
  ((dats m 0 c).before_in_eq_fetched 0 rfl (fun _ => rfl) (fun _ _ _ => rfl) (fun t => by show Gen.iblk m c 0 t = _; unfold Dat.blockOf Gen.iblk; rw [A_eq]; try rfl) t d).trans
    (by unfold Dat.fetched Dat.blockOf Gen.iblk; rw [A_eq]; try rfl)
theorem before1 (c : Dev nD) (t : Fin cfg0.N) (d) : (dats m 0 c).before 1 t d = Gen.iblk m c 1 t :=
  ((dats m 0 c).before_in_eq_fetched 1 rfl (fun _ => rfl) (fun _ _ _ => rfl) (fun t => by show Gen.iblk m c 1 t = _; unfold Dat.blockOf Gen.iblk; rw [A_eq]; try rfl) t d).trans
    (by unfold Dat.fetched Dat.blockOf Gen.iblk; rw [A_eq]; try rfl)
theorem before2 (c : Dev nD) (t : Fin cfg0.N) (d) : (dats m 0 c).before 2 t d = Gen.iblk m c 2 t :=
  ((dats m 0 c).before_in_eq_fetched 2 rfl (fun _ => rfl) (fun _ _ _ => rfl) (fun t => by show Gen.iblk m c 2 t = _; unfold Dat.blockOf Gen.iblk; rw [A_eq]; try rfl) t d).trans
    (by unfold Dat.fetched Dat.blockOf Gen.iblk; rw [A_eq]; try rfl)

theorem cond1_iff : ∀ t : Fin grid0.N, k0_cond1 (grid0.coords t) = 1#1 ↔ t.val = 0 := by decide +kernel

/-! ## The body at a point -/

/-- The steps of a point, from what the set-up left. -/
theorem wp_steps (c : Dev nD) (t : Fin cfg0.N) (Q : PUnit → sProp 𝕄) :
    iprop(keepF m c ∗ othr m c ∗ (∃ X, owns (c : Thread nD τ) (argsAt t).arg5 fullShare X) ∗ (∃ X, owns (c : Thread nD τ) (argsAt t).arg6 fullShare X)
      ∗ (keepF m c -∗ othr m c -∗ owns (c : Thread nD τ) (argsAt t).arg5 fullShare (outAt m c t) -∗ owns (c : Thread nD τ) (argsAt t).arg6 fullShare (embAt m c t) -∗ Q ⟨⟩))
    ⊢ wp frame (wpE (defs₀ (F := F)) Variants.none (c : Thread nD τ) none) Set.univ (rest (grid0.coords t) (argsAt t)) Q := by
  unfold keepF othr
  iintro ⟨⟨⟨%T, %hT, H7⟩, H9, H10, H12, H16, H17⟩, ⟨H8, H11, H13, H14, H15, HP, HS, HC⟩, H5, H6, HQ⟩
  iapply (wp_rest Variants.none c none Set.univ (grid0.coords t) (argsAt t) (k0_pay8 (idsA m c)) T (tabF (cdA m c)) (stabF (scA m c)) (kscrF (idsA m c)) (expF (F := F)) (k0_pay16 (wtA m c))
    (grp_ok _) (tab_ok _ _ _ hT) Q)
  isplitl [H12]; · iexact H12
  isplitl [H7]; · iexact H7
  isplitl [H9]; · iexact H9
  isplitl [H10]; · iexact H10
  isplitl [H16]; · iexact H16
  isplitl [H17]; · iexact H17
  isplitl [H13]; · iexact H13
  isplitl [H14]; · iexact H14
  isplitl [H15]; · iexact H15
  isplitl [H5]; · iexact H5
  isplitl [H6]; · iexact H6
  iintro H12 H7 H9 H10 H16 H17 H13 H14 H15 H5 H6
  iapply HQ $$ [H7 H9 H10 H12 H16 H17] [H8 H11 H13 H14 H15 HP HS HC] [H5] [H6]
  · isplitl [H7]
    · iexists T; isplitr; · ipureintro; exact hT
      iexact H7
    isplitl [H9]; · iexact H9
    isplitl [H10]; · iexact H10
    isplitl [H12]; · iexact H12
    isplitl [H16]; · iexact H16
    iexact H17
  · isplitl [H8]; · iexact H8
    isplitl [H11]; · iexact H11
    isplitl [H13]; · iexact H13
    isplitl [H14]; · iexact H14
    isplitl [H15]; · iexact H15
    isplitl [HP]; · iexact HP
    isplitl [HS]; · iexact HS
    iexact HC
  · iexact H5
  · iexact H6

/-- The set-up of the first point. -/
theorem wp_setup (c : Dev nD) (h : k0_cond1 (grid0.coords t0) = 1#1) (W : Waits sig Unit) (Q : PUnit → sProp 𝕄) :
    iprop(keepE c ∗ othr m c ∗ owes (c : Thread nD τ) 0 W ∗ owns (c : Thread nD τ) (argsAt t0).arg1 fullShare (idsA m c)
      ∗ owns (c : Thread nD τ) (argsAt t0).arg3 fullShare (scA m c) ∗ owns (c : Thread nD τ) (argsAt t0).arg4 fullShare (wtA m c)
      ∗ (keepF m c -∗ othr m c -∗ (∃ W, owes (c : Thread nD τ) 0 W) -∗ owns (c : Thread nD τ) (argsAt t0).arg1 fullShare (idsA m c)
      -∗ owns (c : Thread nD τ) (argsAt t0).arg3 fullShare (scA m c) -∗ owns (c : Thread nD τ) (argsAt t0).arg4 fullShare (wtA m c) -∗ Q ⟨⟩))
    ⊢ wp frame (wpE (defs₀ (F := F)) Variants.none (c : Thread nD τ) none) Set.univ (step0 (grid0.coords t0) (argsAt t0) h) Q := by
  unfold keepE othr
  iintro ⟨⟨H7, H9, H10, H12, H16, H17⟩, ⟨H8, H11, H13, H14, H15, HP, HS, HC⟩, HO, H1, H3, H4, HQ⟩
  iapply (wp_step0 Variants.none c none (grid0.coords t0) (argsAt t0) h fullShare (idsA m c) (cdA m c) (scA m c) (wtA m c) Q)
  unfold pre0 post0
  isplitl [H1 H3 H4 H7 H8 H9 H10 H11 H12 H16 H17 HS HC HO]
  · isplitl [H1]; · iexact H1
    isplitl [HC]; · iexact HC
    isplitl [H3]; · iexact H3
    isplitl [H4]; · iexact H4
    isplitl [H7]; · iexact H7
    isplitl [H8]; · iexact H8
    isplitl [H9]; · iexact H9
    isplitl [H10]; · iexact H10
    isplitl [H11]; · iexact H11
    isplitl [H12]; · iexact H12
    isplitl [H16]; · iexact H16
    isplitl [H17]; · iexact H17
    isplitl [HS]; · iexact HS
    iexists W; iexact HO
  iintro ⟨H1, HC, H3, H4, H7, H8, H9, H10, H11, H12, H16, H17, HS, HO⟩
  iapply HQ $$ [H7 H9 H10 H12 H16 H17] [H8 H11 H13 H14 H15 HP HS HC] [HO] [H1] [H3] [H4]
  · unfold keepF
    isplitl [H7]; · iexact H7
    isplitl [H9]; · iexact H9
    isplitl [H10]; · iexact H10
    isplitl [H12]; · iexact H12
    isplitl [H16]; · iexact H16
    iexact H17
  · isplitl [H8]; · iexact H8
    isplitl [H11]; · iexact H11
    isplitl [H13]; · iexact H13
    isplitl [H14]; · iexact H14
    isplitl [H15]; · iexact H15
    isplitl [HP]; · iexact HP
    isplitl [HS]; · iexact HS
    iexact HC
  · iexact HO
  · iexact H1
  · iexact H3
  · iexact H4

/-- What the body is called with at point `t`. -/
def bodyPre (c : Dev nD) (t : Fin cfg0.N) : sProp 𝕄 :=
  iprop(PhiAt m c t.castSucc ∗ (dats m 0 c).owesAt () t.castSucc
    ∗ owns (c : Thread nD τ) (argsAt t).arg1 fullShare (Gen.iblk m c 0 t) ∗ owns (c : Thread nD τ) (argsAt t).arg3 fullShare (Gen.iblk m c 1 t)
    ∗ owns (c : Thread nD τ) (argsAt t).arg4 fullShare (Gen.iblk m c 2 t) ∗ (∃ d, owns (c : Thread nD τ) (argsAt t).arg5 fullShare d)
    ∗ (∃ d, owns (c : Thread nD τ) (argsAt t).arg6 fullShare d))
/-- What it returns. -/
def bodyPost (c : Dev nD) (t : Fin cfg0.N) : sProp 𝕄 :=
  iprop(PhiAt m c t.succ ∗ (dats m 0 c).owesAt () t.succ
    ∗ owns (c : Thread nD τ) (argsAt t).arg1 fullShare (Gen.iblk m c 0 t) ∗ owns (c : Thread nD τ) (argsAt t).arg3 fullShare (Gen.iblk m c 1 t)
    ∗ owns (c : Thread nD τ) (argsAt t).arg4 fullShare (Gen.iblk m c 2 t) ∗ owns (c : Thread nD τ) (argsAt t).arg5 fullShare (outAt m c t)
    ∗ owns (c : Thread nD τ) (argsAt t).arg6 fullShare (embAt m c t))

theorem sound_body (c : Dev nD) (t : Fin cfg0.N) :
    bodyPre m c t ⊢ wp frame (wpE (defs₀ (F := F)) Variants.none (c : Thread nD τ) none) Set.univ (Gen.bodyAt0 t) (fun _ => bodyPost m c t) := by
  rw [bodyAt_eq]
  unfold bodyPre bodyPost Dat.owesAt Pipeline.owesWithin body PhiAt
  rw [show (dats m 0 c).owed t.castSucc = 0 from rfl, show (dats m 0 c).owed t.succ = 0 from rfl, if_neg (show t.succ.val ≠ 0 from Nat.succ_ne_zero _)]
  by_cases ht : t.val = 0
  · obtain rfl : t = t0 := Fin.ext ht
    have h : k0_cond1 (grid0.coords t0) = 1#1 := (cond1_iff t0).mpr rfl
    rw [dif_pos h, if_pos (show t0.castSucc.val = 0 from rfl)]
    simp only [wp_bind]
    iintro ⟨⟨HK, HR⟩, ⟨%W, -, HO⟩, H1, H3, H4, H5, H6⟩
    iapply (wp_setup m c h W _)
    isplitl [HK]; · iexact HK
    isplitl [HR]; · iexact HR
    isplitl [HO]; · iexact HO
    isplitl [H1]; · iexact H1
    isplitl [H3]; · iexact H3
    isplitl [H4]; · iexact H4
    iintro HK HR ⟨%W', HO⟩ H1 H3 H4
    iapply (wp_steps m c t0 _)
    isplitl [HK]; · iexact HK
    isplitl [HR]; · iexact HR
    isplitl [H5]; · iexact H5
    isplitl [H6]; · iexact H6
    iintro HK HR H5 H6
    isplitl [HK HR]
    · isplitl [HK]; · iexact HK
      iexact HR
    isplitl [HO]
    · iexists W'; isplitr; · ipureintro; exact fun _ _ => Or.inl trivial
      iexact HO
    isplitl [H1]; · iexact H1
    isplitl [H3]; · iexact H3
    isplitl [H4]; · iexact H4
    isplitl [H5]; · iexact H5
    iexact H6
  · have h : ¬ k0_cond1 (grid0.coords t) = 1#1 := fun h => ht ((cond1_iff t).mp h)
    rw [dif_neg h, if_neg (show ¬ t.castSucc.val = 0 from ht)]
    iintro ⟨⟨HK, HR⟩, ⟨%W, -, HO⟩, H1, H3, H4, H5, H6⟩
    iapply (wp_steps m c t _)
    isplitl [HK]; · iexact HK
    isplitl [HR]; · iexact HR
    isplitl [H5]; · iexact H5
    isplitl [H6]; · iexact H6
    iintro HK HR H5 H6
    isplitl [HK HR]
    · isplitl [HK]; · iexact HK
      iexact HR
    isplitl [HO]
    · iexists W; isplitr; · ipureintro; exact fun _ _ => Or.inl trivial
      iexact HO
    isplitl [H1]; · iexact H1
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = Gen.bodyAt0 t := by
  unfold defs₀; rw [Defs.onTc_tc]

theorem pre_in (c : Dev nD) (t : Fin cfg0.N) :
    (iprop((dats m 0 c).Φ t.castSucc ∗ (dats m 0 c).owesAt () t.castSucc
      ∗ (∃ d, owns (c : Thread nD τ) ((cfg0.win 0).stage (cfg0.slots t 0)) fullShare ((dats m 0 c).before 0 t d))
      ∗ (∃ d, owns (c : Thread nD τ) ((cfg0.win 1).stage (cfg0.slots t 1)) fullShare ((dats m 0 c).before 1 t d))
      ∗ (∃ d, owns (c : Thread nD τ) ((cfg0.win 2).stage (cfg0.slots t 2)) fullShare ((dats m 0 c).before 2 t d))
      ∗ (∃ d, owns (c : Thread nD τ) ((cfg0.win 3).stage (cfg0.slots t 3)) fullShare ((dats m 0 c).before 3 t d))
      ∗ (∃ d, owns (c : Thread nD τ) ((cfg0.win 4).stage (cfg0.slots t 4)) fullShare ((dats m 0 c).before 4 t d))) : sProp 𝕄)
      ⊢ bodyPre m c t := by
  unfold bodyPre
  rw [Phi_eq]
  simp only [before0, before1, before2]
  iintro ⟨HF, HO, ⟨%d0, H1⟩, ⟨%d1, H3⟩, ⟨%d2, H4⟩, ⟨%d3, H5⟩, ⟨%d4, H6⟩⟩
  isplitl [HF]; · iexact HF
  isplitl [HO]; · iexact HO
  isplitl [H1]; · iexact H1
  isplitl [H3]; · iexact H3
  isplitl [H4]; · iexact H4
  isplitl [H5]; · iexists _; iexact H5
  iexists _; iexact H6

theorem body_obligation (c : Dev nD) :
    BodyObligation (dats (F := F) m 0 c) (defs₀ (F := F)) Variants.none () Set.univ := fun t => by
  rw [Gen.bigSep_W0, Gen.bigSep_W0, defs₀_row]
  exact triple_restated (sound_body m c t) rfl (pre_in m c t) fun _ => .rfl

/-! ## The run -/

theorem hmainD (𝒱₀ : Variants) :
    Pipeline.HMain (Ix := Unit) (Name := ℕ) (U := Pipeline.UD sig nD τ) (Lvl := ℕ) cfgs 0 defs₀ 𝒱₀ m (main (F := F)) (Gen.V m) :=
  Pipeline.hmain_prefix cfgs 0 defs₀ 𝒱₀ m main Gen.hostOps0 Gen.hostOps0_sub Gen.hostOps0_fresh Gen.main_chain

variable [∀ e, Nonempty (Elt F e)]

set_option backward.isDefEq.respectTransparency.types false in
/-- The run: the arrays end as the proof data say, every other buffer as the region found it, every semaphore at zero. -/
theorem run_main :
    θ_run defs (onTc (τ := τ) (main (F := F))) (s₀ m ρ)
      (fun r => Pipeline.FramePost cfgs (dats m) 0 (Gen.V m) r ∧ r.2.sem = fun _ => 0) :=
  Pipeline.θ_run_frame_dma (Q' := _) cfgs (dats m) (0 : Fin 1) Gen.launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmainD m Variants.none) (hA := A_eq m)
    (hin := fun c => PhiD_in m c) (hout := fun c => (show (dats m 0 c).Φ (Fin.last _) ⊢ _ from by
      rw [Phi_eq]
      unfold PhiAt
      rw [if_neg (by decide)]
      exact (sep_mono (keepF_E m c) .rfl).trans (PhiD_out m c)))

theorem run_args (c : Dev nD) {r : PUnit × MemSt nD τ sig (Elt F)} (h : Pipeline.FramePost cfgs (dats m) 0 (Gen.V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (Gen.V_main_arg0 m c),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c),
      ((h c).1 2).trans (((dats m 0 c).arrAt_in 2 rfl _).trans ((A_eq m c 2).trans (Gen.V_main_arg3 m c)))⟩

/-- The frame: the run ends, the arguments as launched, every semaphore at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => run_args m c h.1, h.2⟩) (run_main m ρ)

end Cert.KernelIdeal

end
-- ==== Proof.Bytes.lean ====
module

public import proofs.«01_k».proof.Proof.Word
public import Idealize.ShloMosaic.Lib.BitcastFour

/-! A byte of a word, as the two shifts read it. -/

@[expose] public section

namespace Cert.Wp

open Idealize.ShloMosaic

/-- The shift left by `n`, then the arithmetic shift right by 24, read the byte that ends `n` bits below the top. -/
theorem byte_shift (w : BitVec 32) (b : BitVec 8) (n p : ℕ) (hn : n + p = 24) (h : ∀ i, i < 8 → w.getLsbD (p + i) = b.getLsbD i) :
    (w <<< n).sshiftRight 24 = b.signExtend 32 := by
  apply BitVec.eq_of_getLsbD_eq
  intro i hi
  rw [BitVec.getLsbD_sshiftRight, BitVec.getLsbD_signExtend, BitVec.msb_eq_getLsbD_last, BitVec.msb_eq_getLsbD_last]
  have h1 : ¬ 32 ≤ i := by omega
  simp only [h1, decide_false, Bool.not_false, Bool.true_and, hi, decide_true]
  by_cases h8 : i < 8
  · rw [if_pos (by omega), if_pos h8, ← h i h8, BitVec.getLsbD_shiftLeft]
    have e : 24 + i - n = p + i := by omega
    simp only [e, show 24 + i < 32 by omega, show ¬ 24 + i < n by omega, decide_true, decide_false, Bool.not_false, Bool.true_and, Bool.and_self]
  · rw [if_neg (by omega), if_neg h8, BitVec.getLsbD_shiftLeft]
    show (decide (31 < 32) && !decide (31 < n) && w.getLsbD (31 - n)) = b.getLsbD 7
    have e : 31 - n = p + 7 := by omega
    rw [← h 7 (by omega), e]
    simp only [show 31 < 32 by omega, show ¬ 31 < n by omega, decide_true, decide_false, Bool.not_false, Bool.true_and, Bool.and_self]

/-- Byte `k` of a word, as the kernel reads it. -/
theorem byte_of (w : BitVec 32) (b : BitVec 8) (c : BitVec 32) (hc : c.toNat < 4) (h : ∀ i, i < 8 → w.getLsbD (8 * c.toNat + i) = b.getLsbD i) :
    (IntOp.shrsi .vector (IntOp.shli .vector w (IntOp.subi 24#32 (IntOp.muli 8#32 c))) 24#32).toInt = b.toInt := by
  have key : IntOp.shrsi .vector (IntOp.shli .vector w (IntOp.subi 24#32 (IntOp.muli 8#32 c))) 24#32 = b.signExtend 32 := by
    have hc' : c = 0#32 ∨ c = 1#32 ∨ c = 2#32 ∨ c = 3#32 := by
      rcases (by omega : c.toNat = 0 ∨ c.toNat = 1 ∨ c.toNat = 2 ∨ c.toNat = 3) with e | e | e | e
      · exact Or.inl (BitVec.eq_of_toNat_eq e)
      · exact Or.inr (Or.inl (BitVec.eq_of_toNat_eq e))
      · exact Or.inr (Or.inr (Or.inl (BitVec.eq_of_toNat_eq e)))
      · exact Or.inr (Or.inr (Or.inr (BitVec.eq_of_toNat_eq e)))
    rcases hc' with rfl | rfl | rfl | rfl
    · exact byte_shift w b 24 0 rfl h
    · exact byte_shift w b 16 8 rfl h
    · exact byte_shift w b 8 16 rfl h
    · exact byte_shift w b 0 24 rfl h
  rw [key, BitVec.toInt_signExtend_of_le (by omega)]

theorem and3_toNat (x : BitVec 32) : (x &&& 3#32).toNat = x.toNat % 4 := by
  rw [BitVec.toNat_and]
  exact Nat.and_two_pow_sub_one_eq_mod _ 2

end Cert.Wp
-- ==== Proof.Val.lean ====
module

public import proofs.«01_k».proof.Proof.Word
public import Idealize.ShloMosaic.Lib.MatmulPlain

/-! The two results in closed form, over the reals extended by the infinities: one element of the embedding is a code times
the scale of its column's group; one element of the result is that times the reciprocal root mean square of its row, times
the weight. -/

@[expose] public section

noncomputable section

namespace Cert.Val

open Idealize.ShloMosaic Idealize.ShloMosaic.ValueIdx Cert.Wp
open scoped BigOperators

/-- The table row a token number names. -/
def rowId (x : BitVec 32) : Fin 16000 := ⟨(clipW x).toNat, by have := clipW_le x; omega⟩

/-- The group number of a column. -/
def grp (d : Fin 768) : Fin 6 := ⟨d.val / 128, by have := d.isLt; omega⟩

/-- One element of a table row. -/
def emb (C : (⟨2, ![16000, 768]⟩ : Shape).Idx → BitVec 8) (S : (⟨2, ![16000, 6]⟩ : Shape).Idx → EReal) (r : Fin 16000) (d : Fin 768) : EReal :=
  (((C (ix2 r d)).toInt : ℝ) : EReal) * S (ix2 r (grp d))

/-- The reciprocal root mean square of a row. -/
def rms (e : Fin 768 → EReal) : EReal :=
  Ideal.rsqrt ((∑ k : Fin 768, e k * e k) * ((1 / 768 : ℝ) : EReal) + Ideal.ofBits .f32 0x358637BD#32)

/-- One element of a normalized row. -/
def nrm (C : (⟨2, ![16000, 768]⟩ : Shape).Idx → BitVec 8) (S : (⟨2, ![16000, 6]⟩ : Shape).Idx → EReal) (W : (⟨1, ![768]⟩ : Shape).Idx → EReal)
    (r : Fin 16000) (d : Fin 768) : EReal :=
  emb C S r d * rms (emb C S r) * W (ix1 d)

/-- The embedding. -/
def embG (T : (⟨2, ![2, 4096]⟩ : Shape).Idx → BitVec 32) (C : (⟨2, ![16000, 768]⟩ : Shape).Idx → BitVec 8)
    (S : (⟨2, ![16000, 6]⟩ : Shape).Idx → EReal) : (⟨3, ![2, 4096, 768]⟩ : Shape).Idx → EReal :=
  fun y => emb C S (rowId (T (ix2 (y 0) (y 1)))) (y 2)

/-- The result. -/
def nrmG (T : (⟨2, ![2, 4096]⟩ : Shape).Idx → BitVec 32) (C : (⟨2, ![16000, 768]⟩ : Shape).Idx → BitVec 8)
    (S : (⟨2, ![16000, 6]⟩ : Shape).Idx → EReal) (W : (⟨1, ![768]⟩ : Shape).Idx → EReal) : (⟨3, ![2, 4096, 768]⟩ : Shape).Idx → EReal :=
  fun y => nrm C S W (rowId (T (ix2 (y 0) (y 1)))) (y 2)

/-- A sum over the columns, lane by lane and group by group. -/
theorem sum_cols (f : Fin 768 → EReal) :
    ∑ d : Fin 768, f d = ∑ l : Fin 128, ∑ j : Fin 6, f ⟨128 * j.val + l.val, by have := j.isLt; have := l.isLt; omega⟩ := by
  rw [Finset.sum_comm, ← Fintype.sum_prod_type', ← Equiv.sum_comp (finProdFinEquiv (m := 6) (n := 128)) f]
  refine Finset.sum_congr rfl fun p _ => congrArg f (Fin.ext ?_)
  show p.2.val + 128 * p.1.val = 128 * p.1.val + p.2.val
  omega

/-- The dimension numbers of a gather of whole rows. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

theorem one_ne_zero2 : (1 : Fin 2) ≠ 0 := by decide

/-- A gather of whole rows reads the row its start index names, brought into range. -/
theorem gather_rows_apply {α : Type} {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (k : Fin C)
    (v : BitVec w) (hv : idx (ix2 b (0 : Fin 1)) = v) (r : Fin N) (hr : r.val = min v.toInt.toNat (N - 1)) :
    Host.gather (rowDims N C B wf) x idx (ix2 b k) = x (ix2 r k) := by
  unfold Host.gather
  congr 1
  funext a
  refine Fin.ext ?_
  show (rowDims N C B wf).start (ix2 b k) idx a + (rowDims N C B wf).batchCoord (ix2 b k) a
      + (rowDims N C B wf).offCoord (ix2 b k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 b k) ⟨List.idxOf (0 : Fin 2) (rowDims N C B wf).startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi, hv]
    exact hr.symm
  · have h1 : (1 : Fin 2) ∉ (rowDims N C B wf).startIndexMap := fun h => absurd (List.mem_singleton.mp h) one_ne_zero2
    unfold GatherDims.start
    rw [dif_neg h1]
    unfold GatherDims.offCoord
    rw [dif_pos ((GatherDims.mem_sKept _ _).mpr ⟨fun h => absurd (List.mem_singleton.mp h) one_ne_zero2, List.not_mem_nil⟩)]
    simp only [Nat.zero_add]
    rfl

/-- The range a gather clamps to is the range the token number is brought into. -/
theorem rowId_eq (x : BitVec 32) : (rowId x).val = min x.toInt.toNat (16000 - 1) := by
  have := clipW_toNat x
  show (clipW x).toNat = min x.toInt.toNat (16000 - 1)
  omega

end Cert.Val

end
-- ==== Proof.TabI.lean ====
module

public import proofs.«01_k».proof.Proof.LaunchI
public import proofs.«01_k».proof.Proof.Bytes
public import proofs.«01_k».proof.Proof.Val
public import Idealize.ShloMosaic.Lib.MatmulPlain
public import Idealize.ShloMosaic.Lib.Pipeline.Value

/-! What the set-up leaves in scratch, read at one element. -/

@[expose] public section

set_option maxRecDepth 100000

noncomputable section

namespace Cert.KernelIdeal

open Idealize.ShloMosaic hiding ix1 ix2 ix3
open Idealize.ShloMosaic.ValueIdx
open Facts₀ Facts Cert.Wp
open scoped BigOperators

/-! ## Reading at numbers -/

theorem rd2_congr {α : Type} {n m : ℕ} [NeZero n] [NeZero m] (X : (⟨2, ![n, m]⟩ : Shape).Idx → α) {r r' q q' : ℕ} (h0 : r = r') (h1 : q = q') :
    rd2 X r q = rd2 X r' q' := by rw [h0, h1]

theorem rd2_ix2 {α : Type} {n m : ℕ} [NeZero n] [NeZero m] (X : (⟨2, ![n, m]⟩ : Shape).Idx → α) (a : Fin n) (b : Fin m) :
    rd2 X a.val b.val = X (ix2 a b) := (rd2_eq X (ix2 a b) rfl rfl).symm

theorem rd2_ix {α : Type} {n m : ℕ} [NeZero n] [NeZero m] (X : (⟨2, ![n, m]⟩ : Shape).Idx → α) {r q : ℕ} (a : Fin n) (b : Fin m) (h0 : r = a.val) (h1 : q = b.val) :
    rd2 X r q = X (ix2 a b) := by rw [h0, h1, rd2_ix2]

/-- A function of an index, read at numbers within the extents. -/
theorem rd2_fun {α : Type} {n m : ℕ} [NeZero n] [NeZero m] (f : ℕ → ℕ → α) {r q : ℕ} (h0 : r < n) (h1 : q < m) :
    rd2 (fun y : (⟨2, ![n, m]⟩ : Shape).Idx => f (y 0).val (y 1).val) r q = f r q := by
  show f (r % n) (q % m) = f r q
  rw [Nat.mod_eq_of_lt h0, Nat.mod_eq_of_lt h1]

/-! ## The byte numbers -/

theorem pay9_apply (v : Vec Ideal S1x128 .i32) (a b : Fin 128) : Gen.k0_pay9 v (ix2 a b) = clipW (v (ix2 (0 : Fin 1) a)) &&& 3#32 := by
  unfold Gen.k0_pay9
  simp only [shapeCast_self]
  refine (transpose_apply _ _ _ _ (ix2 b a) (fun c => by match c with | ⟨0, _⟩ => rfl | ⟨1, _⟩ => rfl)).trans ?_
  refine (broadcastTo_apply _ _ _ (ix2 (0 : Fin 1) a) (fun c => by match c with | ⟨0, _⟩ => rfl | ⟨1, _⟩ => rfl)).trans ?_
  rfl

theorem kscr_at (ids : Vec Ideal S64x128 .i32) (a t q : ℕ) (ha : a < 64) (ht : t < 128) :
    (rd2 (kscrF ids) (128 * a + t) q : BitVec 32) = clipW (rd2 ids a t) &&& 3#32 := by
  show Gen.k0_pay9 (idRow ids ((128 * a + t) % 8192 / 128)) (ix2 (n0 := 128) (n1 := 128) (Fin.ofNat 128 ((128 * a + t) % 8192)) (Fin.ofNat 128 (q % 128))) = _
  rw [pay9_apply]
  show clipW (rd2 ids ((128 * a + t) % 8192 / 128) ((128 * a + t) % 8192 % 128)) &&& 3#32 = _
  rw [rd2_congr ids (show (128 * a + t) % 8192 / 128 = a by omega) (show (128 * a + t) % 8192 % 128 = t by omega)]

/-! ## The words -/

theorem tab_at (C : Vec Ideal S16000x768 .i8) (w j l k : ℕ) (hw : w < 4000) (hj : j < 6) (hl : l < 128) (hk : k < 4) (i : ℕ) (hi : i < 8) :
    (rd2 (tabF C) (8 * w + j) l : BitVec 32).getLsbD (8 * k + i) = (rd2 C (4 * w + k) (128 * j + l) : BitVec 8).getLsbD i := by
  show (bitcast S32x128 32 (cdBlk C ((8 * w + j) % 32000 / 256) ((8 * w + j) % 32000 % 8)) bitcasts_S128x128_w8_S32x128_w32
    (ix2 (n0 := 32) (n1 := 128) (Fin.ofNat 32 ((8 * w + j) % 32000 / 8)) (Fin.ofNat 128 (l % 128)))).getLsbD (8 * k + i) = _
  refine (bitcast_8_32_getLsbD_ix2 _ _ _ _ _ (by omega) (⟨4 * (w % 32) + k, by omega⟩ : Fin 128) ?_).trans ?_
  · show 4 * (w % 32) + k = 4 * ((8 * w + j) % 32000 / 8 % 32) + (8 * k + i) / 8
    omega
  · show (rd2 C (128 * ((8 * w + j) % 32000 / 256) + (4 * (w % 32) + k)) (128 * ((8 * w + j) % 32000 % 8) + l % 128 % 128) : BitVec 8).getLsbD ((8 * k + i) % 8) = _
    rw [rd2_congr C (show 128 * ((8 * w + j) % 32000 / 256) + (4 * (w % 32) + k) = 4 * w + k by omega) (show 128 * ((8 * w + j) % 32000 % 8) + l % 128 % 128 = 128 * j + l by omega),
      show (8 * k + i) % 8 = i by omega]

/-! ## The floored quotients, word by word -/

/-- The quotient by `n` rounded down, as the kernel computes it. -/
def floorW (n d : BitVec 32) : BitVec 32 :=
  Scalar.select (IntOp.andi
      (IntOp.cmpi .ne (IntOp.subi ((IntOp.cmpi .sgt d 0#32).setWidth 32) ((IntOp.cmpi .slt d 0#32).setWidth 32))
        (Scalar.subi (Scalar.extui (Scalar.cmpi .sgt n 0#32)) (Scalar.extui (Scalar.cmpi .slt n 0#32))))
      (IntOp.cmpi .ne (IntOp.remsi .vector d n) 0#32))
    (IntOp.subi (IntOp.divsi .vector d n) 1#32) (IntOp.divsi .vector d n)

theorem floorW_8 : ∀ d : Fin 128, floorW 8#32 (BitVec.ofNat 32 d.val) = BitVec.ofNat 32 (d.val / 8) := by decide +kernel
theorem floorW_4 : ∀ d : Fin 128, floorW 4#32 (BitVec.ofNat 32 d.val) = BitVec.ofNat 32 (d.val / 4) := by decide +kernel
theorem floorW_128 : ∀ d : Fin 768, floorW 128#32 (BitVec.ofNat 32 d.val) = BitVec.ofNat 32 (d.val / 128) := by decide +kernel

/-- The remainder by 4 with the divisor's sign, as the kernel computes it. -/
def remW (d : BitVec 32) : BitVec 32 :=
  Scalar.select (IntOp.andi (IntOp.xori (IntOp.cmpi .slt (IntOp.remsi .vector d (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector d (Scalar.select (Scalar.cmpi .eq 4#32 0#32) 1#32 4#32)) 0#32))
    (IntOp.addi (IntOp.remsi .vector d (Scalar.select (Scalar.cmpi .eq 4#32 0#32) 1#32 4#32)) (Scalar.select (Scalar.cmpi .eq 4#32 0#32) 1#32 4#32))
    (IntOp.remsi .vector d (Scalar.select (Scalar.cmpi .eq 4#32 0#32) 1#32 4#32))

theorem remW_4 : ∀ d : Fin 128, remW (BitVec.ofNat 32 d.val) = BitVec.ofNat 32 (d.val % 4) := by decide +kernel

/-- The slot number of a lane. -/
theorem slot_at (t q : Fin 128) : slotOf (ix2 t q) = BitVec.ofNat 32 (q.val / 8) := by
  have e1 : iota .tc S128x128 32 [1] iota_S128x128_d1_w32 (ix2 t q) = BitVec.ofNat 32 q.val := iota_single_apply _ _ _ _ _ _
  rw [← floorW_8 q, ← e1]
  rfl

/-! ## The expansion of the scales over the columns -/

theorem expW : ∀ (q : Fin 128) (g : Fin 6),
    ((IntOp.andi (IntOp.cmpi .slt (BitVec.ofNat 32 q.val) 32#32) (IntOp.cmpi .eq (IntOp.andi (BitVec.ofNat 32 q.val) 7#32) (BitVec.ofNat 32 g.val))).setWidth 32 : BitVec 32)
      = if q.val < 32 ∧ q.val % 8 = g.val then 1#32 else 0#32 := by
  decide +kernel

theorem exp_at (q : Fin 128) (d : Fin 768) :
    expF (F := Ideal) (ix2 q d) = (((if q.val < 32 ∧ q.val % 8 = d.val / 128 then 1#32 else 0#32 : BitVec 32).toInt : ℝ) : EReal) := by
  have e0 : iota .tc S128x768 32 [0] iota_S128x768_d0_w32 (ix2 q d) = BitVec.ofNat 32 q.val := iota_single_apply _ _ _ _ _ _
  have e1 : iota .tc S128x768 32 [1] iota_S128x768_d1_w32 (ix2 q d) = BitVec.ofNat 32 d.val := iota_single_apply _ _ _ _ _ _
  have h := expW q (Val.grp d)
  have hf := floorW_128 d
  have hg : (Val.grp d).val = d.val / 128 := rfl
  rw [hg] at h
  rw [← h, ← hf, ← e0, ← e1]
  unfold expF Gen.k0_pay15
  simp only [shapeCast_self]
  rfl

/-! ## The rows of scales -/

/-- Eight rows of a block of the scales: its six, then two of zeros. -/
abbrev sc8 (X : FVec Ideal S6x128 .f32) : FVec Ideal S8x128 .f32 :=
  concatenate S8x128 0 [⟨S6x128, X⟩, ⟨S2x128, (broadcast S2x128 (Scalar.ofBits .f32 0x00000000#32 : Ideal .f32) : FVec Ideal S2x128 .f32)⟩] concatenates_S6x128_S2x128_S8x128_d0

/-- The same sixteen times over. -/
abbrev sc128 (X : FVec Ideal S6x128 .f32) : FVec Ideal S128x128 .f32 :=
  concatenate S128x128 0 (List.replicate 16 (⟨S8x128, sc8 X⟩ : (s : Shape) × (s.Idx → EReal))) concatenates_S8x128_S8x128_S8x128_S8x128_S8x128_S8x128_S8x128_S8x128_S8x128_S8x128_S8x128_S8x128_S8x128_S8x128_S8x128_S8x128_S128x128_d0

theorem sc128_apply (X : FVec Ideal S6x128 .f32) (q l : Fin 128) (j : Fin 6) (h : q.val % 8 = j.val) : sc128 X (ix2 q l) = X (ix2 j l) := by
  refine (concatenate_replicate_apply (t := S128x128) (s₁ := S8x128) 0 16 (sc8 X) _ rfl (ix2 q l) (ix2 (n0 := 8) (n1 := 128) ⟨q.val % 8, by omega⟩ l) rfl ?_).trans ?_
  · intro b hb
    match b with
    | ⟨0, _⟩ => exact absurd rfl hb
    | ⟨1, _⟩ => rfl
  · refine concatenate_pair_apply_left (t := S8x128) (s₁ := S6x128) (s₂ := S2x128) 0 X _ _ _ rfl (ix2 j l) ?_
    intro b
    match b with
    | ⟨0, _⟩ => exact h.symm
    | ⟨1, _⟩ => rfl

/-- The lanes of a block against the rows: 1 where the lane divided by four is the row. -/
abbrev laneHot : FVec Ideal S32x128 .bf16 := Gen.k0_pay19 (iota .tc S32x128 32 [0] iota_S32x128_d0_w32) Gen.k0_pay17 Gen.k0_pay18

theorem laneW : ∀ (r : Fin 32) (l : Fin 128), ((IntOp.cmpi .eq (BitVec.ofNat 32 (l.val / 4)) (BitVec.ofNat 32 r.val)).setWidth 32 : BitVec 32) = if l.val / 4 = r.val then 1#32 else 0#32 := by
  decide +kernel

theorem laneHot_at (r : Fin 32) (l : Fin 128) : laneHot (ix2 r l) = (((if l.val / 4 = r.val then 1#32 else 0#32 : BitVec 32).toInt : ℝ) : EReal) := by
  have e0 : iota .tc S32x128 32 [0] iota_S32x128_d0_w32 (ix2 r l) = BitVec.ofNat 32 r.val := iota_single_apply _ _ _ _ _ _
  have e1 : iota .tc S32x128 32 [1] iota_S32x128_d1_w32 (ix2 r l) = BitVec.ofNat 32 l.val := iota_single_apply _ _ _ _ _ _
  rw [← laneW r l, ← floorW_4 l, ← e0, ← e1]
  rfl

theorem slotW : ∀ q l : Fin 128, (IntOp.cmpi .eq (BitVec.ofNat 32 (q.val / 8)) (BitVec.ofNat 32 (l.val % 4)) : BitVec 1) = if q.val / 8 = l.val % 4 then 1#1 else 0#1 := by
  decide +kernel

theorem pay20_at (q l : Fin 128) : Gen.k0_pay20 (ix2 q l) = BitVec.ofNat 32 (q.val / 8) := by
  have e0 : iota .tc S128x128 32 [0] iota_S128x128_d0_w32 (ix2 q l) = BitVec.ofNat 32 q.val := iota_single_apply _ _ _ _ _ _
  rw [← floorW_8 q, ← e0]
  rfl

/-- The lane's remainder. -/
abbrev rem4 : IVec S128x128 32 :=
  select Gen.k0_pay22 (addi Gen.k0_pay21 (broadcast S128x128 (Scalar.select (Scalar.cmpi .eq 4#32 0#32) 1#32 4#32))) Gen.k0_pay21

theorem rem4_at (q l : Fin 128) : rem4 (ix2 q l) = BitVec.ofNat 32 (l.val % 4) := by
  have e1 : iota .tc S128x128 32 [1] iota_S128x128_d1_w32 (ix2 q l) = BitVec.ofNat 32 l.val := iota_single_apply _ _ _ _ _ _
  rw [← remW_4 l, ← e1]
  rfl

/-- The rows of scales of one block, from the block. -/
abbrev stabBlk (X : Vec Ideal S6x128 .f32) : FVec Ideal S32x128 .f32 :=
  Gen.k0_pay23 laneHot Gen.k0_pay20 (Scalar.select (Scalar.cmpi .eq 4#32 0#32) 1#32 4#32) Gen.k0_pay21 Gen.k0_pay22 X

theorem stabBlk_eq (X : Vec Ideal S6x128 .f32) :
    stabBlk X = FloatOps.matmul (DotDims.transposedRhs 32 128 128) none laneHot
      (show FVec Ideal S128x128 .bf16 from select (cmpi .eq Gen.k0_pay20 rem4) (sc128 X) (broadcast S128x128 (Scalar.ofBits .f32 0x00000000#32 : Ideal .f32)))
      (constant S32x128 .f32 0x00000000#32) := by
  have e : stabBlk X = shapeCast S32x128 (FloatOps.matmul (DotDims.transposedRhs 32 128 128) none laneHot
      (show FVec Ideal S128x128 .bf16 from select (cmpi .eq Gen.k0_pay20 rem4) (sc128 (shapeCast S6x128 X shapeCasts_S6x128_S6x128))
        (broadcast S128x128 (Scalar.ofBits .f32 0x00000000#32 : Ideal .f32)))
      (constant S32x128 .f32 0x00000000#32)) shapeCasts_S32x128_S32x128 := by
    unfold stabBlk Gen.k0_pay23
    rfl
  rw [e, shapeCast_self, shapeCast_self]

theorem stabBlk_apply (X : Vec Ideal S6x128 .f32) (r : Fin 32) (q : Fin 128) (j : Fin 6) (k : ℕ) (hk : k < 4) (hq : q.val = 8 * k + j.val) :
    stabBlk X (ix2 r q) = X (ix2 j (⟨4 * r.val + k, by omega⟩ : Fin 128)) := by
  have hj := j.isLt
  rw [stabBlk_eq, Ideal.matmul_transposedRhs_apply]
  refine (congrArg₂ (· + ·) Ideal.ofBits_zero_f32 ?_).trans (zero_add _)
  rw [Finset.sum_eq_single (⟨4 * r.val + k, by omega⟩ : Fin 128)]
  · rw [laneHot_at, if_pos (show (4 * r.val + k) / 4 = r.val by omega)]
    show (((1 : ℤ) : ℝ) : EReal) * Scalar.select (IntOp.cmpi .eq (Gen.k0_pay20 (ix2 q _)) (rem4 (ix2 q _))) (sc128 X (ix2 q _)) _ = _
    rw [pay20_at, rem4_at, slotW, if_pos (show q.val / 8 = (4 * r.val + k) % 4 by omega), sc128_apply X q _ j (by omega)]
    show (((1 : ℤ) : ℝ) : EReal) * (if (1#1 : BitVec 1) = 1 then _ else _) = _
    rw [if_pos (show (1#1 : BitVec 1) = 1 from rfl)]
    simp
  · intro l _ hl
    rw [laneHot_at]
    by_cases h4 : l.val / 4 = r.val
    · show _ * Scalar.select (IntOp.cmpi .eq (Gen.k0_pay20 (ix2 q l)) (rem4 (ix2 q l))) (sc128 X (ix2 q l)) (Ideal.ofBits .f32 0x00000000#32) = 0
      rw [pay20_at, rem4_at, slotW, if_neg (show ¬ q.val / 8 = l.val % 4 from fun h => hl (Fin.ext (show l.val = 4 * r.val + k by omega)))]
      show _ * (if (0#1 : BitVec 1) = 1 then _ else _) = _
      rw [if_neg (show ¬ (0#1 : BitVec 1) = 1 from by decide), Ideal.ofBits_zero_f32, mul_zero]
    · rw [if_neg h4]
      show (((0 : ℤ) : ℝ) : EReal) * _ = 0
      simp
  · exact fun h => absurd (Finset.mem_univ _) h

theorem stab_at (sc : Vec Ideal S6x16000 .f32) (w k j : ℕ) (hw : w < 4000) (hk : k < 4) (hj : j < 6) :
    (rd2 (stabF sc) w (8 * k + j) : EReal) = rd2 sc j (4 * w + k) := by
  show stabBlk (scBlk sc (w % 4000 / 32)) (ix2 (n0 := 32) (n1 := 128) (Fin.ofNat 32 (w % 4000)) (Fin.ofNat 128 ((8 * k + j) % 128))) = _
  rw [stabBlk_apply _ _ _ ⟨j, hj⟩ k hk (show (8 * k + j) % 128 % 128 = 8 * k + j by omega)]
  show rd2 sc j (128 * (w % 4000 / 32) + (4 * (w % 4000 % 32) + k)) = _
  exact rd2_congr sc rfl (by omega)

end Cert.KernelIdeal

end
-- ==== Proof.ValueI.lean ====
module

public import proofs.«01_k».proof.Proof.TabI

/-! The two blocks a grid point writes, read at one element: the reference's values. -/

@[expose] public section

set_option maxRecDepth 100000

noncomputable section

namespace Cert.KernelIdeal

open Idealize.ShloMosaic hiding ix1 ix2 ix3
open Idealize.ShloMosaic.ValueIdx
open Facts₀ Facts Cert.Wp
open scoped BigOperators

/-! ## The scales, spread over the columns -/

theorem andW (c : BitVec 32) (k : Fin 4) (q : Fin 128) (hc : c.toNat = k.val) :
    (IntOp.cmpi .eq (BitVec.ofNat 32 (q.val / 8)) c : BitVec 1) = if q.val / 8 = k.val then 1#1 else 0#1 := by
  have e : c = BitVec.ofNat 32 k.val := BitVec.eq_of_toNat_eq (by
    rw [hc, BitVec.toNat_ofNat]
    exact (Nat.mod_eq_of_lt (by have := k.isLt; omega)).symm)
  rw [e]
  exact (by decide +kernel : ∀ (k : Fin 4) (q : Fin 128),
    (IntOp.cmpi .eq (BitVec.ofNat 32 (q.val / 8)) (BitVec.ofNat 32 k.val) : BitVec 1) = if q.val / 8 = k.val then 1#1 else 0#1) k q

theorem sfull_apply (kk : Vec Ideal S128x128 .i32) (sc : Vec Ideal S128x128 .f32) (t : Fin 128) (d : Fin 768) (k : Fin 4)
    (hk : ∀ q : Fin 128, (kk (ix2 t q) : BitVec 32).toNat = k.val) :
    (sfullOf kk sc (expF (F := Ideal)) : FVec Ideal S128x768 .f32) (ix2 t d) = rd2 sc t.val (8 * k.val + d.val / 128) := by
  have hd := d.isLt
  have hk4 := k.isLt
  unfold sfullOf
  show FloatOps.matmul (F := Ideal) (DotDims.plain 128 128 768) none _ _ _ (ix2 t d) = _
  rw [Ideal.matmul_plain_apply]
  refine (congrArg₂ (· + ·) Ideal.ofBits_zero_f32 ?_).trans (zero_add _)
  rw [Finset.sum_eq_single (⟨8 * k.val + d.val / 128, by omega⟩ : Fin 128)]
  · rw [exp_at, if_pos (⟨by show 8 * k.val + d.val / 128 < 32; omega, by show (8 * k.val + d.val / 128) % 8 = d.val / 128; omega⟩)]
    show Scalar.select (IntOp.cmpi .eq (slotOf (ix2 t _)) (kk (ix2 t _))) (sc (ix2 t _)) _ * (((1 : ℤ) : ℝ) : EReal) = _
    rw [slot_at, andW _ k _ (hk _), if_pos (show (8 * k.val + d.val / 128) / 8 = k.val by omega)]
    show (if (1#1 : BitVec 1) = 1 then _ else _) * (((1 : ℤ) : ℝ) : EReal) = _
    rw [if_pos (show (1#1 : BitVec 1) = 1 from rfl), rd2_ix sc t (⟨8 * k.val + d.val / 128, by omega⟩ : Fin 128) rfl rfl]
    simp
  · intro q _ hq
    rw [exp_at]
    by_cases hqe : q.val < 32 ∧ q.val % 8 = d.val / 128
    · show Scalar.select (IntOp.cmpi .eq (slotOf (ix2 t q)) (kk (ix2 t q))) (sc (ix2 t q)) (Ideal.ofBits .f32 0x00000000#32) * _ = 0
      rw [slot_at, andW _ k _ (hk _), if_neg (show ¬ q.val / 8 = k.val from fun h => hq (Fin.ext (show q.val = 8 * k.val + d.val / 128 by omega)))]
      show (if (0#1 : BitVec 1) = 1 then _ else _) * _ = _
      rw [if_neg (show ¬ (0#1 : BitVec 1) = 1 from by decide), Ideal.ofBits_zero_f32, zero_mul]
    · rw [if_neg hqe]
      show _ * (((0 : ℤ) : ℝ) : EReal) = 0
      simp
  · exact fun h => absurd (Finset.mem_univ _) h

/-! ## One element of the embedding -/

variable (ids : Vec Ideal S64x128 .i32) (C : Vec Ideal S16000x768 .i8) (sc : Vec Ideal S6x16000 .f32) (wt : Vec Ideal S768 .bf16)

/-- The scales, a token to a row. -/
def scT : (⟨2, ![16000, 6]⟩ : Shape).Idx → EReal := fun y => sc (ix2 (y 1) (y 0))

/-- The table row of token `t` of the tokens of point `i`. -/
abbrev rowAt (i : grid0.Coords) (t : ℕ) : Fin 16000 := Val.rowId (rd2 ids (i 0).val t)

abbrev sfullAt (i : grid0.Coords) : FVec Ideal S128x768 .f32 :=
  sfullOf (kBlk i (kscrF ids)) (stileF i (Gen.k0_pay8 ids) (stabF sc)) (expF (F := Ideal))

abbrev embVAt (i : grid0.Coords) (s j : ℕ) : FVec Ideal S8x128 .bf16 :=
  embV i (kscrF ids) (tileF i (Gen.k0_pay8 ids) (tabF C)) (sfullAt ids sc i) s j

theorem i0_lt (i : grid0.Coords) : (i 0).val < 64 := (i 0).isLt

theorem kk_toNat (i : grid0.Coords) (t q : ℕ) (ht : t < 128) :
    (rd2 (kscrF ids) (128 * (i 0).val + t) q : BitVec 32).toNat = (rowAt ids i t).val % 4 := by
  rw [kscr_at ids _ t q (i0_lt i) ht, and3_toNat]
  rfl

theorem grp_toNat (i : grid0.Coords) (t : ℕ) : (rd2 (Gen.k0_pay8 ids) (i 0).val t : BitVec 32).toNat = 8 * ((rowAt ids i t).val / 4) := by
  unfold rd2
  exact pay8_nat ids _

theorem sfullAt_apply (i : grid0.Coords) (t : Fin 128) (d : Fin 768) :
    sfullAt ids sc i (ix2 t d) = scT sc (ix2 (rowAt ids i t.val) (Val.grp d)) := by
  have hr := (rowAt ids i t.val).isLt
  have hd := d.isLt
  have ht := t.isLt
  refine (sfull_apply _ _ t d ⟨(rowAt ids i t.val).val % 4, by omega⟩ (fun q => ?_)).trans ?_
  · exact kk_toNat ids i t.val q.val t.isLt
  · show rd2 (stileF i (Gen.k0_pay8 ids) (stabF sc)) t.val (8 * ((rowAt ids i t.val).val % 4) + d.val / 128) = _
    unfold stileF
    rw [rd2_fun (fun r q => rd2 (stabF sc) ((rd2 (Gen.k0_pay8 ids) (i 0).val r : BitVec 32) >>> 3).toNat q) t.isLt (by omega)]
    have e : ((rd2 (Gen.k0_pay8 ids) (i 0).val t.val : BitVec 32) >>> 3).toNat = (rowAt ids i t.val).val / 4 := by
      rw [BitVec.toNat_ushiftRight, Nat.shiftRight_eq_div_pow, grp_toNat]
      omega
    rw [e, stab_at sc _ _ _ (by omega) (by omega) (by omega)]
    exact rd2_ix sc (Val.grp d) (rowAt ids i t.val) rfl (by omega)

theorem embVAt_apply (i : grid0.Coords) (s j : ℕ) (hs : s < 16) (hj : j < 6) (a : Fin 8) (l : Fin 128) (d : Fin 768) (hd : d.val = 128 * j + l.val) :
    embVAt ids C sc i s j (ix2 a l) = Val.emb C (scT sc) (rowAt ids i (8 * s + a.val)) d := by
  have ha := a.isLt
  have hl := l.isLt
  have hr := (rowAt ids i (8 * s + a.val)).isLt
  show (((IntOp.shrsi .vector (IntOp.shli .vector (rd2 (tileF i (Gen.k0_pay8 ids) (tabF C)) (129 * j + 8 * s + a.val) l.val)
      (IntOp.subi 24#32 (IntOp.muli 8#32 (rd2 (kscrF ids) (128 * (i 0).val + 8 * s + a.val) l.val)))) 24#32).toInt : ℝ) : EReal)
    * rd2 (sfullAt ids sc i) (8 * s + a.val) (128 * j + l.val) = _
  unfold Val.emb
  refine congrArg₂ (· * ·) ?_ ?_
  · refine congrArg (fun z : ℤ => ((z : ℝ) : EReal)) ?_
    have hk : (rd2 (kscrF ids) (128 * (i 0).val + 8 * s + a.val) l.val : BitVec 32).toNat = (rowAt ids i (8 * s + a.val)).val % 4 := by
      rw [Nat.add_assoc]
      exact kk_toNat ids i (8 * s + a.val) l.val (by omega)
    have htile : (rd2 (tileF i (Gen.k0_pay8 ids) (tabF C)) (129 * j + 8 * s + a.val) l.val : BitVec 32)
        = rd2 (tabF C) (8 * ((rowAt ids i (8 * s + a.val)).val / 4) + j) l.val := by
      unfold tileF
      rw [rd2_fun (fun r q => rd2 (tabF C) ((rd2 (Gen.k0_pay8 ids) (i 0).val (r % 129) : BitVec 32).toNat + r / 129) q) (by omega) hl,
        show (129 * j + 8 * s + a.val) % 129 = 8 * s + a.val by omega, show (129 * j + 8 * s + a.val) / 129 = j by omega, grp_toNat]
    rw [htile]
    refine byte_of _ (C (ix2 (rowAt ids i (8 * s + a.val)) d)) _ (by omega) (fun b hb => ?_)
    rw [hk, tab_at C _ _ _ _ (by omega) hj hl (by omega) b hb,
      rd2_ix C (rowAt ids i (8 * s + a.val)) d (by omega) hd.symm]
  · rw [rd2_ix (sfullAt ids sc i) (⟨8 * s + a.val, by omega⟩ : Fin 128) d rfl hd.symm, sfullAt_apply]

/-! ## One element of the result -/

theorem named_inv : (Named.named (F := Ideal) (φ := .f32) κ "inv_d_model" 0x3AAAAAAB#32 : EReal) = ((1 / 768 : ℝ) : EReal) :=
  IdealRules.named_const.ideal_named_scalar _ _ _ _ rfl

theorem rms_apply (acc : FVec Ideal S8x128 .f32) (a : Fin 8) (l : Fin 128) :
    rmsOf acc (ix2 a l) = Ideal.rsqrt ((∑ k : Fin 128, acc (ix2 a k)) * ((1 / 768 : ℝ) : EReal) + Ideal.ofBits .f32 0x358637BD#32) := by
  unfold rmsOf
  rw [shapeCast_self]
  refine (broadcastTo_apply _ _ _ (ix2 a (0 : Fin 1)) (fun c => by match c with | ⟨0, _⟩ => rfl | ⟨1, _⟩ => rfl)).trans ?_
  show Ideal.rsqrt (shapeCast S8x1 _ shapeCasts_S8_S8x1 (ix2 a (0 : Fin 1)) * Named.named (F := Ideal) (φ := .f32) κ "inv_d_model" 0x3AAAAAAB#32
    + Ideal.ofBits .f32 0x358637BD#32) = _
  rw [named_inv]
  refine congrArg (fun z => Ideal.rsqrt (z * ((1 / 768 : ℝ) : EReal) + Ideal.ofBits .f32 0x358637BD#32)) ?_
  refine (shapeCast_apply (s := S8) _ _ _ (ix1 a) (by rw [Shape.rowMajor_val_one, Shape.rowMajor_val_two]; show a.val = a.val * 1 + 0; omega)).trans ?_
  refine (Ideal.multiReduction_add_single _ _ _ _ _ _).trans ?_
  refine Finset.sum_congr rfl fun k _ => congrArg acc ?_
  funext c; match c with | ⟨0, _⟩ => rfl | ⟨1, _⟩ => rfl

theorem acc6_apply (e : Fin 6 → FVec Ideal S8x128 .bf16) (a : Fin 8) (l : Fin 128) :
    acc6 (e 0) (e 1) (e 2) (e 3) (e 4) (e 5) (ix2 a l) = ∑ j : Fin 6, e j (ix2 a l) * e j (ix2 a l) := by
  show Ideal.ofBits .f32 0x00000000#32 + e 0 (ix2 a l) * e 0 (ix2 a l) + e 1 (ix2 a l) * e 1 (ix2 a l) + e 2 (ix2 a l) * e 2 (ix2 a l)
    + e 3 (ix2 a l) * e 3 (ix2 a l) + e 4 (ix2 a l) * e 4 (ix2 a l) + e 5 (ix2 a l) * e 5 (ix2 a l) = _
  rw [Ideal.ofBits_zero_f32, zero_add, Fin.sum_univ_six]

theorem pay16_apply (r : Fin 8) (d : Fin 768) : Gen.k0_pay16 wt (ix2 r d) = wt (ix1 d) := by
  unfold Gen.k0_pay16
  simp only [shapeCast_self]
  refine (broadcastTo_apply _ _ _ (ix2 (0 : Fin 1) d) (fun c => by match c with | ⟨0, _⟩ => rfl | ⟨1, _⟩ => rfl)).trans ?_
  refine (shapeCast_apply (s := S768) _ _ _ (ix1 d) (by rw [Shape.rowMajor_val_one, Shape.rowMajor_val_two]; show d.val = 0 * 768 + d.val; omega)).trans ?_
  rfl

theorem outVAt_apply (i : grid0.Coords) (s j : ℕ) (hs : s < 16) (hj : j < 6) (a : Fin 8) (l : Fin 128) (d : Fin 768) (hd : d.val = 128 * j + l.val) :
    outV i (kscrF ids) (tileF i (Gen.k0_pay8 ids) (tabF C)) (sfullAt ids sc i) (Gen.k0_pay16 wt) s j (ix2 a l)
      = Val.nrm C (scT sc) wt (rowAt ids i (8 * s + a.val)) d := by
  show embVAt ids C sc i s j (ix2 a l) * rmsOf (acc6 (embVAt ids C sc i s 0) (embVAt ids C sc i s 1) (embVAt ids C sc i s 2) (embVAt ids C sc i s 3)
      (embVAt ids C sc i s 4) (embVAt ids C sc i s 5)) (ix2 a l) * rd2 (Gen.k0_pay16 wt) a.val (128 * j + l.val) = _
  rw [embVAt_apply ids C sc i s j hs hj a l d hd, rd2_ix (Gen.k0_pay16 wt) a d rfl hd.symm, pay16_apply, rms_apply]
  unfold Val.nrm Val.rms
  refine congrArg (fun z => Val.emb C (scT sc) (rowAt ids i (8 * s + a.val)) d * Ideal.rsqrt (z * ((1 / 768 : ℝ) : EReal) + Ideal.ofBits .f32 0x358637BD#32) * wt (ix1 d)) ?_
  rw [Val.sum_cols]
  refine Finset.sum_congr rfl fun k _ => ?_
  refine (acc6_apply (fun j : Fin 6 => embVAt ids C sc i s j.val) a k).trans (Finset.sum_congr rfl fun j' _ => ?_)
  show embVAt ids C sc i s j'.val (ix2 a k) * embVAt ids C sc i s j'.val (ix2 a k) = _
  rw [embVAt_apply ids C sc i s j'.val hs j'.isLt a k ⟨128 * j'.val + k.val, by have := j'.isLt; have := k.isLt; omega⟩ rfl]

/-! ## The blocks -/

theorem embAll_apply (i : grid0.Coords) (t : Fin 128) (d : Fin 768) (y : S1x128x768.Idx) (h1 : (y 1).val = t.val) (h2 : (y 2).val = d.val) :
    (embAll i (Gen.k0_pay8 ids) (tabF C) (stabF sc) (kscrF ids) (expF (F := Ideal)) : Vec Ideal S1x128x768 .bf16) y
      = Val.emb C (scT sc) (rowAt ids i t.val) d := by
  have ht := t.isLt
  have hd := d.isLt
  show embVAt ids C sc i ((y 1).val / 8) ((y 2).val / 128) (ix2 (Fin.ofNat 8 (y 1).val) (Fin.ofNat 128 (y 2).val)) = _
  rw [h1, h2, embVAt_apply ids C sc i _ _ (by omega) (by omega) _ _ d (by show d.val = 128 * (d.val / 128) + d.val % 128; omega)]
  show Val.emb C (scT sc) (rowAt ids i (8 * (t.val / 8) + t.val % 8)) d = _
  rw [show 8 * (t.val / 8) + t.val % 8 = t.val by omega]

theorem outAll_apply (i : grid0.Coords) (t : Fin 128) (d : Fin 768) (y : S1x128x768.Idx) (h1 : (y 1).val = t.val) (h2 : (y 2).val = d.val) :
    (outAll i (Gen.k0_pay8 ids) (tabF C) (stabF sc) (kscrF ids) (expF (F := Ideal)) (Gen.k0_pay16 wt) : Vec Ideal S1x128x768 .bf16) y
      = Val.nrm C (scT sc) wt (rowAt ids i t.val) d := by
  have ht := t.isLt
  have hd := d.isLt
  show outV i (kscrF ids) (tileF i (Gen.k0_pay8 ids) (tabF C)) (sfullAt ids sc i) (Gen.k0_pay16 wt) ((y 1).val / 8) ((y 2).val / 128)
    (ix2 (Fin.ofNat 8 (y 1).val) (Fin.ofNat 128 (y 2).val)) = _
  rw [h1, h2, outVAt_apply ids C sc wt i _ _ (by omega) (by omega) _ _ d (by show d.val = 128 * (d.val / 128) + d.val % 128; omega)]
  show Val.nrm C (scT sc) wt (rowAt ids i (8 * (t.val / 8) + t.val % 8)) d = _
  rw [show 8 * (t.val / 8) + t.val % 8 = t.val by omega]

end Cert.KernelIdeal

end
-- ==== Proof.ArrI.lean ====
module

public import proofs.«01_k».proof.Proof.ValueI
public import Idealize.ShloMosaic.Lib.Claim

/-! What the kernel leaves in its two result arrays. -/

@[expose] public section

set_option maxRecDepth 100000

noncomputable section

namespace Cert.KernelIdeal

open Idealize.ShloMosaic hiding ix1 ix2 ix3
open Idealize.ShloMosaic.ValueIdx Idealize.ShloMosaic.TcCoe
open Facts₀ Facts Cert.Wp
open scoped BigOperators

variable (m : (ℓ : Loc nD τ sig) → Buf (Elt Ideal) ℓ)

/-! ## What the region finds in slow memory -/

theorem V_v2 (c : Dev nD) : (Gen.V m c main_v2 : Vec Ideal S64x128 .i32)
    = shapeCast S64x128 (transpose S32x2x128 [1, 0, 2] (shapeCast S2x32x128 (m (c.tc.loc main_arg0) : Vec Ideal S2x4096 .i32) shapeCasts_S2x4096_S2x32x128)
        transposes_S2x32x128_S32x2x128_1_0_2) shapeCasts_S32x2x128_S64x128 := by
  unfold Gen.V
  simp only [Gen.hostOps0, List.flatten_cons, List.flatten_nil, List.append_nil, List.cons_append, List.nil_append]
  after_results
  rfl

theorem V_v3 (c : Dev nD) : (Gen.V m c main_v3 : Vec Ideal S6x16000 .f32)
    = transpose S6x16000 [1, 0] (m (c.tc.loc main_arg2) : Vec Ideal S16000x6 .f32) transposes_S16000x6_S6x16000_1_0 := by
  unfold Gen.V
  simp only [Gen.hostOps0, List.flatten_cons, List.flatten_nil, List.append_nil, List.cons_append, List.nil_append]
  after_results

theorem v2_apply (c : Dev nD) (b : Fin 2) (u : Fin 32) (l : Fin 128) (r : Fin 64) (s : Fin 4096) (hr : r.val = 2 * u.val + b.val) (hs : s.val = 128 * u.val + l.val) :
    (Gen.V m c main_v2 : Vec Ideal S64x128 .i32) (ix2 r l) = (m (c.tc.loc main_arg0) : Vec Ideal S2x4096 .i32) (ix2 b s) := by
  rw [V_v2]
  refine (shapeCast_apply (s := S32x2x128) _ _ _ (ix3 u b l) ?_).trans ?_
  · rw [Shape.rowMajor_val_two, Shape.rowMajor_val_three]
    show (u.val * 2 + b.val) * 128 + l.val = r.val * 128 + l.val
    omega
  refine (transpose_apply _ _ _ _ (ix3 b u l) (fun a => by match a with | ⟨0, _⟩ => rfl | ⟨1, _⟩ => rfl | ⟨2, _⟩ => rfl)).trans ?_
  refine shapeCast_apply (s := S2x4096) _ _ _ (ix2 b s) ?_
  rw [Shape.rowMajor_val_two, Shape.rowMajor_val_three]
  show b.val * 4096 + s.val = (b.val * 32 + u.val) * 128 + l.val
  omega

theorem v3_apply (c : Dev nD) (j : Fin 6) (r : Fin 16000) :
    (Gen.V m c main_v3 : Vec Ideal S6x16000 .f32) (ix2 j r) = (m (c.tc.loc main_arg2) : Vec Ideal S16000x6 .f32) (ix2 r j) := by
  rw [V_v3]
  exact transpose_apply _ _ _ _ (ix2 r j) (fun a => by match a with | ⟨0, _⟩ => rfl | ⟨1, _⟩ => rfl)

/-! ## The input blocks are the arrays -/

theorem emb_w0 (t : Fin cfg0.N) (j : S64x128.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 64 + 1 * (j 0).val = (j 0).val; omega
  | ⟨1, _⟩ => show win0_0.index t (1 : Fin 2) * 128 + 1 * (j 1).val = (j 1).val; omega
theorem emb_w1 (t : Fin cfg0.N) (j : S6x16000.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 6 + 1 * (j 0).val = (j 0).val; omega
  | ⟨1, _⟩ => show win0_1.index t (1 : Fin 2) * 16000 + 1 * (j 1).val = (j 1).val; omega
theorem emb_w2 (t : Fin cfg0.N) (j : S768.Idx) : ((cfg0.win 2).blk t).view.emb j = j := by
  have e0 := (by decide +kernel : ∀ t : Fin grid0.N, win0_2.index t (0 : Fin 1) = 0) t
  funext a; apply Fin.ext
  match a with
  | ⟨0, _⟩ => show win0_2.index t (0 : Fin 1) * 768 + 1 * (j 0).val = (j 0).val; omega

theorem idsA_eq (c : Dev nD) : idsA m c = Gen.V m c main_v2 := by
  funext j; show Gen.V m c main_v2 (((cfg0.win 0).blk t0).view.emb j) = Gen.V m c main_v2 j; rw [emb_w0]
theorem scA_eq (c : Dev nD) : scA m c = Gen.V m c main_v3 := by
  funext j; show Gen.V m c main_v3 (((cfg0.win 1).blk t0).view.emb j) = Gen.V m c main_v3 j; rw [emb_w1]
theorem wtA_eq (c : Dev nD) : wtA m c = (m (c.tc.loc main_arg3) : Vec Ideal S768 .bf16) := by
  rw [← Gen.V_main_arg3 m c]
  funext j; show Gen.V m c main_arg3 (((cfg0.win 2).blk t0).view.emb j) = Gen.V m c main_arg3 j; rw [emb_w2]
theorem cdA_eq (c : Dev nD) : cdA m c = (m (c.tc.loc main_arg1) : Vec Ideal S16000x768 .i8) := Gen.V_main_arg1 m c

theorem scT_eq (c : Dev nD) : scT (scA m c) = (m (c.tc.loc main_arg2) : Vec Ideal S16000x6 .f32) := by
  rw [scA_eq]
  funext y
  refine (v3_apply m c (y 1) (y 0)).trans (congrArg _ ?_)
  funext a; match a with | ⟨0, _⟩ => rfl | ⟨1, _⟩ => rfl

/-! ## The output blocks -/

theorem idx3 : ∀ t : Fin grid0.N, win0_3.index t (0 : Fin 3) = t.val % 2 ∧ win0_3.index t (1 : Fin 3) = t.val / 2 ∧ win0_3.index t (2 : Fin 3) = 0 := by decide +kernel
theorem idx4 : ∀ t : Fin grid0.N, win0_4.index t (0 : Fin 3) = t.val % 2 ∧ win0_4.index t (1 : Fin 3) = t.val / 2 ∧ win0_4.index t (2 : Fin 3) = 0 := by decide +kernel
theorem coord0 : ∀ t : Fin grid0.N, ((grid0.coords t) 0).val = t.val := by decide +kernel
theorem N_eq : cfg0.N = 64 := rfl

/-- Where block `t`'s element `j` lies. -/
def pos (t : Fin cfg0.N) (j : S1x128x768.Idx) : S2x4096x768.Idx :=
  ix3 (⟨t.val % 2, by omega⟩ : Fin 2)
    (⟨t.val / 2 * 128 + (j 1).val, by have h : (j 1).val < 128 := (j 1).isLt; have ht : t.val < 64 := t.isLt; omega⟩ : Fin 4096) (j 2)

theorem emb_w3 (t : Fin cfg0.N) (j : S1x128x768.Idx) : ((cfg0.win 3).blk t).view.emb j = pos t j := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val % 2; omega
  | ⟨1, _⟩ => show win0_3.index t (1 : Fin 3) * 128 + 1 * (j 1).val = t.val / 2 * 128 + (j 1).val; omega
  | ⟨2, _⟩ => show win0_3.index t (2 : Fin 3) * 768 + 1 * (j 2).val = (j 2).val; omega
theorem emb_w4 (t : Fin cfg0.N) (j : S1x128x768.Idx) : ((cfg0.win 4).blk t).view.emb j = pos t j := by
  obtain ⟨e0, e1, e2⟩ := idx4 t
  have h0 : (j 0).val < 1 := (j 0).isLt
  funext a; apply Fin.ext
  match a with
  | ⟨0, _⟩ => show win0_4.index t (0 : Fin 3) * 1 + 1 * (j 0).val = t.val % 2; omega
  | ⟨1, _⟩ => show win0_4.index t (1 : Fin 3) * 128 + 1 * (j 1).val = t.val / 2 * 128 + (j 1).val; omega
  | ⟨2, _⟩ => show win0_4.index t (2 : Fin 3) * 768 + 1 * (j 2).val = (j 2).val; omega

/-- Every element lies in some block. -/
theorem pos_onto (i : S2x4096x768.Idx) : ∃ (t : Fin cfg0.N) (j : S1x128x768.Idx), pos t j = i := by
  have h0 : (i 0).val < 2 := (i 0).isLt
  have h1 : (i 1).val < 4096 := (i 1).isLt
  refine ⟨⟨2 * ((i 1).val / 128) + (i 0).val, by show _ < 64; omega⟩, ix3 (0 : Fin 1) (⟨(i 1).val % 128, by omega⟩ : Fin 128) (i 2), ?_⟩
  funext a; apply Fin.ext
  match a with
  | ⟨0, _⟩ => show (2 * ((i 1).val / 128) + (i 0).val) % 2 = (i 0).val; omega
  | ⟨1, _⟩ => show (2 * ((i 1).val / 128) + (i 0).val) / 2 * 128 + (i 1).val % 128 = (i 1).val; omega
  | ⟨2, _⟩ => rfl

/-- The table row of a block's token is that of the token the block's element lies at. -/
theorem row_eq (c : Dev nD) (t : Fin cfg0.N) (j : S1x128x768.Idx) :
    rowAt (idsA m c) (grid0.coords t) (j 1).val
      = Val.rowId ((m (c.tc.loc main_arg0) : Vec Ideal S2x4096 .i32) (ix2 ((pos t j) 0) ((pos t j) 1))) := by
  have h1 : (j 1).val < 128 := (j 1).isLt
  have ht : t.val < 64 := t.isLt
  refine congrArg Val.rowId ?_
  rw [rd2_ix (idsA m c) (⟨t.val, ht⟩ : Fin 64) (⟨(j 1).val, h1⟩ : Fin 128) (coord0 t) rfl, idsA_eq]
  exact v2_apply m c (⟨t.val % 2, by omega⟩ : Fin 2) (⟨t.val / 2, by omega⟩ : Fin 32) _ _ _ (by show t.val = 2 * (t.val / 2) + t.val % 2; omega)
    (by show t.val / 2 * 128 + (j 1).val = 128 * (t.val / 2) + (j 1).val; omega)

abbrev outG (c : Dev nD) : S2x4096x768.Idx → EReal :=
  Val.nrmG (m (c.tc.loc main_arg0)) (m (c.tc.loc main_arg1)) (m (c.tc.loc main_arg2)) (m (c.tc.loc main_arg3))
abbrev embG (c : Dev nD) : S2x4096x768.Idx → EReal :=
  Val.embG (m (c.tc.loc main_arg0)) (m (c.tc.loc main_arg1)) (m (c.tc.loc main_arg2))

theorem outAt_apply (c : Dev nD) (t : Fin cfg0.N) (j : S1x128x768.Idx) : outAt m c t j = outG m c (pos t j) := by
  have h1 : (j 1).val < 128 := (j 1).isLt
  have h2 : (j 2).val < 768 := (j 2).isLt
  unfold outAt
  rw [outAll_apply (idsA m c) (cdA m c) (scA m c) (wtA m c) (grid0.coords t) ⟨(j 1).val, h1⟩ ⟨(j 2).val, h2⟩ j rfl rfl, scT_eq, cdA_eq, wtA_eq, row_eq]
  rfl
theorem embAt_apply (c : Dev nD) (t : Fin cfg0.N) (j : S1x128x768.Idx) : embAt m c t j = embG m c (pos t j) := by
  have h1 : (j 1).val < 128 := (j 1).isLt
  have h2 : (j 2).val < 768 := (j 2).isLt
  unfold embAt
  rw [embAll_apply (idsA m c) (cdA m c) (scA m c) (grid0.coords t) ⟨(j 1).val, h1⟩ ⟨(j 2).val, h2⟩ j rfl rfl, scT_eq, cdA_eq, row_eq]
  rfl

theorem arr3 (c : Dev nD) : (dats m 0 c).arrAt 3 cfg0.N = outG m c := by
  refine (dats m 0 c).arrAt_eq_of_cover 3 (outG m c) (fun t _ => ?_) (fun i => ?_)
  · show (cfg0.win 3).cut (grid0.coords t) ((dats m 0 c).after 3 t) = _
    rw [show (dats m 0 c).after 3 t = outAt m c t by dsimp only [dats]]
    funext j
    show outAt m c t j = outG m c (((cfg0.win 3).blk t).view.emb j)
    rw [emb_w3]
    exact outAt_apply m c t j
  · obtain ⟨t, j, rfl⟩ := pos_onto i
    refine ⟨t, Gen.flush0_3 t, ?_⟩
    have h := ((cfg0.win 3).blk t).view.emb_mem_set j
    rwa [emb_w3] at h
theorem arr4 (c : Dev nD) : (dats m 0 c).arrAt 4 cfg0.N = embG m c := by
  refine (dats m 0 c).arrAt_eq_of_cover 4 (embG m c) (fun t _ => ?_) (fun i => ?_)
  · show (cfg0.win 4).cut (grid0.coords t) ((dats m 0 c).after 4 t) = _
    rw [show (dats m 0 c).after 4 t = embAt m c t by dsimp only [dats]]
    funext j
    show embAt m c t j = embG m c (((cfg0.win 4).blk t).view.emb j)
    rw [emb_w4]
    exact embAt_apply m c t j
  · obtain ⟨t, j, rfl⟩ := pos_onto i
    refine ⟨t, Gen.flush0_4 t, ?_⟩
    have h := ((cfg0.win 4).blk t).view.emb_mem_set j
    rwa [emb_w4] at h

/-- The kernel's run: the two results in closed form, the arguments as they were. -/
theorem run_ker (ρ : Dev nD → PrngReg) : θ_run (defs (F := Ideal)) (onTc (τ := τ) (main (F := Ideal))) ⟨m, fun _ => 0, ρ⟩ (fun r => ∀ c : Dev nD,
      r.2.mem (c.tc.loc main_v4_0) = outG m c
      ∧ r.2.mem (c.tc.loc main_v4_1) = embG m c
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun _ h c => ⟨((h.1 c).1 3).trans (arr3 m c), ((h.1 c).1 4).trans (arr4 m c), run_args m c h.1⟩) (run_main m ρ)

end Cert.KernelIdeal

end
-- ==== Proof.RefBody.lean ====
module

public import proofs.«01_k».proof.Proof.Gen.ReferenceIdeal.Skeleton
public import proofs.«01_k».proof.Proof.Val
public import Idealize.ShloMosaic.Lib.MatmulPlain
public import Idealize.ShloMosaic.Lib.Pipeline.Value

/-! The reference's body read at one element, over the reals extended by the infinities. -/

@[expose] public section

set_option maxRecDepth 100000

noncomputable section

namespace Cert.ReferenceIdeal

open Idealize.ShloMosaic Idealize.ShloMosaic.ValueIdx
open Facts₀ Facts
open Cert.Val (grp)
open scoped BigOperators

/-- The reference's column group, from the column number and the row number of the group table: 1 where they agree. -/
def hotWord (d q : BitVec 32) : BitVec 32 :=
  (IntOp.cmpi .eq
    (Scalar.select (IntOp.andi
        (IntOp.cmpi .ne (IntOp.subi ((IntOp.cmpi .sgt d 0#32).setWidth 32) ((IntOp.cmpi .slt d 0#32).setWidth 32))
          (Scalar.subi (Scalar.extui (Scalar.cmpi .sgt 128#32 0#32)) (Scalar.extui (Scalar.cmpi .slt 128#32 0#32))))
        (IntOp.cmpi .ne (IntOp.remsi .vector d 128#32) 0#32))
      (IntOp.subi (IntOp.divsi .vector d 128#32) 1#32) (IntOp.divsi .vector d 128#32)) q).setWidth 32

theorem hotWord_eq : ∀ (d : Fin 768) (q : Fin 6),
    hotWord (BitVec.ofNat 32 d.val) (BitVec.ofNat 32 q.val) = if d.val / 128 = q.val then 1#32 else 0#32 := by
  decide +kernel

/-- The group table the body multiplies by, as the printed words. -/
def hotV : IVec S6x768 32 :=
  extui 32 (cmpi .eq
    (select (andi
        (cmpi .ne (subi (extui 32 (cmpi .sgt (iota .tc S6x768 32 [1] iota_S6x768_d1_w32) (broadcast S6x768 0#32)) natLt_1_32)
            (extui 32 (cmpi .slt (iota .tc S6x768 32 [1] iota_S6x768_d1_w32) (broadcast S6x768 0#32)) natLt_1_32))
          (broadcast S6x768 (Scalar.subi (Scalar.extui (Scalar.cmpi .sgt 128#32 0#32)) (Scalar.extui (Scalar.cmpi .slt 128#32 0#32)))))
        (cmpi .ne (remsi (iota .tc S6x768 32 [1] iota_S6x768_d1_w32) (broadcast S6x768 128#32)) (broadcast S6x768 0#32)))
      (subi (divsi (iota .tc S6x768 32 [1] iota_S6x768_d1_w32) (broadcast S6x768 128#32)) (broadcast S6x768 1#32))
      (divsi (iota .tc S6x768 32 [1] iota_S6x768_d1_w32) (broadcast S6x768 128#32)))
    (iota .tc S6x768 32 [0] iota_S6x768_d0_w32)) natLt_1_32

theorem hotV_apply (q : Fin 6) (d : Fin 768) : hotV (ix2 q d) = if d.val / 128 = q.val then 1#32 else 0#32 := by
  have e1 : iota .tc S6x768 32 [1] iota_S6x768_d1_w32 (ix2 q d) = BitVec.ofNat 32 d.val := iota_single_apply _ _ _ _ _ _
  have e0 : iota .tc S6x768 32 [0] iota_S6x768_d0_w32 (ix2 q d) = BitVec.ofNat 32 q.val := iota_single_apply _ _ _ _ _ _
  rw [← hotWord_eq d q, ← e1, ← e0]
  rfl

/-- A row of scales against the group table leaves the scale of the column's group. -/
theorem pick (f : Fin 6 → EReal) (d : Fin 768) :
    ∑ q : Fin 6, f q * (((hotV (ix2 q d)).toInt : ℝ) : EReal) = f (grp d) := by
  rw [Finset.sum_eq_single (grp d)]
  · rw [hotV_apply, if_pos (show d.val / 128 = (grp d).val from rfl)]
    show f (grp d) * (((1 : ℤ) : ℝ) : EReal) = _
    simp
  · intro q _ hq
    rw [hotV_apply, if_neg (fun h => hq (Fin.ext h.symm))]
    show f q * (((0 : ℤ) : ℝ) : EReal) = 0
    simp
  · exact fun h => absurd (Finset.mem_univ _) h

theorem pay2_eq (C : Vec Ideal S8192x768 .i8) (S : Vec Ideal S8192x6 .f32) :
    Gen.k0_pay2 C S = mulf (sitofp .bf16 C) (FloatOps.matmul (DotDims.plain 8192 6 768) none
      (show FVec Ideal S8192x6 .bf16 from S) (sitofp .bf16 hotV) (constant S8192x768 .f32 0x00000000#32)) := by
  unfold Gen.k0_pay2
  simp only [shapeCast_self]
  rfl

/-- One element of the expanded row: the code times the scale of its column's group. -/
theorem pay2_apply (C : Vec Ideal S8192x768 .i8) (S : Vec Ideal S8192x6 .f32) (r : Fin 8192) (d : Fin 768) :
    Gen.k0_pay2 C S (ix2 r d) = (((C (ix2 r d)).toInt : ℝ) : EReal) * S (ix2 r (grp d)) := by
  rw [pay2_eq]
  show (((C (ix2 r d)).toInt : ℝ) : EReal) * FloatOps.matmul (F := Ideal) (DotDims.plain 8192 6 768) none _ _ _ (ix2 r d) = _
  rw [Ideal.matmul_plain_apply]
  refine congrArg _ ?_
  refine (congrArg₂ (· + ·) Ideal.ofBits_zero_f32 (pick (fun q => S (ix2 r q)) d)).trans ?_
  exact zero_add _

/-- One element of the normalized row, from the expanded row `E`. -/
theorem pay1_apply (W : Vec Ideal S1x768 .bf16) (E : FVec Ideal S8192x768 .f32) (r : Fin 8192) (d : Fin 768) :
    Gen.k0_pay1 W E (ix2 r d)
      = E (ix2 r d) * Ideal.rsqrt (Ideal.div (∑ k : Fin 768, E (ix2 r k) * E (ix2 r k)) (Ideal.ofBits .f32 0x44400000#32)
          + Ideal.ofBits .f32 0x358637BD#32) * W (ix2 (0 : Fin 1) d) := by
  unfold Gen.k0_pay1
  have hb (v : FVec Ideal S8192x1 .f32) : broadcastTo S8192x768 v broadcasts_S8192x1_S8192x768 (ix2 r d) = v (ix2 r (0 : Fin 1)) :=
    broadcastTo_apply v _ _ _ (fun a => by match a with | ⟨0, _⟩ => rfl | ⟨1, _⟩ => rfl)
  have hw (v : FVec Ideal S1x768 .f32) : broadcastTo S8192x768 v broadcasts_S1x768_S8192x768 (ix2 r d) = v (ix2 (0 : Fin 1) d) :=
    broadcastTo_apply v _ _ _ (fun a => by match a with | ⟨0, _⟩ => rfl | ⟨1, _⟩ => rfl)
  have hc (v : FVec Ideal S8192 .f32) : shapeCast S8192x1 v shapeCasts_S8192_S8192x1 (ix2 r (0 : Fin 1)) = v (ix1 r) :=
    shapeCast_apply v _ _ _ (by rw [Shape.rowMajor_val_one, Shape.rowMajor_val_two]; show r.val = r.val * 1 + 0; omega)
  show E (ix2 r d) * broadcastTo S8192x768 _ broadcasts_S8192x1_S8192x768 (ix2 r d)
    * broadcastTo S8192x768 _ broadcasts_S1x768_S8192x768 (ix2 r d) = _
  rw [hb, hw]
  refine congrArg (fun z => E (ix2 r d) * Ideal.rsqrt (Ideal.div z (Ideal.ofBits .f32 0x44400000#32)
          + Ideal.ofBits .f32 0x358637BD#32) * W (ix2 (0 : Fin 1) d)) ?_
  refine (hc _).trans ((Ideal.multiReduction_add_single _ _ _ _ _ _).trans ?_)
  refine Finset.sum_congr rfl fun k _ => ?_
  have : reduces_S8192x768_S8192.lift (ix1 r) k = ix2 r k := by
    funext a; match a with | ⟨0, _⟩ => rfl | ⟨1, _⟩ => rfl
  rw [this]
  rfl

end Cert.ReferenceIdeal

end
-- ==== Proof.RefRun.lean ====
module

public import proofs.«01_k».proof.Proof.RefBody
public import proofs.«01_k».proof.Proof.Gen.ReferenceIdeal.Frame
public import Idealize.ShloMosaic.Lib.Claim
public import Mathlib.Tactic.NormNum

/-! What the reference leaves in its two result arrays. -/

@[expose] public section

set_option maxRecDepth 100000

noncomputable section

namespace Cert.ReferenceIdeal

open Idealize.ShloMosaic Idealize.ShloMosaic.TcCoe Idealize.ShloMosaic.ValueIdx
open Facts₀ Facts
open Cert.Val (grp)
open scoped BigOperators

variable (m : (ℓ : Loc nD τ sig) → Buf (Elt Ideal) ℓ)

theorem V_v1 (c : Dev nD) : (Gen.V m c main_v1 : Vec Ideal S8192x768 .i8)
    = Host.gather gather_S16000x768_S8192x1_S8192x768_1_0_n_n_0_1_1768 (m (c.tc.loc main_arg1) : Vec Ideal S16000x768 .i8)
        (broadcastInDim S8192x1 ![0] bcast_S8192_S8192x1_0 (shapeCast S8192 (m (c.tc.loc main_arg0) : Vec Ideal S2x4096 .i32) shapeCasts_S2x4096_S8192)) := by
  unfold Gen.V Gen.V0
  simp only [Gen.hostOps0, Gen.hostOps0_1, Gen.hostOps0_2, Gen.hostOps0_3, List.flatten_cons, List.flatten_nil, List.append_nil, List.cons_append, List.nil_append]
  after_results
  rfl

theorem V_v2 (c : Dev nD) : (Gen.V m c main_v2 : Vec Ideal S8192x6 .f32)
    = Host.gather gather_S16000x6_S8192x1_S8192x6_1_0_n_n_0_1_16 (m (c.tc.loc main_arg2) : Vec Ideal S16000x6 .f32)
        (broadcastInDim S8192x1 ![0] bcast_S8192_S8192x1_0 (shapeCast S8192 (m (c.tc.loc main_arg0) : Vec Ideal S2x4096 .i32) shapeCasts_S2x4096_S8192)) := by
  unfold Gen.V Gen.V0
  simp only [Gen.hostOps0, Gen.hostOps0_1, Gen.hostOps0_2, Gen.hostOps0_3, List.flatten_cons, List.flatten_nil, List.append_nil, List.cons_append, List.nil_append]
  after_results
  rfl

theorem V_v3 (c : Dev nD) : (Gen.V m c main_v3 : Vec Ideal S1x768 .bf16)
    = shapeCast S1x768 (m (c.tc.loc main_arg3) : Vec Ideal S768 .bf16) shapeCasts_S768_S1x768 := by
  unfold Gen.V Gen.V0
  simp only [Gen.hostOps0, Gen.hostOps0_1, Gen.hostOps0_2, Gen.hostOps0_3, List.flatten_cons, List.flatten_nil, List.append_nil, List.cons_append, List.nil_append]
  after_results
  rfl

/-- The token numbers, one per row. -/
theorem ids_apply (T : Vec Ideal S2x4096 .i32) (b : Fin 2) (s : Fin 4096) (r : Fin 8192) (h : r.val = 4096 * b.val + s.val) :
    broadcastInDim S8192x1 ![0] bcast_S8192_S8192x1_0 (shapeCast S8192 T shapeCasts_S2x4096_S8192) (ix2 r (0 : Fin 1)) = T (ix2 b s) := by
  refine (broadcastInDim_apply _ _ _ _ (ix1 r) (fun a => by match a with | ⟨0, _⟩ => rfl)).trans ?_
  refine shapeCast_apply T _ _ _ ?_
  rw [Shape.rowMajor_val_one, Shape.rowMajor_val_two]
  show b.val * 4096 + s.val = r.val
  omega

theorem v1_apply (c : Dev nD) (b : Fin 2) (s : Fin 4096) (r : Fin 8192) (h : r.val = 4096 * b.val + s.val) (d : Fin 768) :
    (Gen.V m c main_v1 : Vec Ideal S8192x768 .i8) (ix2 r d)
      = (m (c.tc.loc main_arg1) : Vec Ideal S16000x768 .i8) (ix2 (Val.rowId ((m (c.tc.loc main_arg0) : Vec Ideal S2x4096 .i32) (ix2 b s))) d) := by
  rw [V_v1]
  exact (Val.gather_rows_apply (by decide) gather_S16000x768_S8192x1_S8192x768_1_0_n_n_0_1_1768_wf _ _ r d _ (ids_apply _ b s r h) _ (Val.rowId_eq _))

theorem v2_apply (c : Dev nD) (b : Fin 2) (s : Fin 4096) (r : Fin 8192) (h : r.val = 4096 * b.val + s.val) (d : Fin 6) :
    (Gen.V m c main_v2 : Vec Ideal S8192x6 .f32) (ix2 r d)
      = (m (c.tc.loc main_arg2) : Vec Ideal S16000x6 .f32) (ix2 (Val.rowId ((m (c.tc.loc main_arg0) : Vec Ideal S2x4096 .i32) (ix2 b s))) d) := by
  rw [V_v2]
  exact (Val.gather_rows_apply (by decide) gather_S16000x6_S8192x1_S8192x6_1_0_n_n_0_1_16_wf _ _ r d _ (ids_apply _ b s r h) _ (Val.rowId_eq _))

theorem v3_apply (c : Dev nD) (d : Fin 768) :
    (Gen.V m c main_v3 : Vec Ideal S1x768 .bf16) (ix2 (0 : Fin 1) d) = (m (c.tc.loc main_arg3) : Vec Ideal S768 .bf16) (ix1 d) := by
  rw [V_v3]
  refine shapeCast_apply (s := S768) _ _ _ _ ?_
  rw [Shape.rowMajor_val_one, Shape.rowMajor_val_two]
  show d.val = 0 * 768 + d.val
  omega

/-! ## The one point's blocks are the arrays -/

theorem emb_w0 (t : Fin cfg0.N) (j : S8192x768.Idx) : ((cfg0.win 0).blk t).view.emb j = j := by
  obtain ⟨e0, e1⟩ := (by decide +kernel : ∀ t : Fin grid0.N, win0_0.index t (0 : Fin 2) = 0 ∧ win0_0.index t (1 : Fin 2) = 0) t
  funext a; apply Fin.ext
  match a with
  | ⟨0, _⟩ => show win0_0.index t (0 : Fin 2) * 8192 + 1 * (j 0).val = (j 0).val; omega
  | ⟨1, _⟩ => show win0_0.index t (1 : Fin 2) * 768 + 1 * (j 1).val = (j 1).val; omega
theorem emb_w1 (t : Fin cfg0.N) (j : S8192x6.Idx) : ((cfg0.win 1).blk t).view.emb j = j := by
  obtain ⟨e0, e1⟩ := (by decide +kernel : ∀ t : Fin grid0.N, win0_1.index t (0 : Fin 2) = 0 ∧ win0_1.index t (1 : Fin 2) = 0) t
  funext a; apply Fin.ext
  match a with
  | ⟨0, _⟩ => show win0_1.index t (0 : Fin 2) * 8192 + 1 * (j 0).val = (j 0).val; omega
  | ⟨1, _⟩ => show win0_1.index t (1 : Fin 2) * 6 + 1 * (j 1).val = (j 1).val; omega
theorem emb_w2 (t : Fin cfg0.N) (j : S1x768.Idx) : ((cfg0.win 2).blk t).view.emb j = j := by
  obtain ⟨e0, e1⟩ := (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * (j 0).val = (j 0).val; omega
  | ⟨1, _⟩ => show win0_2.index t (1 : Fin 2) * 768 + 1 * (j 1).val = (j 1).val; omega
theorem emb_w3 (t : Fin cfg0.N) (j : S8192x768.Idx) : ((cfg0.win 3).blk t).view.emb j = j := by
  obtain ⟨e0, e1⟩ := (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 8192 + 1 * (j 0).val = (j 0).val; omega
  | ⟨1, _⟩ => show win0_3.index t (1 : Fin 2) * 768 + 1 * (j 1).val = (j 1).val; omega
theorem emb_w4 (t : Fin cfg0.N) (j : S8192x768.Idx) : ((cfg0.win 4).blk t).view.emb j = j := by
  obtain ⟨e0, e1⟩ := (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 8192 + 1 * (j 0).val = (j 0).val; omega
  | ⟨1, _⟩ => show win0_4.index t (1 : Fin 2) * 768 + 1 * (j 1).val = (j 1).val; omega

theorem iblk0_eq (c : Dev nD) (t : Fin cfg0.N) : Gen.iblk m c 0 t = Gen.V m c main_v1 := by
  funext j; show Gen.V m c main_v1 (((cfg0.win 0).blk t).view.emb j) = Gen.V m c main_v1 j; rw [emb_w0]
theorem iblk1_eq (c : Dev nD) (t : Fin cfg0.N) : Gen.iblk m c 1 t = Gen.V m c main_v2 := by
  funext j; show Gen.V m c main_v2 (((cfg0.win 1).blk t).view.emb j) = Gen.V m c main_v2 j; rw [emb_w1]
theorem iblk2_eq (c : Dev nD) (t : Fin cfg0.N) : Gen.iblk m c 2 t = Gen.V m c main_v3 := by
  funext j; show Gen.V m c main_v3 (((cfg0.win 2).blk t).view.emb j) = Gen.V m c main_v3 j; rw [emb_w2]

theorem hz2 : (![0, 0] : Fin 2 → Nat) = fun _ => 0 := funext fun a => by match a with | ⟨0, _⟩ => rfl | ⟨1, _⟩ => rfl

/-- The embedding's rows, as the body computes them. -/
abbrev embR (c : Dev nD) : Vec Ideal S8192x768 .bf16 := Gen.k0_pay2 (Gen.V m c main_v1) (Gen.V m c main_v2)
/-- The result's rows, as the body computes them. -/
abbrev outR (c : Dev nD) : Vec Ideal S8192x768 .bf16 :=
  Gen.k0_pay1 (Gen.k0_pay3 (Gen.V m c main_v3)) (Gen.k0_pay4 (Gen.V m c main_v1) (Gen.V m c main_v2))

theorem after3 (c : Dev nD) (t : Fin cfg0.N) : (Gen.dats m 0 c).after 3 t = outR m c := by
  rw [Gen.after0_3, iblk0_eq, iblk1_eq, iblk2_eq]
  unfold Gen.out0_3
  rw [View.canon_unit_zero hz2, View.ld_unit_zero hz2, View.ld_unit_zero hz2, View.ld_unit_zero hz2]
theorem after4 (c : Dev nD) (t : Fin cfg0.N) : (Gen.dats m 0 c).after 4 t = embR m c := by
  rw [Gen.after0_4, iblk0_eq, iblk1_eq, iblk2_eq]
  unfold Gen.out0_4
  rw [View.canon_unit_zero hz2, View.ld_unit_zero hz2, View.ld_unit_zero hz2]

theorem arr3 (c : Dev nD) : (Gen.dats m 0 c).arrAt 3 cfg0.N = outR m c := by
  refine (Gen.dats m 0 c).arrAt_eq_of_cover 3 (outR m c) (fun t _ => ?_) (fun i => ⟨⟨0, by decide⟩, Gen.flush0_3 _, ?_⟩)
  · show (cfg0.win 3).cut (grid0.coords t) ((Gen.dats m 0 c).after 3 t) = _
    rw [after3]
    funext j
    show outR m c j = outR m c (((cfg0.win 3).blk t).view.emb j)
    rw [emb_w3]
  · have h := ((cfg0.win 3).blk ⟨0, by decide⟩).view.emb_mem_set i
    rwa [emb_w3] at h
theorem arr4 (c : Dev nD) : (Gen.dats m 0 c).arrAt 4 cfg0.N = embR m c := by
  refine (Gen.dats m 0 c).arrAt_eq_of_cover 4 (embR m c) (fun t _ => ?_) (fun i => ⟨⟨0, by decide⟩, Gen.flush0_4 _, ?_⟩)
  · show (cfg0.win 4).cut (grid0.coords t) ((Gen.dats m 0 c).after 4 t) = _
    rw [after4]
    funext j
    show embR m c j = embR m c (((cfg0.win 4).blk t).view.emb j)
    rw [emb_w4]
  · have h := ((cfg0.win 4).blk ⟨0, by decide⟩).view.emb_mem_set i
    rwa [emb_w4] at h

/-! ## The results -/

theorem tail5 (c : Dev nD) : (Pipeline.afterTail₀ cfgs (Gen.dats m) 0 (Gen.V0 m) [Gen.hostOps1] c main_v5 : Vec Ideal S2x4096x768 .bf16)
    = shapeCast S2x4096x768 (outR m c) shapeCasts_S8192x768_S2x4096x768 := by
  unfold Pipeline.afterTail₀
  simp only [Gen.hostOps1, List.flatten_cons, List.flatten_nil, List.append_nil]
  after_results
  exact congrArg (fun x => shapeCast S2x4096x768 x shapeCasts_S8192x768_S2x4096x768)
    ((Pipeline.withArrays_arr spec0 (by decide) c (Gen.V0 m c) _ 3).trans (arr3 m c))
theorem tail6 (c : Dev nD) : (Pipeline.afterTail₀ cfgs (Gen.dats m) 0 (Gen.V0 m) [Gen.hostOps1] c main_v6 : Vec Ideal S2x4096x768 .bf16)
    = shapeCast S2x4096x768 (embR m c) shapeCasts_S8192x768_S2x4096x768 := by
  unfold Pipeline.afterTail₀
  simp only [Gen.hostOps1, List.flatten_cons, List.flatten_nil, List.append_nil]
  after_results
  exact congrArg (fun x => shapeCast S2x4096x768 x shapeCasts_S8192x768_S2x4096x768)
    ((Pipeline.withArrays_arr spec0 (by decide) c (Gen.V0 m c) _ 4).trans (arr4 m c))

theorem embR_apply (c : Dev nD) (b : Fin 2) (s : Fin 4096) (r : Fin 8192) (h : r.val = 4096 * b.val + s.val) (d : Fin 768) :
    embR m c (ix2 r d) = Val.emb (m (c.tc.loc main_arg1)) (m (c.tc.loc main_arg2)) (Val.rowId ((m (c.tc.loc main_arg0) : Vec Ideal S2x4096 .i32) (ix2 b s))) d := by
  unfold embR
  rw [pay2_apply, v1_apply m c b s r h, v2_apply m c b s r h]
  rfl

theorem d768 : Ideal.ofBits .f32 0x44400000#32 = ((768 : ℝ) : EReal) := by
  simp [Ideal.ofBits, Ideal.ieee, -EReal.coe_mul]; norm_num

theorem outR_apply (c : Dev nD) (b : Fin 2) (s : Fin 4096) (r : Fin 8192) (h : r.val = 4096 * b.val + s.val) (d : Fin 768) :
    outR m c (ix2 r d) = Val.nrm (m (c.tc.loc main_arg1)) (m (c.tc.loc main_arg2)) (m (c.tc.loc main_arg3))
      (Val.rowId ((m (c.tc.loc main_arg0) : Vec Ideal S2x4096 .i32) (ix2 b s))) d := by
  unfold outR
  have e4 : Gen.k0_pay4 (F := Ideal) (Gen.V m c main_v1) (Gen.V m c main_v2) = embR m c := rfl
  have e3 : Gen.k0_pay3 (F := Ideal) (Gen.V m c main_v3) = Gen.V m c main_v3 := shapeCast_self _ _
  rw [e4, e3, pay1_apply, v3_apply, d768, Ideal.div_coe (by simp)]
  simp only [embR_apply m c b s r h]
  rfl

theorem res5 (c : Dev nD) : (Pipeline.afterTail₀ cfgs (Gen.dats m) 0 (Gen.V0 m) [Gen.hostOps1] c main_v5 : Vec Ideal S2x4096x768 .bf16)
    = Val.nrmG (m (c.tc.loc main_arg0)) (m (c.tc.loc main_arg1)) (m (c.tc.loc main_arg2)) (m (c.tc.loc main_arg3)) := by
  rw [tail5]
  funext y
  have h0 : (y 0).val < 2 := (y 0).isLt
  have h1 : (y 1).val < 4096 := (y 1).isLt
  refine (shapeCast_apply _ _ _ (ix2 (n0 := 8192) (n1 := 768) ⟨4096 * (y 0).val + (y 1).val, by omega⟩ (y 2)) ?_).trans ?_
  · rw [Shape.rowMajor_val_two, Shape.rowMajor_val_three]
    show (4096 * (y 0).val + (y 1).val) * 768 + (y 2).val = ((y 0).val * 4096 + (y 1).val) * 768 + (y 2).val
    omega
  · exact outR_apply m c (y 0) (y 1) _ rfl (y 2)
theorem res6 (c : Dev nD) : (Pipeline.afterTail₀ cfgs (Gen.dats m) 0 (Gen.V0 m) [Gen.hostOps1] c main_v6 : Vec Ideal S2x4096x768 .bf16)
    = Val.embG (m (c.tc.loc main_arg0)) (m (c.tc.loc main_arg1)) (m (c.tc.loc main_arg2)) := by
  rw [tail6]
  funext y
  have h0 : (y 0).val < 2 := (y 0).isLt
  have h1 : (y 1).val < 4096 := (y 1).isLt
  refine (shapeCast_apply _ _ _ (ix2 (n0 := 8192) (n1 := 768) ⟨4096 * (y 0).val + (y 1).val, by omega⟩ (y 2)) ?_).trans ?_
  · rw [Shape.rowMajor_val_two, Shape.rowMajor_val_three]
    show (4096 * (y 0).val + (y 1).val) * 768 + (y 2).val = ((y 0).val * 4096 + (y 1).val) * 768 + (y 2).val
    omega
  · exact embR_apply m c (y 0) (y 1) _ rfl (y 2)

/-- The reference's run: the two results in closed form, the arguments as they were. -/
theorem run_ref (ρ : Dev nD → PrngReg) : θ_run (defs (F := Ideal)) (onTc (τ := τ) (main (F := Ideal))) ⟨m, fun _ => 0, ρ⟩ (fun r => ∀ c : Dev nD,
      r.2.mem (c.tc.loc main_v5) = Val.nrmG (m (c.tc.loc main_arg0)) (m (c.tc.loc main_arg1)) (m (c.tc.loc main_arg2)) (m (c.tc.loc main_arg3))
      ∧ r.2.mem (c.tc.loc main_v6) = Val.embG (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun _ h c =>
    ⟨((h c).2 main_v5 (Pipeline.mem_restRefs_of main_v5 (by decide) (by decide))).trans (res5 m c),
      ((h c).2 main_v6 (Pipeline.mem_restRefs_of main_v6 (by decide) (by decide))).trans (res6 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c)⟩) (Gen.run_main m ρ)

end Cert.ReferenceIdeal

end
-- ==== Proof.lean ====
module

public import proofs.«01_k».proof.Defs
public import proofs.«01_k».proof.Proof.Launch
public import proofs.«01_k».proof.Proof.ArrI
public import proofs.«01_k».proof.Proof.RefRun

/-! The certificate: the runs of the kernel, of its idealization and of the reference, the named constant, and the
two results' agreement. -/

@[expose] public section

noncomputable section

namespace Cert.Proof

open Idealize.ShloMosaic Idealize.ShloMosaic.TcCoe Idealize.SL.Sem

/-- Started from equal arguments, the idealized kernel and the idealized reference end with equal results, both of them. -/
theorem values : algebraic_KernelIdeal_ReferenceIdeal (hKernelIdeal := Cert.KernelIdeal.Gen.facts) (hReferenceIdeal := Cert.ReferenceIdeal.Gen.facts) := by
  intro m g m' g' _ hagree
  refine ⟨fun c => Cert.KernelIdeal.outG m c, fun c => Cert.KernelIdeal.embG m c, Cert.KernelIdeal.run_ker m g, ?_⟩
  refine (θ_run _ _ _).mono (fun _ h c => ?_) (Cert.ReferenceIdeal.run_ref m' g')
  obtain ⟨h5, h6, ha⟩ := h c
  obtain ⟨e0, e1, e2, e3⟩ := hagree c
  refine ⟨h5.trans ?_, h6.trans ?_, ha⟩
  · rw [e0, e1, e2, e3]
  · rw [e0, e1, e2]

theorem claim : Cert.Claim := ⟨Cert.Kernel.Gen.facts, Cert.KernelIdeal.Gen.facts, Cert.ReferenceIdeal.Gen.facts,
  fun m ρ _ => Cert.Kernel.frame_main m ρ,
  fun m ρ _ => Cert.KernelIdeal.frame_main m ρ,
  fun m ρ _ => Cert.ReferenceIdeal.Gen.frame m ρ,
  IdealRules.named_const.statement Cert.KernelIdeal.κ "inv_d_model" .f32 0x3AAAAAAB#32 _ rfl,
  values⟩

end Cert.Proof

end
